-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v3) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v147) = v4 c
          ∧ r.2.mem ((c.tc : Thread Cert.ReferenceIdeal.nD Cert.ReferenceIdeal.τ).loc Cert.ReferenceIdeal.main_v148) = v5 c
          ∧ r.2.mem ((c.tc : Thread Cert.ReferenceIdeal.nD Cert.ReferenceIdeal.τ).loc Cert.ReferenceIdeal.main_v117) = v6 c
          ∧ r.2.mem ((c.tc : Thread Cert.ReferenceIdeal.nD Cert.ReferenceIdeal.τ).loc Cert.ReferenceIdeal.main_v149) = v7 c
          ∧ r.2.mem ((c.tc : Thread Cert.ReferenceIdeal.nD Cert.ReferenceIdeal.τ).loc Cert.ReferenceIdeal.main_v150) = v8 c
          ∧ r.2.mem ((c.tc : Thread Cert.ReferenceIdeal.nD Cert.ReferenceIdeal.τ).loc Cert.ReferenceIdeal.main_v69) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v157) = v0 c
          ∧ r.2.mem ((c.tc : Thread Cert.Reference12Ideal.nD Cert.Reference12Ideal.τ).loc Cert.Reference12Ideal.main_v158) = v1 c
          ∧ r.2.mem ((c.tc : Thread Cert.Reference12Ideal.nD Cert.Reference12Ideal.τ).loc Cert.Reference12Ideal.main_v134) = v2 c
          ∧ r.2.mem ((c.tc : Thread Cert.Reference12Ideal.nD Cert.Reference12Ideal.τ).loc Cert.Reference12Ideal.main_v159) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_v20) = v1 c
          ∧ r.2.mem ((c.tc : Thread Cert.Reference16Ideal.nD Cert.Reference16Ideal.τ).loc Cert.Reference16Ideal.main_v21) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Kernel.lean ====
abbrev S4x2048x1024 : Shape := ⟨3, ![4, 2048, 1024]⟩
abbrev S4x3x1024 : Shape := ⟨3, ![4, 3, 1024]⟩
abbrev S1x1024 : Shape := ⟨2, ![1, 1024]⟩
abbrev S1024x4096 : Shape := ⟨2, ![1024, 4096]⟩
abbrev S4096x1024 : Shape := ⟨2, ![4096, 1024]⟩
abbrev S4x8x8x128 : Shape := ⟨4, ![4, 8, 8, 128]⟩
abbrev S4x2048x4096 : Shape := ⟨3, ![4, 2048, 4096]⟩
abbrev S1x256x1024 : Shape := ⟨3, ![1, 256, 1024]⟩
abbrev S1x3x1024 : Shape := ⟨3, ![1, 3, 1024]⟩
abbrev S1x1x8x128 : Shape := ⟨4, ![1, 1, 8, 128]⟩
abbrev S1x256x4096 : Shape := ⟨3, ![1, 256, 4096]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x4096 : Shape := ⟨2, ![256, 4096]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩
abbrev S8x128 : Shape := ⟨2, ![8, 128]⟩
abbrev S3x1024 : Shape := ⟨2, ![3, 1024]⟩
abbrev S4x8x1x1 : Shape := ⟨4, ![4, 8, 1, 1]⟩
abbrev S4x8 : Shape := ⟨2, ![4, 8]⟩
abbrev S_ : Shape := ⟨0, ![]⟩

abbrev nBuf : Space → Nat
  | .hbm => 20
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x3x1024, .f32⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S4x2048x1024, .f32⟩
  | .hbm, ⟨8, _⟩ => ⟨S4x8x8x128, .f32⟩
  | .hbm, ⟨9, _⟩ => ⟨S4x2048x1024, .bf16⟩
  | .hbm, ⟨10, _⟩ => ⟨S4x2048x4096, .bf16⟩
  | .hbm, ⟨11, _⟩ => ⟨S4x2048x4096, .bf16⟩
  | .hbm, ⟨12, _⟩ => ⟨S4x2048x1024, .bf16⟩
  | .hbm, ⟨13, _⟩ => ⟨S4x3x1024, .f32⟩
  | .hbm, ⟨14, _⟩ => ⟨S1x1024, .f32⟩
  | .hbm, ⟨15, _⟩ => ⟨S1x1024, .f32⟩
  | .hbm, ⟨16, _⟩ => ⟨S4x8x1x1, .f32⟩
  | .hbm, ⟨17, _⟩ => ⟨S4x8, .f32⟩
  | .hbm, ⟨18, _⟩ => ⟨S_, .f32⟩
  | .hbm, ⟨19, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x1x8x128, .f32⟩
  | .local _ .vmem, ⟨13, _⟩ => ⟨S1x1x8x128, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x4096, .bf16⟩
  | .local _ .vmem, ⟨17, _⟩ => ⟨S1x256x4096, .bf16⟩
  | .local _ .vmem, ⟨18, _⟩ => ⟨S1x256x4096, .bf16⟩
  | .local _ .vmem, ⟨19, _⟩ => ⟨S1x256x4096, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x3x1024, .f32⟩
  | .local _ .vmem, ⟨23, _⟩ => ⟨S1x3x1024, .f32⟩
  | .local _ .vmem, ⟨24, _⟩ => ⟨S1x1024, .f32⟩
  | .local _ .vmem, ⟨25, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v158 : BitVec 1 := Scalar.cmpi .eq arg1 c0_i32
  let v159 : BitVec 32 := Scalar.extui v158
  let c0_i32_74 : BitVec 32 := 0#32
  let v160 : BitVec 1 := Scalar.cmpi .ne v159 c0_i32_74
  v160

def k0_cond2 (i : grid0.Coords) : BitVec 1 :=
  let arg1 : BitVec 32 := BitVec.ofNat 32 (i 1).val
  let c0_i32 : BitVec 32 := 0#32
  let v158 : BitVec 1 := Scalar.cmpi .eq arg1 c0_i32
  let v_true : BitVec 1 := 1#1
  let v161 : BitVec 1 := Scalar.xori v158 v_true
  let v162 : BitVec 32 := Scalar.extui v161
  let c0_i32_75 : BitVec 32 := 0#32
  let v163 : BitVec 1 := Scalar.cmpi .ne v162 c0_i32_75
  v163

def k0_cond3 (i : grid0.Coords) : BitVec 1 :=
  let arg0 : BitVec 32 := BitVec.ofNat 32 (i 0).val
  let c0_i32_76 : BitVec 32 := 0#32
  let v164 : BitVec 1 := Scalar.cmpi .eq arg0 c0_i32_76
  let arg1 : BitVec 32 := BitVec.ofNat 32 (i 1).val
  let c0_i32_77 : BitVec 32 := 0#32
  let v165 : BitVec 1 := Scalar.cmpi .eq arg1 c0_i32_77
  let v166 : BitVec 1 := Scalar.andi v164 v165
  let v167 : BitVec 32 := Scalar.extui v166
  let c0_i32_78 : BitVec 32 := 0#32
  let v168 : BitVec 1 := Scalar.cmpi .ne v167 c0_i32_78
  v168

def k0_cond4 (i : grid0.Coords) : BitVec 1 :=
  let arg0 : BitVec 32 := BitVec.ofNat 32 (i 0).val
  let c0_i32_76 : BitVec 32 := 0#32
  let v164 : BitVec 1 := Scalar.cmpi .eq arg0 c0_i32_76
  let arg1 : BitVec 32 := BitVec.ofNat 32 (i 1).val
  let c0_i32_77 : BitVec 32 := 0#32
  let v165 : BitVec 1 := Scalar.cmpi .eq arg1 c0_i32_77
  let v166 : BitVec 1 := Scalar.andi v164 v165
  let true_79 : BitVec 1 := 1#1
  let v169 : BitVec 1 := Scalar.xori v166 true_79
  let v170 : BitVec 32 := Scalar.extui v169
  let c0_i32_80 : BitVec 32 := 0#32
  let v171 : BitVec 1 := Scalar.cmpi .ne v170 c0_i32_80
  v171

def k0_cond5 (i : grid0.Coords) : BitVec 1 :=
  let arg0 : BitVec 32 := BitVec.ofNat 32 (i 0).val
  let c0_i32_76 : BitVec 32 := 0#32
  let v164 : BitVec 1 := Scalar.cmpi .eq arg0 c0_i32_76
  let arg1 : BitVec 32 := BitVec.ofNat 32 (i 1).val
  let c0_i32_77 : BitVec 32 := 0#32
  let v165 : BitVec 1 := Scalar.cmpi .eq arg1 c0_i32_77
  let v166 : BitVec 1 := Scalar.andi v164 v165
  let v172 : BitVec 32 := Scalar.extui v166
  let c0_i32_81 : BitVec 32 := 0#32
  let v173 : BitVec 1 := Scalar.cmpi .ne v172 c0_i32_81
  v173

def k0_cond6 (i : grid0.Coords) : BitVec 1 :=
  let arg0 : BitVec 32 := BitVec.ofNat 32 (i 0).val
  let c0_i32_76 : BitVec 32 := 0#32
  let v164 : BitVec 1 := Scalar.cmpi .eq arg0 c0_i32_76
  let arg1 : BitVec 32 := BitVec.ofNat 32 (i 1).val
  let c0_i32_77 : BitVec 32 := 0#32
  let v165 : BitVec 1 := Scalar.cmpi .eq arg1 c0_i32_77
  let v166 : BitVec 1 := Scalar.andi v164 v165
  let true_82 : BitVec 1 := 1#1
  let v174 : BitVec 1 := Scalar.xori v166 true_82
  let v175 : BitVec 32 := Scalar.extui v174
  let c0_i32_83 : BitVec 32 := 0#32
  let v176 : BitVec 1 := Scalar.cmpi .ne v175 c0_i32_83
  v176

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S4x2048x1024 : Shape := ⟨3, ![4, 2048, 1024]⟩
abbrev S4x3x1024 : Shape := ⟨3, ![4, 3, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4x2048x4096 : Shape := ⟨3, ![4, 2048, 4096]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x1024 : Shape := ⟨2, ![4, 1024]⟩
abbrev S4x8x256 : Shape := ⟨3, ![4, 8, 256]⟩
abbrev S4x8 : Shape := ⟨2, ![4, 8]⟩
abbrev S4x8x1x1 : Shape := ⟨4, ![4, 8, 1, 1]⟩
abbrev S4x8x8x128 : Shape := ⟨4, ![4, 8, 8, 128]⟩

abbrev nBuf : Space → Nat
  | .hbm => 201
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x3x1024, .f32⟩
  | 3 => ⟨S1x1024, .f32⟩
  | 4 => ⟨S1x1024, .f32⟩
  | 5 => ⟨S1024x4096, .bf16⟩
  | 6 => ⟨S4096x1024, .bf16⟩
  | 7 => ⟨S_, .f32⟩
  | 8 => ⟨S4x2048x4096, .f32⟩
  | 9 => ⟨S_, .f32⟩
  | 10 => ⟨S4x2048x1024, .f32⟩
  | 11 => ⟨S1024x4096, .f32⟩
  | 12 => ⟨S4096x1024, .f32⟩
  | 13 => ⟨S1024, .f32⟩
  | 14 => ⟨S1024, .f32⟩
  | 15 => ⟨S4x2048x1024, .f32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1, .f32⟩
  | 26 => ⟨S4x2048x1, .f32⟩
  | 27 => ⟨S_, .f32⟩
  | 28 => ⟨S4x2048x1, .f32⟩
  | 29 => ⟨S4x2048x1, .f32⟩
  | 30 => ⟨S4x2048x1024, .f32⟩
  | 31 => ⟨S4x2048x1024, .f32⟩
  | 32 => ⟨S1x1x1024, .f32⟩
  | 33 => ⟨S4x2048x1024, .f32⟩
  | 34 => ⟨S4x2048x1024, .f32⟩
  | 35 => ⟨S4x1x1024, .f32⟩
  | 36 => ⟨S4x1x1024, .f32⟩
  | 37 => ⟨S_, .f32⟩
  | 38 => ⟨S4x1x1024, .f32⟩
  | 39 => ⟨S4x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S4x2048x4096, .f32⟩
  | 45 => ⟨S4x2048x4096, .f32⟩
  | 46 => ⟨S_, .f32⟩
  | 47 => ⟨S4x2048x4096, .f32⟩
  | 48 => ⟨S4x2048x4096, .f32⟩
  | 49 => ⟨S_, .f32⟩
  | 50 => ⟨S4x2048x4096, .f32⟩
  | 51 => ⟨S4x2048x4096, .i1⟩
  | 52 => ⟨S_, .f32⟩
  | 53 => ⟨S4x2048x4096, .f32⟩
  | 54 => ⟨S4x2048x4096, .f32⟩
  | 55 => ⟨S_, .f32⟩
  | 56 => ⟨S4x2048x4096, .f32⟩
  | 57 => ⟨S4x2048x4096, .f32⟩
  | 58 => ⟨S4x1x1024, .f32⟩
  | 59 => ⟨S4x2048x1024, .f32⟩
  | 60 => ⟨S4x2048x1024, .f32⟩
  | 61 => ⟨S4x2048x1024, .f32⟩
  | 62 => ⟨S_, .f32⟩
  | 63 => ⟨S4x2048, .f32⟩
  | 64 => ⟨S4x2048x1, .f32⟩
  | 65 => ⟨S_, .f32⟩
  | 66 => ⟨S4x2048x1, .f32⟩
  | 67 => ⟨S4x2048x1, .f32⟩
  | 68 => ⟨S_, .f32⟩
  | 69 => ⟨S4x2048x1, .f32⟩
  | 70 => ⟨S4x2048x1, .f32⟩
  | 71 => ⟨S4x2048x1, .f32⟩
  | 72 => ⟨S4x2048x1, .f32⟩
  | 73 => ⟨S_, .f32⟩
  | 74 => ⟨S4x2048x1, .f32⟩
  | 75 => ⟨S4x2048x1, .f32⟩
  | 76 => ⟨S4x2048x1024, .f32⟩
  | 77 => ⟨S4x2048x1024, .f32⟩
  | 78 => ⟨S1x1x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S4x2048x1024, .f32⟩
  | 84 => ⟨S4x2048x1024, .f32⟩
  | 85 => ⟨S4x2048x1024, .f32⟩
  | 86 => ⟨S_, .f32⟩
  | 87 => ⟨S4x2048x1024, .f32⟩
  | 88 => ⟨S4x2048x1024, .f32⟩
  | 89 => ⟨S_, .f32⟩
  | 90 => ⟨S4x2048, .f32⟩
  | 91 => ⟨S_, .f32⟩
  | 92 => ⟨S4x2048, .f32⟩
  | 93 => ⟨S4x2048, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S4x2048, .f32⟩
  | 102 => ⟨S_, .f32⟩
  | 103 => ⟨S4x2048, .f32⟩
  | 104 => ⟨S4x2048, .f32⟩
  | 105 => ⟨S4x2048x1024, .f32⟩
  | 106 => ⟨S4x2048x1024, .f32⟩
  | 107 => ⟨S4x2048x1024, .f32⟩
  | 108 => ⟨S4x2048x1024, .f32⟩
  | 109 => ⟨S4x2048x1024, .f32⟩
  | 110 => ⟨S_, .f32⟩
  | 111 => ⟨S4x1024, .f32⟩
  | 112 => ⟨S4x1x1024, .f32⟩
  | 113 => ⟨S4x2048x1024, .f32⟩
  | 114 => ⟨S_, .f32⟩
  | 115 => ⟨S1024, .f32⟩
  | 116 => ⟨S1x1x1024, .f32⟩
  | 117 => ⟨S4x2048x1024, .f32⟩
  | 118 => ⟨S4x2048x1024, .f32⟩
  | 119 => ⟨S_, .f32⟩
  | 120 => ⟨S1024, .f32⟩
  | 121 => ⟨S4x2048x1024, .f32⟩
  | 122 => ⟨S_, .f32⟩
  | 123 => ⟨S4x2048, .f32⟩
  | 124 => ⟨S4x2048x1, .f32⟩
  | 125 => ⟨S4x2048x1024, .f32⟩
  | 126 => ⟨S4x2048x1024, .f32⟩
  | 127 => ⟨S4x2048x1, .f32⟩
  | _ => ⟨S4x2048x1024, .f32⟩

abbrev hbmTy0_1 (i : Nat) : BufTy := match i % 128 with
  | 0 => ⟨S_, .f32⟩
  | 1 => ⟨S4x2048x1, .f32⟩
  | 2 => ⟨S4x2048x1, .f32⟩
  | 3 => ⟨S_, .f32⟩
  | 4 => ⟨S4x2048, .f32⟩
  | 5 => ⟨S4x2048x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S4x2048x4096, .f32⟩
  | 11 => ⟨S_, .f32⟩
  | 12 => ⟨S4x3x1024, .f32⟩
  | 13 => ⟨S4x2048x4096, .f32⟩
  | 14 => ⟨S_, .f32⟩
  | 15 => ⟨S4x2048x4096, .f32⟩
  | 16 => ⟨S4x2048x4096, .f32⟩
  | 17 => ⟨S4x2048x1024, .f32⟩
  | 18 => ⟨S_, .f32⟩
  | 19 => ⟨S4x1024, .f32⟩
  | 20 => ⟨S4x1x1024, .f32⟩
  | 21 => ⟨S4x2048x1024, .f32⟩
  | 22 => ⟨S_, .f32⟩
  | 23 => ⟨S4x1024, .f32⟩
  | 24 => ⟨S4x1x1024, .f32⟩
  | 25 => ⟨S4x2048x1024, .f32⟩
  | 26 => ⟨S4x2048x1024, .f32⟩
  | 27 => ⟨S_, .f32⟩
  | 28 => ⟨S4x3x1024, .f32⟩
  | 29 => ⟨S4x3x1024, .f32⟩
  | 30 => ⟨S_, .f32⟩
  | 31 => ⟨S4x3x1024, .f32⟩
  | 32 => ⟨S4x3x1024, .f32⟩
  | 33 => ⟨S4x2048x1024, .f32⟩
  | 34 => ⟨S_, .f32⟩
  | 35 => ⟨S1024, .f32⟩
  | 36 => ⟨S1x1x1024, .f32⟩
  | 37 => ⟨S4x2048x1024, .f32⟩
  | 38 => ⟨S4x2048x1024, .f32⟩
  | 39 => ⟨S_, .f32⟩
  | 40 => ⟨S1024, .f32⟩
  | 41 => ⟨S4x2048x1024, .f32⟩
  | 42 => ⟨S_, .f32⟩
  | 43 => ⟨S4x2048, .f32⟩
  | 44 => ⟨S4x2048x1, .f32⟩
  | 45 => ⟨S4x2048x1024, .f32⟩
  | 46 => ⟨S4x2048x1024, .f32⟩
  | 47 => ⟨S4x2048x1024, .f32⟩
  | 48 => ⟨S4x2048x1, .f32⟩
  | 49 => ⟨S_, .f32⟩
  | 50 => ⟨S4x2048x1, .f32⟩
  | 51 => ⟨S4x2048x1, .f32⟩
  | 52 => ⟨S_, .f32⟩
  | 53 => ⟨S4x2048, .f32⟩
  | 54 => ⟨S4x2048x1024, .f32⟩
  | 55 => ⟨S4x2048x1024, .f32⟩
  | 56 => ⟨S4x2048x1024, .f32⟩
  | 57 => ⟨S4x2048x1024, .f32⟩
  | 58 => ⟨S4x2048x1024, .f32⟩
  | 59 => ⟨S4x8x256, .f32⟩
  | 60 => ⟨S_, .f32⟩
  | 61 => ⟨S4x8, .f32⟩
  | 62 => ⟨S_, .f32⟩
  | 63 => ⟨S4x8, .f32⟩
  | 64 => ⟨S4x8, .f32⟩
  | 65 => ⟨S4x8x1x1, .f32⟩
  | 66 => ⟨S4x8x8x128, .f32⟩
  | 67 => ⟨S4x2048x1024, .bf16⟩
  | 68 => ⟨S4x2048x4096, .bf16⟩
  | 69 => ⟨S4x2048x4096, .bf16⟩
  | 70 => ⟨S4x2048x1024, .bf16⟩
  | 71 => ⟨S1x1024, .f32⟩
  | 72 => ⟨S1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_cst_18 : Ref sig .tc := ⟨.hbm, 98, rfl⟩
abbrev main_cst_19 : Ref sig .tc := ⟨.hbm, 99, rfl⟩
abbrev main_v70 : Ref sig .tc := ⟨.hbm, 100, rfl⟩
abbrev main_v71 : Ref sig .tc := ⟨.hbm, 101, rfl⟩
abbrev main_cst_20 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_21 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_22 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_23 : Ref sig .tc := ⟨.hbm, 119, rfl⟩
abbrev main_v86 : Ref sig .tc := ⟨.hbm, 120, rfl⟩
abbrev main_v87 : Ref sig .tc := ⟨.hbm, 121, rfl⟩
abbrev main_cst_24 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_25 : Ref sig .tc := ⟨.hbm, 128, rfl⟩
abbrev main_v93 : Ref sig .tc := ⟨.hbm, 129, rfl⟩
abbrev main_v94 : Ref sig .tc := ⟨.hbm, 130, rfl⟩
abbrev main_cst_26 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_27 : Ref sig .tc := ⟨.hbm, 139, rfl⟩
abbrev main_v102 : Ref sig .tc := ⟨.hbm, 140, rfl⟩
abbrev main_v103 : Ref sig .tc := ⟨.hbm, 141, rfl⟩
abbrev main_cst_28 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_29 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_30 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_31 : Ref sig .tc := ⟨.hbm, 155, rfl⟩
abbrev main_v114 : Ref sig .tc := ⟨.hbm, 156, rfl⟩
abbrev main_v115 : Ref sig .tc := ⟨.hbm, 157, rfl⟩
abbrev main_cst_32 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_33 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_34 : Ref sig .tc := ⟨.hbm, 167, rfl⟩
abbrev main_v123 : Ref sig .tc := ⟨.hbm, 168, rfl⟩
abbrev main_v124 : Ref sig .tc := ⟨.hbm, 169, rfl⟩
abbrev main_cst_35 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_36 : Ref sig .tc := ⟨.hbm, 177, rfl⟩
abbrev main_v131 : Ref sig .tc := ⟨.hbm, 178, rfl⟩
abbrev main_v132 : Ref sig .tc := ⟨.hbm, 179, rfl⟩
abbrev main_cst_37 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_38 : Ref sig .tc := ⟨.hbm, 188, rfl⟩
abbrev main_v140 : Ref sig .tc := ⟨.hbm, 189, rfl⟩
abbrev main_cst_39 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S1024x4096 : Shape := ⟨2, ![1024, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S9216x1024 : Shape := ⟨2, ![9216, 1024]⟩
abbrev S9216x3072 : Shape := ⟨2, ![9216, 3072]⟩
abbrev S1024x3072 : Shape := ⟨2, ![1024, 3072]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x3072, .bf16⟩
  | .hbm, ⟨2, _⟩ => ⟨S1024x3072, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x1024 : Shape := ⟨2, ![9216, 1024]⟩
abbrev S9216x3072 : Shape := ⟨2, ![9216, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x3072, .bf16⟩
  | .hbm, ⟨2, _⟩ => ⟨S9216x1024, .f32⟩
  | .hbm, ⟨3, _⟩ => ⟨S9216x3072, .f32⟩
  | .hbm, ⟨4, _⟩ => ⟨S_, .f32⟩
  | .hbm, ⟨5, _⟩ => ⟨S1024x3072, .f32⟩
  | .hbm, ⟨6, _⟩ => ⟨S9216x3072, .f32⟩
  | .hbm, ⟨7, _⟩ => ⟨S3072x1024, .f32⟩
  | .hbm, ⟨8, _⟩ => ⟨S1024x3072, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4x256x1024 : Shape := ⟨3, ![4, 256, 1024]⟩
abbrev S4x2048x1024 : Shape := ⟨3, ![4, 2048, 1024]⟩
abbrev S4x9x2x1024 : Shape := ⟨4, ![4, 9, 2, 1024]⟩
abbrev S1x1024 : Shape := ⟨2, ![1, 1024]⟩
abbrev S1024x3072 : Shape := ⟨2, ![1024, 3072]⟩
abbrev S4x2304x3072 : Shape := ⟨3, ![4, 2304, 3072]⟩
abbrev S4x2304x1024 : Shape := ⟨3, ![4, 2304, 1024]⟩
abbrev S1x256x1024 : Shape := ⟨3, ![1, 256, 1024]⟩
abbrev S1x1x2x1024 : Shape := ⟨4, ![1, 1, 2, 1024]⟩
abbrev S1x256x3072 : Shape := ⟨3, ![1, 256, 3072]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x3072 : Shape := ⟨2, ![256, 3072]⟩

abbrev nBuf : Space → Nat
  | .hbm => 7
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S4x2048x1024, .f32⟩
  | .hbm, ⟨2, _⟩ => ⟨S4x9x2x1024, .f32⟩
  | .hbm, ⟨3, _⟩ => ⟨S1x1024, .f32⟩
  | .hbm, ⟨4, _⟩ => ⟨S1024x3072, .bf16⟩
  | .hbm, ⟨5, _⟩ => ⟨S4x2304x3072, .f32⟩
  | .hbm, ⟨6, _⟩ => ⟨S4x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x2x1024, .f32⟩
  | .local _ .vmem, ⟨5, _⟩ => ⟨S1x1x2x1024, .f32⟩
  | .local _ .vmem, ⟨6, _⟩ => ⟨S1x1024, .f32⟩
  | .local _ .vmem, ⟨7, _⟩ => ⟨S1024x3072, .bf16⟩
  | .local _ .vmem, ⟨8, _⟩ => ⟨S1x256x3072, .f32⟩
  | .local _ .vmem, ⟨9, _⟩ => ⟨S1x256x3072, .f32⟩
  | .local _ .vmem, ⟨10, _⟩ => ⟨S1x256x1024, .bf16⟩
  | .local _ .vmem, ⟨11, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4x256x1024 : Shape := ⟨3, ![4, 256, 1024]⟩
abbrev S4x2048x1024 : Shape := ⟨3, ![4, 2048, 1024]⟩
abbrev S4x9x2x1024 : Shape := ⟨4, ![4, 9, 2, 1024]⟩
abbrev S1x1024 : Shape := ⟨2, ![1, 1024]⟩
abbrev S1024x3072 : Shape := ⟨2, ![1024, 3072]⟩
abbrev S1024 : Shape := ⟨1, ![1024]⟩
abbrev S4x2304x1024 : Shape := ⟨3, ![4, 2304, 1024]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩
abbrev S4x9x1x1024 : Shape := ⟨4, ![4, 9, 1, 1024]⟩
abbrev S4x9x1024 : Shape := ⟨3, ![4, 9, 1024]⟩
abbrev S4x9x256x1024 : Shape := ⟨4, ![4, 9, 256, 1024]⟩
abbrev S4x2304x3072 : Shape := ⟨3, ![4, 2304, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x2048x1024, .f32⟩
  | .hbm, ⟨2, _⟩ => ⟨S4x9x2x1024, .f32⟩
  | .hbm, ⟨3, _⟩ => ⟨S1x1024, .f32⟩
  | .hbm, ⟨4, _⟩ => ⟨S1024x3072, .bf16⟩
  | .hbm, ⟨5, _⟩ => ⟨S1024, .f32⟩
  | .hbm, ⟨6, _⟩ => ⟨S4x2304x1024, .f32⟩
  | .hbm, ⟨7, _⟩ => ⟨S4x2304x1024, .f32⟩
  | .hbm, ⟨8, _⟩ => ⟨S_, .f32⟩
  | .hbm, ⟨9, _⟩ => ⟨S4x2304, .f32⟩
  | .hbm, ⟨10, _⟩ => ⟨S4x2304x1, .f32⟩
  | .hbm, ⟨11, _⟩ => ⟨S_, .f32⟩
  | .hbm, ⟨12, _⟩ => ⟨S4x2304x1, .f32⟩
  | .hbm, ⟨13, _⟩ => ⟨S4x2304x1, .f32⟩
  | .hbm, ⟨14, _⟩ => ⟨S_, .f32⟩
  | .hbm, ⟨15, _⟩ => ⟨S4x2304x1, .f32⟩
  | .hbm, ⟨16, _⟩ => ⟨S4x2304x1, .f32⟩
  | .hbm, ⟨17, _⟩ => ⟨S4x2304x1, .f32⟩
  | .hbm, ⟨18, _⟩ => ⟨S4x2304x1024, .f32⟩
  | .hbm, ⟨19, _⟩ => ⟨S4x2304x1024, .f32⟩
  | .hbm, ⟨20, _⟩ => ⟨S1x1x1024, .f32⟩
  | .hbm, ⟨21, _⟩ => ⟨S4x2304x1024, .f32⟩
  | .hbm, ⟨22, _⟩ => ⟨S4x2304x1024, .f32⟩
  | .hbm, ⟨23, _⟩ => ⟨S4x9x1x1024, .f32⟩
  | .hbm, ⟨24, _⟩ => ⟨S4x9x1024, .f32⟩
  | .hbm, ⟨25, _⟩ => ⟨S4x9x256x1024, .f32⟩
  | .hbm, ⟨26, _⟩ => ⟨S4x2304x1024, .f32⟩
  | .hbm, ⟨27, _⟩ => ⟨S4x9x1x1024, .f32⟩
  | .hbm, ⟨28, _⟩ => ⟨S4x9x1024, .f32⟩
  | .hbm, ⟨29, _⟩ => ⟨S4x9x256x1024, .f32⟩
  | .hbm, ⟨30, _⟩ => ⟨S4x2304x1024, .f32⟩
  | .hbm, ⟨31, _⟩ => ⟨S_, .f32⟩
  | .hbm, ⟨32, _⟩ => ⟨S4x2304x1024, .f32⟩
  | .hbm, ⟨33, _⟩ => ⟨S4x2304x1024, .f32⟩
  | .hbm, ⟨34, _⟩ => ⟨S4x2304x1024, .f32⟩
  | .hbm, ⟨35, _⟩ => ⟨S4x2304x1024, .f32⟩
  | .hbm, ⟨36, _⟩ => ⟨S1024x3072, .f32⟩
  | .hbm, ⟨37, _⟩ => ⟨S4x2304x3072, .f32⟩
  | .hbm, ⟨38, _⟩ => ⟨S4x2304x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel7.lean ====
abbrev S8x1024x372 : Shape := ⟨3, ![8, 1024, 372]⟩
abbrev S1024x372 : Shape := ⟨2, ![1024, 372]⟩
abbrev S8x256x372 : Shape := ⟨3, ![8, 256, 372]⟩
abbrev S256x372 : Shape := ⟨2, ![256, 372]⟩
abbrev S1x256x372 : Shape := ⟨3, ![1, 256, 372]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x372, .bf16⟩
  | .hbm, ⟨1, _⟩ => ⟨S1024x372, .f32⟩
  | .hbm, ⟨2, _⟩ => ⟨S1024x372, .f32⟩
  | .hbm, ⟨3, _⟩ => ⟨S1024x372, .f32⟩
  | .hbm, ⟨4, _⟩ => ⟨S1024x372, .f32⟩
  | .hbm, ⟨5, _⟩ => ⟨S1024x372, .f32⟩
  | .hbm, ⟨6, _⟩ => ⟨S1024x372, .f32⟩
  | .hbm, ⟨7, _⟩ => ⟨S1024x372, .f32⟩
  | .local _ .vmem, ⟨0, _⟩ => ⟨S8x256x372, .bf16⟩
  | .local _ .vmem, ⟨1, _⟩ => ⟨S8x256x372, .bf16⟩
  | .local _ .vmem, ⟨2, _⟩ => ⟨S256x372, .f32⟩
  | .local _ .vmem, ⟨3, _⟩ => ⟨S256x372, .f32⟩
  | .local _ .vmem, ⟨4, _⟩ => ⟨S256x372, .f32⟩
  | .local _ .vmem, ⟨5, _⟩ => ⟨S256x372, .f32⟩
  | .local _ .vmem, ⟨6, _⟩ => ⟨S256x372, .f32⟩
  | .local _ .vmem, ⟨7, _⟩ => ⟨S256x372, .f32⟩
  | .local _ .vmem, ⟨8, _⟩ => ⟨S256x372, .f32⟩
  | .local _ .vmem, ⟨9, _⟩ => ⟨S256x372, .f32⟩
  | .local _ .vmem, ⟨10, _⟩ => ⟨S256x372, .f32⟩
  | .local _ .vmem, ⟨11, _⟩ => ⟨S256x372, .f32⟩
  | .local _ .vmem, ⟨12, _⟩ => ⟨S256x372, .f32⟩
  | .local _ .vmem, ⟨13, _⟩ => ⟨S256x372, .f32⟩
  | .local _ .vmem, ⟨14, _⟩ => ⟨S256x372, .f32⟩
  | .local _ .vmem, ⟨15, _⟩ => ⟨S256x372, .f32⟩
  | _, _ => ⟨S8x1024x372, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x372 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x372 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x372 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x372 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x372 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x372 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x372 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x372 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8x1024x372 : Shape := ⟨3, ![8, 1024, 372]⟩
abbrev S1024x372 : Shape := ⟨2, ![1024, 372]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x372, .bf16⟩
  | .hbm, ⟨1, _⟩ => ⟨S1024x372, .f32⟩
  | .hbm, ⟨2, _⟩ => ⟨S1024x372, .f32⟩
  | .hbm, ⟨3, _⟩ => ⟨S1024x372, .f32⟩
  | .hbm, ⟨4, _⟩ => ⟨S8x1024x372, .f32⟩
  | .hbm, ⟨5, _⟩ => ⟨S_, .f32⟩
  | .hbm, ⟨6, _⟩ => ⟨S1024x372, .f32⟩
  | .hbm, ⟨7, _⟩ => ⟨S_, .f32⟩
  | .hbm, ⟨8, _⟩ => ⟨S1024x372, .f32⟩
  | .hbm, ⟨9, _⟩ => ⟨S1024x372, .f32⟩
  | .hbm, ⟨10, _⟩ => ⟨S_, .f32⟩
  | .hbm, ⟨11, _⟩ => ⟨S1024x372, .f32⟩
  | .hbm, ⟨12, _⟩ => ⟨S1024x372, .f32⟩
  | .hbm, ⟨13, _⟩ => ⟨S1024x372, .f32⟩
  | .hbm, ⟨14, _⟩ => ⟨S_, .f32⟩
  | .hbm, ⟨15, _⟩ => ⟨S1024x372, .f32⟩
  | .hbm, ⟨16, _⟩ => ⟨S1024x372, .f32⟩
  | .hbm, ⟨17, _⟩ => ⟨S1024x372, .f32⟩
  | .hbm, ⟨18, _⟩ => ⟨S_, .f32⟩
  | .hbm, ⟨19, _⟩ => ⟨S1024x372, .f32⟩
  | .hbm, ⟨20, _⟩ => ⟨S1024x372, .f32⟩
  | .hbm, ⟨21, _⟩ => ⟨S1024x372, .f32⟩
  | .hbm, ⟨22, _⟩ => ⟨S_, .f32⟩
  | .hbm, ⟨23, _⟩ => ⟨S1024x372, .f32⟩
  | .hbm, ⟨24, _⟩ => ⟨S1024x372, .f32⟩
  | .hbm, ⟨25, _⟩ => ⟨S_, .f32⟩
  | .hbm, ⟨26, _⟩ => ⟨S1024x372, .f32⟩
  | .hbm, ⟨27, _⟩ => ⟨S1024x372, .f32⟩
  | .hbm, ⟨28, _⟩ => ⟨S1024x372, .f32⟩
  | .hbm, ⟨29, _⟩ => ⟨S_, .f32⟩
  | .hbm, ⟨30, _⟩ => ⟨S1024x372, .f32⟩
  | .hbm, ⟨31, _⟩ => ⟨S1024x372, .f32⟩
  | .hbm, ⟨32, _⟩ => ⟨S1024x372, .f32⟩
  | .hbm, ⟨33, _⟩ => ⟨S_, .f32⟩
  | .hbm, ⟨34, _⟩ => ⟨S1024x372, .f32⟩
  | .hbm, ⟨35, _⟩ => ⟨S1024x372, .f32⟩
  | .hbm, ⟨36, _⟩ => ⟨S1024x372, .f32⟩
  | .hbm, ⟨37, _⟩ => ⟨S_, .f32⟩
  | .hbm, ⟨38, _⟩ => ⟨S1024x372, .f32⟩
  | .hbm, ⟨39, _⟩ => ⟨S1024x372, .f32⟩
  | _, _ => ⟨S8x1024x372, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel8.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S4x2304x3072 : Shape := ⟨3, ![4, 2304, 3072]⟩
abbrev S4x256x1024 : Shape := ⟨3, ![4, 256, 1024]⟩
abbrev S4x2048x1024 : Shape := ⟨3, ![4, 2048, 1024]⟩
abbrev S4x9x2x1024 : Shape := ⟨4, ![4, 9, 2, 1024]⟩
abbrev S1x1024 : Shape := ⟨2, ![1, 1024]⟩
abbrev S1024x3072 : Shape := ⟨2, ![1024, 3072]⟩
abbrev S1x2048 : Shape := ⟨2, ![1, 2048]⟩
abbrev S1x256x3072 : Shape := ⟨3, ![1, 256, 3072]⟩
abbrev S1x8x2048 : Shape := ⟨3, ![1, 8, 2048]⟩
abbrev S1x256x1024 : Shape := ⟨3, ![1, 256, 1024]⟩
abbrev S1x1x2x1024 : Shape := ⟨4, ![1, 1, 2, 1024]⟩
abbrev S256x1024 : Shape := ⟨2, ![256, 1024]⟩
abbrev S1x256x2048 : Shape := ⟨3, ![1, 256, 2048]⟩
abbrev S256x2048 : Shape := ⟨2, ![256, 2048]⟩
abbrev S1x1x2048 : Shape := ⟨3, ![1, 1, 2048]⟩
abbrev S256x1 : Shape := ⟨2, ![256, 1]⟩
abbrev S256x3072 : Shape := ⟨2, ![256, 3072]⟩
abbrev S1x1x1x1024 : Shape := ⟨4, ![1, 1, 1, 1024]⟩
abbrev S256 : Shape := ⟨1, ![256]⟩
abbrev S1024 : Shape := ⟨1, ![1024]⟩
abbrev S2x1024 : Shape := ⟨2, ![2, 1024]⟩

abbrev nBuf : Space → Nat
  | .hbm => 13
  | .vmem => 25
  | .smem => 0
  | _ => 0

abbrev bufTy : (tb : Table) → Fin (tcTables nBuf tb) → BufTy
  | .hbm, ⟨0, _⟩ => ⟨S4x2304x3072, .f32⟩
  | .hbm, ⟨1, _⟩ => ⟨S4x256x1024, .f32⟩
  | .hbm, ⟨2, _⟩ => ⟨S4x2048x1024, .f32⟩
  | .hbm, ⟨3, _⟩ => ⟨S4x9x2x1024, .f32⟩
  | .hbm, ⟨4, _⟩ => ⟨S1x1024, .f32⟩
  | .hbm, ⟨5, _⟩ => ⟨S1024x3072, .bf16⟩
  | .hbm, ⟨6, _⟩ => ⟨S1x2048, .f32⟩
  | .hbm, ⟨7, _⟩ => ⟨S1x2048, .f32⟩
  | .hbm, ⟨8, _⟩ => ⟨S4x2048x1024, .f32⟩
  | .hbm, ⟨9, _⟩ => ⟨S4x2048x1024, .f32⟩
  | .hbm, ⟨10, _⟩ => ⟨S4x2304x3072, .bf16⟩
  | .hbm, ⟨11, _⟩ => ⟨S4x9x2x1024, .f32⟩
  | .hbm, ⟨12, _⟩ => ⟨S1x1024, .f32⟩
  | .local _ .vmem, ⟨0, _⟩ => ⟨S1x256x3072, .f32⟩
  | .local _ .vmem, ⟨1, _⟩ => ⟨S1x256x3072, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x2x1024, .f32⟩
  | .local _ .vmem, ⟨11, _⟩ => ⟨S1x1x2x1024, .f32⟩
  | .local _ .vmem, ⟨12, _⟩ => ⟨S1x1024, .f32⟩
  | .local _ .vmem, ⟨13, _⟩ => ⟨S1024x3072, .bf16⟩
  | .local _ .vmem, ⟨14, _⟩ => ⟨S1x2048, .f32⟩
  | .local _ .vmem, ⟨15, _⟩ => ⟨S1x2048, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x3072, .bf16⟩
  | .local _ .vmem, ⟨21, _⟩ => ⟨S1x256x3072, .bf16⟩
  | .local _ .vmem, ⟨22, _⟩ => ⟨S1x1x2x1024, .f32⟩
  | .local _ .vmem, ⟨23, _⟩ => ⟨S1x1x2x1024, .f32⟩
  | .local _ .vmem, ⟨24, _⟩ => ⟨S1x1024, .f32⟩
  | _, _ => ⟨S4x2304x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![4, 9], ![false, false]⟩

def k0_cond3 (i : grid0.Coords) : BitVec 1 :=
  let arg1 : BitVec 32 := BitVec.ofNat 32 (i 1).val
  let c1_i32_54 : BitVec 32 := 1#32
  let v124 : BitVec 1 := Scalar.cmpi .sge arg1 c1_i32_54
  let v125 : BitVec 32 := Scalar.extui v124
  let c0_i32_55 : BitVec 32 := 0#32
  let v126 : BitVec 1 := Scalar.cmpi .ne v125 c0_i32_55
  v126

def k0_cond1 (i : grid0.Coords) : BitVec 1 :=
  let arg0 : BitVec 32 := BitVec.ofNat 32 (i 0).val
  let c0_i32_50 : BitVec 32 := 0#32
  let v116 : BitVec 1 := Scalar.cmpi .eq arg0 c0_i32_50
  let arg1 : BitVec 32 := BitVec.ofNat 32 (i 1).val
  let c0_i32_51 : BitVec 32 := 0#32
  let v117 : BitVec 1 := Scalar.cmpi .eq arg1 c0_i32_51
  let v118 : BitVec 1 := Scalar.andi v116 v117
  let v119 : BitVec 32 := Scalar.extui v118
  let c0_i32_52 : BitVec 32 := 0#32
  let v120 : BitVec 1 := Scalar.cmpi .ne v119 c0_i32_52
  v120

def k0_cond2 (i : grid0.Coords) : BitVec 1 :=
  let arg0 : BitVec 32 := BitVec.ofNat 32 (i 0).val
  let c0_i32_50 : BitVec 32 := 0#32
  let v116 : BitVec 1 := Scalar.cmpi .eq arg0 c0_i32_50
  let arg1 : BitVec 32 := BitVec.ofNat 32 (i 1).val
  let c0_i32_51 : BitVec 32 := 0#32
  let v117 : BitVec 1 := Scalar.cmpi .eq arg1 c0_i32_51
  let v118 : BitVec 1 := Scalar.andi v116 v117
  let v_true : BitVec 1 := 1#1
  let v121 : BitVec 1 := Scalar.xori v118 v_true
  let v122 : BitVec 32 := Scalar.extui v121
  let c0_i32_53 : BitVec 32 := 0#32
  let v123 : BitVec 1 := Scalar.cmpi .ne v122 c0_i32_53
  v123

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference12Ideal.lean ====
abbrev S4x2304x3072 : Shape := ⟨3, ![4, 2304, 3072]⟩
abbrev S4x256x1024 : Shape := ⟨3, ![4, 256, 1024]⟩
abbrev S4x2048x1024 : Shape := ⟨3, ![4, 2048, 1024]⟩
abbrev S4x9x2x1024 : Shape := ⟨4, ![4, 9, 2, 1024]⟩
abbrev S1x1024 : Shape := ⟨2, ![1, 1024]⟩
abbrev S1024x3072 : Shape := ⟨2, ![1024, 3072]⟩
abbrev S1x2048 : Shape := ⟨2, ![1, 2048]⟩
abbrev S_ : Shape := ⟨0, ![]⟩
abbrev S1024 : Shape := ⟨1, ![1024]⟩
abbrev S2048 : Shape := ⟨1, ![2048]⟩
abbrev S4x2304x1024 : Shape := ⟨3, ![4, 2304, 1024]⟩
abbrev S4x2304 : Shape := ⟨2, ![4, 2304]⟩
abbrev S4x2304x1 : Shape := ⟨3, ![4, 2304, 1]⟩
abbrev S1x1x1024 : Shape := ⟨3, ![1, 1, 1024]⟩
abbrev S4x9x1x1024 : Shape := ⟨4, ![4, 9, 1, 1024]⟩
abbrev S4x9x1024 : Shape := ⟨3, ![4, 9, 1024]⟩
abbrev S4x9x256x1024 : Shape := ⟨4, ![4, 9, 256, 1024]⟩
abbrev S4x256x2048 : Shape := ⟨3, ![4, 256, 2048]⟩
abbrev S4x1x2048 : Shape := ⟨3, ![4, 1, 2048]⟩
abbrev S4x255x2048 : Shape := ⟨3, ![4, 255, 2048]⟩
abbrev S1x1x2048 : Shape := ⟨3, ![1, 1, 2048]⟩
abbrev S4x2048x2048 : Shape := ⟨3, ![4, 2048, 2048]⟩
abbrev S4x2047x2048 : Shape := ⟨3, ![4, 2047, 2048]⟩
abbrev S4x2304x2048 : Shape := ⟨3, ![4, 2304, 2048]⟩

abbrev nBuf : Space → Nat
  | .hbm => 200
  | .vmem => 0
  | .smem => 0
  | _ => 0

abbrev hbmTy0_0 (i : Nat) : BufTy := match i % 128 with
  | 0 => ⟨S4x2304x3072, .f32⟩
  | 1 => ⟨S4x256x1024, .f32⟩
  | 2 => ⟨S4x2048x1024, .f32⟩
  | 3 => ⟨S4x9x2x1024, .f32⟩
  | 4 => ⟨S1x1024, .f32⟩
  | 5 => ⟨S1024x3072, .bf16⟩
  | 6 => ⟨S1x2048, .f32⟩
  | 7 => ⟨S1x2048, .f32⟩
  | 8 => ⟨S4x2048x1024, .f32⟩
  | 9 => ⟨S_, .f32⟩
  | 10 => ⟨S4x2304x3072, .f32⟩
  | 11 => ⟨S1024, .f32⟩
  | 12 => ⟨S1024x3072, .f32⟩
  | 13 => ⟨S2048, .f32⟩
  | 14 => ⟨S2048, .f32⟩
  | 15 => ⟨S4x2304x1024, .f32⟩
  | 16 => ⟨S_, .f32⟩
  | 17 => ⟨S4x256x1024, .f32⟩
  | 18 => ⟨S4x2304x1024, .f32⟩
  | 19 => ⟨S_, .f32⟩
  | 20 => ⟨S4x2304, .f32⟩
  | 21 => ⟨S4x2304x1, .f32⟩
  | 22 => ⟨S_, .f32⟩
  | 23 => ⟨S4x2304x1, .f32⟩
  | 24 => ⟨S4x2304x1, .f32⟩
  | 25 => ⟨S_, .f32⟩
  | 26 => ⟨S4x2304x1, .f32⟩
  | 27 => ⟨S4x2304x1, .f32⟩
  | 28 => ⟨S4x2304x1, .f32⟩
  | 29 => ⟨S4x2304x1, .f32⟩
  | 30 => ⟨S_, .f32⟩
  | 31 => ⟨S4x2304x1, .f32⟩
  | 32 => ⟨S4x2304x1, .f32⟩
  | 33 => ⟨S4x2304x1024, .f32⟩
  | 34 => ⟨S4x2304x1024, .f32⟩
  | 35 => ⟨S1x1x1024, .f32⟩
  | 36 => ⟨S4x2304x1024, .f32⟩
  | 37 => ⟨S4x2304x1024, .f32⟩
  | 38 => ⟨S4x9x1x1024, .f32⟩
  | 39 => ⟨S4x9x1024, .f32⟩
  | 40 => ⟨S4x9x256x1024, .f32⟩
  | 41 => ⟨S4x2304x1024, .f32⟩
  | 42 => ⟨S4x9x1x1024, .f32⟩
  | 43 => ⟨S4x9x1024, .f32⟩
  | 44 => ⟨S4x9x256x1024, .f32⟩
  | 45 => ⟨S4x2304x1024, .f32⟩
  | 46 => ⟨S_, .f32⟩
  | 47 => ⟨S4x2304x1024, .f32⟩
  | 48 => ⟨S4x2304x1024, .f32⟩
  | 49 => ⟨S4x2304x1024, .f32⟩
  | 50 => ⟨S4x2304x1024, .f32⟩
  | 51 => ⟨S4x2304x3072, .f32⟩
  | 52 => ⟨S4x2304x3072, .f32⟩
  | 53 => ⟨S4x256x2048, .f32⟩
  | 54 => ⟨S4x1x2048, .f32⟩
  | 55 => ⟨S_, .f32⟩
  | 56 => ⟨S4x1x2048, .f32⟩
  | 57 => ⟨S4x255x2048, .f32⟩
  | 58 => ⟨S4x256x2048, .f32⟩
  | 59 => ⟨S_, .f32⟩
  | 60 => ⟨S4x1x2048, .f32⟩
  | 61 => ⟨S4x255x2048, .f32⟩
  | 62 => ⟨S4x256x2048, .f32⟩
  | 63 => ⟨S_, .f32⟩
  | 64 => ⟨S4x1x2048, .f32⟩
  | 65 => ⟨S_, .f32⟩
  | 66 => ⟨S2048, .f32⟩
  | 67 => ⟨S2048, .f32⟩
  | 68 => ⟨S2048, .f32⟩
  | 69 => ⟨S1x1x2048, .f32⟩
  | 70 => ⟨S4x256x2048, .f32⟩
  | 71 => ⟨S4x256x2048, .f32⟩
  | 72 => ⟨S1x1x2048, .f32⟩
  | 73 => ⟨S4x256x2048, .f32⟩
  | 74 => ⟨S4x256x2048, .f32⟩
  | 75 => ⟨S4x256x2048, .f32⟩
  | 76 => ⟨S1x1x2048, .f32⟩
  | 77 => ⟨S4x256x2048, .f32⟩
  | 78 => ⟨S4x256x2048, .f32⟩
  | 79 => ⟨S4x256x2048, .f32⟩
  | 80 => ⟨S4x2048x2048, .f32⟩
  | 81 => ⟨S4x1x2048, .f32⟩
  | 82 => ⟨S_, .f32⟩
  | 83 => ⟨S4x1x2048, .f32⟩
  | 84 => ⟨S4x2047x2048, .f32⟩
  | 85 => ⟨S4x2048x2048, .f32⟩
  | 86 => ⟨S_, .f32⟩
  | 87 => ⟨S4x1x2048, .f32⟩
  | 88 => ⟨S4x2047x2048, .f32⟩
  | 89 => ⟨S4x2048x2048, .f32⟩
  | 90 => ⟨S_, .f32⟩
  | 91 => ⟨S4x1x2048, .f32⟩
  | 92 => ⟨S_, .f32⟩
  | 93 => ⟨S2048, .f32⟩
  | 94 => ⟨S2048, .f32⟩
  | 95 => ⟨S2048, .f32⟩
  | 96 => ⟨S1x1x2048, .f32⟩
  | 97 => ⟨S4x2048x2048, .f32⟩
  | 98 => ⟨S4x2048x2048, .f32⟩
  | 99 => ⟨S1x1x2048, .f32⟩
  | 100 => ⟨S4x2048x2048, .f32⟩
  | 101 => ⟨S4x2048x2048, .f32⟩
  | 102 => ⟨S4x2048x2048, .f32⟩
  | 103 => ⟨S1x1x2048, .f32⟩
  | 104 => ⟨S4x2048x2048, .f32⟩
  | 105 => ⟨S4x2048x2048, .f32⟩
  | 106 => ⟨S4x2048x2048, .f32⟩
  | 107 => ⟨S4x2304x2048, .f32⟩
  | 108 => ⟨S4x2304x1024, .f32⟩
  | 109 => ⟨S4x2304x3072, .f32⟩
  | 110 => ⟨S4x2304x2048, .f32⟩
  | 111 => ⟨S4x2304x1024, .f32⟩
  | 112 => ⟨S_, .f32⟩
  | 113 => ⟨S4x2304x3072, .f32⟩
  | 114 => ⟨S4x256x2048, .f32⟩
  | 115 => ⟨S4x2048x2048, .f32⟩
  | 116 => ⟨S4x2048x2048, .f32⟩
  | 117 => ⟨S4x2048x2048, .f32⟩
  | 118 => ⟨S4x2048x2048, .f32⟩
  | 119 => ⟨S4x2048x2048, .f32⟩
  | 120 => ⟨S4x2048x2048, .f32⟩
  | 121 => ⟨S4x2048x2048, .f32⟩
  | 122 => ⟨S4x2047x2048, .f32⟩
  | 123 => ⟨S4x1x2048, .f32⟩
  | 124 => ⟨S_, .f32⟩
  | 125 => ⟨S4x2048x2048, .f32⟩
  | 126 => ⟨S4x2048x2048, .f32⟩
  | 127 => ⟨S4x1x2048, .f32⟩
  | _ => ⟨S4x2304x3072, .f32⟩

abbrev hbmTy0_1 (i : Nat) : BufTy := match i % 128 with
  | 0 => ⟨S4x2047x2048, .f32⟩
  | 1 => ⟨S_, .f32⟩
  | 2 => ⟨S4x2048x2048, .f32⟩
  | 3 => ⟨S4x2048x2048, .f32⟩
  | 4 => ⟨S_, .f32⟩
  | 5 => ⟨S4x2304x3072, .f32⟩
  | 6 => ⟨S4x2304x3072, .f32⟩
  | 7 => ⟨S4x256x2048, .f32⟩
  | 8 => ⟨S4x256x2048, .f32⟩
  | 9 => ⟨S4x256x2048, .f32⟩
  | 10 => ⟨S4x256x2048, .f32⟩
  | 11 => ⟨S4x256x2048, .f32⟩
  | 12 => ⟨S4x256x2048, .f32⟩
  | 13 => ⟨S4x255x2048, .f32⟩
  | 14 => ⟨S4x1x2048, .f32⟩
  | 15 => ⟨S_, .f32⟩
  | 16 => ⟨S4x256x2048, .f32⟩
  | 17 => ⟨S4x256x2048, .f32⟩
  | 18 => ⟨S4x1x2048, .f32⟩
  | 19 => ⟨S4x255x2048, .f32⟩
  | 20 => ⟨S_, .f32⟩
  | 21 => ⟨S4x256x2048, .f32⟩
  | 22 => ⟨S4x256x2048, .f32⟩
  | 23 => ⟨S_, .f32⟩
  | 24 => ⟨S4x2304x3072, .f32⟩
  | 25 => ⟨S4x2304x3072, .f32⟩
  | 26 => ⟨S4x2304x1024, .f32⟩
  | 27 => ⟨S4x2304x1024, .f32⟩
  | 28 => ⟨S4x2304x1024, .f32⟩
  | 29 => ⟨S4x9x256x1024, .f32⟩
  | 30 => ⟨S_, .f32⟩
  | 31 => ⟨S4x9x1024, .f32⟩
  | 32 => ⟨S4x9x1x1024, .f32⟩
  | 33 => ⟨S_, .f32⟩
  | 34 => ⟨S4x9x2x1024, .f32⟩
  | 35 => ⟨S4x9x256x1024, .f32⟩
  | 36 => ⟨S_, .f32⟩
  | 37 => ⟨S4x9x1024, .f32⟩
  | 38 => ⟨S4x9x1x1024, .f32⟩
  | 39 => ⟨S_, .f32⟩
  | 40 => ⟨S4x9x2x1024, .f32⟩
  | 41 => ⟨S4x9x2x1024, .f32⟩
  | 42 => ⟨S4x2304x1024, .f32⟩
  | 43 => ⟨S_, .f32⟩
  | 44 => ⟨S1024, .f32⟩
  | 45 => ⟨S1x1x1024, .f32⟩
  | 46 => ⟨S4x2304x1024, .f32⟩
  | 47 => ⟨S4x2304x1024, .f32⟩
  | 48 => ⟨S_, .f32⟩
  | 49 => ⟨S1024, .f32⟩
  | 50 => ⟨S4x2304x1024, .f32⟩
  | 51 => ⟨S_, .f32⟩
  | 52 => ⟨S4x2304, .f32⟩
  | 53 => ⟨S4x2304x1, .f32⟩
  | 54 => ⟨S4x2304x1024, .f32⟩
  | 55 => ⟨S4x2304x1024, .f32⟩
  | 56 => ⟨S4x2304x1, .f32⟩
  | 57 => ⟨S_, .f32⟩
  | 58 => ⟨S4x2304x1, .f32⟩
  | 59 => ⟨S4x2304x1, .f32⟩
  | 60 => ⟨S_, .f32⟩
  | 61 => ⟨S4x2304, .f32⟩
  | 62 => ⟨S4x2304x1024, .f32⟩
  | 63 => ⟨S4x2304x1024, .f32⟩
  | 64 => ⟨S4x2304x1024, .f32⟩
  | 65 => ⟨S4x2304x1024, .f32⟩
  | 66 => ⟨S4x2304x1024, .f32⟩
  | 67 => ⟨S4x256x1024, .f32⟩
  | 68 => ⟨S4x2048x1024, .f32⟩
  | 69 => ⟨S4x2048x1024, .f32⟩
  | 70 => ⟨S4x2304x3072, .bf16⟩
  | 71 => ⟨S1x1024, .f32⟩
  | _ => ⟨S4x2304x3072, .f32⟩

abbrev hbmTy (i : Nat) : BufTy := match i / 128 with
  | 0 => hbmTy0_0 i
  | 1 => hbmTy0_1 i
  | _ => ⟨S4x2304x3072, .f32⟩

abbrev bufTy : (tb : Table) → Fin (tcTables nBuf tb) → BufTy
  | .hbm, ⟨i, _⟩ => hbmTy i
  | _, _ => ⟨S4x2304x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_15 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_16 : Ref sig .tc := ⟨.hbm, 129, rfl⟩
abbrev main_v103 : Ref sig .tc := ⟨.hbm, 130, rfl⟩
abbrev main_v104 : Ref sig .tc := ⟨.hbm, 131, rfl⟩
abbrev main_cst_17 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_18 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_19 : Ref sig .tc := ⟨.hbm, 148, rfl⟩
abbrev main_v119 : Ref sig .tc := ⟨.hbm, 149, rfl⟩
abbrev main_v120 : Ref sig .tc := ⟨.hbm, 150, rfl⟩
abbrev main_cst_20 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_21 : Ref sig .tc := ⟨.hbm, 158, rfl⟩
abbrev main_v127 : Ref sig .tc := ⟨.hbm, 159, rfl⟩
abbrev main_v128 : Ref sig .tc := ⟨.hbm, 160, rfl⟩
abbrev main_cst_22 : Ref sig .tc := ⟨.hbm, 161, rfl⟩
abbrev main_v129 : Ref sig .tc := ⟨.hbm, 162, rfl⟩
abbrev main_v130 : Ref sig .tc := ⟨.hbm, 163, rfl⟩
abbrev main_cst_23 : Ref sig .tc := ⟨.hbm, 164, rfl⟩
abbrev main_v131 : Ref sig .tc := ⟨.hbm, 165, rfl⟩
abbrev main_v132 : Ref sig .tc := ⟨.hbm, 166, rfl⟩
abbrev main_cst_24 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_25 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_26 : Ref sig .tc := ⟨.hbm, 176, rfl⟩
abbrev main_v140 : Ref sig .tc := ⟨.hbm, 177, rfl⟩
abbrev main_v141 : Ref sig .tc := ⟨.hbm, 178, rfl⟩
abbrev main_cst_27 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_28 : Ref sig .tc := ⟨.hbm, 185, rfl⟩
abbrev main_v147 : Ref sig .tc := ⟨.hbm, 186, rfl⟩
abbrev main_v148 : Ref sig .tc := ⟨.hbm, 187, rfl⟩
abbrev main_cst_29 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩

abbrev nD : Nat := 1
abbrev τ : Topo := Topo.v7x

variable {F : FTy → Type} [FloatOps F]
-- ==== Kernel13.lean ====
abbrev S8x232x128 : Shape := ⟨3, ![8, 232, 128]⟩
abbrev S232x128 : Shape := ⟨2, ![232, 128]⟩
abbrev S1x232x128 : Shape := ⟨3, ![1, 232, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S232x128, .f32⟩
  | .hbm, ⟨5, _⟩ => ⟨S232x128, .f32⟩
  | .hbm, ⟨6, _⟩ => ⟨S232x128, .f32⟩
  | .hbm, ⟨7, _⟩ => ⟨S232x128, .f32⟩
  | .local _ .vmem, ⟨0, _⟩ => ⟨S8x232x128, .f32⟩
  | .local _ .vmem, ⟨1, _⟩ => ⟨S232x128, .f32⟩
  | .local _ .vmem, ⟨2, _⟩ => ⟨S232x128, .f32⟩
  | .local _ .vmem, ⟨3, _⟩ => ⟨S232x128, .f32⟩
  | .local _ .vmem, ⟨4, _⟩ => ⟨S232x128, .f32⟩
  | .local _ .vmem, ⟨5, _⟩ => ⟨S232x128, .f32⟩
  | .local _ .vmem, ⟨6, _⟩ => ⟨S232x128, .f32⟩
  | .local _ .vmem, ⟨7, _⟩ => ⟨S232x128, .f32⟩
  | _, _ => ⟨S8x232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S232x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S8x232x128 : Shape := ⟨3, ![8, 232, 128]⟩
abbrev S232x128 : Shape := ⟨2, ![232, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S_, .f32⟩
  | .hbm, ⟨5, _⟩ => ⟨S232x128, .f32⟩
  | .hbm, ⟨6, _⟩ => ⟨S_, .f32⟩
  | .hbm, ⟨7, _⟩ => ⟨S232x128, .f32⟩
  | .hbm, ⟨8, _⟩ => ⟨S232x128, .f32⟩
  | .hbm, ⟨9, _⟩ => ⟨S_, .f32⟩
  | .hbm, ⟨10, _⟩ => ⟨S232x128, .f32⟩
  | .hbm, ⟨11, _⟩ => ⟨S232x128, .f32⟩
  | .hbm, ⟨12, _⟩ => ⟨S232x128, .f32⟩
  | .hbm, ⟨13, _⟩ => ⟨S_, .f32⟩
  | .hbm, ⟨14, _⟩ => ⟨S232x128, .f32⟩
  | .hbm, ⟨15, _⟩ => ⟨S232x128, .f32⟩
  | .hbm, ⟨16, _⟩ => ⟨S232x128, .f32⟩
  | .hbm, ⟨17, _⟩ => ⟨S_, .f32⟩
  | .hbm, ⟨18, _⟩ => ⟨S232x128, .f32⟩
  | .hbm, ⟨19, _⟩ => ⟨S232x128, .f32⟩
  | .hbm, ⟨20, _⟩ => ⟨S232x128, .f32⟩
  | .hbm, ⟨21, _⟩ => ⟨S_, .f32⟩
  | .hbm, ⟨22, _⟩ => ⟨S232x128, .f32⟩
  | .hbm, ⟨23, _⟩ => ⟨S232x128, .f32⟩
  | .hbm, ⟨24, _⟩ => ⟨S_, .f32⟩
  | .hbm, ⟨25, _⟩ => ⟨S232x128, .f32⟩
  | .hbm, ⟨26, _⟩ => ⟨S232x128, .f32⟩
  | .hbm, ⟨27, _⟩ => ⟨S232x128, .f32⟩
  | .hbm, ⟨28, _⟩ => ⟨S_, .f32⟩
  | .hbm, ⟨29, _⟩ => ⟨S232x128, .f32⟩
  | .hbm, ⟨30, _⟩ => ⟨S232x128, .f32⟩
  | .hbm, ⟨31, _⟩ => ⟨S232x128, .f32⟩
  | .hbm, ⟨32, _⟩ => ⟨S_, .f32⟩
  | .hbm, ⟨33, _⟩ => ⟨S232x128, .f32⟩
  | .hbm, ⟨34, _⟩ => ⟨S232x128, .f32⟩
  | .hbm, ⟨35, _⟩ => ⟨S232x128, .f32⟩
  | .hbm, ⟨36, _⟩ => ⟨S_, .f32⟩
  | .hbm, ⟨37, _⟩ => ⟨S232x128, .f32⟩
  | .hbm, ⟨38, _⟩ => ⟨S232x128, .f32⟩
  | _, _ => ⟨S8x232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S8x96x128 : Shape := ⟨3, ![8, 96, 128]⟩
abbrev S96x128 : Shape := ⟨2, ![96, 128]⟩
abbrev S1x96x128 : Shape := ⟨3, ![1, 96, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S8x96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x96x128 : Shape := ⟨3, ![8, 96, 128]⟩
abbrev S96x128 : Shape := ⟨2, ![96, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S_, .f32⟩
  | .hbm, ⟨7, _⟩ => ⟨S96x128, .f32⟩
  | .hbm, ⟨8, _⟩ => ⟨S96x128, .f32⟩
  | .hbm, ⟨9, _⟩ => ⟨S_, .f32⟩
  | .hbm, ⟨10, _⟩ => ⟨S96x128, .f32⟩
  | .hbm, ⟨11, _⟩ => ⟨S96x128, .f32⟩
  | .hbm, ⟨12, _⟩ => ⟨S96x128, .f32⟩
  | .hbm, ⟨13, _⟩ => ⟨S_, .f32⟩
  | .hbm, ⟨14, _⟩ => ⟨S96x128, .f32⟩
  | .hbm, ⟨15, _⟩ => ⟨S96x128, .f32⟩
  | .hbm, ⟨16, _⟩ => ⟨S96x128, .f32⟩
  | .hbm, ⟨17, _⟩ => ⟨S_, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S_, .f32⟩
  | .hbm, ⟨22, _⟩ => ⟨S96x128, .f32⟩
  | .hbm, ⟨23, _⟩ => ⟨S96x128, .f32⟩
  | .hbm, ⟨24, _⟩ => ⟨S_, .f32⟩
  | .hbm, ⟨25, _⟩ => ⟨S96x128, .f32⟩
  | .hbm, ⟨26, _⟩ => ⟨S96x128, .f32⟩
  | .hbm, ⟨27, _⟩ => ⟨S96x128, .f32⟩
  | .hbm, ⟨28, _⟩ => ⟨S_, .f32⟩
  | .hbm, ⟨29, _⟩ => ⟨S96x128, .f32⟩
  | .hbm, ⟨30, _⟩ => ⟨S96x128, .f32⟩
  | .hbm, ⟨31, _⟩ => ⟨S96x128, .f32⟩
  | .hbm, ⟨32, _⟩ => ⟨S_, .f32⟩
  | .hbm, ⟨33, _⟩ => ⟨S96x128, .f32⟩
  | .hbm, ⟨34, _⟩ => ⟨S96x128, .f32⟩
  | .hbm, ⟨35, _⟩ => ⟨S96x128, .f32⟩
  | .hbm, ⟨36, _⟩ => ⟨S_, .f32⟩
  | .hbm, ⟨37, _⟩ => ⟨S96x128, .f32⟩
  | .hbm, ⟨38, _⟩ => ⟨S96x128, .f32⟩
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S1x56x128 : Shape := ⟨3, ![1, 56, 128]⟩
abbrev S56x128 : Shape := ⟨2, ![56, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x56x128, .f32⟩
  | .hbm, ⟨1, _⟩ => ⟨S56x128, .f32⟩
  | .hbm, ⟨2, _⟩ => ⟨S56x128, .f32⟩
  | .hbm, ⟨3, _⟩ => ⟨S56x128, .f32⟩
  | .hbm, ⟨4, _⟩ => ⟨S56x128, .f32⟩
  | .hbm, ⟨5, _⟩ => ⟨S56x128, .f32⟩
  | .hbm, ⟨6, _⟩ => ⟨S56x128, .f32⟩
  | .hbm, ⟨7, _⟩ => ⟨S56x128, .f32⟩
  | .local _ .vmem, ⟨0, _⟩ => ⟨S1x56x128, .f32⟩
  | .local _ .vmem, ⟨1, _⟩ => ⟨S56x128, .f32⟩
  | .local _ .vmem, ⟨2, _⟩ => ⟨S56x128, .f32⟩
  | .local _ .vmem, ⟨3, _⟩ => ⟨S56x128, .f32⟩
  | .local _ .vmem, ⟨4, _⟩ => ⟨S56x128, .f32⟩
  | .local _ .vmem, ⟨5, _⟩ => ⟨S56x128, .f32⟩
  | .local _ .vmem, ⟨6, _⟩ => ⟨S56x128, .f32⟩
  | .local _ .vmem, ⟨7, _⟩ => ⟨S56x128, .f32⟩
  | _, _ => ⟨S1x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S56x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S56x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S56x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S56x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S56x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S1x56x128 : Shape := ⟨3, ![1, 56, 128]⟩
abbrev S56x128 : Shape := ⟨2, ![56, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x56x128, .f32⟩
  | .hbm, ⟨1, _⟩ => ⟨S56x128, .f32⟩
  | .hbm, ⟨2, _⟩ => ⟨S56x128, .f32⟩
  | .hbm, ⟨3, _⟩ => ⟨S56x128, .f32⟩
  | .hbm, ⟨4, _⟩ => ⟨S_, .f32⟩
  | .hbm, ⟨5, _⟩ => ⟨S56x128, .f32⟩
  | .hbm, ⟨6, _⟩ => ⟨S_, .f32⟩
  | .hbm, ⟨7, _⟩ => ⟨S56x128, .f32⟩
  | .hbm, ⟨8, _⟩ => ⟨S56x128, .f32⟩
  | .hbm, ⟨9, _⟩ => ⟨S_, .f32⟩
  | .hbm, ⟨10, _⟩ => ⟨S56x128, .f32⟩
  | .hbm, ⟨11, _⟩ => ⟨S56x128, .f32⟩
  | .hbm, ⟨12, _⟩ => ⟨S56x128, .f32⟩
  | .hbm, ⟨13, _⟩ => ⟨S_, .f32⟩
  | .hbm, ⟨14, _⟩ => ⟨S56x128, .f32⟩
  | .hbm, ⟨15, _⟩ => ⟨S56x128, .f32⟩
  | .hbm, ⟨16, _⟩ => ⟨S56x128, .f32⟩
  | .hbm, ⟨17, _⟩ => ⟨S_, .f32⟩
  | .hbm, ⟨18, _⟩ => ⟨S56x128, .f32⟩
  | .hbm, ⟨19, _⟩ => ⟨S56x128, .f32⟩
  | .hbm, ⟨20, _⟩ => ⟨S56x128, .f32⟩
  | .hbm, ⟨21, _⟩ => ⟨S_, .f32⟩
  | .hbm, ⟨22, _⟩ => ⟨S56x128, .f32⟩
  | .hbm, ⟨23, _⟩ => ⟨S56x128, .f32⟩
  | .hbm, ⟨24, _⟩ => ⟨S_, .f32⟩
  | .hbm, ⟨25, _⟩ => ⟨S56x128, .f32⟩
  | .hbm, ⟨26, _⟩ => ⟨S56x128, .f32⟩
  | .hbm, ⟨27, _⟩ => ⟨S56x128, .f32⟩
  | .hbm, ⟨28, _⟩ => ⟨S_, .f32⟩
  | .hbm, ⟨29, _⟩ => ⟨S56x128, .f32⟩
  | .hbm, ⟨30, _⟩ => ⟨S56x128, .f32⟩
  | .hbm, ⟨31, _⟩ => ⟨S56x128, .f32⟩
  | .hbm, ⟨32, _⟩ => ⟨S_, .f32⟩
  | .hbm, ⟨33, _⟩ => ⟨S56x128, .f32⟩
  | .hbm, ⟨34, _⟩ => ⟨S56x128, .f32⟩
  | .hbm, ⟨35, _⟩ => ⟨S56x128, .f32⟩
  | .hbm, ⟨36, _⟩ => ⟨S_, .f32⟩
  | .hbm, ⟨37, _⟩ => ⟨S56x128, .f32⟩
  | .hbm, ⟨38, _⟩ => ⟨S56x128, .f32⟩
  | _, _ => ⟨S1x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S64x1024 : Shape := ⟨2, ![64, 1024]⟩
abbrev S64x6144 : Shape := ⟨2, ![64, 6144]⟩
abbrev S64x768 : Shape := ⟨2, ![64, 768]⟩
abbrev S1x1024 : Shape := ⟨2, ![1, 1024]⟩
abbrev S1024x6144 : Shape := ⟨2, ![1024, 6144]⟩
abbrev S1024x768 : Shape := ⟨2, ![1024, 768]⟩
abbrev S1x6144 : Shape := ⟨2, ![1, 6144]⟩
abbrev S6144 : Shape := ⟨1, ![6144]⟩
abbrev S64x1 : Shape := ⟨2, ![64, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S64x6144, .f32⟩
  | .hbm, ⟨2, _⟩ => ⟨S64x768, .f32⟩
  | .hbm, ⟨3, _⟩ => ⟨S1x1024, .f32⟩
  | .hbm, ⟨4, _⟩ => ⟨S1024x6144, .bf16⟩
  | .hbm, ⟨5, _⟩ => ⟨S1024x768, .f32⟩
  | .hbm, ⟨6, _⟩ => ⟨S1x6144, .f32⟩
  | .hbm, ⟨7, _⟩ => ⟨S1x1024, .f32⟩
  | .local _ .vmem, ⟨0, _⟩ => ⟨S64x1024, .f32⟩
  | .local _ .vmem, ⟨1, _⟩ => ⟨S64x6144, .f32⟩
  | .local _ .vmem, ⟨2, _⟩ => ⟨S64x768, .f32⟩
  | .local _ .vmem, ⟨3, _⟩ => ⟨S1x1024, .f32⟩
  | .local _ .vmem, ⟨4, _⟩ => ⟨S1024x6144, .bf16⟩
  | .local _ .vmem, ⟨5, _⟩ => ⟨S1024x768, .f32⟩
  | .local _ .vmem, ⟨6, _⟩ => ⟨S1x6144, .f32⟩
  | .local _ .vmem, ⟨7, _⟩ => ⟨S1x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference16Ideal.lean ====
abbrev S64x1024 : Shape := ⟨2, ![64, 1024]⟩
abbrev S64x6144 : Shape := ⟨2, ![64, 6144]⟩
abbrev S64x768 : Shape := ⟨2, ![64, 768]⟩
abbrev S1x1024 : Shape := ⟨2, ![1, 1024]⟩
abbrev S1024x6144 : Shape := ⟨2, ![1024, 6144]⟩
abbrev S_ : Shape := ⟨0, ![]⟩
abbrev S1024x768 : Shape := ⟨2, ![1024, 768]⟩
abbrev S1x6144 : Shape := ⟨2, ![1, 6144]⟩
abbrev S1024 : Shape := ⟨1, ![1024]⟩
abbrev S6144 : Shape := ⟨1, ![6144]⟩
abbrev S8x8x6144 : Shape := ⟨3, ![8, 8, 6144]⟩
abbrev S8x1x6144 : Shape := ⟨3, ![8, 1, 6144]⟩
abbrev S8x6144 : Shape := ⟨2, ![8, 6144]⟩
abbrev S768x1024 : Shape := ⟨2, ![768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x6144, .f32⟩
  | .hbm, ⟨2, _⟩ => ⟨S64x768, .f32⟩
  | .hbm, ⟨3, _⟩ => ⟨S1x1024, .f32⟩
  | .hbm, ⟨4, _⟩ => ⟨S1024x6144, .bf16⟩
  | .hbm, ⟨5, _⟩ => ⟨S_, .f32⟩
  | .hbm, ⟨6, _⟩ => ⟨S1024x768, .f32⟩
  | .hbm, ⟨7, _⟩ => ⟨S64x768, .f32⟩
  | .hbm, ⟨8, _⟩ => ⟨S_, .f32⟩
  | .hbm, ⟨9, _⟩ => ⟨S1x6144, .f32⟩
  | .hbm, ⟨10, _⟩ => ⟨S64x6144, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024x6144, .f32⟩
  | .hbm, ⟨22, _⟩ => ⟨S6144, .f32⟩
  | .hbm, ⟨23, _⟩ => ⟨S8x8x6144, .f32⟩
  | .hbm, ⟨24, _⟩ => ⟨S8x1x6144, .f32⟩
  | .hbm, ⟨25, _⟩ => ⟨S8x6144, .f32⟩
  | .hbm, ⟨26, _⟩ => ⟨S_, .f32⟩
  | .hbm, ⟨27, _⟩ => ⟨S6144, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S768x1024, .f32⟩
  | .hbm, ⟨52, _⟩ => ⟨S1024x768, .f32⟩
  | .hbm, ⟨53, _⟩ => ⟨S_, .f32⟩
  | .hbm, ⟨54, _⟩ => ⟨S6144, .f32⟩
  | .hbm, ⟨55, _⟩ => ⟨S1x6144, .f32⟩
  | .hbm, ⟨56, _⟩ => ⟨S1x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_v14_2 : Ref sig .tc := ⟨.hbm, 37, rfl⟩
abbrev main_call1_cst_1 : Ref sig .tc := ⟨.hbm, 38, rfl⟩
abbrev main_call1_v6 : Ref sig .tc := ⟨.hbm, 39, rfl⟩
abbrev main_call1_v7 : Ref sig .tc := ⟨.hbm, 40, rfl⟩
abbrev main_v14_1 : Ref sig .tc := ⟨.hbm, 41, rfl⟩
abbrev main_v14_0 : Ref sig .tc := ⟨.hbm, 42, rfl⟩
abbrev main_cst_2 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_3 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩

abbrev nD : Nat := 1
abbrev τ : Topo := Topo.v7x

variable {F : FTy → Type} [FloatOps F]
-- ==== Kernel17.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S1x6144, .f32⟩
  | .hbm, ⟨3, _⟩ => ⟨S8x1024, .f32⟩
  | .hbm, ⟨4, _⟩ => ⟨S8x6144, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩
abbrev S8x6144 : Shape := ⟨2, ![8, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .bf16⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Products.lean ====
/- The gradient of a product by its weight, and the sums of a kernel that adds it up tile by tile. -/
module

public import Idealize.ShloMosaic.Lib.Pipeline.Value
public import Idealize.ShloMosaic.Lib.ValueIdx
public import Idealize.ShloMosaic.PureOps.Ideal.Laws

@[expose] public section

noncomputable section

namespace Cert.Products

open Idealize.ShloMosaic Idealize.ShloMosaic.ValueIdx

variable {K M N : ℕ}

/-- The gradient of `a @ w` by `w`, at the product's gradient `g`. -/
def gradProduct (a : (⟨2, ![K, M]⟩ : Shape).Idx → EReal) (g : (⟨2, ![K, N]⟩ : Shape).Idx → EReal) (i : (⟨2, ![M, N]⟩ : Shape).Idx) : EReal :=
  ∑ q : Fin K, a (ix2 q (i 0)) * g (ix2 q (i 1))

/-- A matrix product that contracts the first axis of both operands, read at coordinates. -/
theorem prodFirst (wf : DotDims.WF ⟨2, ![K, M]⟩ ⟨2, ![K, N]⟩ ⟨2, ![M, N]⟩ [0] [0] [1] [1] [] [])
    (a : FVec Ideal ⟨2, ![K, M]⟩ .bf16) (g : FVec Ideal ⟨2, ![K, N]⟩ .bf16) (i : (⟨2, ![M, N]⟩ : Shape).Idx) :
    matmul ⟨[0], [0], [1], [1], [], [], wf⟩ none a g (constant ⟨2, ![M, N]⟩ .f32 0x00000000#32) i = gradProduct a g i := by
  simp only [matmul, gradProduct]
  rw [Ideal.matmul_constant_zero_apply, ← Equiv.sum_comp (contrEquiv1 _ K rfl rfl).symm]
  refine Finset.sum_congr rfl fun q _ => ?_
  have hk := contrEquiv1_symm_val (⟨[0], [0], [1], [1], [], [], wf⟩ : DotDims ⟨2, ![K, M]⟩ ⟨2, ![K, N]⟩ ⟨2, ![M, N]⟩) K rfl rfl q
  congr 2 <;> refine funext fun a => Fin.ext ?_
  · match a with
    | ⟨0, _⟩ => exact hk
    | ⟨1, _⟩ => rfl
  · match a with
    | ⟨0, _⟩ => exact hk
    | ⟨1, _⟩ => rfl

/-- What a run of `k` points accumulates: its first point sets, each later one adds. -/
theorem accumulated {n k : ℕ} (z : (t : ℕ) → t < n → EReal) (T : ℕ → EReal) (b : ℕ)
    (hA : ∀ h, z b h = T 0) (hB : ∀ s h h', s + 1 < k → z (b + s + 1) h = z (b + s) h' + T (s + 1)) :
    ∀ s (h : b + s < n), s < k → z (b + s) h = ∑ s' ∈ Finset.range (s + 1), T s' := by
  intro s
  induction s with
  | zero => intro h _; rw [Finset.sum_range_one]; exact hA h
  | succ s ih =>
    intro h hs
    rw [Finset.sum_range_succ, ← ih (Nat.lt_of_succ_lt h) (by omega)]
    exact hB s h _ hs

/-- The sums of `k` tiles of `p` terms are the sum of all terms. -/
theorem sum_tiles {p k n : ℕ} (hn : n = k * p) (h0 : 0 < n) (f : Fin n → EReal) :
    ∑ s ∈ Finset.range k, ∑ r : Fin p, f ⟨(p * s + r.val) % n, Nat.mod_lt _ h0⟩ = ∑ q : Fin n, f q := by
  subst hn
  rw [Finset.sum_range, ← Fintype.sum_prod_type']
  refine Fintype.sum_equiv finProdFinEquiv _ f fun x => congrArg f (Fin.ext ?_)
  have h := (finProdFinEquiv x).isLt
  have e : (finProdFinEquiv x).val = x.2.val + p * x.1.val := rfl
  show (p * x.1.val + x.2.val) % (k * p) = (finProdFinEquiv x).val
  rw [e] at h ⊢
  rw [add_comm, Nat.mod_eq_of_lt h]

end Cert.Products

end
-- ==== Proof.GradW1.lean ====
/- The gradient of the first MLP weight: the kernel adds it up over 4 tiles of 2048 tokens. -/
module

public import proofs.«01_k».proof.Defs
public import proofs.«01_k».proof.Proof.Products
public import proofs.«01_k».proof.Proof.Gen.Kernel2Ideal.Value
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init

@[expose] public section

set_option maxRecDepth 16384

noncomputable section

namespace Cert.GradW1

open Cert.Kernel2Ideal Cert.Kernel2Ideal.Gen Idealize.ShloMosaic Idealize.ShloMosaic.TcCoe Idealize.ShloMosaic.ValueIdx
open Idealize.SL.Sem
open Cert.Products

variable (m : (ℓ : Loc nD τ sig) → Buf (Elt Ideal) ℓ) (c : Dev nD)

abbrev left : (⟨2, ![8192, 1024]⟩ : Shape).Idx → EReal := (m ((c.tc : Thread nD τ).loc main_arg0) : Vec Ideal S8192x1024 .bf16)
abbrev right : (⟨2, ![8192, 4096]⟩ : Shape).Idx → EReal := (m ((c.tc : Thread nD τ).loc main_arg1) : Vec Ideal S8192x4096 .bf16)

/-! ## The blocks -/

theorem point_lt (t : Fin cfg0.N) : t.val < 32 := lt_of_lt_of_eq t.isLt N_0

theorem index0_0 : ∀ t : Fin grid0.N, win0_0.index t 0 = t.val % 4 := by decide +kernel
theorem index0_1 : ∀ t : Fin grid0.N, win0_0.index t 1 = t.val / 4 / 4 := by decide +kernel
theorem index1_0 : ∀ t : Fin grid0.N, win0_1.index t 0 = t.val % 4 := by decide +kernel
theorem index1_1 : ∀ t : Fin grid0.N, win0_1.index t 1 = t.val / 4 % 4 := by decide +kernel
theorem index2_0 : ∀ t : Fin grid0.N, win0_2.index t 0 = t.val / 4 / 4 := by decide +kernel
theorem index2_1 : ∀ t : Fin grid0.N, win0_2.index t 1 = t.val / 4 % 4 := by decide +kernel

theorem block0 (t : Fin cfg0.N) (y : S2048x512.Idx) (i : S8192x1024.Idx) (h0 : (i 0 : Nat) = 2048 * (t.val % 4) + (y 0 : Nat))
    (h1 : (i 1 : Nat) = 512 * (t.val / 4 / 4) + (y 1 : Nat)) : (iblk m c 0 t : Vec Ideal S2048x512 .bf16) y = left m c i := by
  unfold iblk
  refine (View.read_apply _ _).trans (congrArg (left m c) (funext fun a => Fin.ext ?_))
  match a with
  | ⟨0, _⟩ => show win0_0.index t 0 * 2048 + 1 * (y 0 : Nat) = (i 0 : Nat); rw [index0_0, h0]; omega
  | ⟨1, _⟩ => show win0_0.index t 1 * 512 + 1 * (y 1 : Nat) = (i 1 : Nat); rw [index0_1, h1]; omega

theorem block1 (t : Fin cfg0.N) (y : S2048x1024.Idx) (i : S8192x4096.Idx) (h0 : (i 0 : Nat) = 2048 * (t.val % 4) + (y 0 : Nat))
    (h1 : (i 1 : Nat) = 1024 * (t.val / 4 % 4) + (y 1 : Nat)) : (iblk m c 1 t : Vec Ideal S2048x1024 .bf16) y = right m c i := by
  unfold iblk
  refine (View.read_apply _ _).trans (congrArg (right m c) (funext fun a => Fin.ext ?_))
  match a with
  | ⟨0, _⟩ => show win0_1.index t 0 * 2048 + 1 * (y 0 : Nat) = (i 0 : Nat); rw [index1_0, h0]; omega
  | ⟨1, _⟩ => show win0_1.index t 1 * 1024 + 1 * (y 1 : Nat) = (i 1 : Nat); rw [index1_1, h1]; omega

/-- The index of the result that a point's output block holds at `y`. -/
def place (t : Fin cfg0.N) (y : S512x1024.Idx) : S1024x4096.Idx :=
  ix2 ⟨512 * (t.val / 4 / 4) + (y 0 : Nat), by have := point_lt t; have h : (y 0 : Nat) < 512 := (y 0).isLt; omega⟩
    ⟨1024 * (t.val / 4 % 4) + (y 1 : Nat), by have h : (y 1 : Nat) < 1024 := (y 1).isLt; omega⟩

theorem read2 (t : Fin cfg0.N) (G : Buf (Elt Ideal) ((c.tc : Thread nD τ).loc main_v0)) (y : S512x1024.Idx) :
    ((cfg0.win 2).blk t).view.read (Elt Ideal) G y = (G : Vec Ideal S1024x4096 .f32) (place t y) := by
  refine (View.read_apply _ _).trans (congrArg (G : S1024x4096.Idx → Elt Ideal .f32) (funext fun a => Fin.ext ?_))
  match a with
  | ⟨0, _⟩ => show win0_2.index t 0 * 512 + 1 * (y 0 : Nat) = 512 * (t.val / 4 / 4) + (y 0 : Nat); rw [index2_0]; omega
  | ⟨1, _⟩ => show win0_2.index t 1 * 1024 + 1 * (y 1 : Nat) = 1024 * (t.val / 4 % 4) + (y 1 : Nat); rw [index2_1]; omega

theorem cover2 (i : S1024x4096.Idx) : ∃ t : Fin cfg0.N, (cfg0.win 2).flush t = true ∧ i ∈ ((cfg0.win 2).blk t).view.set := by
  have h0 : (i 0 : Nat) < 1024 := (i 0).isLt
  have h1 : (i 1 : Nat) < 4096 := (i 1).isLt
  have hN : cfg0.N = 32 := N_0
  let t : Fin cfg0.N := ⟨4 * (4 * ((i 0 : Nat) / 512) + (i 1 : Nat) / 1024) + 3, by omega⟩
  have ht : t.val = 4 * (4 * ((i 0 : Nat) / 512) + (i 1 : Nat) / 1024) + 3 := rfl
  refine ⟨t, (flush0_2 _).mpr (by rw [ht]; omega), ?_⟩
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [index2_0]; omega
  | ⟨1, _⟩ =>
    show win0_2.index t 1 * 1024 ≤ (i 1 : Nat) ∧ (i 1 : Nat) < win0_2.index t 1 * 1024 + 1024
    rw [index2_1]; omega

/-! ## What a point leaves -/

theorem hz : (![0, 0] : Fin 2 → Nat) = fun _ => 0 := funext fun a => by fin_cases a <;> rfl

section
variable (i : grid0.Coords) (arg3 : Memref sig .tc .vmem S2048x512 .bf16) (harg3 : arg3.IsWhole) (arg4 : Memref sig .tc .vmem S2048x1024 .bf16) (harg4 : arg4.IsWhole)
  (arg5 : Memref sig .tc .vmem S512x1024 .f32) (harg5 : arg5.IsWhole) (x0 : Vec Ideal S2048x512 .bf16) (x1 : Vec Ideal S2048x1024 .bf16)

theorem first (hc0 : cond0_0 i) (hc1 : ¬cond0_1 i) (y : S512x1024.Idx) :
    out0_A_2 c i arg3 harg3 arg4 harg4 arg5 harg5 hc0 hc1 x0 x1 y = gradProduct (x0 : (⟨2, ![2048, 512]⟩ : Shape).Idx → EReal) (x1 : (⟨2, ![2048, 1024]⟩ : Shape).Idx → EReal) y := by
  unfold out0_A_2
  rw [View.read_writes_eq_canon _ _ _ (cover0_A_2 c i arg3 harg3 arg4 harg4 arg5 harg5 hc0 hc1 x0 x1)]
  unfold kernelRun0_A
  dsimp only
  sl_unfold_words
  rw [View.canon_unit_zero hz]
  simp only [View.readAt_eq_ld, harg3.read_unread, harg4.read_unread, View.ld_unit_zero (S := S2048x512) hz, View.ld_unit_zero (S := S2048x1024) hz]
  exact prodFirst _ x0 x1 y

theorem later (hc0 : ¬cond0_0 i) (hc1 : cond0_1 i) (xo : Vec Ideal S512x1024 .f32) (y : S512x1024.Idx) :
    out0_B_2 c i arg3 harg3 arg4 harg4 arg5 harg5 hc0 hc1 x0 x1 xo y = xo y + gradProduct (x0 : (⟨2, ![2048, 512]⟩ : Shape).Idx → EReal) (x1 : (⟨2, ![2048, 1024]⟩ : Shape).Idx → EReal) y := by
  unfold out0_B_2
  rw [View.read_writes_eq_canon _ _ _ (cover0_B_2 c i arg3 harg3 arg4 harg4 arg5 harg5 hc0 hc1 x0 x1 xo)]
  unfold kernelRun0_B
  dsimp only
  sl_unfold_words
  rw [View.canon_unit_zero hz]
  simp only [View.readAt_eq_ld, harg3.read_unread, harg4.read_unread, harg5.read_unread, View.ld_unit_zero (S := S2048x512) hz, View.ld_unit_zero (S := S2048x1024) hz, View.ld_unit_zero (S := S512x1024) hz]
  unfold k0_pay2
  rw [ValueIdx.addf_apply, shapeCast_self]
  exact congrArg (xo y + ·) (prodFirst _ x0 x1 y)

end

/-- A point's share of the sum its run of points adds up. -/
def share (i : S1024x4096.Idx) (s : ℕ) : EReal :=
  ∑ r : Fin 2048, left m c (ix2 ⟨(2048 * s + r.val) % 8192, Nat.mod_lt _ (by decide)⟩ (i 0)) * right m c (ix2 ⟨(2048 * s + r.val) % 8192, Nat.mod_lt _ (by decide)⟩ (i 1))

theorem share_eq (t : Fin cfg0.N) (y : S512x1024.Idx) (i : S1024x4096.Idx) (hi : i = place t y) (s : ℕ) (hs : t.val % 4 = s) :
    gradProduct (iblk m c 0 t : Vec Ideal S2048x512 .bf16) (iblk m c 1 t : Vec Ideal S2048x1024 .bf16) y = share m c i s := by
  subst hi hs
  refine Finset.sum_congr rfl fun r _ => congrArg₂ (· * ·) (block0 m c t _ _ ?_ rfl) (block1 m c t _ _ ?_ rfl)
  all_goals
    show (2048 * (t.val % 4) + r.val) % 8192 = 2048 * (t.val % 4) + r.val
    omega

/-- After the last point of its run, an output block holds the gradient. -/
theorem left2 (t : Fin cfg0.N) (ht : t.val % 4 = 3) (y : S512x1024.Idx) :
    outsAt0 m c t.val t.isLt y = gradProduct (left m c) (right m c) (place t y) := by
  have hN : cfg0.N = 32 := N_0
  have hlt := point_lt t
  obtain ⟨b, hb⟩ : ∃ b, t.val = b + 3 := ⟨t.val - 3, by omega⟩
  have acc := accumulated (k := 4) (fun n h => outsAt0 m c n h y) (share m c (place t y)) b
    (fun h => by
      have h0 : b % 4 = 0 := by omega
      refine (congrFun (outsAt0_A m c ⟨b, h⟩ h0 (by show ¬1 ≤ b % 4; omega)) y).trans ?_
      rw [first]
      refine share_eq m c ⟨b, h⟩ y _ ?_ 0 h0
      unfold place
      simp only [hb, show (b + 3) / 4 = b / 4 from by omega])
    (fun s h h' hs => by
      have h0 : (b + s + 1) % 4 = s + 1 := by omega
      refine (congrFun (outsAt0_B m c ⟨b + s + 1, h⟩ (by show ¬(b + s + 1) % 4 = 0; omega) (by show 1 ≤ (b + s + 1) % 4; omega)) y).trans ?_
      rw [later]
      refine congrArg (outsAt0 m c (b + s) h' y + ·) (share_eq m c ⟨b + s + 1, h⟩ y _ ?_ (s + 1) h0)
      unfold place
      simp only [hb, show (b + 3) / 4 = (b + s + 1) / 4 from by omega])
    3 (by omega) (by omega)
  have e : outsAt0 m c t.val t.isLt y = outsAt0 m c (b + 3) (by omega) y := by simp only [hb]
  rw [e, acc]
  exact sum_tiles (p := 2048) (k := 4) rfl (by decide) fun q : Fin 8192 => left m c (ix2 q (place t y 0)) * right m c (ix2 q (place t y 1))

/-! ## The array and the reference -/

theorem array : (dats m 0 c).arrAt 2 cfg0.N = (gradProduct (left m c) (right m c) : Vec Ideal S1024x4096 .f32) := by
  refine (dats m 0 c).arrAt_eq_of_cover 2 _ (fun t hf => ?_) fun i => cover2 i
  rw [Value.flushed2]
  funext y
  exact (left2 m c t ((flush0_2 t).mp hf) y).trans (read2 c t _ y).symm

theorem reference (a : Vec Ideal S8192x1024 .bf16) (g : Vec Ideal S8192x4096 .bf16) :
    Reference2Ideal.Read.val_main_v5 (F := Ideal) a g = (gradProduct (a : (⟨2, ![8192, 1024]⟩ : Shape).Idx → EReal) (g : (⟨2, ![8192, 4096]⟩ : Shape).Idx → EReal) : Vec Ideal S1024x4096 .f32) := by
  funext i
  rw [Reference2Ideal.Read.val_main_v5_apply, Reference2Ideal.Read.val_main_v4_apply]
  refine Finset.sum_congr rfl fun q _ => (mul_comm _ _).trans ?_
  rw [Reference2Ideal.Read.val_main_v0_apply, Reference2Ideal.Read.val_main_v1_apply, Ideal.extf_def, Ideal.extf_def]
  refine congrArg₂ (fun u v => a u * g v) (funext fun x => ?_) (funext fun x => ?_) <;> fin_cases x <;> rfl

/-- The kernel and the reference, from memories that agree on the arguments, end with the same result. -/
theorem algebraic : @Cert.algebraic_Kernel2Ideal_Reference2Ideal Kernel2Ideal.Gen.facts Reference2Ideal.Gen.facts := by
  intro m g m' g' _ hargs
  refine ⟨fun c => (dats m 0 c).arrAt 2 cfg0.N, Value.run_blocks m g, ?_⟩
  refine (θ_run _ _ _).mono (fun r h c => ?_) (Reference2Ideal.Value.run m' g')
  obtain ⟨e0, e1⟩ := hargs c
  obtain ⟨h0, hk⟩ := h c
  replace h0 := (h0.trans (Reference2Ideal.Read.val_main_v5_eq _ _)).trans (reference _ _)
  rw [e0, e1] at h0
  exact ⟨h0.trans (array m c).symm, hk⟩

/-- The reference's frame: its run keeps the arguments, and its signature has no semaphore. -/
theorem reference_frame : @Cert.quiescent_Reference2Ideal Reference2Ideal.Gen.facts := fun m g _ =>
  (θ_run _ _ _).mono (fun r h => ⟨fun c => (h c).2, sem_eq_zero_of_no_sems rfl r.2⟩) (Reference2Ideal.Value.run m g)

end Cert.GradW1

end
-- ==== Proof.GradW2.lean ====
/- The gradient of the second MLP weight: the kernel adds it up over 4 tiles of 2048 tokens. -/
module

public import proofs.«01_k».proof.Defs
public import proofs.«01_k».proof.Proof.Products
public import proofs.«01_k».proof.Proof.Gen.Kernel3Ideal.Value
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

set_option maxRecDepth 16384

noncomputable section

namespace Cert.GradW2

open Cert.Kernel3Ideal Cert.Kernel3Ideal.Gen Idealize.ShloMosaic Idealize.ShloMosaic.TcCoe Idealize.ShloMosaic.ValueIdx
open Idealize.SL.Sem
open Cert.Products

variable (m : (ℓ : Loc nD τ sig) → Buf (Elt Ideal) ℓ) (c : Dev nD)

abbrev left : (⟨2, ![8192, 4096]⟩ : Shape).Idx → EReal := (m ((c.tc : Thread nD τ).loc main_arg0) : Vec Ideal S8192x4096 .bf16)
abbrev right : (⟨2, ![8192, 1024]⟩ : Shape).Idx → EReal := (m ((c.tc : Thread nD τ).loc main_arg1) : Vec Ideal S8192x1024 .bf16)

/-! ## The blocks -/

theorem point_lt (t : Fin cfg0.N) : t.val < 32 := lt_of_lt_of_eq t.isLt N_0

theorem index0_0 : ∀ t : Fin grid0.N, win0_0.index t 0 = t.val % 4 := by decide +kernel
theorem index0_1 : ∀ t : Fin grid0.N, win0_0.index t 1 = t.val / 4 / 1 := by decide +kernel
theorem index1_0 : ∀ t : Fin grid0.N, win0_1.index t 0 = t.val % 4 := by decide +kernel
theorem index1_1 : ∀ t : Fin grid0.N, win0_1.index t 1 = t.val / 4 % 1 := by decide +kernel
theorem index2_0 : ∀ t : Fin grid0.N, win0_2.index t 0 = t.val / 4 / 1 := by decide +kernel
theorem index2_1 : ∀ t : Fin grid0.N, win0_2.index t 1 = t.val / 4 % 1 := by decide +kernel

theorem block0 (t : Fin cfg0.N) (y : S2048x512.Idx) (i : S8192x4096.Idx) (h0 : (i 0 : Nat) = 2048 * (t.val % 4) + (y 0 : Nat))
    (h1 : (i 1 : Nat) = 512 * (t.val / 4 / 1) + (y 1 : Nat)) : (iblk m c 0 t : Vec Ideal S2048x512 .bf16) y = left m c i := by
  unfold iblk
  refine (View.read_apply _ _).trans (congrArg (left m c) (funext fun a => Fin.ext ?_))
  match a with
  | ⟨0, _⟩ => show win0_0.index t 0 * 2048 + 1 * (y 0 : Nat) = (i 0 : Nat); rw [index0_0, h0]; omega
  | ⟨1, _⟩ => show win0_0.index t 1 * 512 + 1 * (y 1 : Nat) = (i 1 : Nat); rw [index0_1, h1]; omega

theorem block1 (t : Fin cfg0.N) (y : S2048x1024.Idx) (i : S8192x1024.Idx) (h0 : (i 0 : Nat) = 2048 * (t.val % 4) + (y 0 : Nat))
    (h1 : (i 1 : Nat) = 1024 * (t.val / 4 % 1) + (y 1 : Nat)) : (iblk m c 1 t : Vec Ideal S2048x1024 .bf16) y = right m c i := by
  unfold iblk
  refine (View.read_apply _ _).trans (congrArg (right m c) (funext fun a => Fin.ext ?_))
  match a with
  | ⟨0, _⟩ => show win0_1.index t 0 * 2048 + 1 * (y 0 : Nat) = (i 0 : Nat); rw [index1_0, h0]; omega
  | ⟨1, _⟩ => show win0_1.index t 1 * 1024 + 1 * (y 1 : Nat) = (i 1 : Nat); rw [index1_1, h1]; omega

/-- The index of the result that a point's output block holds at `y`. -/
def place (t : Fin cfg0.N) (y : S512x1024.Idx) : S4096x1024.Idx :=
  ix2 ⟨512 * (t.val / 4 / 1) + (y 0 : Nat), by have := point_lt t; have h : (y 0 : Nat) < 512 := (y 0).isLt; omega⟩
    ⟨1024 * (t.val / 4 % 1) + (y 1 : Nat), by have h : (y 1 : Nat) < 1024 := (y 1).isLt; omega⟩

theorem read2 (t : Fin cfg0.N) (G : Buf (Elt Ideal) ((c.tc : Thread nD τ).loc main_v0)) (y : S512x1024.Idx) :
    ((cfg0.win 2).blk t).view.read (Elt Ideal) G y = (G : Vec Ideal S4096x1024 .f32) (place t y) := by
  refine (View.read_apply _ _).trans (congrArg (G : S4096x1024.Idx → Elt Ideal .f32) (funext fun a => Fin.ext ?_))
  match a with
  | ⟨0, _⟩ => show win0_2.index t 0 * 512 + 1 * (y 0 : Nat) = 512 * (t.val / 4 / 1) + (y 0 : Nat); rw [index2_0]; omega
  | ⟨1, _⟩ => show win0_2.index t 1 * 1024 + 1 * (y 1 : Nat) = 1024 * (t.val / 4 % 1) + (y 1 : Nat); rw [index2_1]; omega

theorem cover2 (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 32 := N_0
  let t : Fin cfg0.N := ⟨4 * (1 * ((i 0 : Nat) / 512) + (i 1 : Nat) / 1024) + 3, by omega⟩
  have ht : t.val = 4 * (1 * ((i 0 : Nat) / 512) + (i 1 : Nat) / 1024) + 3 := rfl
  refine ⟨t, (flush0_2 _).mpr (by rw [ht]; omega), ?_⟩
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [index2_0]; omega
  | ⟨1, _⟩ =>
    show win0_2.index t 1 * 1024 ≤ (i 1 : Nat) ∧ (i 1 : Nat) < win0_2.index t 1 * 1024 + 1024
    rw [index2_1]; omega

/-! ## What a point leaves -/

theorem hz : (![0, 0] : Fin 2 → Nat) = fun _ => 0 := funext fun a => by fin_cases a <;> rfl

section
variable (i : grid0.Coords) (arg3 : Memref sig .tc .vmem S2048x512 .bf16) (harg3 : arg3.IsWhole) (arg4 : Memref sig .tc .vmem S2048x1024 .bf16) (harg4 : arg4.IsWhole)
  (arg5 : Memref sig .tc .vmem S512x1024 .f32) (harg5 : arg5.IsWhole) (x0 : Vec Ideal S2048x512 .bf16) (x1 : Vec Ideal S2048x1024 .bf16)

theorem first (hc0 : cond0_0 i) (hc1 : ¬cond0_1 i) (y : S512x1024.Idx) :
    out0_A_2 c i arg3 harg3 arg4 harg4 arg5 harg5 hc0 hc1 x0 x1 y = gradProduct (x0 : (⟨2, ![2048, 512]⟩ : Shape).Idx → EReal) (x1 : (⟨2, ![2048, 1024]⟩ : Shape).Idx → EReal) y := by
  unfold out0_A_2
  rw [View.read_writes_eq_canon _ _ _ (cover0_A_2 c i arg3 harg3 arg4 harg4 arg5 harg5 hc0 hc1 x0 x1)]
  unfold kernelRun0_A
  dsimp only
  sl_unfold_words
  rw [View.canon_unit_zero hz]
  simp only [View.readAt_eq_ld, harg3.read_unread, harg4.read_unread, View.ld_unit_zero (S := S2048x512) hz, View.ld_unit_zero (S := S2048x1024) hz]
  exact prodFirst _ x0 x1 y

theorem later (hc0 : ¬cond0_0 i) (hc1 : cond0_1 i) (xo : Vec Ideal S512x1024 .f32) (y : S512x1024.Idx) :
    out0_B_2 c i arg3 harg3 arg4 harg4 arg5 harg5 hc0 hc1 x0 x1 xo y = xo y + gradProduct (x0 : (⟨2, ![2048, 512]⟩ : Shape).Idx → EReal) (x1 : (⟨2, ![2048, 1024]⟩ : Shape).Idx → EReal) y := by
  unfold out0_B_2
  rw [View.read_writes_eq_canon _ _ _ (cover0_B_2 c i arg3 harg3 arg4 harg4 arg5 harg5 hc0 hc1 x0 x1 xo)]
  unfold kernelRun0_B
  dsimp only
  sl_unfold_words
  rw [View.canon_unit_zero hz]
  simp only [View.readAt_eq_ld, harg3.read_unread, harg4.read_unread, harg5.read_unread, View.ld_unit_zero (S := S2048x512) hz, View.ld_unit_zero (S := S2048x1024) hz, View.ld_unit_zero (S := S512x1024) hz]
  unfold k0_pay2
  rw [ValueIdx.addf_apply, shapeCast_self]
  exact congrArg (xo y + ·) (prodFirst _ x0 x1 y)

end

/-- A point's share of the sum its run of points adds up. -/
def share (i : S4096x1024.Idx) (s : ℕ) : EReal :=
  ∑ r : Fin 2048, left m c (ix2 ⟨(2048 * s + r.val) % 8192, Nat.mod_lt _ (by decide)⟩ (i 0)) * right m c (ix2 ⟨(2048 * s + r.val) % 8192, Nat.mod_lt _ (by decide)⟩ (i 1))

theorem share_eq (t : Fin cfg0.N) (y : S512x1024.Idx) (i : S4096x1024.Idx) (hi : i = place t y) (s : ℕ) (hs : t.val % 4 = s) :
    gradProduct (iblk m c 0 t : Vec Ideal S2048x512 .bf16) (iblk m c 1 t : Vec Ideal S2048x1024 .bf16) y = share m c i s := by
  subst hi hs
  refine Finset.sum_congr rfl fun r _ => congrArg₂ (· * ·) (block0 m c t _ _ ?_ rfl) (block1 m c t _ _ ?_ rfl)
  all_goals
    show (2048 * (t.val % 4) + r.val) % 8192 = 2048 * (t.val % 4) + r.val
    omega

/-- After the last point of its run, an output block holds the gradient. -/
theorem left2 (t : Fin cfg0.N) (ht : t.val % 4 = 3) (y : S512x1024.Idx) :
    outsAt0 m c t.val t.isLt y = gradProduct (left m c) (right m c) (place t y) := by
  have hN : cfg0.N = 32 := N_0
  have hlt := point_lt t
  obtain ⟨b, hb⟩ : ∃ b, t.val = b + 3 := ⟨t.val - 3, by omega⟩
  have acc := accumulated (k := 4) (fun n h => outsAt0 m c n h y) (share m c (place t y)) b
    (fun h => by
      have h0 : b % 4 = 0 := by omega
      refine (congrFun (outsAt0_A m c ⟨b, h⟩ h0 (by show ¬1 ≤ b % 4; omega)) y).trans ?_
      rw [first]
      refine share_eq m c ⟨b, h⟩ y _ ?_ 0 h0
      unfold place
      simp only [hb, show (b + 3) / 4 = b / 4 from by omega])
    (fun s h h' hs => by
      have h0 : (b + s + 1) % 4 = s + 1 := by omega
      refine (congrFun (outsAt0_B m c ⟨b + s + 1, h⟩ (by show ¬(b + s + 1) % 4 = 0; omega) (by show 1 ≤ (b + s + 1) % 4; omega)) y).trans ?_
      rw [later]
      refine congrArg (outsAt0 m c (b + s) h' y + ·) (share_eq m c ⟨b + s + 1, h⟩ y _ ?_ (s + 1) h0)
      unfold place
      simp only [hb, show (b + 3) / 4 = (b + s + 1) / 4 from by omega])
    3 (by omega) (by omega)
  have e : outsAt0 m c t.val t.isLt y = outsAt0 m c (b + 3) (by omega) y := by simp only [hb]
  rw [e, acc]
  exact sum_tiles (p := 2048) (k := 4) rfl (by decide) fun q : Fin 8192 => left m c (ix2 q (place t y 0)) * right m c (ix2 q (place t y 1))

/-! ## The array and the reference -/

theorem array : (dats m 0 c).arrAt 2 cfg0.N = (gradProduct (left m c) (right m c) : Vec Ideal S4096x1024 .f32) := by
  refine (dats m 0 c).arrAt_eq_of_cover 2 _ (fun t hf => ?_) fun i => cover2 i
  rw [Value.flushed2]
  funext y
  exact (left2 m c t ((flush0_2 t).mp hf) y).trans (read2 c t _ y).symm

theorem reference (a : Vec Ideal S8192x4096 .bf16) (g : Vec Ideal S8192x1024 .bf16) :
    Reference3Ideal.Read.val_main_v5 (F := Ideal) a g = (gradProduct (a : (⟨2, ![8192, 4096]⟩ : Shape).Idx → EReal) (g : (⟨2, ![8192, 1024]⟩ : Shape).Idx → EReal) : Vec Ideal S4096x1024 .f32) := by
  funext i
  rw [Reference3Ideal.Read.val_main_v5_apply, Reference3Ideal.Read.val_main_v4_apply]
  refine Finset.sum_congr rfl fun q _ => (mul_comm _ _).trans ?_
  rw [Reference3Ideal.Read.val_main_v0_apply, Reference3Ideal.Read.val_main_v1_apply, Ideal.extf_def, Ideal.extf_def]
  refine congrArg₂ (fun u v => a u * g v) (funext fun x => ?_) (funext fun x => ?_) <;> fin_cases x <;> rfl

/-- The kernel and the reference, from memories that agree on the arguments, end with the same result. -/
theorem algebraic : @Cert.algebraic_Kernel3Ideal_Reference3Ideal Kernel3Ideal.Gen.facts Reference3Ideal.Gen.facts := by
  intro m g m' g' _ hargs
  refine ⟨fun c => (dats m 0 c).arrAt 2 cfg0.N, Value.run_blocks m g, ?_⟩
  refine (θ_run _ _ _).mono (fun r h c => ?_) (Reference3Ideal.Value.run m' g')
  obtain ⟨e0, e1⟩ := hargs c
  obtain ⟨h0, hk⟩ := h c
  replace h0 := (h0.trans (Reference3Ideal.Read.val_main_v5_eq _ _)).trans (reference _ _)
  rw [e0, e1] at h0
  exact ⟨h0.trans (array m c).symm, hk⟩

/-- The reference's frame: its run keeps the arguments, and its signature has no semaphore. -/
theorem reference_frame : @Cert.quiescent_Reference3Ideal Reference3Ideal.Gen.facts := fun m g _ =>
  (θ_run _ _ _).mono (fun r h => ⟨fun c => (h c).2, sem_eq_zero_of_no_sems rfl r.2⟩) (Reference3Ideal.Value.run m g)

end Cert.GradW2

end
-- ==== Proof.GradWIn.lean ====
/- The gradient of the input projection: the kernel adds it up over 9 tiles of 1024 tokens. -/
module

public import proofs.«01_k».proof.Defs
public import proofs.«01_k».proof.Proof.Products
public import proofs.«01_k».proof.Proof.Gen.Kernel4Ideal.Value
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

set_option maxRecDepth 16384

noncomputable section

namespace Cert.GradWIn

open Cert.Kernel4Ideal Cert.Kernel4Ideal.Gen Idealize.ShloMosaic Idealize.ShloMosaic.TcCoe Idealize.ShloMosaic.ValueIdx
open Idealize.SL.Sem
open Cert.Products

variable (m : (ℓ : Loc nD τ sig) → Buf (Elt Ideal) ℓ) (c : Dev nD)

abbrev left : (⟨2, ![9216, 1024]⟩ : Shape).Idx → EReal := (m ((c.tc : Thread nD τ).loc main_arg0) : Vec Ideal S9216x1024 .bf16)
abbrev right : (⟨2, ![9216, 3072]⟩ : Shape).Idx → EReal := (m ((c.tc : Thread nD τ).loc main_arg1) : Vec Ideal S9216x3072 .bf16)

/-! ## The blocks -/

theorem point_lt (t : Fin cfg0.N) : t.val < 54 := lt_of_lt_of_eq t.isLt N_0

theorem index0_0 : ∀ t : Fin grid0.N, win0_0.index t 0 = t.val % 9 := by decide +kernel
theorem index0_1 : ∀ t : Fin grid0.N, win0_0.index t 1 = t.val / 9 / 3 := by decide +kernel
theorem index1_0 : ∀ t : Fin grid0.N, win0_1.index t 0 = t.val % 9 := by decide +kernel
theorem index1_1 : ∀ t : Fin grid0.N, win0_1.index t 1 = t.val / 9 % 3 := by decide +kernel
theorem index2_0 : ∀ t : Fin grid0.N, win0_2.index t 0 = t.val / 9 / 3 := by decide +kernel
theorem index2_1 : ∀ t : Fin grid0.N, win0_2.index t 1 = t.val / 9 % 3 := by decide +kernel

theorem block0 (t : Fin cfg0.N) (y : S1024x512.Idx) (i : S9216x1024.Idx) (h0 : (i 0 : Nat) = 1024 * (t.val % 9) + (y 0 : Nat))
    (h1 : (i 1 : Nat) = 512 * (t.val / 9 / 3) + (y 1 : Nat)) : (iblk m c 0 t : Vec Ideal S1024x512 .bf16) y = left m c i := by
  unfold iblk
  refine (View.read_apply _ _).trans (congrArg (left m c) (funext fun a => Fin.ext ?_))
  match a with
  | ⟨0, _⟩ => show win0_0.index t 0 * 1024 + 1 * (y 0 : Nat) = (i 0 : Nat); rw [index0_0, h0]; omega
  | ⟨1, _⟩ => show win0_0.index t 1 * 512 + 1 * (y 1 : Nat) = (i 1 : Nat); rw [index0_1, h1]; omega

theorem block1 (t : Fin cfg0.N) (y : S1024x1024.Idx) (i : S9216x3072.Idx) (h0 : (i 0 : Nat) = 1024 * (t.val % 9) + (y 0 : Nat))
    (h1 : (i 1 : Nat) = 1024 * (t.val / 9 % 3) + (y 1 : Nat)) : (iblk m c 1 t : Vec Ideal S1024x1024 .bf16) y = right m c i := by
  unfold iblk
  refine (View.read_apply _ _).trans (congrArg (right m c) (funext fun a => Fin.ext ?_))
  match a with
  | ⟨0, _⟩ => show win0_1.index t 0 * 1024 + 1 * (y 0 : Nat) = (i 0 : Nat); rw [index1_0, h0]; omega
  | ⟨1, _⟩ => show win0_1.index t 1 * 1024 + 1 * (y 1 : Nat) = (i 1 : Nat); rw [index1_1, h1]; omega

/-- The index of the result that a point's output block holds at `y`. -/
def place (t : Fin cfg0.N) (y : S512x1024.Idx) : S1024x3072.Idx :=
  ix2 ⟨512 * (t.val / 9 / 3) + (y 0 : Nat), by have := point_lt t; have h : (y 0 : Nat) < 512 := (y 0).isLt; omega⟩
    ⟨1024 * (t.val / 9 % 3) + (y 1 : Nat), by have h : (y 1 : Nat) < 1024 := (y 1).isLt; omega⟩

theorem read2 (t : Fin cfg0.N) (G : Buf (Elt Ideal) ((c.tc : Thread nD τ).loc main_v0)) (y : S512x1024.Idx) :
    ((cfg0.win 2).blk t).view.read (Elt Ideal) G y = (G : Vec Ideal S1024x3072 .f32) (place t y) := by
  refine (View.read_apply _ _).trans (congrArg (G : S1024x3072.Idx → Elt Ideal .f32) (funext fun a => Fin.ext ?_))
  match a with
  | ⟨0, _⟩ => show win0_2.index t 0 * 512 + 1 * (y 0 : Nat) = 512 * (t.val / 9 / 3) + (y 0 : Nat); rw [index2_0]; omega
  | ⟨1, _⟩ => show win0_2.index t 1 * 1024 + 1 * (y 1 : Nat) = 1024 * (t.val / 9 % 3) + (y 1 : Nat); rw [index2_1]; omega

theorem cover2 (i : S1024x3072.Idx) : ∃ t : Fin cfg0.N, (cfg0.win 2).flush t = true ∧ i ∈ ((cfg0.win 2).blk t).view.set := by
  have h0 : (i 0 : Nat) < 1024 := (i 0).isLt
  have h1 : (i 1 : Nat) < 3072 := (i 1).isLt
  have hN : cfg0.N = 54 := N_0
  let t : Fin cfg0.N := ⟨9 * (3 * ((i 0 : Nat) / 512) + (i 1 : Nat) / 1024) + 8, by omega⟩
  have ht : t.val = 9 * (3 * ((i 0 : Nat) / 512) + (i 1 : Nat) / 1024) + 8 := rfl
  refine ⟨t, (flush0_2 _).mpr (by rw [ht]; omega), ?_⟩
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [index2_0]; omega
  | ⟨1, _⟩ =>
    show win0_2.index t 1 * 1024 ≤ (i 1 : Nat) ∧ (i 1 : Nat) < win0_2.index t 1 * 1024 + 1024
    rw [index2_1]; omega

/-! ## What a point leaves -/

theorem hz : (![0, 0] : Fin 2 → Nat) = fun _ => 0 := funext fun a => by fin_cases a <;> rfl

section
variable (i : grid0.Coords) (arg3 : Memref sig .tc .vmem S1024x512 .bf16) (harg3 : arg3.IsWhole) (arg4 : Memref sig .tc .vmem S1024x1024 .bf16) (harg4 : arg4.IsWhole)
  (arg5 : Memref sig .tc .vmem S512x1024 .f32) (harg5 : arg5.IsWhole) (x0 : Vec Ideal S1024x512 .bf16) (x1 : Vec Ideal S1024x1024 .bf16)

theorem first (hc0 : cond0_0 i) (hc1 : ¬cond0_1 i) (y : S512x1024.Idx) :
    out0_A_2 c i arg3 harg3 arg4 harg4 arg5 harg5 hc0 hc1 x0 x1 y = gradProduct (x0 : (⟨2, ![1024, 512]⟩ : Shape).Idx → EReal) (x1 : (⟨2, ![1024, 1024]⟩ : Shape).Idx → EReal) y := by
  unfold out0_A_2
  rw [View.read_writes_eq_canon _ _ _ (cover0_A_2 c i arg3 harg3 arg4 harg4 arg5 harg5 hc0 hc1 x0 x1)]
  unfold kernelRun0_A
  dsimp only
  sl_unfold_words
  rw [View.canon_unit_zero hz]
  simp only [View.readAt_eq_ld, harg3.read_unread, harg4.read_unread, View.ld_unit_zero (S := S1024x512) hz, View.ld_unit_zero (S := S1024x1024) hz]
  exact prodFirst _ x0 x1 y

theorem later (hc0 : ¬cond0_0 i) (hc1 : cond0_1 i) (xo : Vec Ideal S512x1024 .f32) (y : S512x1024.Idx) :
    out0_B_2 c i arg3 harg3 arg4 harg4 arg5 harg5 hc0 hc1 x0 x1 xo y = xo y + gradProduct (x0 : (⟨2, ![1024, 512]⟩ : Shape).Idx → EReal) (x1 : (⟨2, ![1024, 1024]⟩ : Shape).Idx → EReal) y := by
  unfold out0_B_2
  rw [View.read_writes_eq_canon _ _ _ (cover0_B_2 c i arg3 harg3 arg4 harg4 arg5 harg5 hc0 hc1 x0 x1 xo)]
  unfold kernelRun0_B
  dsimp only
  sl_unfold_words
  rw [View.canon_unit_zero hz]
  simp only [View.readAt_eq_ld, harg3.read_unread, harg4.read_unread, harg5.read_unread, View.ld_unit_zero (S := S1024x512) hz, View.ld_unit_zero (S := S1024x1024) hz, View.ld_unit_zero (S := S512x1024) hz]
  unfold k0_pay2
  rw [ValueIdx.addf_apply, shapeCast_self]
  exact congrArg (xo y + ·) (prodFirst _ x0 x1 y)

end

/-- A point's share of the sum its run of points adds up. -/
def share (i : S1024x3072.Idx) (s : ℕ) : EReal :=
  ∑ r : Fin 1024, left m c (ix2 ⟨(1024 * s + r.val) % 9216, Nat.mod_lt _ (by decide)⟩ (i 0)) * right m c (ix2 ⟨(1024 * s + r.val) % 9216, Nat.mod_lt _ (by decide)⟩ (i 1))

theorem share_eq (t : Fin cfg0.N) (y : S512x1024.Idx) (i : S1024x3072.Idx) (hi : i = place t y) (s : ℕ) (hs : t.val % 9 = s) :
    gradProduct (iblk m c 0 t : Vec Ideal S1024x512 .bf16) (iblk m c 1 t : Vec Ideal S1024x1024 .bf16) y = share m c i s := by
  subst hi hs
  refine Finset.sum_congr rfl fun r _ => congrArg₂ (· * ·) (block0 m c t _ _ ?_ rfl) (block1 m c t _ _ ?_ rfl)
  all_goals
    show (1024 * (t.val % 9) + r.val) % 9216 = 1024 * (t.val % 9) + r.val
    omega

/-- After the last point of its run, an output block holds the gradient. -/
theorem left2 (t : Fin cfg0.N) (ht : t.val % 9 = 8) (y : S512x1024.Idx) :
    outsAt0 m c t.val t.isLt y = gradProduct (left m c) (right m c) (place t y) := by
  have hN : cfg0.N = 54 := N_0
  have hlt := point_lt t
  obtain ⟨b, hb⟩ : ∃ b, t.val = b + 8 := ⟨t.val - 8, by omega⟩
  have acc := accumulated (k := 9) (fun n h => outsAt0 m c n h y) (share m c (place t y)) b
    (fun h => by
      have h0 : b % 9 = 0 := by omega
      refine (congrFun (outsAt0_A m c ⟨b, h⟩ h0 (by show ¬1 ≤ b % 9; omega)) y).trans ?_
      rw [first]
      refine share_eq m c ⟨b, h⟩ y _ ?_ 0 h0
      unfold place
      simp only [hb, show (b + 8) / 9 = b / 9 from by omega])
    (fun s h h' hs => by
      have h0 : (b + s + 1) % 9 = s + 1 := by omega
      refine (congrFun (outsAt0_B m c ⟨b + s + 1, h⟩ (by show ¬(b + s + 1) % 9 = 0; omega) (by show 1 ≤ (b + s + 1) % 9; omega)) y).trans ?_
      rw [later]
      refine congrArg (outsAt0 m c (b + s) h' y + ·) (share_eq m c ⟨b + s + 1, h⟩ y _ ?_ (s + 1) h0)
      unfold place
      simp only [hb, show (b + 8) / 9 = (b + s + 1) / 9 from by omega])
    8 (by omega) (by omega)
  have e : outsAt0 m c t.val t.isLt y = outsAt0 m c (b + 8) (by omega) y := by simp only [hb]
  rw [e, acc]
  exact sum_tiles (p := 1024) (k := 9) rfl (by decide) fun q : Fin 9216 => left m c (ix2 q (place t y 0)) * right m c (ix2 q (place t y 1))

/-! ## The array and the reference -/

theorem array : (dats m 0 c).arrAt 2 cfg0.N = (gradProduct (left m c) (right m c) : Vec Ideal S1024x3072 .f32) := by
  refine (dats m 0 c).arrAt_eq_of_cover 2 _ (fun t hf => ?_) fun i => cover2 i
  rw [Value.flushed2]
  funext y
  exact (left2 m c t ((flush0_2 t).mp hf) y).trans (read2 c t _ y).symm

theorem reference (a : Vec Ideal S9216x1024 .bf16) (g : Vec Ideal S9216x3072 .bf16) :
    Reference4Ideal.Read.val_main_v5 (F := Ideal) a g = (gradProduct (a : (⟨2, ![9216, 1024]⟩ : Shape).Idx → EReal) (g : (⟨2, ![9216, 3072]⟩ : Shape).Idx → EReal) : Vec Ideal S1024x3072 .f32) := by
  funext i
  rw [Reference4Ideal.Read.val_main_v5_apply, Reference4Ideal.Read.val_main_v4_apply]
  refine Finset.sum_congr rfl fun q _ => (mul_comm _ _).trans ?_
  rw [Reference4Ideal.Read.val_main_v0_apply, Reference4Ideal.Read.val_main_v1_apply, Ideal.extf_def, Ideal.extf_def]
  refine congrArg₂ (fun u v => a u * g v) (funext fun x => ?_) (funext fun x => ?_) <;> fin_cases x <;> rfl

/-- The kernel and the reference, from memories that agree on the arguments, end with the same result. -/
theorem algebraic : @Cert.algebraic_Kernel4Ideal_Reference4Ideal Kernel4Ideal.Gen.facts Reference4Ideal.Gen.facts := by
  intro m g m' g' _ hargs
  refine ⟨fun c => (dats m 0 c).arrAt 2 cfg0.N, Value.run_blocks m g, ?_⟩
  refine (θ_run _ _ _).mono (fun r h c => ?_) (Reference4Ideal.Value.run m' g')
  obtain ⟨e0, e1⟩ := hargs c
  obtain ⟨h0, hk⟩ := h c
  replace h0 := (h0.trans (Reference4Ideal.Read.val_main_v5_eq _ _)).trans (reference _ _)
  rw [e0, e1] at h0
  exact ⟨h0.trans (array m c).symm, hk⟩

/-- The reference's frame: its run keeps the arguments, and its signature has no semaphore. -/
theorem reference_frame : @Cert.quiescent_Reference4Ideal Reference4Ideal.Gen.facts := fun m g _ =>
  (θ_run _ _ _).mono (fun r h => ⟨fun c => (h c).2, sem_eq_zero_of_no_sems rfl r.2⟩) (Reference4Ideal.Value.run m g)

end Cert.GradWIn

end
-- ==== Proof.GradWOut.lean ====
/- The gradient of the output projection: the kernel adds it up over 4 tiles of 2048 tokens. -/
module

public import proofs.«01_k».proof.Defs
public import proofs.«01_k».proof.Proof.Products
public import proofs.«01_k».proof.Proof.Gen.Kernel5Ideal.Value
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

set_option maxRecDepth 16384

noncomputable section

namespace Cert.GradWOut

open Cert.Kernel5Ideal Cert.Kernel5Ideal.Gen Idealize.ShloMosaic Idealize.ShloMosaic.TcCoe Idealize.ShloMosaic.ValueIdx
open Idealize.SL.Sem
open Cert.Products

variable (m : (ℓ : Loc nD τ sig) → Buf (Elt Ideal) ℓ) (c : Dev nD)

abbrev left : (⟨2, ![8192, 1024]⟩ : Shape).Idx → EReal := (m ((c.tc : Thread nD τ).loc main_arg0) : Vec Ideal S8192x1024 .bf16)
abbrev right : (⟨2, ![8192, 1024]⟩ : Shape).Idx → EReal := (m ((c.tc : Thread nD τ).loc main_arg1) : Vec Ideal S8192x1024 .bf16)

/-! ## The blocks -/

theorem point_lt (t : Fin cfg0.N) : t.val < 8 := lt_of_lt_of_eq t.isLt N_0

theorem index0_0 : ∀ t : Fin grid0.N, win0_0.index t 0 = t.val % 4 := by decide +kernel
theorem index0_1 : ∀ t : Fin grid0.N, win0_0.index t 1 = t.val / 4 / 1 := by decide +kernel
theorem index1_0 : ∀ t : Fin grid0.N, win0_1.index t 0 = t.val % 4 := by decide +kernel
theorem index1_1 : ∀ t : Fin grid0.N, win0_1.index t 1 = t.val / 4 % 1 := by decide +kernel
theorem index2_0 : ∀ t : Fin grid0.N, win0_2.index t 0 = t.val / 4 / 1 := by decide +kernel
theorem index2_1 : ∀ t : Fin grid0.N, win0_2.index t 1 = t.val / 4 % 1 := by decide +kernel

theorem block0 (t : Fin cfg0.N) (y : S2048x512.Idx) (i : S8192x1024.Idx) (h0 : (i 0 : Nat) = 2048 * (t.val % 4) + (y 0 : Nat))
    (h1 : (i 1 : Nat) = 512 * (t.val / 4 / 1) + (y 1 : Nat)) : (iblk m c 0 t : Vec Ideal S2048x512 .bf16) y = left m c i := by
  unfold iblk
  refine (View.read_apply _ _).trans (congrArg (left m c) (funext fun a => Fin.ext ?_))
  match a with
  | ⟨0, _⟩ => show win0_0.index t 0 * 2048 + 1 * (y 0 : Nat) = (i 0 : Nat); rw [index0_0, h0]; omega
  | ⟨1, _⟩ => show win0_0.index t 1 * 512 + 1 * (y 1 : Nat) = (i 1 : Nat); rw [index0_1, h1]; omega

theorem block1 (t : Fin cfg0.N) (y : S2048x1024.Idx) (i : S8192x1024.Idx) (h0 : (i 0 : Nat) = 2048 * (t.val % 4) + (y 0 : Nat))
    (h1 : (i 1 : Nat) = 1024 * (t.val / 4 % 1) + (y 1 : Nat)) : (iblk m c 1 t : Vec Ideal S2048x1024 .bf16) y = right m c i := by
  unfold iblk
  refine (View.read_apply _ _).trans (congrArg (right m c) (funext fun a => Fin.ext ?_))
  match a with
  | ⟨0, _⟩ => show win0_1.index t 0 * 2048 + 1 * (y 0 : Nat) = (i 0 : Nat); rw [index1_0, h0]; omega
  | ⟨1, _⟩ => show win0_1.index t 1 * 1024 + 1 * (y 1 : Nat) = (i 1 : Nat); rw [index1_1, h1]; omega

/-- The index of the result that a point's output block holds at `y`. -/
def place (t : Fin cfg0.N) (y : S512x1024.Idx) : S1024x1024.Idx :=
  ix2 ⟨512 * (t.val / 4 / 1) + (y 0 : Nat), by have := point_lt t; have h : (y 0 : Nat) < 512 := (y 0).isLt; omega⟩
    ⟨1024 * (t.val / 4 % 1) + (y 1 : Nat), by have h : (y 1 : Nat) < 1024 := (y 1).isLt; omega⟩

theorem read2 (t : Fin cfg0.N) (G : Buf (Elt Ideal) ((c.tc : Thread nD τ).loc main_v0)) (y : S512x1024.Idx) :
    ((cfg0.win 2).blk t).view.read (Elt Ideal) G y = (G : Vec Ideal S1024x1024 .f32) (place t y) := by
  refine (View.read_apply _ _).trans (congrArg (G : S1024x1024.Idx → Elt Ideal .f32) (funext fun a => Fin.ext ?_))
  match a with
  | ⟨0, _⟩ => show win0_2.index t 0 * 512 + 1 * (y 0 : Nat) = 512 * (t.val / 4 / 1) + (y 0 : Nat); rw [index2_0]; omega
  | ⟨1, _⟩ => show win0_2.index t 1 * 1024 + 1 * (y 1 : Nat) = 1024 * (t.val / 4 % 1) + (y 1 : Nat); rw [index2_1]; omega

theorem cover2 (i : S1024x1024.Idx) : ∃ t : Fin cfg0.N, (cfg0.win 2).flush t = true ∧ i ∈ ((cfg0.win 2).blk t).view.set := by
  have h0 : (i 0 : Nat) < 1024 := (i 0).isLt
  have h1 : (i 1 : Nat) < 1024 := (i 1).isLt
  have hN : cfg0.N = 8 := N_0
  let t : Fin cfg0.N := ⟨4 * (1 * ((i 0 : Nat) / 512) + (i 1 : Nat) / 1024) + 3, by omega⟩
  have ht : t.val = 4 * (1 * ((i 0 : Nat) / 512) + (i 1 : Nat) / 1024) + 3 := rfl
  refine ⟨t, (flush0_2 _).mpr (by rw [ht]; omega), ?_⟩
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [index2_0]; omega
  | ⟨1, _⟩ =>
    show win0_2.index t 1 * 1024 ≤ (i 1 : Nat) ∧ (i 1 : Nat) < win0_2.index t 1 * 1024 + 1024
    rw [index2_1]; omega

/-! ## What a point leaves -/

theorem hz : (![0, 0] : Fin 2 → Nat) = fun _ => 0 := funext fun a => by fin_cases a <;> rfl

section
variable (i : grid0.Coords) (arg3 : Memref sig .tc .vmem S2048x512 .bf16) (harg3 : arg3.IsWhole) (arg4 : Memref sig .tc .vmem S2048x1024 .bf16) (harg4 : arg4.IsWhole)
  (arg5 : Memref sig .tc .vmem S512x1024 .f32) (harg5 : arg5.IsWhole) (x0 : Vec Ideal S2048x512 .bf16) (x1 : Vec Ideal S2048x1024 .bf16)

theorem first (hc0 : cond0_0 i) (hc1 : ¬cond0_1 i) (y : S512x1024.Idx) :
    out0_A_2 c i arg3 harg3 arg4 harg4 arg5 harg5 hc0 hc1 x0 x1 y = gradProduct (x0 : (⟨2, ![2048, 512]⟩ : Shape).Idx → EReal) (x1 : (⟨2, ![2048, 1024]⟩ : Shape).Idx → EReal) y := by
  unfold out0_A_2
  rw [View.read_writes_eq_canon _ _ _ (cover0_A_2 c i arg3 harg3 arg4 harg4 arg5 harg5 hc0 hc1 x0 x1)]
  unfold kernelRun0_A
  dsimp only
  sl_unfold_words
  rw [View.canon_unit_zero hz]
  simp only [View.readAt_eq_ld, harg3.read_unread, harg4.read_unread, View.ld_unit_zero (S := S2048x512) hz, View.ld_unit_zero (S := S2048x1024) hz]
  exact prodFirst _ x0 x1 y

theorem later (hc0 : ¬cond0_0 i) (hc1 : cond0_1 i) (xo : Vec Ideal S512x1024 .f32) (y : S512x1024.Idx) :
    out0_B_2 c i arg3 harg3 arg4 harg4 arg5 harg5 hc0 hc1 x0 x1 xo y = xo y + gradProduct (x0 : (⟨2, ![2048, 512]⟩ : Shape).Idx → EReal) (x1 : (⟨2, ![2048, 1024]⟩ : Shape).Idx → EReal) y := by
  unfold out0_B_2
  rw [View.read_writes_eq_canon _ _ _ (cover0_B_2 c i arg3 harg3 arg4 harg4 arg5 harg5 hc0 hc1 x0 x1 xo)]
  unfold kernelRun0_B
  dsimp only
  sl_unfold_words
  rw [View.canon_unit_zero hz]
  simp only [View.readAt_eq_ld, harg3.read_unread, harg4.read_unread, harg5.read_unread, View.ld_unit_zero (S := S2048x512) hz, View.ld_unit_zero (S := S2048x1024) hz, View.ld_unit_zero (S := S512x1024) hz]
  unfold k0_pay2
  rw [ValueIdx.addf_apply, shapeCast_self]
  exact congrArg (xo y + ·) (prodFirst _ x0 x1 y)

end

/-- A point's share of the sum its run of points adds up. -/
def share (i : S1024x1024.Idx) (s : ℕ) : EReal :=
  ∑ r : Fin 2048, left m c (ix2 ⟨(2048 * s + r.val) % 8192, Nat.mod_lt _ (by decide)⟩ (i 0)) * right m c (ix2 ⟨(2048 * s + r.val) % 8192, Nat.mod_lt _ (by decide)⟩ (i 1))

theorem share_eq (t : Fin cfg0.N) (y : S512x1024.Idx) (i : S1024x1024.Idx) (hi : i = place t y) (s : ℕ) (hs : t.val % 4 = s) :
    gradProduct (iblk m c 0 t : Vec Ideal S2048x512 .bf16) (iblk m c 1 t : Vec Ideal S2048x1024 .bf16) y = share m c i s := by
  subst hi hs
  refine Finset.sum_congr rfl fun r _ => congrArg₂ (· * ·) (block0 m c t _ _ ?_ rfl) (block1 m c t _ _ ?_ rfl)
  all_goals
    show (2048 * (t.val % 4) + r.val) % 8192 = 2048 * (t.val % 4) + r.val
    omega

/-- After the last point of its run, an output block holds the gradient. -/
theorem left2 (t : Fin cfg0.N) (ht : t.val % 4 = 3) (y : S512x1024.Idx) :
    outsAt0 m c t.val t.isLt y = gradProduct (left m c) (right m c) (place t y) := by
  have hN : cfg0.N = 8 := N_0
  have hlt := point_lt t
  obtain ⟨b, hb⟩ : ∃ b, t.val = b + 3 := ⟨t.val - 3, by omega⟩
  have acc := accumulated (k := 4) (fun n h => outsAt0 m c n h y) (share m c (place t y)) b
    (fun h => by
      have h0 : b % 4 = 0 := by omega
      refine (congrFun (outsAt0_A m c ⟨b, h⟩ h0 (by show ¬1 ≤ b % 4; omega)) y).trans ?_
      rw [first]
      refine share_eq m c ⟨b, h⟩ y _ ?_ 0 h0
      unfold place
      simp only [hb, show (b + 3) / 4 = b / 4 from by omega])
    (fun s h h' hs => by
      have h0 : (b + s + 1) % 4 = s + 1 := by omega
      refine (congrFun (outsAt0_B m c ⟨b + s + 1, h⟩ (by show ¬(b + s + 1) % 4 = 0; omega) (by show 1 ≤ (b + s + 1) % 4; omega)) y).trans ?_
      rw [later]
      refine congrArg (outsAt0 m c (b + s) h' y + ·) (share_eq m c ⟨b + s + 1, h⟩ y _ ?_ (s + 1) h0)
      unfold place
      simp only [hb, show (b + 3) / 4 = (b + s + 1) / 4 from by omega])
    3 (by omega) (by omega)
  have e : outsAt0 m c t.val t.isLt y = outsAt0 m c (b + 3) (by omega) y := by simp only [hb]
  rw [e, acc]
  exact sum_tiles (p := 2048) (k := 4) rfl (by decide) fun q : Fin 8192 => left m c (ix2 q (place t y 0)) * right m c (ix2 q (place t y 1))

/-! ## The array and the reference -/

theorem array : (dats m 0 c).arrAt 2 cfg0.N = (gradProduct (left m c) (right m c) : Vec Ideal S1024x1024 .f32) := by
  refine (dats m 0 c).arrAt_eq_of_cover 2 _ (fun t hf => ?_) fun i => cover2 i
  rw [Value.flushed2]
  funext y
  exact (left2 m c t ((flush0_2 t).mp hf) y).trans (read2 c t _ y).symm

theorem reference (a : Vec Ideal S8192x1024 .bf16) (g : Vec Ideal S8192x1024 .bf16) :
    Reference5Ideal.Read.val_main_v5 (F := Ideal) a g = (gradProduct (a : (⟨2, ![8192, 1024]⟩ : Shape).Idx → EReal) (g : (⟨2, ![8192, 1024]⟩ : Shape).Idx → EReal) : Vec Ideal S1024x1024 .f32) := by
  funext i
  rw [Reference5Ideal.Read.val_main_v5_apply, Reference5Ideal.Read.val_main_v4_apply]
  refine Finset.sum_congr rfl fun q _ => (mul_comm _ _).trans ?_
  rw [Reference5Ideal.Read.val_main_v0_apply, Reference5Ideal.Read.val_main_v1_apply, Ideal.extf_def, Ideal.extf_def]
  refine congrArg₂ (fun u v => a u * g v) (funext fun x => ?_) (funext fun x => ?_) <;> fin_cases x <;> rfl

/-- The kernel and the reference, from memories that agree on the arguments, end with the same result. -/
theorem algebraic : @Cert.algebraic_Kernel5Ideal_Reference5Ideal Kernel5Ideal.Gen.facts Reference5Ideal.Gen.facts := by
  intro m g m' g' _ hargs
  refine ⟨fun c => (dats m 0 c).arrAt 2 cfg0.N, Value.run_blocks m g, ?_⟩
  refine (θ_run _ _ _).mono (fun r h c => ?_) (Reference5Ideal.Value.run m' g')
  obtain ⟨e0, e1⟩ := hargs c
  obtain ⟨h0, hk⟩ := h c
  replace h0 := (h0.trans (Reference5Ideal.Read.val_main_v5_eq _ _)).trans (reference _ _)
  rw [e0, e1] at h0
  exact ⟨h0.trans (array m c).symm, hk⟩

/-- The reference's frame: its run keeps the arguments, and its signature has no semaphore. -/
theorem reference_frame : @Cert.quiescent_Reference5Ideal Reference5Ideal.Gen.facts := fun m g _ =>
  (θ_run _ _ _).mono (fun r h => ⟨fun c => (h c).2, sem_eq_zero_of_no_sems rfl r.2⟩) (Reference5Ideal.Value.run m g)

end Cert.GradWOut

end
-- ==== Proof.Layout.lean ====
/- The layout operations, the row sums and the four products of a tile, read at coordinates over the extended reals. -/
module

public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

namespace Cert.Tile

open Cert.KernelIdeal Cert.KernelIdeal.Gen Idealize.ShloMosaic Idealize.ShloMosaic.ValueIdx

section Layout
variable {α : Type} {n k : Nat}

/-- A column broadcast along the lanes reads its row. -/
theorem column (hn : n ≠ 1) (v : (⟨2, ![n, 1]⟩ : Shape).Idx → α) (h) (p : Fin n) (d : Fin k) :
    broadcastTo ⟨2, ![n, k]⟩ v h (ix2 p d) = v (ix2 p 0) :=
  broadcastTo_apply v h _ _ fun a => by
    match a with
    | ⟨0, _⟩ => exact (if_neg hn).symm
    | ⟨1, _⟩ => exact (if_pos rfl).symm

/-- A row broadcast along the rows reads its lane. -/
theorem row (hk : k ≠ 1) (v : (⟨2, ![1, k]⟩ : Shape).Idx → α) (h) (p : Fin n) (d : Fin k) :
    broadcastTo ⟨2, ![n, k]⟩ v h (ix2 p d) = v (ix2 0 d) :=
  broadcastTo_apply v h _ _ fun a => by
    match a with
    | ⟨0, _⟩ => exact (if_pos rfl).symm
    | ⟨1, _⟩ => exact (if_neg hk).symm

/-- A block with its leading unit axis dropped. -/
theorem dropLead (v : (⟨3, ![1, n, k]⟩ : Shape).Idx → α) (h) (p : Fin n) (d : Fin k) :
    shapeCast ⟨2, ![n, k]⟩ v h (ix2 p d) = v (ix3 0 p d) :=
  shapeCast_apply v h _ _ (by
    rw [Shape.rowMajor_val_three, Shape.rowMajor_val_two]
    show (0 * n + p.val) * k + d.val = p.val * k + d.val
    rw [Nat.zero_mul, Nat.zero_add])

/-- A block with a leading unit axis added. -/
theorem addLead (v : (⟨2, ![n, k]⟩ : Shape).Idx → α) (h) (a : Fin 1) (p : Fin n) (d : Fin k) :
    shapeCast ⟨3, ![1, n, k]⟩ v h (ix3 a p d) = v (ix2 p d) :=
  shapeCast_apply v h _ _ (by
    rw [Shape.rowMajor_val_three, Shape.rowMajor_val_two]
    obtain rfl : a = 0 := Subsingleton.elim _ _
    show p.val * k + d.val = (0 * n + p.val) * k + d.val
    rw [Nat.zero_mul, Nat.zero_add])

/-- A vector laid out as a column. -/
theorem toColumn (v : (⟨1, ![n]⟩ : Shape).Idx → α) (h) (p : Fin n) (a : Fin 1) :
    shapeCast ⟨2, ![n, 1]⟩ v h (ix2 p a) = v (ix1 p) :=
  shapeCast_apply v h _ _ (by
    rw [Shape.rowMajor_val_one, Shape.rowMajor_val_two]
    obtain rfl : a = 0 := Subsingleton.elim _ _
    exact (Nat.mul_one p.val).symm)

/-- A vector laid out as a row. -/
theorem toRow (v : (⟨1, ![k]⟩ : Shape).Idx → α) (h) (a : Fin 1) (d : Fin k) :
    shapeCast ⟨2, ![1, k]⟩ v h (ix2 a d) = v (ix1 d) :=
  shapeCast_apply v h _ _ (by
    rw [Shape.rowMajor_val_one, Shape.rowMajor_val_two]
    obtain rfl : a = 0 := Subsingleton.elim _ _
    show d.val = 0 * k + d.val
    rw [Nat.zero_mul, Nat.zero_add])

end Layout

/-- The sum along the lanes. -/
theorem laneSum (v : FVec Ideal S256x1024 .f32) (h : Shape.Reduces S256x1024 [1] S256) (hf : FTy.f32 = FTy.f32 ∨ FTy.f32 = FTy.bf16) (ha : (0x00000000#32 : BitVec 32) = 0x00000000#32) (p : Fin 256) :
    multiReduction .add [1] S256 v 0x00000000#32 h hf ha (ix1 p) = ∑ d : Fin 1024, v (ix2 p d) :=
  (Ideal.multiReduction_add_single v _ _ _ _ _).trans (Finset.sum_congr rfl fun d _ => congrArg v (funext fun a => Fin.ext (by
    match a with
    | ⟨0, _⟩ => rfl
    | ⟨1, _⟩ => rfl)))

/-- The sum along the rows. -/
theorem rowSum (v : FVec Ideal S256x1024 .f32) (h : Shape.Reduces S256x1024 [0] S1024) (hf : FTy.f32 = FTy.f32 ∨ FTy.f32 = FTy.bf16) (ha : (0x00000000#32 : BitVec 32) = 0x00000000#32) (d : Fin 1024) :
    multiReduction .add [0] S1024 v 0x00000000#32 h hf ha (ix1 d) = ∑ p : Fin 256, v (ix2 p d) :=
  (Ideal.multiReduction_add_single v _ _ _ _ _).trans (Finset.sum_congr rfl fun p _ => congrArg v (funext fun a => Fin.ext (by
    match a with
    | ⟨0, _⟩ => rfl
    | ⟨1, _⟩ => rfl)))

/-- The sum along the one lane of a column. -/
theorem unitSum (v : FVec Ideal S256x1 .f32) (h : Shape.Reduces S256x1 [1] S256) (hf : FTy.f32 = FTy.f32 ∨ FTy.f32 = FTy.bf16) (ha : (0x00000000#32 : BitVec 32) = 0x00000000#32) (p : Fin 256) :
    multiReduction .add [1] S256 v 0x00000000#32 h hf ha (ix1 p) = v (ix2 p 0) :=
  (Ideal.multiReduction_add_single v _ _ _ _ _).trans
    ((Fin.sum_univ_one _).trans (congrArg v (funext fun a => Fin.ext (by
      match a with
      | ⟨0, _⟩ => rfl
      | ⟨1, _⟩ => rfl))))

/-- The sum of a column, through a block with a leading unit axis and a one-element vector. -/
theorem columnSum (v : FVec Ideal S256x1 .f32) (h1) (h : Shape.Reduces S1x256x1 [1, 2] S1) (hf : FTy.f32 = FTy.f32 ∨ FTy.f32 = FTy.bf16)
    (ha : (0x00000000#32 : BitVec 32) = 0x00000000#32) (h2) (hp) :
    extractAt ![0, 0, 0] (shapeCast S1x1x1 (multiReduction .add [1, 2] S1 (shapeCast S1x256x1 v h1) 0x00000000#32 h hf ha) h2) hp
      = ∑ p : Fin 256, v (ix2 p 0) := by
  refine (shapeCast_apply _ h2 _ (ix1 (0 : Fin 1)) ?_).trans ((Ideal.multiReduction_add_total _ _ _ ?_ _ _ _).trans ?_)
  · exact Fin.val_eq_of_eq (Subsingleton.elim (α := Fin 1) _ _)
  · intro b
    match b with
    | ⟨0, _⟩ => rfl
  · refine Finset.sum_nbij' (fun i => i 1) (fun p => ix3 0 p 0) (fun _ _ => Finset.mem_univ _) (fun _ _ => Finset.mem_univ _) ?_ (fun _ _ => rfl) ?_
    · intro i _
      have e := eq_ix3 i
      rw [Subsingleton.elim (α := Fin 1) (i 0) 0, Subsingleton.elim (α := Fin 1) (i 2) 0] at e
      exact e.symm
    · intro i _
      have e := eq_ix3 i
      rw [Subsingleton.elim (α := Fin 1) (i 0) 0, Subsingleton.elim (α := Fin 1) (i 2) 0] at e
      rw [e]
      exact addLead v h1 0 (i 1) 0

/-- Three rows stacked, at each row. -/
theorem stack (a b c : FVec Ideal S1x1024 .f32) (h) (d : Fin 1024) :
    concatenate S3x1024 0 [⟨S1x1024, a⟩, ⟨S1x1024, b⟩, ⟨S1x1024, c⟩] h (ix2 0 d) = a (ix2 0 d)
      ∧ concatenate S3x1024 0 [⟨S1x1024, a⟩, ⟨S1x1024, b⟩, ⟨S1x1024, c⟩] h (ix2 1 d) = b (ix2 0 d)
      ∧ concatenate S3x1024 0 [⟨S1x1024, a⟩, ⟨S1x1024, b⟩, ⟨S1x1024, c⟩] h (ix2 2 d) = c (ix2 0 d) := by
  refine ⟨?_, ?_, ?_⟩
  · exact concatenate_apply_piece 0 _ h (ix2 0 d) 0 (by simp only [List.length]; omega) S1x1024 a rfl rfl 0 rfl (ix2 0 d)
      (fun e he => by
        match e with
        | ⟨0, _⟩ => exact absurd rfl he
        | ⟨1, _⟩ => rfl) rfl
  · exact concatenate_apply_piece 0 _ h (ix2 1 d) 1 (by simp only [List.length]; omega) S1x1024 b rfl rfl 1 rfl (ix2 0 d)
      (fun e he => by
        match e with
        | ⟨0, _⟩ => exact absurd rfl he
        | ⟨1, _⟩ => rfl) rfl
  · exact concatenate_apply_piece 0 _ h (ix2 2 d) 2 (by simp only [List.length]; omega) S1x1024 c rfl rfl 2 rfl (ix2 0 d)
      (fun e he => by
        match e with
        | ⟨0, _⟩ => exact absurd rfl he
        | ⟨1, _⟩ => rfl) rfl

/-- The product of a tile with the first weight. -/
theorem prodUp (a : FVec Ideal S256x1024 .bf16) (w : FVec Ideal S1024x4096 .bf16) (p : Fin 256) (f : Fin 4096) :
    matmul dot_S256x1024_S1024x4096_S256x4096_1_0_0_1_n_n none a w (constant S256x4096 .f32 0x00000000#32) (ix2 p f)
      = ∑ d : Fin 1024, a (ix2 p d) * w (ix2 d f) := by
  simp only [matmul]
  rw [Ideal.matmul_constant_zero_apply, ← Equiv.sum_comp (contrEquiv1 _ 1024 rfl rfl).symm]
  refine Finset.sum_congr rfl fun d _ => ?_
  have hk := contrEquiv1_symm_val dot_S256x1024_S1024x4096_S256x4096_1_0_0_1_n_n 1024 rfl rfl d
  congr 2 <;> refine funext fun a => Fin.ext ?_
  · match a with
    | ⟨0, _⟩ => rfl
    | ⟨1, _⟩ => exact hk
  · match a with
    | ⟨0, _⟩ => exact hk
    | ⟨1, _⟩ => rfl

/-- The product of an activation tile with the second weight. -/
theorem prodDown (a : FVec Ideal S256x4096 .bf16) (w : FVec Ideal S4096x1024 .bf16) (p : Fin 256) (d : Fin 1024) :
    matmul dot_S256x4096_S4096x1024_S256x1024_1_0_0_1_n_n none a w (constant S256x1024 .f32 0x00000000#32) (ix2 p d)
      = ∑ f : Fin 4096, a (ix2 p f) * w (ix2 f d) := by
  simp only [matmul]
  rw [Ideal.matmul_constant_zero_apply, ← Equiv.sum_comp (contrEquiv1 _ 4096 rfl rfl).symm]
  refine Finset.sum_congr rfl fun f _ => ?_
  have hk := contrEquiv1_symm_val dot_S256x4096_S4096x1024_S256x1024_1_0_0_1_n_n 4096 rfl rfl f
  congr 2 <;> refine funext fun a => Fin.ext ?_
  · match a with
    | ⟨0, _⟩ => rfl
    | ⟨1, _⟩ => exact hk
  · match a with
    | ⟨0, _⟩ => exact hk
    | ⟨1, _⟩ => rfl

/-- The product with the second weight transposed. -/
theorem prodDownT (a : FVec Ideal S256x1024 .bf16) (w : FVec Ideal S4096x1024 .bf16) (p : Fin 256) (f : Fin 4096) :
    matmul dot_S256x1024_S4096x1024_S256x4096_1_1_0_0_n_n none a w (constant S256x4096 .f32 0x00000000#32) (ix2 p f)
      = ∑ d : Fin 1024, a (ix2 p d) * w (ix2 f d) := by
  simp only [matmul]
  rw [Ideal.matmul_constant_zero_apply, ← Equiv.sum_comp (contrEquiv1 _ 1024 rfl rfl).symm]
  refine Finset.sum_congr rfl fun d _ => ?_
  have hk := contrEquiv1_symm_val dot_S256x1024_S4096x1024_S256x4096_1_1_0_0_n_n 1024 rfl rfl d
  congr 2 <;> refine funext fun a => Fin.ext ?_
  · match a with
    | ⟨0, _⟩ => rfl
    | ⟨1, _⟩ => exact hk
  · match a with
    | ⟨0, _⟩ => rfl
    | ⟨1, _⟩ => exact hk

/-- The product with the first weight transposed. -/
theorem prodUpT (a : FVec Ideal S256x4096 .bf16) (w : FVec Ideal S1024x4096 .bf16) (p : Fin 256) (d : Fin 1024) :
    matmul dot_S256x4096_S1024x4096_S256x1024_1_1_0_0_n_n none a w (constant S256x1024 .f32 0x00000000#32) (ix2 p d)
      = ∑ f : Fin 4096, a (ix2 p f) * w (ix2 d f) := by
  simp only [matmul]
  rw [Ideal.matmul_constant_zero_apply, ← Equiv.sum_comp (contrEquiv1 _ 4096 rfl rfl).symm]
  refine Finset.sum_congr rfl fun f _ => ?_
  have hk := contrEquiv1_symm_val dot_S256x4096_S1024x4096_S256x1024_1_1_0_0_n_n 4096 rfl rfl f
  congr 2 <;> refine funext fun a => Fin.ext ?_
  · match a with
    | ⟨0, _⟩ => rfl
    | ⟨1, _⟩ => exact hk
  · match a with
    | ⟨0, _⟩ => rfl
    | ⟨1, _⟩ => exact hk

end Cert.Tile

end
-- ==== Proof.InProj.lean ====
/- The input projection: the normed and modulated rows of context and tokens, and their product with the weight. -/
module

public import proofs.«01_k».proof.Defs
public import proofs.«01_k».proof.Proof.Layout
public import proofs.«01_k».proof.Proof.Gen.Kernel6Ideal.Value
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

set_option maxRecDepth 16384

noncomputable section

namespace Cert.InProj

open Cert.Kernel6Ideal Cert.Kernel6Ideal.Gen Idealize.ShloMosaic Idealize.ShloMosaic.TcCoe Idealize.ShloMosaic.ValueIdx
open Idealize.SL.Sem
open Cert.Tile

variable (m : (ℓ : Loc nD τ sig) → Buf (Elt Ideal) ℓ) (c : Dev nD)

abbrev ctx : (⟨3, ![4, 256, 1024]⟩ : Shape).Idx → EReal := (m ((c.tc : Thread nD τ).loc main_arg0) : Vec Ideal S4x256x1024 .f32)
abbrev seq : (⟨3, ![4, 2048, 1024]⟩ : Shape).Idx → EReal := (m ((c.tc : Thread nD τ).loc main_arg1) : Vec Ideal S4x2048x1024 .f32)
abbrev modt : (⟨4, ![4, 9, 2, 1024]⟩ : Shape).Idx → EReal := (m ((c.tc : Thread nD τ).loc main_arg2) : Vec Ideal S4x9x2x1024 .f32)
abbrev gain : (⟨2, ![1, 1024]⟩ : Shape).Idx → EReal := (m ((c.tc : Thread nD τ).loc main_arg3) : Vec Ideal S1x1024 .f32)
abbrev weight : (⟨2, ![1024, 3072]⟩ : Shape).Idx → EReal := (m ((c.tc : Thread nD τ).loc main_arg4) : Vec Ideal S1024x3072 .bf16)

/-! ## What is computed -/

/-- A row over its root mean square, times the norm's scale, times one plus the modulation's scale, plus its shift. -/
def modulated (x g sh sc : Fin 1024 → EReal) (d : Fin 1024) : EReal :=
  x d * Ideal.rsqrt (Ideal.div (∑ e, x e * x e) (Ideal.ofBits .f32 0x44800000#32) + Ideal.ofBits .f32 0x358637BD#32) * g d
    * (Ideal.ofBits .f32 0x3F800000#32 + sc d) + sh d

/-- Row `q` of batch `b`: the context's rows first, then the tokens'. -/
def joined (a : (⟨3, ![4, 256, 1024]⟩ : Shape).Idx → EReal) (x : (⟨3, ![4, 2048, 1024]⟩ : Shape).Idx → EReal) (b : Fin 4) (q : Fin 2304) (d : Fin 1024) : EReal :=
  if h : q.val < 256 then a (ix3 b ⟨q.val, h⟩ d) else x (ix3 b ⟨q.val - 256, by omega⟩ d)

/-- The modulation's row of a token: one per 256 tokens. -/
def tile (q : Fin 2304) : Fin 9 := ⟨q.val / 256, by omega⟩

def normed (a : (⟨3, ![4, 256, 1024]⟩ : Shape).Idx → EReal) (x : (⟨3, ![4, 2048, 1024]⟩ : Shape).Idx → EReal) (s : (⟨4, ![4, 9, 2, 1024]⟩ : Shape).Idx → EReal)
    (g : (⟨2, ![1, 1024]⟩ : Shape).Idx → EReal) (i : (⟨3, ![4, 2304, 1024]⟩ : Shape).Idx) : EReal :=
  modulated (joined a x (i 0) (i 1)) (fun d => g (ix2 0 d)) (fun d => s (ix4 (i 0) (tile (i 1)) 0 d)) (fun d => s (ix4 (i 0) (tile (i 1)) 1 d)) (i 2)

def projected (a : (⟨3, ![4, 256, 1024]⟩ : Shape).Idx → EReal) (x : (⟨3, ![4, 2048, 1024]⟩ : Shape).Idx → EReal) (s : (⟨4, ![4, 9, 2, 1024]⟩ : Shape).Idx → EReal)
    (g : (⟨2, ![1, 1024]⟩ : Shape).Idx → EReal) (w : (⟨2, ![1024, 3072]⟩ : Shape).Idx → EReal) (i : (⟨3, ![4, 2304, 3072]⟩ : Shape).Idx) : EReal :=
  ∑ d : Fin 1024, normed a x s g (ix3 (i 0) (i 1) d) * w (ix2 d (i 2))

/-! ## The reference -/

section
open Reference6Ideal.Read
variable (a : FVec Ideal S4x256x1024 .f32) (x : FVec Ideal S4x2048x1024 .f32) (s : FVec Ideal S4x9x2x1024 .f32) (g : FVec Ideal S1x1024 .f32) (w : FVec Ideal S1024x3072 .bf16)

theorem ref_joined (b : Fin 4) (q : Fin 2304) (d : Fin 1024) : val_main_v1 (F := Ideal) a x (ix3 b q d) = joined a x b q d := by
  unfold val_main_v1 joined
  split
  · next h =>
    exact concatenate_apply_piece 1 _ _ (ix3 b q d) 0 (by simp only [List.length]; omega) S4x256x1024 a rfl rfl 0 rfl (ix3 b ⟨q.val, h⟩ d)
      (fun e he => by
        match e with
        | ⟨0, _⟩ => rfl
        | ⟨1, _⟩ => exact absurd rfl he
        | ⟨2, _⟩ => rfl) (Nat.zero_add _)
  · next h =>
    exact concatenate_apply_piece 1 _ _ (ix3 b q d) 1 (by simp only [List.length]; omega) S4x2048x1024 x rfl rfl 256 rfl (ix3 b ⟨q.val - 256, by omega⟩ d)
      (fun e he => by
        match e with
        | ⟨0, _⟩ => rfl
        | ⟨1, _⟩ => exact absurd rfl he
        | ⟨2, _⟩ => rfl) (by show 256 + (q.val - 256) = q.val; omega)

theorem ref_gain (b : Fin 4) (q : Fin 2304) (d : Fin 1024) : val_main_v13 (F := Ideal) g (ix3 b q d) = g (ix2 0 d) := by
  rw [val_main_v13_apply, val_main_v12_apply, val_main_v0_apply]
  exact congrArg g ((eq_ix2 _).trans (congrArg (ix2 0) (Fin.ext (Nat.mod_eq_of_lt d.isLt))))

theorem idx_rows (b : Fin 4) (q : Fin 2304) (d : Fin 1024) : idx_main_v18 (ix3 b q d) = ix4 b (tile q) ⟨q.val % 256, Nat.mod_lt _ (by decide)⟩ d := by
  have hb := b.isLt; have hq := q.isLt; have hd := d.isLt
  refine funext fun e => Fin.ext ?_
  match e with
  | ⟨0, _⟩ => show ((b.val * 2304 + q.val) * 1024 + d.val) / 2359296 = b.val; omega
  | ⟨1, _⟩ => show ((b.val * 2304 + q.val) * 1024 + d.val) / 262144 % 9 = q.val / 256; omega
  | ⟨2, _⟩ => show ((b.val * 2304 + q.val) * 1024 + d.val) / 1024 % 256 = q.val % 256; omega
  | ⟨3, _⟩ => show ((b.val * 2304 + q.val) * 1024 + d.val) % 1024 = d.val; omega

theorem idx_unit (b : Fin 4) (j : Fin 9) (d : Fin 1024) : idx_main_v16 (ix3 b j d) = ix4 b j 0 d := by
  have hb := b.isLt; have hj := j.isLt; have hd := d.isLt
  refine funext fun e => Fin.ext ?_
  match e with
  | ⟨0, _⟩ => show ((b.val * 9 + j.val) * 1024 + d.val) / 9216 = b.val; omega
  | ⟨1, _⟩ => show ((b.val * 9 + j.val) * 1024 + d.val) / 1024 % 9 = j.val; omega
  | ⟨2, _⟩ => rfl
  | ⟨3, _⟩ => show ((b.val * 9 + j.val) * 1024 + d.val) % 1024 = d.val; omega

theorem ref_shift (b : Fin 4) (q : Fin 2304) (d : Fin 1024) : val_main_v18 (F := Ideal) s (ix3 b q d) = s (ix4 b (tile q) 0 d) := by
  rw [val_main_v18_apply, idx_rows, val_main_v17_apply, show idx_main_v17 (ix4 b (tile q) _ d) = ix3 b (tile q) d from eq_ix3 _, val_main_v16_apply, idx_unit,
    val_main_v15_apply]
  exact congrArg s (eq_ix4 _)

theorem ref_scale (b : Fin 4) (q : Fin 2304) (d : Fin 1024) : val_main_v22 (F := Ideal) s (ix3 b q d) = s (ix4 b (tile q) 1 d) := by
  rw [val_main_v22_apply, show idx_main_v22 (ix3 b q d) = _ from idx_rows b q d, val_main_v21_apply,
    show idx_main_v21 (ix4 b (tile q) _ d) = ix3 b (tile q) d from eq_ix3 _, val_main_v20_apply, show idx_main_v20 (ix3 b (tile q) d) = _ from idx_unit b (tile q) d,
    val_main_v19_apply]
  exact congrArg s (eq_ix4 _)

theorem ref_meanSq (b : Fin 4) (q : Fin 2304) : val_main_v3 (F := Ideal) a x (ix2 b q) = ∑ e, joined a x b q e * joined a x b q e := by
  rw [val_main_v3_apply, val_main_cst_apply, Ideal.ofBits_def, Ideal.ofBits_zero_f32, zero_add]
  refine Finset.sum_congr rfl fun e _ => ?_
  rw [val_main_v2_apply, show idx_main_v3 (ix2 b q) e = ix3 b q e from eq_ix3 _, ref_joined, Ideal.mulf_def]

theorem ref_root (b : Fin 4) (q : Fin 2304) (d : Fin 1024) : val_main_v10 (F := Ideal) a x (ix3 b q d)
    = Ideal.rsqrt (Ideal.div (∑ e, joined a x b q e * joined a x b q e) (Ideal.ofBits .f32 0x44800000#32) + Ideal.ofBits .f32 0x358637BD#32) := by
  rw [val_main_v10_apply, val_main_v9_apply, val_main_v8_apply, val_main_v6_apply, val_main_v4_apply, val_main_v5_apply, val_main_v7_apply, val_main_cst_0_apply,
    val_main_cst_1_apply, show idx_main_v4 (idx_main_v10 (ix3 b q d)) = ix2 b q from eq_ix2 _, ref_meanSq]
  rfl

theorem ref_normed : val_main_v26 (F := Ideal) a x s g = (normed a x s g : Vec Ideal S4x2304x1024 .f32) := by
  funext i
  obtain ⟨b, q, d, rfl⟩ : ∃ b q d, i = ix3 b q d := ⟨_, _, _, eq_ix3 i⟩
  rw [val_main_v26_apply, val_main_v25_apply, val_main_v24_apply, val_main_v23_apply, val_main_cst_2_apply, val_main_v14_apply, val_main_v11_apply, ref_joined, ref_root,
    ref_gain, ref_shift, ref_scale]
  rfl

theorem ref_half : val_main_v29 (F := Ideal) a x s g = (normed a x s g : Vec Ideal S4x2304x1024 .bf16) := by
  funext i
  rw [val_main_v29_apply, ref_normed]
  rfl

theorem ref_projected : val_main_v28 (F := Ideal) a x s g w = (projected a x s g w : Vec Ideal S4x2304x3072 .f32) := by
  funext i
  rw [val_main_v28_apply, ref_normed]
  refine Finset.sum_congr rfl fun d _ => ?_
  rw [val_main_v27_apply, Ideal.extf_def]
  refine congrArg₂ (fun u v => normed a x s g u * w v) (eq_ix3 _) (eq_ix2 _)

end

/-! ## A tile -/

/-- A product of a tile with the weight. -/
theorem prodIn (a : FVec Ideal S256x1024 .bf16) (w : FVec Ideal S1024x3072 .bf16) (p : Fin 256) (f : Fin 3072) :
    matmul dot_S256x1024_S1024x3072_S256x3072_1_0_0_1_n_n none a w (constant S256x3072 .f32 0x00000000#32) (ix2 p f)
      = ∑ d : Fin 1024, a (ix2 p d) * w (ix2 d f) := by
  simp only [matmul]
  rw [Ideal.matmul_constant_zero_apply, ← Equiv.sum_comp (contrEquiv1 _ 1024 rfl rfl).symm]
  refine Finset.sum_congr rfl fun d _ => ?_
  have hk := contrEquiv1_symm_val dot_S256x1024_S1024x3072_S256x3072_1_0_0_1_n_n 1024 rfl rfl d
  congr 2 <;> refine funext fun a => Fin.ext ?_
  · match a with
    | ⟨0, _⟩ => rfl
    | ⟨1, _⟩ => exact hk
  · match a with
    | ⟨0, _⟩ => exact hk
    | ⟨1, _⟩ => rfl

/-- A choice between two arrays, read at an index. -/
theorem choice {s : Shape} {α : Type} (e : BitVec 1) (u v : s.Idx → α) (i : s.Idx) : Scalar.select e u v i = Scalar.select e (u i) (v i) := by
  unfold Scalar.select
  split <;> rfl

/-- A modulation block's row as a row. -/
theorem flat {α : Type} (v : S1x1x1x1024.Idx → α) (h) (d : Fin 1024) : shapeCast S1x1024 v h (ix2 0 d) = v (ix4 0 0 0 d) :=
  shapeCast_apply v h _ _ (by
    rw [Shape.rowMajor_val_four, Shape.rowMajor_val_two]
    rfl)

theorem tile_at (i : grid0.Coords) (v1 v3 : FVec Ideal S1x256x1024 .f32) (v6 : FVec Ideal S1x1024 .f32) (v7 v9 : FVec Ideal S1x1x1x1024 .f32) (p : Fin 256) (d : Fin 1024) :
    k0_pay2 (F := Ideal) i v1 v3 v6 v7 v9 (ix2 p d)
      = modulated (fun e => Scalar.select (Scalar.cmpi .slt (BitVec.ofNat 32 (i 1).val) 1#32) (v1 (ix3 0 p e)) (v3 (ix3 0 p e))) (fun e => v6 (ix2 0 e))
          (fun e => v7 (ix4 0 0 0 e)) (fun e => v9 (ix4 0 0 0 e)) d := by
  have hr (u : FVec Ideal S256x1 .f32) (j : S256x1.Idx) : rsqrt u j = Ideal.rsqrt (u j) := rfl
  unfold modulated
  simp only [k0_pay2, ValueIdx.mulf_apply, ValueIdx.addf_apply, ValueIdx.divf_apply, ValueIdx.truncf_apply, broadcast_apply, hr, choice, flat,
    column (n := 256) (k := 1024) (by decide), row (n := 256) (k := 1024) (by decide), dropLead, toColumn, laneSum _ reduces_S256x1024_S256 (.inl rfl) rfl, Scalar.ofBits,
    Ideal.mulf_def, Ideal.addf_def, Ideal.divf_def, Ideal.rsqrt_def, Ideal.truncf_def, Ideal.ofBits_def]

/-! ## The blocks -/

theorem point_lt (t : Fin cfg0.N) : t.val < 36 := lt_of_lt_of_eq t.isLt N_0

theorem index0 : ∀ t : Fin grid0.N, win0_0.index t 0 = t.val / 9 ∧ win0_0.index t 1 = 0 ∧ win0_0.index t 2 = 0 := by decide +kernel
theorem index1 : ∀ t : Fin grid0.N, win0_1.index t 0 = t.val / 9 ∧ win0_1.index t 1 = t.val % 9 - 1 ∧ win0_1.index t 2 = 0 := by decide +kernel
theorem index2 : ∀ t : Fin grid0.N, win0_2.index t 0 = t.val / 9 ∧ win0_2.index t 1 = t.val % 9 ∧ win0_2.index t 2 = 0 ∧ win0_2.index t 3 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 9 ∧ win0_5.index t 1 = t.val % 9 ∧ win0_5.index t 2 = 0 := by decide +kernel
theorem index6 : ∀ t : Fin grid0.N, win0_6.index t 0 = t.val / 9 ∧ win0_6.index t 1 = t.val % 9 ∧ win0_6.index t 2 = 0 := by decide +kernel
/-- The first tile of a batch is the context's. -/
theorem context : ∀ t : Fin grid0.N, Scalar.cmpi .slt (BitVec.ofNat 32 (grid0.coords t 1).val) 1#32 = if t.val % 9 = 0 then 1 else 0 := by decide +kernel

/-- A point's batch, and the token of a row of its tile. -/
def batch (t : Fin cfg0.N) : Fin 4 := ⟨t.val / 9, by have := point_lt t; omega⟩
def token (t : Fin cfg0.N) (p : Fin 256) : Fin 2304 := ⟨256 * (t.val % 9) + p.val, by omega⟩

theorem tile_token (t : Fin cfg0.N) (p : Fin 256) : (tile (token t p)).val = t.val % 9 := by
  show (256 * (t.val % 9) + p.val) / 256 = t.val % 9
  omega

theorem block0 (t : Fin cfg0.N) (p : Fin 256) (d : Fin 1024) : (iblk m c 0 t : Vec Ideal S1x256x1024 .f32) (ix3 0 p d) = ctx m c (ix3 (batch t) p d) := by
  unfold iblk
  refine (View.read_apply _ _).trans (congrArg (ctx m c) (funext fun a => Fin.ext ?_))
  obtain ⟨h0, h1, h2⟩ := index0 t
  match a with
  | ⟨0, _⟩ => show win0_0.index t 0 * 1 + 1 * 0 = t.val / 9; rw [h0]; omega
  | ⟨1, _⟩ => show win0_0.index t 1 * 256 + 1 * p.val = p.val; rw [h1]; omega
  | ⟨2, _⟩ => show win0_0.index t 2 * 1024 + 1 * d.val = d.val; rw [h2]; omega

theorem block1 (t : Fin cfg0.N) (p : Fin 256) (d : Fin 1024) (q : Fin 2048) (hq : q.val = 256 * (t.val % 9 - 1) + p.val) :
    (iblk m c 1 t : Vec Ideal S1x256x1024 .f32) (ix3 0 p d) = seq m c (ix3 (batch t) q d) := by
  unfold iblk
  refine (View.read_apply _ _).trans (congrArg (seq m c) (funext fun a => Fin.ext ?_))
  obtain ⟨h0, h1, h2⟩ := index1 t
  match a with
  | ⟨0, _⟩ => show win0_1.index t 0 * 1 + 1 * 0 = t.val / 9; rw [h0]; omega
  | ⟨1, _⟩ => show win0_1.index t 1 * 256 + 1 * p.val = q.val; rw [h1, hq]; omega
  | ⟨2, _⟩ => show win0_1.index t 2 * 1024 + 1 * d.val = d.val; rw [h2]; omega

theorem block2 (t : Fin cfg0.N) (p : Fin 256) (r : Fin 2) (d : Fin 1024) :
    (iblk m c 2 t : Vec Ideal S1x1x2x1024 .f32) (ix4 0 0 r d) = modt m c (ix4 (batch t) (tile (token t p)) r d) := by
  unfold iblk
  refine (View.read_apply _ _).trans (congrArg (modt m c) (funext fun a => Fin.ext ?_))
  obtain ⟨h0, h1, h2, h3⟩ := index2 t
  match a with
  | ⟨0, _⟩ => show win0_2.index t 0 * 1 + 1 * 0 = t.val / 9; rw [h0]; omega
  | ⟨1, _⟩ => show win0_2.index t 1 * 1 + 1 * 0 = (tile (token t p)).val; rw [h1, tile_token]; omega
  | ⟨2, _⟩ => show win0_2.index t 2 * 2 + 1 * r.val = r.val; rw [h2]; omega
  | ⟨3, _⟩ => show win0_2.index t 3 * 1024 + 1 * d.val = d.val; rw [h3]; omega

theorem block3 (t : Fin cfg0.N) (d : Fin 1024) : (iblk m c 3 t : Vec Ideal S1x1024 .f32) (ix2 0 d) = gain m c (ix2 0 d) := by
  unfold iblk
  refine (View.read_apply _ _).trans (congrArg (gain m c) (funext fun a => Fin.ext ?_))
  obtain ⟨h0, h1⟩ := index3 t
  match a with
  | ⟨0, _⟩ => show win0_3.index t 0 * 1 + 1 * 0 = 0; rw [h0]
  | ⟨1, _⟩ => show win0_3.index t 1 * 1024 + 1 * d.val = d.val; rw [h1]; omega

theorem block4 (t : Fin cfg0.N) (d : Fin 1024) (f : Fin 3072) : (iblk m c 4 t : Vec Ideal S1024x3072 .bf16) (ix2 d f) = weight m c (ix2 d f) := by
  unfold iblk
  refine (View.read_apply _ _).trans (congrArg (weight m c) (funext fun a => Fin.ext ?_))
  obtain ⟨h0, h1⟩ := index4 t
  match a with
  | ⟨0, _⟩ => show win0_4.index t 0 * 1024 + 1 * d.val = d.val; rw [h0]; omega
  | ⟨1, _⟩ => show win0_4.index t 1 * 3072 + 1 * f.val = f.val; rw [h1]; omega

/-- The row that a point takes is the joined rows' row. -/
theorem row_at (t : Fin cfg0.N) (p : Fin 256) (d : Fin 1024) :
    Scalar.select (Scalar.cmpi .slt (BitVec.ofNat 32 (grid0.coords t 1).val) 1#32) ((iblk m c 0 t : Vec Ideal S1x256x1024 .f32) (ix3 0 p d))
        ((iblk m c 1 t : Vec Ideal S1x256x1024 .f32) (ix3 0 p d))
      = joined (ctx m c) (seq m c) (batch t) (token t p) d := by
  have hq : (token t p).val = 256 * (t.val % 9) + p.val := rfl
  have hp := p.isLt
  rw [context t]
  unfold joined Scalar.select
  by_cases h : t.val % 9 = 0
  · rw [if_pos h, if_pos rfl, dif_pos (by omega), block0]
    exact congrArg (fun u => ctx m c (ix3 (batch t) u d)) (Fin.ext (by show p.val = (token t p).val; omega))
  · rw [if_neg h, if_neg (by decide), dif_neg (by omega)]
    exact block1 m c t p d _ (by show (token t p).val - 256 = _; omega)

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- A loaded row of a modulation block. -/
theorem ld_row (x : Vec Ideal S1x1x2x1024 .f32) (d : Fin 1024) :
    View.ld x r0_2 (ix4 0 0 0 d) = x (ix4 0 0 0 d) ∧ View.ld x r0_3 (ix4 0 0 0 d) = x (ix4 0 0 1 d) := by
  constructor <;> refine congrArg x (funext fun a => Fin.ext ?_)
  · match a with
    | ⟨0, _⟩ => rfl
    | ⟨1, _⟩ => rfl
    | ⟨2, _⟩ => rfl
    | ⟨3, _⟩ => show 0 + 1 * d.val = d.val; omega
  · match a with
    | ⟨0, _⟩ => rfl
    | ⟨1, _⟩ => rfl
    | ⟨2, _⟩ => rfl
    | ⟨3, _⟩ => show 0 + 1 * d.val = d.val; omega

theorem normed_at (t : Fin cfg0.N) (p : Fin 256) (d : Fin 1024) :
    k0_pay2 (F := Ideal) (grid0.coords t) (iblk m c 0 t) (iblk m c 1 t) (iblk m c 3 t) (View.ld (iblk m c 2 t) r0_2) (View.ld (iblk m c 2 t) r0_3) (ix2 p d)
      = normed (ctx m c) (seq m c) (modt m c) (gain m c) (ix3 (batch t) (token t p) d) := by
  rw [tile_at]
  refine congrArg₂ (fun x g => modulated x g _ _ d) (funext fun e => row_at m c t p e) (funext fun e => block3 m c t e) |>.trans ?_
  refine congrArg₂ (fun s k => modulated _ _ s k d) (funext fun e => ?_) (funext fun e => ?_)
  · exact (ld_row _ e).1.trans (block2 m c t p 0 e)
  · exact (ld_row _ e).2.trans (block2 m c t p 1 e)

theorem left6 (t : Fin cfg0.N) (p : Fin 256) (d : Fin 1024) :
    out0_6 (grid0.coords t) (iblk m c 0 t) (iblk m c 1 t) (iblk m c 2 t) (iblk m c 3 t) (iblk m c 4 t) (ix3 0 p d)
      = normed (ctx m c) (seq m c) (modt m c) (gain m c) (ix3 (batch t) (token t p) d) := by
  unfold out0_6
  rw [View.canon_unit_zero hz3, View.ld_unit_zero (S := S1x256x1024) hz3, View.ld_unit_zero (S := S1x256x1024) hz3, View.ld_unit_zero (S := S1x1024) hz2]
  unfold k0_pay3
  exact (addLead _ _ 0 p d).trans (normed_at m c t p d)

theorem left5 (t : Fin cfg0.N) (p : Fin 256) (f : Fin 3072) :
    out0_5 (grid0.coords t) (iblk m c 0 t) (iblk m c 1 t) (iblk m c 2 t) (iblk m c 3 t) (iblk m c 4 t) (ix3 0 p f)
      = projected (ctx m c) (seq m c) (modt m c) (gain m c) (weight m c) (ix3 (batch t) (token t p) f) := by
  unfold out0_5
  rw [View.canon_unit_zero hz3, View.ld_unit_zero (S := S1x256x1024) hz3, View.ld_unit_zero (S := S1x256x1024) hz3, View.ld_unit_zero (S := S1x1024) hz2,
    View.ld_unit_zero (S := S1024x3072) hz2]
  unfold k0_pay1
  refine (addLead _ _ 0 p f).trans ((prodIn _ _ p f).trans (Finset.sum_congr rfl fun d _ => ?_))
  exact congrArg₂ (· * ·) (normed_at m c t p d) (block4 m c t d f)

/-! ## The arrays -/

theorem read5 (t : Fin cfg0.N) (G : Buf (Elt Ideal) ((c.tc : Thread nD τ).loc main_v0_0)) (p : Fin 256) (f : Fin 3072) :
    ((cfg0.win 5).blk t).view.read (Elt Ideal) G (ix3 0 p f) = (G : Vec Ideal S4x2304x3072 .f32) (ix3 (batch t) (token t p) f) := by
  refine (View.read_apply _ _).trans (congrArg (G : S4x2304x3072.Idx → Elt Ideal .f32) (funext fun a => Fin.ext ?_))
  obtain ⟨h0, h1, h2⟩ := index5 t
  match a with
  | ⟨0, _⟩ => show win0_5.index t 0 * 1 + 1 * 0 = t.val / 9; rw [h0]; omega
  | ⟨1, _⟩ => show win0_5.index t 1 * 256 + 1 * p.val = 256 * (t.val % 9) + p.val; rw [h1]; omega
  | ⟨2, _⟩ => show win0_5.index t 2 * 3072 + 1 * f.val = f.val; rw [h2]; omega

theorem read6 (t : Fin cfg0.N) (G : Buf (Elt Ideal) ((c.tc : Thread nD τ).loc main_v0_1)) (p : Fin 256) (d : Fin 1024) :
    ((cfg0.win 6).blk t).view.read (Elt Ideal) G (ix3 0 p d) = (G : Vec Ideal S4x2304x1024 .bf16) (ix3 (batch t) (token t p) d) := by
  refine (View.read_apply _ _).trans (congrArg (G : S4x2304x1024.Idx → Elt Ideal .bf16) (funext fun a => Fin.ext ?_))
  obtain ⟨h0, h1, h2⟩ := index6 t
  match a with
  | ⟨0, _⟩ => show win0_6.index t 0 * 1 + 1 * 0 = t.val / 9; rw [h0]; omega
  | ⟨1, _⟩ => show win0_6.index t 1 * 256 + 1 * p.val = 256 * (t.val % 9) + p.val; rw [h1]; omega
  | ⟨2, _⟩ => show win0_6.index t 2 * 1024 + 1 * d.val = d.val; rw [h2]; omega

/-- The point whose tile holds token `q` of batch `b`. -/
def holder (b : Fin 4) (q : Fin 2304) : Fin cfg0.N := ⟨9 * b.val + q.val / 256, by have : cfg0.N = 36 := N_0; omega⟩

theorem cover5 (i : S4x2304x3072.Idx) : ∃ t : Fin cfg0.N, (cfg0.win 5).flush t = true ∧ i ∈ ((cfg0.win 5).blk t).view.set := by
  have b0 : (i 0 : Nat) < 4 := (i 0).isLt
  have b1 : (i 1 : Nat) < 2304 := (i 1).isLt
  have b2 : (i 2 : Nat) < 3072 := (i 2).isLt
  refine ⟨holder (i 0) (i 1), flush0_5 _, ?_⟩
  have ht : (holder (i 0) (i 1)).val = 9 * (i 0 : Nat) + (i 1 : Nat) / 256 := rfl
  obtain ⟨h0, h1, h2⟩ := index5 (holder (i 0) (i 1))
  show i ∈ ((View.whole main_v0_0).slice (win0_5.rect (holder (i 0) (i 1)))).set
  rw [View.set_slice_whole, Rect.mem_set_unit]
  intro a
  match a with
  | ⟨0, _⟩ =>
    show win0_5.index (holder (i 0) (i 1)) 0 * 1 ≤ (i 0 : Nat) ∧ (i 0 : Nat) < win0_5.index (holder (i 0) (i 1)) 0 * 1 + 1
    rw [h0, ht]; omega
  | ⟨1, _⟩ =>
    show win0_5.index (holder (i 0) (i 1)) 1 * 256 ≤ (i 1 : Nat) ∧ (i 1 : Nat) < win0_5.index (holder (i 0) (i 1)) 1 * 256 + 256
    rw [h1, ht]; omega
  | ⟨2, _⟩ =>
    show win0_5.index (holder (i 0) (i 1)) 2 * 3072 ≤ (i 2 : Nat) ∧ (i 2 : Nat) < win0_5.index (holder (i 0) (i 1)) 2 * 3072 + 3072
    rw [h2]; omega

theorem cover6 (i : S4x2304x1024.Idx) : ∃ t : Fin cfg0.N, (cfg0.win 6).flush t = true ∧ i ∈ ((cfg0.win 6).blk t).view.set := by
  have b0 : (i 0 : Nat) < 4 := (i 0).isLt
  have b1 : (i 1 : Nat) < 2304 := (i 1).isLt
  have b2 : (i 2 : Nat) < 1024 := (i 2).isLt
  refine ⟨holder (i 0) (i 1), flush0_6 _, ?_⟩
  have ht : (holder (i 0) (i 1)).val = 9 * (i 0 : Nat) + (i 1 : Nat) / 256 := rfl
  obtain ⟨h0, h1, h2⟩ := index6 (holder (i 0) (i 1))
  show i ∈ ((View.whole main_v0_1).slice (win0_6.rect (holder (i 0) (i 1)))).set
  rw [View.set_slice_whole, Rect.mem_set_unit]
  intro a
  match a with
  | ⟨0, _⟩ =>
    show win0_6.index (holder (i 0) (i 1)) 0 * 1 ≤ (i 0 : Nat) ∧ (i 0 : Nat) < win0_6.index (holder (i 0) (i 1)) 0 * 1 + 1
    rw [h0, ht]; omega
  | ⟨1, _⟩ =>
    show win0_6.index (holder (i 0) (i 1)) 1 * 256 ≤ (i 1 : Nat) ∧ (i 1 : Nat) < win0_6.index (holder (i 0) (i 1)) 1 * 256 + 256
    rw [h1, ht]; omega
  | ⟨2, _⟩ =>
    show win0_6.index (holder (i 0) (i 1)) 2 * 1024 ≤ (i 2 : Nat) ∧ (i 2 : Nat) < win0_6.index (holder (i 0) (i 1)) 2 * 1024 + 1024
    rw [h2]; omega

/-- An index of a block with a leading unit axis. -/
theorem lead {n k : ℕ} (y : (⟨3, ![1, n, k]⟩ : Shape).Idx) : y = ix3 0 (y 1) (y 2) := by
  have e := eq_ix3 y
  rwa [Subsingleton.elim (α := Fin 1) (y 0) 0] at e

theorem array5 : (dats m 0 c).arrAt 5 cfg0.N = (projected (ctx m c) (seq m c) (modt m c) (gain m c) (weight m c) : Vec Ideal S4x2304x3072 .f32) := by
  refine (dats m 0 c).arrAt_eq_of_cover 5 _ (fun t _ => ?_) fun i => cover5 i
  rw [Value.flushed5]
  funext y
  obtain ⟨p, f, rfl⟩ : ∃ p f, y = ix3 0 p f := ⟨_, _, lead y⟩
  exact (left5 m c t p f).trans (read5 c t _ p f).symm

theorem array6 : (dats m 0 c).arrAt 6 cfg0.N = (normed (ctx m c) (seq m c) (modt m c) (gain m c) : Vec Ideal S4x2304x1024 .bf16) := by
  refine (dats m 0 c).arrAt_eq_of_cover 6 _ (fun t _ => ?_) fun i => cover6 i
  rw [Value.flushed6]
  funext y
  obtain ⟨p, d, rfl⟩ : ∃ p d, y = ix3 0 p d := ⟨_, _, lead y⟩
  exact (left6 m c t p d).trans (read6 c t _ p d).symm

/-- The kernel and the reference, from memories that agree on the arguments, end with the same two results. -/
theorem algebraic : @Cert.algebraic_Kernel6Ideal_Reference6Ideal Kernel6Ideal.Gen.facts Reference6Ideal.Gen.facts := by
  intro m g m' g' _ hargs
  refine ⟨fun c => (dats m 0 c).arrAt 5 cfg0.N, fun c => (dats m 0 c).arrAt 6 cfg0.N, Value.run_blocks m g, ?_⟩
  refine (θ_run _ _ _).mono (fun r h c => ?_) (Reference6Ideal.Value.run m' g')
  obtain ⟨e0, e1, e2, e3, e4⟩ := hargs c
  obtain ⟨h0, h1, hk⟩ := h c
  replace h0 := (h0.trans (Reference6Ideal.Read.val_main_v28_eq _ _ _ _ _)).trans (ref_projected _ _ _ _ _)
  replace h1 := (h1.trans (Reference6Ideal.Read.val_main_v29_eq _ _ _ _)).trans (ref_half _ _ _ _)
  rw [e0, e1, e2, e3, e4] at h0
  rw [e0, e1, e2, e3] at h1
  exact ⟨h0.trans (array5 m c).symm, h1.trans (array6 m c).symm, hk⟩

/-- The reference's frame: its run keeps the arguments, and its signature has no semaphore. -/
theorem reference_frame : @Cert.quiescent_Reference6Ideal Reference6Ideal.Gen.facts := fun m g _ =>
  (θ_run _ _ _).mono (fun r h => ⟨fun c => (h c).2.2, sem_eq_zero_of_no_sems rfl r.2⟩) (Reference6Ideal.Value.run m g)

end Cert.InProj

end
-- ==== Proof.Adam.lean ====
/- One AdamW step over the extended reals: at a weight, and of an array whose gradient is the sum of the devices' summands. -/
module

public import Idealize.ShloMosaic.Lib.ValueIdx
public import Idealize.ShloMosaic.Lib.Pipeline.Value
public import Idealize.ShloMosaic.PureOps.Ideal.Laws

@[expose] public section

noncomputable section

namespace Cert.Adam

open Idealize.ShloMosaic Idealize.ShloMosaic.ValueIdx

/-! ## At a weight -/

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The weight's change from its new moments: the corrected moments' quotient and the decay, times minus the rate. -/
def changed (first second w : EReal) : EReal :=
  Ideal.ofBits .f32 0xBA83126F#32
    * (Ideal.div (Ideal.div first (Ideal.ofBits .f32 0x3F26BD02#32))
        (Ideal.sqrt (Ideal.div second (Ideal.ofBits .f32 0x3C231ACC#32)) + Ideal.ofBits .f32 0x322BCC77#32)
      + Ideal.ofBits .f32 0x3C23D70A#32 * w)

/-- The weight's change from the gradient and the moments before. -/
def change (g w m v : EReal) : EReal := changed (first g m) (second g v) w

/-! ## Of an array -/

section
variable {P R C : ℕ} (x : (⟨3, ![P, R, C]⟩ : Shape).Idx → EReal) (w m v : (⟨2, ![R, C]⟩ : Shape).Idx → EReal)

/-- The gradient: the devices' summands, added up. -/
def grad (i : (⟨2, ![R, C]⟩ : Shape).Idx) : EReal := ∑ k : Fin P, x (ix3 k (i 0) (i 1))

def newFirst (i : (⟨2, ![R, C]⟩ : Shape).Idx) : EReal := first (grad x i) (m i)
def newSecond (i : (⟨2, ![R, C]⟩ : Shape).Idx) : EReal := second (grad x i) (v i)
def delta (i : (⟨2, ![R, C]⟩ : Shape).Idx) : EReal := change (grad x i) (w i) (m i) (v i)

end

/-! ## A tile -/

theorem hz2 : (![0, 0] : Fin 2 → Nat) = fun _ => 0 := funext fun a => by fin_cases a <;> rfl

/-- What a load of summand `k`'s rows reads. -/
theorem summand {P n C : ℕ} {e : EltTy} (x : Vec Ideal ⟨3, ![P, n, C]⟩ e) (k : ℕ) (hk : k < P) (inb h) (p : Fin n) (d : Fin C) :
    shapeCast ⟨2, ![n, C]⟩ (View.ld x (Rect.unit (s := ⟨3, ![P, n, C]⟩) ![k, 0, 0] ![1, n, C] inb)) h (ix2 p d) = x (ix3 ⟨k, hk⟩ p d) := by
  refine (shapeCast_apply _ h _ (ix3 0 p d) ?_).trans (congrArg x (funext fun a => Fin.ext ?_))
  · rw [Shape.rowMajor_val_three, Shape.rowMajor_val_two]
    show (0 * n + p.val) * C + d.val = p.val * C + d.val
    rw [Nat.zero_mul, Nat.zero_add]
  · match a with
    | ⟨0, _⟩ => rfl
    | ⟨1, _⟩ => show 0 + 1 * p.val = p.val; omega
    | ⟨2, _⟩ => show 0 + 1 * d.val = d.val; omega

end Cert.Adam

end
-- ==== Proof.AdamWIn.lean ====
/- The AdamW step of the input projection's weight. -/
module

public import proofs.«01_k».proof.Defs
public import proofs.«01_k».proof.Proof.Adam
public import proofs.«01_k».proof.Proof.Gen.Kernel7Ideal.Value
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

set_option maxRecDepth 16384

noncomputable section

namespace Cert.AdamWIn

open Cert.Kernel7Ideal Cert.Kernel7Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![8, 1024, 372]⟩ : Shape).Idx → EReal := (m ((c.tc : Thread nD τ).loc main_arg0) : Vec Ideal S8x1024x372 .bf16)
abbrev weight : (⟨2, ![1024, 372]⟩ : Shape).Idx → EReal := (m ((c.tc : Thread nD τ).loc main_arg1) : Vec Ideal S1024x372 .f32)
abbrev mom1 : (⟨2, ![1024, 372]⟩ : Shape).Idx → EReal := (m ((c.tc : Thread nD τ).loc main_arg2) : Vec Ideal S1024x372 .f32)
abbrev mom2 : (⟨2, ![1024, 372]⟩ : Shape).Idx → EReal := (m ((c.tc : Thread nD τ).loc main_arg3) : Vec Ideal S1024x372 .f32)

/-! ## The reference -/

section
open Reference7Ideal.Read
variable (x : FVec Ideal S8x1024x372 .bf16) (w u v : FVec Ideal S1024x372 .f32)

theorem ref_grad : val_main_v1 (F := Ideal) x = Adam.grad x := by
  funext i
  rw [val_main_v1_apply, val_main_cst_apply, Ideal.ofBits_def, Ideal.ofBits_zero_f32, zero_add]
  exact Finset.sum_congr rfl fun k _ => congrArg x (eq_ix3 _)

theorem ref_first : val_main_v6 (F := Ideal) x u = Adam.newFirst x u :=
  funext fun i => congrArg (fun g : _ → EReal => Adam.first (g i) (u i)) (ref_grad x)

theorem ref_second : val_main_v12 (F := Ideal) x v = Adam.newSecond x v :=
  funext fun i => congrArg (fun g : _ → EReal => Adam.second (g i) (v i)) (ref_grad x)

theorem ref_delta : val_main_v25 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 256) : Fin 1024 := ⟨256 * t.val + p.val, by have : t.val < 4 := lt_of_lt_of_eq t.isLt N_0; omega⟩

/-- Every window over rows has the same place. -/
theorem place (t : Fin cfg0.N) (p : Fin 256) (d : Fin 372) : ((cfg0.win 1).blk t).view.emb (ix2 p d) = ix2 (row t p) d := by
  obtain ⟨h0, h1⟩ := index1 t
  refine funext fun a => Fin.ext ?_
  match a with
  | ⟨0, _⟩ => show win0_1.index t 0 * 256 + 1 * p.val = 256 * t.val + p.val; rw [h0]; omega
  | ⟨1, _⟩ => show win0_1.index t 1 * 372 + 1 * d.val = d.val; rw [h1]; omega

theorem block0 (t : Fin cfg0.N) (k : Fin 8) (p : Fin 256) (d : Fin 372) :
    (iblk m c 0 t : Vec Ideal S8x256x372 .bf16) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 8 + 1 * k.val = k.val; rw [h0]; omega
  | ⟨1, _⟩ => show win0_0.index t 1 * 256 + 1 * p.val = 256 * t.val + p.val; rw [h1]; omega
  | ⟨2, _⟩ => show win0_0.index t 2 * 372 + 1 * d.val = d.val; rw [h2]; omega

theorem block1 (t : Fin cfg0.N) (p : Fin 256) (d : Fin 372) : (iblk m c 1 t : Vec Ideal S256x372 .f32) (ix2 p d) = weight m c (ix2 (row t p) d) :=
  congrArg (weight m c) (place t p d)
theorem block2 (t : Fin cfg0.N) (p : Fin 256) (d : Fin 372) : (iblk m c 2 t : Vec Ideal S256x372 .f32) (ix2 p d) = mom1 m c (ix2 (row t p) d) :=
  congrArg (mom1 m c) (place t p d)
theorem block3 (t : Fin cfg0.N) (p : Fin 256) (d : Fin 372) : (iblk m c 3 t : Vec Ideal S256x372 .f32) (ix2 p d) = mom2 m c (ix2 (row t p) d) :=
  congrArg (mom2 m c) (place t p d)

/-- The point whose tile holds a row. -/
theorem cover (i : S1024x372.Idx) : ∃ t : Fin cfg0.N, i ∈ ((cfg0.win 4).blk t).view.set := by
  have b0 : (i 0 : Nat) < 1024 := (i 0).isLt
  have b1 : (i 1 : Nat) < 372 := (i 1).isLt
  obtain ⟨t, ht⟩ : ∃ t : Fin cfg0.N, t.val = (i 0 : Nat) / 256 := ⟨⟨(i 0 : Nat) / 256, by have : cfg0.N = 4 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 256 ≤ (i 0 : Nat) ∧ (i 0 : Nat) < win0_1.index t 0 * 256 + 256
    rw [h0, ht]; omega
  | ⟨1, _⟩ =>
    show win0_1.index t 1 * 372 ≤ (i 1 : Nat) ∧ (i 1 : Nat) < win0_1.index t 1 * 372 + 372
    rw [h1]; omega

/-! ## What a point leaves -/

theorem grad_at (t : Fin cfg0.N) (p : Fin 256) (d : Fin 372) :
    k0_pay5 (F := Ideal) (iblk m c 0 t) (iblk m c 1 t) (iblk m c 2 t) (iblk m c 3 t) (ix2 p d) = Adam.grad (parts m c) (ix2 (row t p) d) := by
  have hs (k : ℕ) (hk : k < 8) (inb h) :
      shapeCast S256x372 (View.ld (iblk m c 0 t : Vec Ideal S8x256x372 .bf16) (Rect.unit (s := S8x256x372) ![k, 0, 0] S1x256x372.size inb)) h (ix2 p d)
        = parts m c (ix3 ⟨k, hk⟩ (row t p) d) := (Adam.summand _ k hk inb h p d).trans (block0 m c t ⟨k, hk⟩ p d)
  unfold Adam.grad
  rw [Fin.sum_univ_eight]
  unfold k0_pay5 k0_pay4
  simp only [ValueIdx.addf_apply, ValueIdx.extf_apply, Ideal.addf_def, Ideal.extf_def]
  rw [hs 0 (by decide), hs 1 (by decide), hs 2 (by decide), hs 3 (by decide), hs 4 (by decide), hs 5 (by decide), hs 6 (by decide), hs 7 (by decide)]
  rfl

theorem array4 : (dats m 0 c).arrAt 4 cfg0.N = (Adam.grad (parts m c) : Vec Ideal S1024x372 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S1024x372 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S256x372) Adam.hz2, View.ld_unit_zero (S := S256x372) Adam.hz2, View.ld_unit_zero (S := S256x372) Adam.hz2]
  show Adam.change (k0_pay5 (F := Ideal) (iblk m c 0 t) (iblk m c 1 t) (iblk m c 2 t) (iblk m c 3 t) (ix2 p d)) ((iblk m c 1 t : Vec Ideal S256x372 .f32) (ix2 p d))
    ((iblk m c 2 t : Vec Ideal S256x372 .f32) (ix2 p d)) ((iblk m c 3 t : Vec Ideal S256x372 .f32) (ix2 p d)) = _
  rw [grad_at, block1, block2, block3]
  rfl

theorem array6 : (dats m 0 c).arrAt 6 cfg0.N = (Adam.newFirst (parts m c) (mom1 m c) : Vec Ideal S1024x372 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2, View.ld_unit_zero (S := S256x372) Adam.hz2]
  exact congrArg₂ Adam.first (grad_at m c t p d) (block2 m c t p d)

theorem array7 : (dats m 0 c).arrAt 7 cfg0.N = (Adam.newSecond (parts m c) (mom2 m c) : Vec Ideal S1024x372 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S256x372) Adam.hz2]
  exact congrArg₂ Adam.second (grad_at m c t p d) (block3 m c t p d)

/-- The kernel and the reference, from memories that agree on the arguments, end with the same four results. -/
theorem algebraic : @Cert.algebraic_Kernel7Ideal_Reference7Ideal Kernel7Ideal.Gen.facts Reference7Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference7Ideal.Value.run m' g')
  obtain ⟨e0, e1, e2, e3⟩ := hargs c
  obtain ⟨h0, h1, h2, h3, hk⟩ := h c
  replace h0 := (h0.trans (Reference7Ideal.Read.val_main_v1_eq _)).trans (ref_grad _)
  replace h1 := (h1.trans (Reference7Ideal.Read.val_main_v25_eq _ _ _ _)).trans (ref_delta _ _ _ _)
  replace h2 := (h2.trans (Reference7Ideal.Read.val_main_v6_eq _ _)).trans (ref_first _ _)
  replace h3 := (h3.trans (Reference7Ideal.Read.val_main_v12_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference7Ideal Reference7Ideal.Gen.facts := fun m g _ =>
  (θ_run _ _ _).mono (fun r h => ⟨fun c => (h c).2.2.2.2, sem_eq_zero_of_no_sems rfl r.2⟩) (Reference7Ideal.Value.run m g)

end Cert.AdamWIn

end
-- ==== Proof.AdamWOut.lean ====
/- The AdamW step of the output projection's weight. -/
module

public import proofs.«01_k».proof.Defs
public import proofs.«01_k».proof.Proof.Adam
public import proofs.«01_k».proof.Proof.Gen.Kernel8Ideal.Value
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

@[expose] public section

set_option maxRecDepth 16384

noncomputable section

namespace Cert.AdamWOut

open Cert.Kernel8Ideal Cert.Kernel8Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![8, 128, 1024]⟩ : Shape).Idx → EReal := (m ((c.tc : Thread nD τ).loc main_arg0) : Vec Ideal S8x128x1024 .bf16)
abbrev weight : (⟨2, ![128, 1024]⟩ : Shape).Idx → EReal := (m ((c.tc : Thread nD τ).loc main_arg1) : Vec Ideal S128x1024 .f32)
abbrev mom1 : (⟨2, ![128, 1024]⟩ : Shape).Idx → EReal := (m ((c.tc : Thread nD τ).loc main_arg2) : Vec Ideal S128x1024 .f32)
abbrev mom2 : (⟨2, ![128, 1024]⟩ : Shape).Idx → EReal := (m ((c.tc : Thread nD τ).loc main_arg3) : Vec Ideal S128x1024 .f32)

/-! ## The reference -/

section
open Reference8Ideal.Read
variable (x : FVec Ideal S8x128x1024 .bf16) (w u v : FVec Ideal S128x1024 .f32)

theorem ref_grad : val_main_v1 (F := Ideal) x = Adam.grad x := by
  funext i
  rw [val_main_v1_apply, val_main_cst_apply, Ideal.ofBits_def, Ideal.ofBits_zero_f32, zero_add]
  exact Finset.sum_congr rfl fun k _ => congrArg x (eq_ix3 _)

theorem ref_first : val_main_v6 (F := Ideal) x u = Adam.newFirst x u :=
  funext fun i => congrArg (fun g : _ → EReal => Adam.first (g i) (u i)) (ref_grad x)

theorem ref_second : val_main_v12 (F := Ideal) x v = Adam.newSecond x v :=
  funext fun i => congrArg (fun g : _ → EReal => Adam.second (g i) (v i)) (ref_grad x)

theorem ref_delta : val_main_v25 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 128) : Fin 128 := ⟨128 * t.val + p.val, by have : t.val < 1 := lt_of_lt_of_eq t.isLt N_0; omega⟩

/-- Every window over rows has the same place. -/
theorem place (t : Fin cfg0.N) (p : Fin 128) (d : Fin 1024) : ((cfg0.win 1).blk t).view.emb (ix2 p d) = ix2 (row t p) d := by
  obtain ⟨h0, h1⟩ := index1 t
  refine funext fun a => Fin.ext ?_
  match a with
  | ⟨0, _⟩ => show win0_1.index t 0 * 128 + 1 * p.val = 128 * t.val + p.val; rw [h0]; omega
  | ⟨1, _⟩ => show win0_1.index t 1 * 1024 + 1 * d.val = d.val; rw [h1]; omega

theorem block0 (t : Fin cfg0.N) (k : Fin 8) (p : Fin 128) (d : Fin 1024) :
    (iblk m c 0 t : Vec Ideal S8x128x1024 .bf16) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 8 + 1 * k.val = k.val; rw [h0]; omega
  | ⟨1, _⟩ => show win0_0.index t 1 * 128 + 1 * p.val = 128 * t.val + p.val; rw [h1]; omega
  | ⟨2, _⟩ => show win0_0.index t 2 * 1024 + 1 * d.val = d.val; rw [h2]; omega

theorem block1 (t : Fin cfg0.N) (p : Fin 128) (d : Fin 1024) : (iblk m c 1 t : Vec Ideal S128x1024 .f32) (ix2 p d) = weight m c (ix2 (row t p) d) :=
  congrArg (weight m c) (place t p d)
theorem block2 (t : Fin cfg0.N) (p : Fin 128) (d : Fin 1024) : (iblk m c 2 t : Vec Ideal S128x1024 .f32) (ix2 p d) = mom1 m c (ix2 (row t p) d) :=
  congrArg (mom1 m c) (place t p d)
theorem block3 (t : Fin cfg0.N) (p : Fin 128) (d : Fin 1024) : (iblk m c 3 t : Vec Ideal S128x1024 .f32) (ix2 p d) = mom2 m c (ix2 (row t p) d) :=
  congrArg (mom2 m c) (place t p d)

/-- The point whose tile holds a row. -/
theorem cover (i : S128x1024.Idx) : ∃ t : Fin cfg0.N, i ∈ ((cfg0.win 4).blk t).view.set := by
  have b0 : (i 0 : Nat) < 128 := (i 0).isLt
  have b1 : (i 1 : Nat) < 1024 := (i 1).isLt
  obtain ⟨t, ht⟩ : ∃ t : Fin cfg0.N, t.val = (i 0 : Nat) / 128 := ⟨⟨(i 0 : Nat) / 128, by have : cfg0.N = 1 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 128 ≤ (i 0 : Nat) ∧ (i 0 : Nat) < win0_1.index t 0 * 128 + 128
    rw [h0, ht]; omega
  | ⟨1, _⟩ =>
    show win0_1.index t 1 * 1024 ≤ (i 1 : Nat) ∧ (i 1 : Nat) < win0_1.index t 1 * 1024 + 1024
    rw [h1]; omega

/-! ## What a point leaves -/

theorem grad_at (t : Fin cfg0.N) (p : Fin 128) (d : Fin 1024) :
    k0_pay5 (F := Ideal) (iblk m c 0 t) (iblk m c 1 t) (iblk m c 2 t) (iblk m c 3 t) (ix2 p d) = Adam.grad (parts m c) (ix2 (row t p) d) := by
  have hs (k : ℕ) (hk : k < 8) (inb h) :
      shapeCast S128x1024 (View.ld (iblk m c 0 t : Vec Ideal S8x128x1024 .bf16) (Rect.unit (s := S8x128x1024) ![k, 0, 0] S1x128x1024.size inb)) h (ix2 p d)
        = parts m c (ix3 ⟨k, hk⟩ (row t p) d) := (Adam.summand _ k hk inb h p d).trans (block0 m c t ⟨k, hk⟩ p d)
  unfold Adam.grad
  rw [Fin.sum_univ_eight]
  unfold k0_pay5 k0_pay4
  simp only [ValueIdx.addf_apply, ValueIdx.extf_apply, Ideal.addf_def, Ideal.extf_def]
  rw [hs 0 (by decide), hs 1 (by decide), hs 2 (by decide), hs 3 (by decide), hs 4 (by decide), hs 5 (by decide), hs 6 (by decide), hs 7 (by decide)]
  rfl

theorem array4 : (dats m 0 c).arrAt 4 cfg0.N = (Adam.grad (parts m c) : Vec Ideal S128x1024 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S128x1024 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S128x1024) Adam.hz2, View.ld_unit_zero (S := S128x1024) Adam.hz2, View.ld_unit_zero (S := S128x1024) Adam.hz2]
  show Adam.change (k0_pay5 (F := Ideal) (iblk m c 0 t) (iblk m c 1 t) (iblk m c 2 t) (iblk m c 3 t) (ix2 p d)) ((iblk m c 1 t : Vec Ideal S128x1024 .f32) (ix2 p d))
    ((iblk m c 2 t : Vec Ideal S128x1024 .f32) (ix2 p d)) ((iblk m c 3 t : Vec Ideal S128x1024 .f32) (ix2 p d)) = _
  rw [grad_at, block1, block2, block3]
  rfl

theorem array6 : (dats m 0 c).arrAt 6 cfg0.N = (Adam.newFirst (parts m c) (mom1 m c) : Vec Ideal S128x1024 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2, View.ld_unit_zero (S := S128x1024) Adam.hz2]
  exact congrArg₂ Adam.first (grad_at m c t p d) (block2 m c t p d)

theorem array7 : (dats m 0 c).arrAt 7 cfg0.N = (Adam.newSecond (parts m c) (mom2 m c) : Vec Ideal S128x1024 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S128x1024) Adam.hz2]
  exact congrArg₂ Adam.second (grad_at m c t p d) (block3 m c t p d)

/-- The kernel and the reference, from memories that agree on the arguments, end with the same four results. -/
theorem algebraic : @Cert.algebraic_Kernel8Ideal_Reference8Ideal Kernel8Ideal.Gen.facts Reference8Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference8Ideal.Value.run m' g')
  obtain ⟨e0, e1, e2, e3⟩ := hargs c
  obtain ⟨h0, h1, h2, h3, hk⟩ := h c
  replace h0 := (h0.trans (Reference8Ideal.Read.val_main_v1_eq _)).trans (ref_grad _)
  replace h1 := (h1.trans (Reference8Ideal.Read.val_main_v25_eq _ _ _ _)).trans (ref_delta _ _ _ _)
  replace h2 := (h2.trans (Reference8Ideal.Read.val_main_v6_eq _ _)).trans (ref_first _ _)
  replace h3 := (h3.trans (Reference8Ideal.Read.val_main_v12_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference8Ideal Reference8Ideal.Gen.facts := fun m g _ =>
  (θ_run _ _ _).mono (fun r h => ⟨fun c => (h c).2.2.2.2, sem_eq_zero_of_no_sems rfl r.2⟩) (Reference8Ideal.Value.run m g)

end Cert.AdamWOut

end
-- ==== Proof.AdamW1.lean ====
/- The AdamW step of the first weight of the sub-layer. -/
module

public import proofs.«01_k».proof.Defs
public import proofs.«01_k».proof.Proof.Adam
public import proofs.«01_k».proof.Proof.Gen.Kernel9Ideal.Value
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init

@[expose] public section

set_option maxRecDepth 16384

noncomputable section

namespace Cert.AdamW1

open Cert.Kernel9Ideal Cert.Kernel9Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![8, 1024, 512]⟩ : Shape).Idx → EReal := (m ((c.tc : Thread nD τ).loc main_arg0) : Vec Ideal S8x1024x512 .bf16)
abbrev weight : (⟨2, ![1024, 512]⟩ : Shape).Idx → EReal := (m ((c.tc : Thread nD τ).loc main_arg1) : Vec Ideal S1024x512 .f32)
abbrev mom1 : (⟨2, ![1024, 512]⟩ : Shape).Idx → EReal := (m ((c.tc : Thread nD τ).loc main_arg2) : Vec Ideal S1024x512 .f32)
abbrev mom2 : (⟨2, ![1024, 512]⟩ : Shape).Idx → EReal := (m ((c.tc : Thread nD τ).loc main_arg3) : Vec Ideal S1024x512 .f32)

/-! ## The reference -/

section
open Reference9Ideal.Read
variable (x : FVec Ideal S8x1024x512 .bf16) (w u v : FVec Ideal S1024x512 .f32)

theorem ref_grad : val_main_v1 (F := Ideal) x = Adam.grad x := by
  funext i
  rw [val_main_v1_apply, val_main_cst_apply, Ideal.ofBits_def, Ideal.ofBits_zero_f32, zero_add]
  exact Finset.sum_congr rfl fun k _ => congrArg x (eq_ix3 _)

theorem ref_first : val_main_v6 (F := Ideal) x u = Adam.newFirst x u :=
  funext fun i => congrArg (fun g : _ → EReal => Adam.first (g i) (u i)) (ref_grad x)

theorem ref_second : val_main_v12 (F := Ideal) x v = Adam.newSecond x v :=
  funext fun i => congrArg (fun g : _ → EReal => Adam.second (g i) (v i)) (ref_grad x)

theorem ref_delta : val_main_v25 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 256) : Fin 1024 := ⟨256 * t.val + p.val, by have : t.val < 4 := lt_of_lt_of_eq t.isLt N_0; omega⟩

/-- Every window over rows has the same place. -/
theorem place (t : Fin cfg0.N) (p : Fin 256) (d : Fin 512) : ((cfg0.win 1).blk t).view.emb (ix2 p d) = ix2 (row t p) d := by
  obtain ⟨h0, h1⟩ := index1 t
  refine funext fun a => Fin.ext ?_
  match a with
  | ⟨0, _⟩ => show win0_1.index t 0 * 256 + 1 * p.val = 256 * t.val + p.val; rw [h0]; omega
  | ⟨1, _⟩ => show win0_1.index t 1 * 512 + 1 * d.val = d.val; rw [h1]; omega

theorem block0 (t : Fin cfg0.N) (k : Fin 8) (p : Fin 256) (d : Fin 512) :
    (iblk m c 0 t : Vec Ideal S8x256x512 .bf16) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 8 + 1 * k.val = k.val; rw [h0]; omega
  | ⟨1, _⟩ => show win0_0.index t 1 * 256 + 1 * p.val = 256 * t.val + p.val; rw [h1]; omega
  | ⟨2, _⟩ => show win0_0.index t 2 * 512 + 1 * d.val = d.val; rw [h2]; omega

theorem block1 (t : Fin cfg0.N) (p : Fin 256) (d : Fin 512) : (iblk m c 1 t : Vec Ideal S256x512 .f32) (ix2 p d) = weight m c (ix2 (row t p) d) :=
  congrArg (weight m c) (place t p d)
theorem block2 (t : Fin cfg0.N) (p : Fin 256) (d : Fin 512) : (iblk m c 2 t : Vec Ideal S256x512 .f32) (ix2 p d) = mom1 m c (ix2 (row t p) d) :=
  congrArg (mom1 m c) (place t p d)
theorem block3 (t : Fin cfg0.N) (p : Fin 256) (d : Fin 512) : (iblk m c 3 t : Vec Ideal S256x512 .f32) (ix2 p d) = mom2 m c (ix2 (row t p) d) :=
  congrArg (mom2 m c) (place t p d)

/-- The point whose tile holds a row. -/
theorem cover (i : S1024x512.Idx) : ∃ t : Fin cfg0.N, i ∈ ((cfg0.win 4).blk t).view.set := by
  have b0 : (i 0 : Nat) < 1024 := (i 0).isLt
  have b1 : (i 1 : Nat) < 512 := (i 1).isLt
  obtain ⟨t, ht⟩ : ∃ t : Fin cfg0.N, t.val = (i 0 : Nat) / 256 := ⟨⟨(i 0 : Nat) / 256, by have : cfg0.N = 4 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 256 ≤ (i 0 : Nat) ∧ (i 0 : Nat) < win0_1.index t 0 * 256 + 256
    rw [h0, ht]; omega
  | ⟨1, _⟩ =>
    show win0_1.index t 1 * 512 ≤ (i 1 : Nat) ∧ (i 1 : Nat) < win0_1.index t 1 * 512 + 512
    rw [h1]; omega

/-! ## What a point leaves -/

theorem grad_at (t : Fin cfg0.N) (p : Fin 256) (d : Fin 512) :
    k0_pay5 (F := Ideal) (iblk m c 0 t) (iblk m c 1 t) (iblk m c 2 t) (iblk m c 3 t) (ix2 p d) = Adam.grad (parts m c) (ix2 (row t p) d) := by
  have hs (k : ℕ) (hk : k < 8) (inb h) :
      shapeCast S256x512 (View.ld (iblk m c 0 t : Vec Ideal S8x256x512 .bf16) (Rect.unit (s := S8x256x512) ![k, 0, 0] S1x256x512.size inb)) h (ix2 p d)
        = parts m c (ix3 ⟨k, hk⟩ (row t p) d) := (Adam.summand _ k hk inb h p d).trans (block0 m c t ⟨k, hk⟩ p d)
  unfold Adam.grad
  rw [Fin.sum_univ_eight]
  unfold k0_pay5 k0_pay4
  simp only [ValueIdx.addf_apply, ValueIdx.extf_apply, Ideal.addf_def, Ideal.extf_def]
  rw [hs 0 (by decide), hs 1 (by decide), hs 2 (by decide), hs 3 (by decide), hs 4 (by decide), hs 5 (by decide), hs 6 (by decide), hs 7 (by decide)]
  rfl

theorem array4 : (dats m 0 c).arrAt 4 cfg0.N = (Adam.grad (parts m c) : Vec Ideal S1024x512 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S1024x512 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S256x512) Adam.hz2, View.ld_unit_zero (S := S256x512) Adam.hz2, View.ld_unit_zero (S := S256x512) Adam.hz2]
  show Adam.change (k0_pay5 (F := Ideal) (iblk m c 0 t) (iblk m c 1 t) (iblk m c 2 t) (iblk m c 3 t) (ix2 p d)) ((iblk m c 1 t : Vec Ideal S256x512 .f32) (ix2 p d))
    ((iblk m c 2 t : Vec Ideal S256x512 .f32) (ix2 p d)) ((iblk m c 3 t : Vec Ideal S256x512 .f32) (ix2 p d)) = _
  rw [grad_at, block1, block2, block3]
  rfl

theorem array6 : (dats m 0 c).arrAt 6 cfg0.N = (Adam.newFirst (parts m c) (mom1 m c) : Vec Ideal S1024x512 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2, View.ld_unit_zero (S := S256x512) Adam.hz2]
  exact congrArg₂ Adam.first (grad_at m c t p d) (block2 m c t p d)

theorem array7 : (dats m 0 c).arrAt 7 cfg0.N = (Adam.newSecond (parts m c) (mom2 m c) : Vec Ideal S1024x512 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S256x512) Adam.hz2]
  exact congrArg₂ Adam.second (grad_at m c t p d) (block3 m c t p d)

/-- The kernel and the reference, from memories that agree on the arguments, end with the same four results. -/
theorem algebraic : @Cert.algebraic_Kernel9Ideal_Reference9Ideal Kernel9Ideal.Gen.facts Reference9Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference9Ideal.Value.run m' g')
  obtain ⟨e0, e1, e2, e3⟩ := hargs c
  obtain ⟨h0, h1, h2, h3, hk⟩ := h c
  replace h0 := (h0.trans (Reference9Ideal.Read.val_main_v1_eq _)).trans (ref_grad _)
  replace h1 := (h1.trans (Reference9Ideal.Read.val_main_v25_eq _ _ _ _)).trans (ref_delta _ _ _ _)
  replace h2 := (h2.trans (Reference9Ideal.Read.val_main_v6_eq _ _)).trans (ref_first _ _)
  replace h3 := (h3.trans (Reference9Ideal.Read.val_main_v12_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference9Ideal Reference9Ideal.Gen.facts := fun m g _ =>
  (θ_run _ _ _).mono (fun r h => ⟨fun c => (h c).2.2.2.2, sem_eq_zero_of_no_sems rfl r.2⟩) (Reference9Ideal.Value.run m g)

end Cert.AdamW1

end
-- ==== Proof.AdamW2.lean ====
/- The AdamW step of the second weight of the sub-layer. -/
module

public import proofs.«01_k».proof.Defs
public import proofs.«01_k».proof.Proof.Adam
public import proofs.«01_k».proof.Proof.Gen.Kernel10Ideal.Value
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import Idealize.ShloMosaic.Adequacy
public import Idealize.ShloMosaic.Init

@[expose] public section

set_option maxRecDepth 16384

noncomputable section

namespace Cert.AdamW2

open Cert.Kernel10Ideal Cert.Kernel10Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![8, 512, 1024]⟩ : Shape).Idx → EReal := (m ((c.tc : Thread nD τ).loc main_arg0) : Vec Ideal S8x512x1024 .bf16)
abbrev weight : (⟨2, ![512, 1024]⟩ : Shape).Idx → EReal := (m ((c.tc : Thread nD τ).loc main_arg1) : Vec Ideal S512x1024 .f32)
abbrev mom1 : (⟨2, ![512, 1024]⟩ : Shape).Idx → EReal := (m ((c.tc : Thread nD τ).loc main_arg2) : Vec Ideal S512x1024 .f32)
abbrev mom2 : (⟨2, ![512, 1024]⟩ : Shape).Idx → EReal := (m ((c.tc : Thread nD τ).loc main_arg3) : Vec Ideal S512x1024 .f32)

/-! ## The reference -/

section
open Reference10Ideal.Read
variable (x : FVec Ideal S8x512x1024 .bf16) (w u v : FVec Ideal S512x1024 .f32)

theorem ref_grad : val_main_v1 (F := Ideal) x = Adam.grad x := by
  funext i
  rw [val_main_v1_apply, val_main_cst_apply, Ideal.ofBits_def, Ideal.ofBits_zero_f32, zero_add]
  exact Finset.sum_congr rfl fun k _ => congrArg x (eq_ix3 _)

theorem ref_first : val_main_v6 (F := Ideal) x u = Adam.newFirst x u :=
  funext fun i => congrArg (fun g : _ → EReal => Adam.first (g i) (u i)) (ref_grad x)

theorem ref_second : val_main_v12 (F := Ideal) x v = Adam.newSecond x v :=
  funext fun i => congrArg (fun g : _ → EReal => Adam.second (g i) (v i)) (ref_grad x)

theorem ref_delta : val_main_v25 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 256) : Fin 512 := ⟨256 * t.val + p.val, by have : t.val < 2 := lt_of_lt_of_eq t.isLt N_0; omega⟩

/-- Every window over rows has the same place. -/
theorem place (t : Fin cfg0.N) (p : Fin 256) (d : Fin 1024) : ((cfg0.win 1).blk t).view.emb (ix2 p d) = ix2 (row t p) d := by
  obtain ⟨h0, h1⟩ := index1 t
  refine funext fun a => Fin.ext ?_
  match a with
  | ⟨0, _⟩ => show win0_1.index t 0 * 256 + 1 * p.val = 256 * t.val + p.val; rw [h0]; omega
  | ⟨1, _⟩ => show win0_1.index t 1 * 1024 + 1 * d.val = d.val; rw [h1]; omega

theorem block0 (t : Fin cfg0.N) (k : Fin 8) (p : Fin 256) (d : Fin 1024) :
    (iblk m c 0 t : Vec Ideal S8x256x1024 .bf16) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 8 + 1 * k.val = k.val; rw [h0]; omega
  | ⟨1, _⟩ => show win0_0.index t 1 * 256 + 1 * p.val = 256 * t.val + p.val; rw [h1]; omega
  | ⟨2, _⟩ => show win0_0.index t 2 * 1024 + 1 * d.val = d.val; rw [h2]; omega

theorem block1 (t : Fin cfg0.N) (p : Fin 256) (d : Fin 1024) : (iblk m c 1 t : Vec Ideal S256x1024 .f32) (ix2 p d) = weight m c (ix2 (row t p) d) :=
  congrArg (weight m c) (place t p d)
theorem block2 (t : Fin cfg0.N) (p : Fin 256) (d : Fin 1024) : (iblk m c 2 t : Vec Ideal S256x1024 .f32) (ix2 p d) = mom1 m c (ix2 (row t p) d) :=
  congrArg (mom1 m c) (place t p d)
theorem block3 (t : Fin cfg0.N) (p : Fin 256) (d : Fin 1024) : (iblk m c 3 t : Vec Ideal S256x1024 .f32) (ix2 p d) = mom2 m c (ix2 (row t p) d) :=
  congrArg (mom2 m c) (place t p d)

/-- The point whose tile holds a row. -/
theorem cover (i : S512x1024.Idx) : ∃ t : Fin cfg0.N, i ∈ ((cfg0.win 4).blk t).view.set := by
  have b0 : (i 0 : Nat) < 512 := (i 0).isLt
  have b1 : (i 1 : Nat) < 1024 := (i 1).isLt
  obtain ⟨t, ht⟩ : ∃ t : Fin cfg0.N, t.val = (i 0 : Nat) / 256 := ⟨⟨(i 0 : Nat) / 256, by have : cfg0.N = 2 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 256 ≤ (i 0 : Nat) ∧ (i 0 : Nat) < win0_1.index t 0 * 256 + 256
    rw [h0, ht]; omega
  | ⟨1, _⟩ =>
    show win0_1.index t 1 * 1024 ≤ (i 1 : Nat) ∧ (i 1 : Nat) < win0_1.index t 1 * 1024 + 1024
    rw [h1]; omega

/-! ## What a point leaves -/

theorem grad_at (t : Fin cfg0.N) (p : Fin 256) (d : Fin 1024) :
    k0_pay5 (F := Ideal) (iblk m c 0 t) (iblk m c 1 t) (iblk m c 2 t) (iblk m c 3 t) (ix2 p d) = Adam.grad (parts m c) (ix2 (row t p) d) := by
  have hs (k : ℕ) (hk : k < 8) (inb h) :
      shapeCast S256x1024 (View.ld (iblk m c 0 t : Vec Ideal S8x256x1024 .bf16) (Rect.unit (s := S8x256x1024) ![k, 0, 0] S1x256x1024.size inb)) h (ix2 p d)
        = parts m c (ix3 ⟨k, hk⟩ (row t p) d) := (Adam.summand _ k hk inb h p d).trans (block0 m c t ⟨k, hk⟩ p d)
  unfold Adam.grad
  rw [Fin.sum_univ_eight]
  unfold k0_pay5 k0_pay4
  simp only [ValueIdx.addf_apply, ValueIdx.extf_apply, Ideal.addf_def, Ideal.extf_def]
  rw [hs 0 (by decide), hs 1 (by decide), hs 2 (by decide), hs 3 (by decide), hs 4 (by decide), hs 5 (by decide), hs 6 (by decide), hs 7 (by decide)]
  rfl

theorem array4 : (dats m 0 c).arrAt 4 cfg0.N = (Adam.grad (parts m c) : Vec Ideal S512x1024 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S512x1024 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S256x1024) Adam.hz2, View.ld_unit_zero (S := S256x1024) Adam.hz2, View.ld_unit_zero (S := S256x1024) Adam.hz2]
  show Adam.change (k0_pay5 (F := Ideal) (iblk m c 0 t) (iblk m c 1 t) (iblk m c 2 t) (iblk m c 3 t) (ix2 p d)) ((iblk m c 1 t : Vec Ideal S256x1024 .f32) (ix2 p d))
    ((iblk m c 2 t : Vec Ideal S256x1024 .f32) (ix2 p d)) ((iblk m c 3 t : Vec Ideal S256x1024 .f32) (ix2 p d)) = _
  rw [grad_at, block1, block2, block3]
  rfl

theorem array6 : (dats m 0 c).arrAt 6 cfg0.N = (Adam.newFirst (parts m c) (mom1 m c) : Vec Ideal S512x1024 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2, View.ld_unit_zero (S := S256x1024) Adam.hz2]
  exact congrArg₂ Adam.first (grad_at m c t p d) (block2 m c t p d)

theorem array7 : (dats m 0 c).arrAt 7 cfg0.N = (Adam.newSecond (parts m c) (mom2 m c) : Vec Ideal S512x1024 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S256x1024) Adam.hz2]
  exact congrArg₂ Adam.second (grad_at m c t p d) (block3 m c t p d)

/-- The kernel and the reference, from memories that agree on the arguments, end with the same four results. -/
theorem algebraic : @Cert.algebraic_Kernel10Ideal_Reference10Ideal Kernel10Ideal.Gen.facts Reference10Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference10Ideal.Value.run m' g')
  obtain ⟨e0, e1, e2, e3⟩ := hargs c
  obtain ⟨h0, h1, h2, h3, hk⟩ := h c
  replace h0 := (h0.trans (Reference10Ideal.Read.val_main_v1_eq _)).trans (ref_grad _)
  replace h1 := (h1.trans (Reference10Ideal.Read.val_main_v25_eq _ _ _ _)).trans (ref_delta _ _ _ _)
  replace h2 := (h2.trans (Reference10Ideal.Read.val_main_v6_eq _ _)).trans (ref_first _ _)
  replace h3 := (h3.trans (Reference10Ideal.Read.val_main_v12_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference10Ideal Reference10Ideal.Gen.facts := fun m g _ =>
  (θ_run _ _ _).mono (fun r h => ⟨fun c => (h c).2.2.2.2, sem_eq_zero_of_no_sems rfl r.2⟩) (Reference10Ideal.Value.run m g)

end Cert.AdamW2

end
-- ==== Proof.AdamAda.lean ====
/- The AdamW step of the conditioning's weight, whose gradient comes as one summand. -/
module

public import proofs.«01_k».proof.Defs
public import proofs.«01_k».proof.Proof.Adam
public import proofs.«01_k».proof.Proof.Gen.Kernel11Ideal.Value
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init

@[expose] public section

set_option maxRecDepth 16384

noncomputable section

namespace Cert.AdamAda

open Cert.Kernel11Ideal Cert.Kernel11Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![1, 1024, 768]⟩ : Shape).Idx → EReal := (m ((c.tc : Thread nD τ).loc main_arg0) : Vec Ideal S1x1024x768 .f32)
abbrev weight : (⟨2, ![1024, 768]⟩ : Shape).Idx → EReal := (m ((c.tc : Thread nD τ).loc main_arg1) : Vec Ideal S1024x768 .f32)
abbrev mom1 : (⟨2, ![1024, 768]⟩ : Shape).Idx → EReal := (m ((c.tc : Thread nD τ).loc main_arg2) : Vec Ideal S1024x768 .f32)
abbrev mom2 : (⟨2, ![1024, 768]⟩ : Shape).Idx → EReal := (m ((c.tc : Thread nD τ).loc main_arg3) : Vec Ideal S1024x768 .f32)

/-! ## The reference -/

section
open Reference11Ideal.Read
variable (x : FVec Ideal S1x1024x768 .f32) (w u v : FVec Ideal S1024x768 .f32)

theorem ref_grad : val_main_v0 (F := Ideal) x = Adam.grad x := by
  funext i
  rw [val_main_v0_apply, val_main_cst_apply, Ideal.ofBits_def, Ideal.ofBits_zero_f32, zero_add]
  exact Finset.sum_congr rfl fun k _ => congrArg x (eq_ix3 _)

theorem ref_first : val_main_v5 (F := Ideal) x u = Adam.newFirst x u :=
  funext fun i => congrArg (fun g : _ → EReal => Adam.first (g i) (u i)) (ref_grad x)

theorem ref_second : val_main_v11 (F := Ideal) x v = Adam.newSecond x v :=
  funext fun i => congrArg (fun g : _ → EReal => Adam.second (g i) (v i)) (ref_grad x)

theorem ref_delta : val_main_v24 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 256) : Fin 1024 := ⟨256 * t.val + p.val, by have : t.val < 4 := lt_of_lt_of_eq t.isLt N_0; omega⟩

/-- Every window over rows has the same place. -/
theorem place (t : Fin cfg0.N) (p : Fin 256) (d : Fin 768) : ((cfg0.win 1).blk t).view.emb (ix2 p d) = ix2 (row t p) d := by
  obtain ⟨h0, h1⟩ := index1 t
  refine funext fun a => Fin.ext ?_
  match a with
  | ⟨0, _⟩ => show win0_1.index t 0 * 256 + 1 * p.val = 256 * t.val + p.val; rw [h0]; omega
  | ⟨1, _⟩ => show win0_1.index t 1 * 768 + 1 * d.val = d.val; rw [h1]; omega

theorem block0 (t : Fin cfg0.N) (k : Fin 1) (p : Fin 256) (d : Fin 768) :
    (iblk m c 0 t : Vec Ideal S1x256x768 .f32) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 1 + 1 * k.val = k.val; rw [h0]; omega
  | ⟨1, _⟩ => show win0_0.index t 1 * 256 + 1 * p.val = 256 * t.val + p.val; rw [h1]; omega
  | ⟨2, _⟩ => show win0_0.index t 2 * 768 + 1 * d.val = d.val; rw [h2]; omega

theorem block1 (t : Fin cfg0.N) (p : Fin 256) (d : Fin 768) : (iblk m c 1 t : Vec Ideal S256x768 .f32) (ix2 p d) = weight m c (ix2 (row t p) d) :=
  congrArg (weight m c) (place t p d)
theorem block2 (t : Fin cfg0.N) (p : Fin 256) (d : Fin 768) : (iblk m c 2 t : Vec Ideal S256x768 .f32) (ix2 p d) = mom1 m c (ix2 (row t p) d) :=
  congrArg (mom1 m c) (place t p d)
theorem block3 (t : Fin cfg0.N) (p : Fin 256) (d : Fin 768) : (iblk m c 3 t : Vec Ideal S256x768 .f32) (ix2 p d) = mom2 m c (ix2 (row t p) d) :=
  congrArg (mom2 m c) (place t p d)

/-- The point whose tile holds a row. -/
theorem cover (i : S1024x768.Idx) : ∃ t : Fin cfg0.N, i ∈ ((cfg0.win 4).blk t).view.set := by
  have b0 : (i 0 : Nat) < 1024 := (i 0).isLt
  have b1 : (i 1 : Nat) < 768 := (i 1).isLt
  obtain ⟨t, ht⟩ : ∃ t : Fin cfg0.N, t.val = (i 0 : Nat) / 256 := ⟨⟨(i 0 : Nat) / 256, by have : cfg0.N = 4 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 256 ≤ (i 0 : Nat) ∧ (i 0 : Nat) < win0_1.index t 0 * 256 + 256
    rw [h0, ht]; omega
  | ⟨1, _⟩ =>
    show win0_1.index t 1 * 768 ≤ (i 1 : Nat) ∧ (i 1 : Nat) < win0_1.index t 1 * 768 + 768
    rw [h1]; omega

/-! ## What a point leaves -/

theorem grad_at (t : Fin cfg0.N) (p : Fin 256) (d : Fin 768) :
    k0_pay1 (F := Ideal) (View.ld (iblk m c 0 t) r0_0) (ix2 p d) = Adam.grad (parts m c) (ix2 (row t p) d) := by
  unfold Adam.grad
  rw [Fin.sum_univ_one]
  exact (Adam.summand _ 0 (by decide) _ _ p d).trans (block0 m c t 0 p d)

theorem array4 : (dats m 0 c).arrAt 4 cfg0.N = (Adam.grad (parts m c) : Vec Ideal S1024x768 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S1024x768 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S256x768) Adam.hz2, View.ld_unit_zero (S := S256x768) Adam.hz2, View.ld_unit_zero (S := S256x768) Adam.hz2]
  show Adam.change (k0_pay1 (F := Ideal) (View.ld (iblk m c 0 t) r0_0) (ix2 p d)) ((iblk m c 1 t : Vec Ideal S256x768 .f32) (ix2 p d))
    ((iblk m c 2 t : Vec Ideal S256x768 .f32) (ix2 p d)) ((iblk m c 3 t : Vec Ideal S256x768 .f32) (ix2 p d)) = _
  rw [grad_at, block1, block2, block3]
  rfl

theorem array6 : (dats m 0 c).arrAt 6 cfg0.N = (Adam.newFirst (parts m c) (mom1 m c) : Vec Ideal S1024x768 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2, View.ld_unit_zero (S := S256x768) Adam.hz2]
  exact congrArg₂ Adam.first (grad_at m c t p d) (block2 m c t p d)

theorem array7 : (dats m 0 c).arrAt 7 cfg0.N = (Adam.newSecond (parts m c) (mom2 m c) : Vec Ideal S1024x768 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S256x768) Adam.hz2]
  exact congrArg₂ Adam.second (grad_at m c t p d) (block3 m c t p d)

/-- The kernel and the reference, from memories that agree on the arguments, end with the same four results. -/
theorem algebraic : @Cert.algebraic_Kernel11Ideal_Reference11Ideal Kernel11Ideal.Gen.facts Reference11Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference11Ideal.Value.run m' g')
  obtain ⟨e0, e1, e2, e3⟩ := hargs c
  obtain ⟨h0, h1, h2, h3, hk⟩ := h c
  replace h0 := (h0.trans (Reference11Ideal.Read.val_main_v0_eq _)).trans (ref_grad _)
  replace h1 := (h1.trans (Reference11Ideal.Read.val_main_v24_eq _ _ _ _)).trans (ref_delta _ _ _ _)
  replace h2 := (h2.trans (Reference11Ideal.Read.val_main_v5_eq _ _)).trans (ref_first _ _)
  replace h3 := (h3.trans (Reference11Ideal.Read.val_main_v11_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference11Ideal Reference11Ideal.Gen.facts := fun m g _ =>
  (θ_run _ _ _).mono (fun r h => ⟨fun c => (h c).2.2.2.2, sem_eq_zero_of_no_sems rfl r.2⟩) (Reference11Ideal.Value.run m g)

end Cert.AdamAda

end
-- ==== Proof.AdamSharded.lean ====
/- The AdamW step of the small weights that are sharded over the devices, in the packed rows in which they are exchanged. -/
module

public import proofs.«01_k».proof.Defs
public import proofs.«01_k».proof.Proof.Adam
public import proofs.«01_k».proof.Proof.Gen.Kernel13Ideal.Value
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init

@[expose] public section

set_option maxRecDepth 16384

noncomputable section

namespace Cert.AdamSharded

open Cert.Kernel13Ideal Cert.Kernel13Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![8, 232, 128]⟩ : Shape).Idx → EReal := (m ((c.tc : Thread nD τ).loc main_arg0) : Vec Ideal S8x232x128 .f32)
abbrev weight : (⟨2, ![232, 128]⟩ : Shape).Idx → EReal := (m ((c.tc : Thread nD τ).loc main_arg1) : Vec Ideal S232x128 .f32)
abbrev mom1 : (⟨2, ![232, 128]⟩ : Shape).Idx → EReal := (m ((c.tc : Thread nD τ).loc main_arg2) : Vec Ideal S232x128 .f32)
abbrev mom2 : (⟨2, ![232, 128]⟩ : Shape).Idx → EReal := (m ((c.tc : Thread nD τ).loc main_arg3) : Vec Ideal S232x128 .f32)

/-! ## The reference -/

section
open Reference13Ideal.Read
variable (x : FVec Ideal S8x232x128 .f32) (w u v : FVec Ideal S232x128 .f32)

theorem ref_grad : val_main_v0 (F := Ideal) x = Adam.grad x := by
  funext i
  rw [val_main_v0_apply, val_main_cst_apply, Ideal.ofBits_def, Ideal.ofBits_zero_f32, zero_add]
  exact Finset.sum_congr rfl fun k _ => congrArg x (eq_ix3 _)

theorem ref_first : val_main_v5 (F := Ideal) x u = Adam.newFirst x u :=
  funext fun i => congrArg (fun g : _ → EReal => Adam.first (g i) (u i)) (ref_grad x)

theorem ref_second : val_main_v11 (F := Ideal) x v = Adam.newSecond x v :=
  funext fun i => congrArg (fun g : _ → EReal => Adam.second (g i) (v i)) (ref_grad x)

theorem ref_delta : val_main_v24 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 232) : Fin 232 := ⟨232 * t.val + p.val, by have : t.val < 1 := lt_of_lt_of_eq t.isLt N_0; omega⟩

/-- Every window over rows has the same place. -/
theorem place (t : Fin cfg0.N) (p : Fin 232) (d : Fin 128) : ((cfg0.win 1).blk t).view.emb (ix2 p d) = ix2 (row t p) d := by
  obtain ⟨h0, h1⟩ := index1 t
  refine funext fun a => Fin.ext ?_
  match a with
  | ⟨0, _⟩ => show win0_1.index t 0 * 232 + 1 * p.val = 232 * t.val + p.val; rw [h0]; omega
  | ⟨1, _⟩ => show win0_1.index t 1 * 128 + 1 * d.val = d.val; rw [h1]; omega

theorem block0 (t : Fin cfg0.N) (k : Fin 8) (p : Fin 232) (d : Fin 128) :
    (iblk m c 0 t : Vec Ideal S8x232x128 .f32) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 8 + 1 * k.val = k.val; rw [h0]; omega
  | ⟨1, _⟩ => show win0_0.index t 1 * 232 + 1 * p.val = 232 * t.val + p.val; rw [h1]; omega
  | ⟨2, _⟩ => show win0_0.index t 2 * 128 + 1 * d.val = d.val; rw [h2]; omega

theorem block1 (t : Fin cfg0.N) (p : Fin 232) (d : Fin 128) : (iblk m c 1 t : Vec Ideal S232x128 .f32) (ix2 p d) = weight m c (ix2 (row t p) d) :=
  congrArg (weight m c) (place t p d)
theorem block2 (t : Fin cfg0.N) (p : Fin 232) (d : Fin 128) : (iblk m c 2 t : Vec Ideal S232x128 .f32) (ix2 p d) = mom1 m c (ix2 (row t p) d) :=
  congrArg (mom1 m c) (place t p d)
theorem block3 (t : Fin cfg0.N) (p : Fin 232) (d : Fin 128) : (iblk m c 3 t : Vec Ideal S232x128 .f32) (ix2 p d) = mom2 m c (ix2 (row t p) d) :=
  congrArg (mom2 m c) (place t p d)

/-- The point whose tile holds a row. -/
theorem cover (i : S232x128.Idx) : ∃ t : Fin cfg0.N, i ∈ ((cfg0.win 4).blk t).view.set := by
  have b0 : (i 0 : Nat) < 232 := (i 0).isLt
  have b1 : (i 1 : Nat) < 128 := (i 1).isLt
  obtain ⟨t, ht⟩ : ∃ t : Fin cfg0.N, t.val = (i 0 : Nat) / 232 := ⟨⟨(i 0 : Nat) / 232, by have : cfg0.N = 1 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 232 ≤ (i 0 : Nat) ∧ (i 0 : Nat) < win0_1.index t 0 * 232 + 232
    rw [h0, ht]; omega
  | ⟨1, _⟩ =>
    show win0_1.index t 1 * 128 ≤ (i 1 : Nat) ∧ (i 1 : Nat) < win0_1.index t 1 * 128 + 128
    rw [h1]; omega

/-! ## What a point leaves -/

theorem grad_at (t : Fin cfg0.N) (p : Fin 232) (d : Fin 128) :
    k0_pay5 (F := Ideal) (iblk m c 0 t) (iblk m c 1 t) (iblk m c 2 t) (iblk m c 3 t) (ix2 p d) = Adam.grad (parts m c) (ix2 (row t p) d) := by
  have hs (k : ℕ) (hk : k < 8) (inb h) :
      shapeCast S232x128 (View.ld (iblk m c 0 t : Vec Ideal S8x232x128 .f32) (Rect.unit (s := S8x232x128) ![k, 0, 0] S1x232x128.size inb)) h (ix2 p d)
        = parts m c (ix3 ⟨k, hk⟩ (row t p) d) := (Adam.summand _ k hk inb h p d).trans (block0 m c t ⟨k, hk⟩ p d)
  unfold Adam.grad
  rw [Fin.sum_univ_eight]
  unfold k0_pay5 k0_pay3
  simp only [ValueIdx.addf_apply, Ideal.addf_def]
  rw [hs 0 (by decide), hs 1 (by decide), hs 2 (by decide), hs 3 (by decide), hs 4 (by decide), hs 5 (by decide), hs 6 (by decide), hs 7 (by decide)]
  rfl

theorem first_at (t : Fin cfg0.N) (p : Fin 232) (d : Fin 128) :
    k0_pay6 (F := Ideal) (iblk m c 0 t) (iblk m c 1 t) (iblk m c 2 t) (iblk m c 3 t) (ix2 p d)
      = Adam.newFirst (parts m c) (mom1 m c) (ix2 (row t p) d) := by
  show Adam.first (k0_pay5 (F := Ideal) (iblk m c 0 t) (iblk m c 1 t) (iblk m c 2 t) (iblk m c 3 t) (ix2 p d))
    (View.ld (iblk m c 2 t : Vec Ideal S232x128 .f32) r0_8 (ix2 p d)) = _
  rw [View.ld_unit_zero (S := S232x128) Adam.hz2]
  exact congrArg₂ Adam.first (grad_at m c t p d) (block2 m c t p d)

theorem array4 : (dats m 0 c).arrAt 4 cfg0.N = (Adam.grad (parts m c) : Vec Ideal S232x128 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S232x128 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S232x128) Adam.hz2, View.ld_unit_zero (S := S232x128) Adam.hz2]
  show Adam.changed (k0_pay6 (F := Ideal) (iblk m c 0 t) (iblk m c 1 t) (iblk m c 2 t) (iblk m c 3 t) (ix2 p d))
    (Adam.second (k0_pay5 (F := Ideal) (iblk m c 0 t) (iblk m c 1 t) (iblk m c 2 t) (iblk m c 3 t) (ix2 p d)) ((iblk m c 3 t : Vec Ideal S232x128 .f32) (ix2 p d))) ((iblk m c 1 t : Vec Ideal S232x128 .f32) (ix2 p d)) = _
  rw [first_at, grad_at, block1, block3]
  rfl

theorem array6 : (dats m 0 c).arrAt 6 cfg0.N = (Adam.newFirst (parts m c) (mom1 m c) : Vec Ideal S232x128 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2]
  exact first_at m c t p d

theorem array7 : (dats m 0 c).arrAt 7 cfg0.N = (Adam.newSecond (parts m c) (mom2 m c) : Vec Ideal S232x128 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S232x128) Adam.hz2]
  exact congrArg₂ Adam.second (grad_at m c t p d) (block3 m c t p d)

/-- The kernel and the reference, from memories that agree on the arguments, end with the same four results. -/
theorem algebraic : @Cert.algebraic_Kernel13Ideal_Reference13Ideal Kernel13Ideal.Gen.facts Reference13Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference13Ideal.Value.run m' g')
  obtain ⟨e0, e1, e2, e3⟩ := hargs c
  obtain ⟨h0, h1, h2, h3, hk⟩ := h c
  replace h0 := (h0.trans (Reference13Ideal.Read.val_main_v0_eq _)).trans (ref_grad _)
  replace h1 := (h1.trans (Reference13Ideal.Read.val_main_v24_eq _ _ _ _)).trans (ref_delta _ _ _ _)
  replace h2 := (h2.trans (Reference13Ideal.Read.val_main_v5_eq _ _)).trans (ref_first _ _)
  replace h3 := (h3.trans (Reference13Ideal.Read.val_main_v11_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference13Ideal Reference13Ideal.Gen.facts := fun m g _ =>
  (θ_run _ _ _).mono (fun r h => ⟨fun c => (h c).2.2.2.2, sem_eq_zero_of_no_sems rfl r.2⟩) (Reference13Ideal.Value.run m g)

end Cert.AdamSharded

end
-- ==== Proof.AdamReplicated.lean ====
/- The AdamW step of the weights that every device holds whole, in packed rows. -/
module

public import proofs.«01_k».proof.Defs
public import proofs.«01_k».proof.Proof.Adam
public import proofs.«01_k».proof.Proof.Gen.Kernel14Ideal.Value
public import proofs.«01_k».proof.Proof.Gen.Kernel14
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read
public import Idealize.ShloMosaic.Adequacy
public import Idealize.ShloMosaic.Init

@[expose] public section

set_option maxRecDepth 16384

noncomputable section

namespace Cert.AdamReplicated

open Cert.Kernel14Ideal Cert.Kernel14Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![8, 96, 128]⟩ : Shape).Idx → EReal := (m ((c.tc : Thread nD τ).loc main_arg0) : Vec Ideal S8x96x128 .f32)
abbrev weight : (⟨2, ![96, 128]⟩ : Shape).Idx → EReal := (m ((c.tc : Thread nD τ).loc main_arg1) : Vec Ideal S96x128 .f32)
abbrev mom1 : (⟨2, ![96, 128]⟩ : Shape).Idx → EReal := (m ((c.tc : Thread nD τ).loc main_arg2) : Vec Ideal S96x128 .f32)
abbrev mom2 : (⟨2, ![96, 128]⟩ : Shape).Idx → EReal := (m ((c.tc : Thread nD τ).loc main_arg3) : Vec Ideal S96x128 .f32)

/-! ## The reference -/

section
open Reference14Ideal.Read
variable (x : FVec Ideal S8x96x128 .f32) (w u v : FVec Ideal S96x128 .f32)

theorem ref_grad : val_main_v0 (F := Ideal) x = Adam.grad x := by
  funext i
  rw [val_main_v0_apply, val_main_cst_apply, Ideal.ofBits_def, Ideal.ofBits_zero_f32, zero_add]
  exact Finset.sum_congr rfl fun k _ => congrArg x (eq_ix3 _)

theorem ref_first : val_main_v5 (F := Ideal) x u = Adam.newFirst x u :=
  funext fun i => congrArg (fun g : _ → EReal => Adam.first (g i) (u i)) (ref_grad x)

theorem ref_second : val_main_v11 (F := Ideal) x v = Adam.newSecond x v :=
  funext fun i => congrArg (fun g : _ → EReal => Adam.second (g i) (v i)) (ref_grad x)

theorem ref_delta : val_main_v24 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 96) : Fin 96 := ⟨96 * t.val + p.val, by have : t.val < 1 := lt_of_lt_of_eq t.isLt N_0; omega⟩

/-- Every window over rows has the same place. -/
theorem place (t : Fin cfg0.N) (p : Fin 96) (d : Fin 128) : ((cfg0.win 1).blk t).view.emb (ix2 p d) = ix2 (row t p) d := by
  obtain ⟨h0, h1⟩ := index1 t
  refine funext fun a => Fin.ext ?_
  match a with
  | ⟨0, _⟩ => show win0_1.index t 0 * 96 + 1 * p.val = 96 * t.val + p.val; rw [h0]; omega
  | ⟨1, _⟩ => show win0_1.index t 1 * 128 + 1 * d.val = d.val; rw [h1]; omega

theorem block0 (t : Fin cfg0.N) (k : Fin 8) (p : Fin 96) (d : Fin 128) :
    (iblk m c 0 t : Vec Ideal S8x96x128 .f32) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 8 + 1 * k.val = k.val; rw [h0]; omega
  | ⟨1, _⟩ => show win0_0.index t 1 * 96 + 1 * p.val = 96 * t.val + p.val; rw [h1]; omega
  | ⟨2, _⟩ => show win0_0.index t 2 * 128 + 1 * d.val = d.val; rw [h2]; omega

theorem block1 (t : Fin cfg0.N) (p : Fin 96) (d : Fin 128) : (iblk m c 1 t : Vec Ideal S96x128 .f32) (ix2 p d) = weight m c (ix2 (row t p) d) :=
  congrArg (weight m c) (place t p d)
theorem block2 (t : Fin cfg0.N) (p : Fin 96) (d : Fin 128) : (iblk m c 2 t : Vec Ideal S96x128 .f32) (ix2 p d) = mom1 m c (ix2 (row t p) d) :=
  congrArg (mom1 m c) (place t p d)
theorem block3 (t : Fin cfg0.N) (p : Fin 96) (d : Fin 128) : (iblk m c 3 t : Vec Ideal S96x128 .f32) (ix2 p d) = mom2 m c (ix2 (row t p) d) :=
  congrArg (mom2 m c) (place t p d)

/-- The point whose tile holds a row. -/
theorem cover (i : S96x128.Idx) : ∃ t : Fin cfg0.N, i ∈ ((cfg0.win 4).blk t).view.set := by
  have b0 : (i 0 : Nat) < 96 := (i 0).isLt
  have b1 : (i 1 : Nat) < 128 := (i 1).isLt
  obtain ⟨t, ht⟩ : ∃ t : Fin cfg0.N, t.val = (i 0 : Nat) / 96 := ⟨⟨(i 0 : Nat) / 96, by have : cfg0.N = 1 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 96 ≤ (i 0 : Nat) ∧ (i 0 : Nat) < win0_1.index t 0 * 96 + 96
    rw [h0, ht]; omega
  | ⟨1, _⟩ =>
    show win0_1.index t 1 * 128 ≤ (i 1 : Nat) ∧ (i 1 : Nat) < win0_1.index t 1 * 128 + 128
    rw [h1]; omega

/-! ## What a point leaves -/

theorem grad_at (t : Fin cfg0.N) (p : Fin 96) (d : Fin 128) :
    k0_pay5 (F := Ideal) (iblk m c 0 t) (iblk m c 1 t) (iblk m c 2 t) (iblk m c 3 t) (ix2 p d) = Adam.grad (parts m c) (ix2 (row t p) d) := by
  have hs (k : ℕ) (hk : k < 8) (inb h) :
      shapeCast S96x128 (View.ld (iblk m c 0 t : Vec Ideal S8x96x128 .f32) (Rect.unit (s := S8x96x128) ![k, 0, 0] S1x96x128.size inb)) h (ix2 p d)
        = parts m c (ix3 ⟨k, hk⟩ (row t p) d) := (Adam.summand _ k hk inb h p d).trans (block0 m c t ⟨k, hk⟩ p d)
  unfold Adam.grad
  rw [Fin.sum_univ_eight]
  unfold k0_pay5 k0_pay3
  simp only [ValueIdx.addf_apply, Ideal.addf_def]
  rw [hs 0 (by decide), hs 1 (by decide), hs 2 (by decide), hs 3 (by decide), hs 4 (by decide), hs 5 (by decide), hs 6 (by decide), hs 7 (by decide)]
  rfl

theorem first_at (t : Fin cfg0.N) (p : Fin 96) (d : Fin 128) :
    k0_pay6 (F := Ideal) (iblk m c 0 t) (iblk m c 1 t) (iblk m c 2 t) (iblk m c 3 t) (ix2 p d)
      = Adam.newFirst (parts m c) (mom1 m c) (ix2 (row t p) d) := by
  show Adam.first (k0_pay5 (F := Ideal) (iblk m c 0 t) (iblk m c 1 t) (iblk m c 2 t) (iblk m c 3 t) (ix2 p d))
    (View.ld (iblk m c 2 t : Vec Ideal S96x128 .f32) r0_8 (ix2 p d)) = _
  rw [View.ld_unit_zero (S := S96x128) Adam.hz2]
  exact congrArg₂ Adam.first (grad_at m c t p d) (block2 m c t p d)

theorem array4 : (dats m 0 c).arrAt 4 cfg0.N = (Adam.grad (parts m c) : Vec Ideal S96x128 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S96x128 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S96x128) Adam.hz2, View.ld_unit_zero (S := S96x128) Adam.hz2]
  show Adam.changed (k0_pay6 (F := Ideal) (iblk m c 0 t) (iblk m c 1 t) (iblk m c 2 t) (iblk m c 3 t) (ix2 p d))
    (Adam.second (k0_pay5 (F := Ideal) (iblk m c 0 t) (iblk m c 1 t) (iblk m c 2 t) (iblk m c 3 t) (ix2 p d)) ((iblk m c 3 t : Vec Ideal S96x128 .f32) (ix2 p d))) ((iblk m c 1 t : Vec Ideal S96x128 .f32) (ix2 p d)) = _
  rw [first_at, grad_at, block1, block3]
  rfl

theorem array6 : (dats m 0 c).arrAt 6 cfg0.N = (Adam.newFirst (parts m c) (mom1 m c) : Vec Ideal S96x128 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2]
  exact first_at m c t p d

theorem array7 : (dats m 0 c).arrAt 7 cfg0.N = (Adam.newSecond (parts m c) (mom2 m c) : Vec Ideal S96x128 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S96x128) Adam.hz2]
  exact congrArg₂ Adam.second (grad_at m c t p d) (block3 m c t p d)

/-- The kernel and the reference, from memories that agree on the arguments, end with the same four results. -/
theorem algebraic : @Cert.algebraic_Kernel14Ideal_Reference14Ideal Kernel14Ideal.Gen.facts Reference14Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference14Ideal.Value.run m' g')
  obtain ⟨e0, e1, e2, e3⟩ := hargs c
  obtain ⟨h0, h1, h2, h3, hk⟩ := h c
  replace h0 := (h0.trans (Reference14Ideal.Read.val_main_v0_eq _)).trans (ref_grad _)
  replace h1 := (h1.trans (Reference14Ideal.Read.val_main_v24_eq _ _ _ _)).trans (ref_delta _ _ _ _)
  replace h2 := (h2.trans (Reference14Ideal.Read.val_main_v5_eq _ _)).trans (ref_first _ _)
  replace h3 := (h3.trans (Reference14Ideal.Read.val_main_v11_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference14Ideal Reference14Ideal.Gen.facts := fun m g _ =>
  (θ_run _ _ _).mono (fun r h => ⟨fun c => (h c).2.2.2.2, sem_eq_zero_of_no_sems rfl r.2⟩) (Reference14Ideal.Value.run m g)

end Cert.AdamReplicated

end
-- ==== Proof.AdamAdaSmall.lean ====
/- The AdamW step of the context's condition and of the conditioning's bias, in packed rows: their gradient comes as one summand. -/
module

public import proofs.«01_k».proof.Defs
public import proofs.«01_k».proof.Proof.Adam
public import proofs.«01_k».proof.Proof.Gen.Kernel15Ideal.Value
public import proofs.«01_k».proof.Proof.Gen.Kernel15
public import proofs.«01_k».proof.Proof.Gen.Kernel15Ideal
public import proofs.«01_k».proof.Proof.Gen.Reference15Ideal
public import proofs.«01_k».proof.Proof.Gen.Reference15Ideal.Run
public import proofs.«01_k».proof.Proof.Gen.Reference15Ideal.Read
public import Idealize.ShloMosaic.Adequacy
public import Idealize.ShloMosaic.Init

@[expose] public section

set_option maxRecDepth 16384

noncomputable section

namespace Cert.AdamAdaSmall

open Cert.Kernel15Ideal Cert.Kernel15Ideal.Gen Idealize.ShloMosaic Idealize.ShloMosaic.TcCoe Idealize.ShloMosaic.ValueIdx
open Idealize.SL.Sem

variable (m : (ℓ : Loc nD τ sig) → Buf (Elt Ideal) ℓ) (c : Dev nD)

abbrev parts : (⟨3, ![1, 56, 128]⟩ : Shape).Idx → EReal := (m ((c.tc : Thread nD τ).loc main_arg0) : Vec Ideal S1x56x128 .f32)
abbrev weight : (⟨2, ![56, 128]⟩ : Shape).Idx → EReal := (m ((c.tc : Thread nD τ).loc main_arg1) : Vec Ideal S56x128 .f32)
abbrev mom1 : (⟨2, ![56, 128]⟩ : Shape).Idx → EReal := (m ((c.tc : Thread nD τ).loc main_arg2) : Vec Ideal S56x128 .f32)
abbrev mom2 : (⟨2, ![56, 128]⟩ : Shape).Idx → EReal := (m ((c.tc : Thread nD τ).loc main_arg3) : Vec Ideal S56x128 .f32)

/-! ## The reference -/

section
open Reference15Ideal.Read
variable (x : FVec Ideal S1x56x128 .f32) (w u v : FVec Ideal S56x128 .f32)

theorem ref_grad : val_main_v0 (F := Ideal) x = Adam.grad x := by
  funext i
  rw [val_main_v0_apply, val_main_cst_apply, Ideal.ofBits_def, Ideal.ofBits_zero_f32, zero_add]
  exact Finset.sum_congr rfl fun k _ => congrArg x (eq_ix3 _)

theorem ref_first : val_main_v5 (F := Ideal) x u = Adam.newFirst x u :=
  funext fun i => congrArg (fun g : _ → EReal => Adam.first (g i) (u i)) (ref_grad x)

theorem ref_second : val_main_v11 (F := Ideal) x v = Adam.newSecond x v :=
  funext fun i => congrArg (fun g : _ → EReal => Adam.second (g i) (v i)) (ref_grad x)

theorem ref_delta : val_main_v24 (F := Ideal) x w u v = Adam.delta x w u v :=
  funext fun i => congrArg (fun g : _ → EReal => Adam.change (g i) (w i) (u i) (v i)) (ref_grad x)

end

/-! ## The blocks -/

theorem index0 : ∀ t : Fin grid0.N, win0_0.index t 0 = 0 ∧ win0_0.index t 1 = t.val ∧ win0_0.index t 2 = 0 := by decide +kernel
theorem index1 : ∀ t : Fin grid0.N, win0_1.index t 0 = t.val ∧ win0_1.index t 1 = 0 := by decide +kernel

/-- Row `p` of a point's tile, among all the rows. -/
def row (t : Fin cfg0.N) (p : Fin 56) : Fin 56 := ⟨56 * t.val + p.val, by have : t.val < 1 := lt_of_lt_of_eq t.isLt N_0; omega⟩

/-- Every window over rows has the same place. -/
theorem place (t : Fin cfg0.N) (p : Fin 56) (d : Fin 128) : ((cfg0.win 1).blk t).view.emb (ix2 p d) = ix2 (row t p) d := by
  obtain ⟨h0, h1⟩ := index1 t
  refine funext fun a => Fin.ext ?_
  match a with
  | ⟨0, _⟩ => show win0_1.index t 0 * 56 + 1 * p.val = 56 * t.val + p.val; rw [h0]; omega
  | ⟨1, _⟩ => show win0_1.index t 1 * 128 + 1 * d.val = d.val; rw [h1]; omega

theorem block0 (t : Fin cfg0.N) (k : Fin 1) (p : Fin 56) (d : Fin 128) :
    (iblk m c 0 t : Vec Ideal S1x56x128 .f32) (ix3 k p d) = parts m c (ix3 k (row t p) d) := by
  unfold iblk
  refine (View.read_apply _ _).trans (congrArg (parts m c) (funext fun a => Fin.ext ?_))
  obtain ⟨h0, h1, h2⟩ := index0 t
  match a with
  | ⟨0, _⟩ => show win0_0.index t 0 * 1 + 1 * k.val = k.val; rw [h0]; omega
  | ⟨1, _⟩ => show win0_0.index t 1 * 56 + 1 * p.val = 56 * t.val + p.val; rw [h1]; omega
  | ⟨2, _⟩ => show win0_0.index t 2 * 128 + 1 * d.val = d.val; rw [h2]; omega

theorem block1 (t : Fin cfg0.N) (p : Fin 56) (d : Fin 128) : (iblk m c 1 t : Vec Ideal S56x128 .f32) (ix2 p d) = weight m c (ix2 (row t p) d) :=
  congrArg (weight m c) (place t p d)
theorem block2 (t : Fin cfg0.N) (p : Fin 56) (d : Fin 128) : (iblk m c 2 t : Vec Ideal S56x128 .f32) (ix2 p d) = mom1 m c (ix2 (row t p) d) :=
  congrArg (mom1 m c) (place t p d)
theorem block3 (t : Fin cfg0.N) (p : Fin 56) (d : Fin 128) : (iblk m c 3 t : Vec Ideal S56x128 .f32) (ix2 p d) = mom2 m c (ix2 (row t p) d) :=
  congrArg (mom2 m c) (place t p d)

/-- The point whose tile holds a row. -/
theorem cover (i : S56x128.Idx) : ∃ t : Fin cfg0.N, i ∈ ((cfg0.win 4).blk t).view.set := by
  have b0 : (i 0 : Nat) < 56 := (i 0).isLt
  have b1 : (i 1 : Nat) < 128 := (i 1).isLt
  obtain ⟨t, ht⟩ : ∃ t : Fin cfg0.N, t.val = (i 0 : Nat) / 56 := ⟨⟨(i 0 : Nat) / 56, by have : cfg0.N = 1 := N_0; omega⟩, rfl⟩
  obtain ⟨h0, h1⟩ := index1 t
  refine ⟨t, ?_⟩
  show i ∈ ((View.whole main_v0_0).slice (win0_1.rect t)).set
  rw [View.set_slice_whole, Rect.mem_set_unit]
  intro a
  match a with
  | ⟨0, _⟩ =>
    show win0_1.index t 0 * 56 ≤ (i 0 : Nat) ∧ (i 0 : Nat) < win0_1.index t 0 * 56 + 56
    rw [h0, ht]; omega
  | ⟨1, _⟩ =>
    show win0_1.index t 1 * 128 ≤ (i 1 : Nat) ∧ (i 1 : Nat) < win0_1.index t 1 * 128 + 128
    rw [h1]; omega

/-! ## What a point leaves -/

theorem grad_at (t : Fin cfg0.N) (p : Fin 56) (d : Fin 128) :
    k0_pay1 (F := Ideal) (View.ld (iblk m c 0 t) r0_0) (ix2 p d) = Adam.grad (parts m c) (ix2 (row t p) d) := by
  unfold Adam.grad
  rw [Fin.sum_univ_one]
  exact (Adam.summand _ 0 (by decide) _ _ p d).trans (block0 m c t 0 p d)

theorem array4 : (dats m 0 c).arrAt 4 cfg0.N = (Adam.grad (parts m c) : Vec Ideal S56x128 .f32) := by
  refine (dats m 0 c).arrAt_eq_of_cover 4 _ (fun t _ => ?_) fun i => (cover i).imp fun t ht => ⟨flush0_4 t, ht⟩
  rw [Value.flushed4]
  funext y
  obtain ⟨p, d, rfl⟩ : ∃ p d, y = ix2 p d := ⟨_, _, eq_ix2 y⟩
  refine Eq.trans ?_ (congrArg (Adam.grad (parts m c)) (place t p d)).symm
  show out0_4 _ _ _ _ (ix2 p d) = _
  unfold out0_4
  rw [View.canon_unit_zero Adam.hz2]
  exact grad_at m c t p d

theorem array5 : (dats m 0 c).arrAt 5 cfg0.N = (Adam.delta (parts m c) (weight m c) (mom1 m c) (mom2 m c) : Vec Ideal S56x128 .f32) := by
  refine (dats m 0 c).arrAt_eq_of_cover 5 _ (fun t _ => ?_) fun i => (cover i).imp fun t ht => ⟨flush0_5 t, ht⟩
  rw [Value.flushed5]
  funext y
  obtain ⟨p, d, rfl⟩ : ∃ p d, y = ix2 p d := ⟨_, _, eq_ix2 y⟩
  refine Eq.trans ?_ (congrArg (Adam.delta (parts m c) (weight m c) (mom1 m c) (mom2 m c)) (place t p d)).symm
  show out0_5 _ _ _ _ (ix2 p d) = _
  unfold out0_5
  rw [View.canon_unit_zero Adam.hz2, View.ld_unit_zero (S := S56x128) Adam.hz2, View.ld_unit_zero (S := S56x128) Adam.hz2, View.ld_unit_zero (S := S56x128) Adam.hz2]
  show Adam.change (k0_pay1 (F := Ideal) (View.ld (iblk m c 0 t) r0_0) (ix2 p d)) ((iblk m c 1 t : Vec Ideal S56x128 .f32) (ix2 p d))
    ((iblk m c 2 t : Vec Ideal S56x128 .f32) (ix2 p d)) ((iblk m c 3 t : Vec Ideal S56x128 .f32) (ix2 p d)) = _
  rw [grad_at, block1, block2, block3]
  rfl

theorem array6 : (dats m 0 c).arrAt 6 cfg0.N = (Adam.newFirst (parts m c) (mom1 m c) : Vec Ideal S56x128 .f32) := by
  refine (dats m 0 c).arrAt_eq_of_cover 6 _ (fun t _ => ?_) fun i => (cover i).imp fun t ht => ⟨flush0_6 t, ht⟩
  rw [Value.flushed6]
  funext y
  obtain ⟨p, d, rfl⟩ : ∃ p d, y = ix2 p d := ⟨_, _, eq_ix2 y⟩
  refine Eq.trans ?_ (congrArg (Adam.newFirst (parts m c) (mom1 m c)) (place t p d)).symm
  show out0_6 _ _ _ _ (ix2 p d) = _
  unfold out0_6
  rw [View.canon_unit_zero Adam.hz2, View.ld_unit_zero (S := S56x128) Adam.hz2]
  exact congrArg₂ Adam.first (grad_at m c t p d) (block2 m c t p d)

theorem array7 : (dats m 0 c).arrAt 7 cfg0.N = (Adam.newSecond (parts m c) (mom2 m c) : Vec Ideal S56x128 .f32) := by
  refine (dats m 0 c).arrAt_eq_of_cover 7 _ (fun t _ => ?_) fun i => (cover i).imp fun t ht => ⟨flush0_7 t, ht⟩
  rw [Value.flushed7]
  funext y
  obtain ⟨p, d, rfl⟩ : ∃ p d, y = ix2 p d := ⟨_, _, eq_ix2 y⟩
  refine Eq.trans ?_ (congrArg (Adam.newSecond (parts m c) (mom2 m c)) (place t p d)).symm
  show out0_7 _ _ _ _ (ix2 p d) = _
  unfold out0_7
  rw [View.canon_unit_zero Adam.hz2, View.ld_unit_zero (S := S56x128) Adam.hz2]
  exact congrArg₂ Adam.second (grad_at m c t p d) (block3 m c t p d)

/-- The kernel and the reference, from memories that agree on the arguments, end with the same four results. -/
theorem algebraic : @Cert.algebraic_Kernel15Ideal_Reference15Ideal Kernel15Ideal.Gen.facts Reference15Ideal.Gen.facts := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m g, ?_⟩
  refine (θ_run _ _ _).mono (fun r h c => ?_) (Reference15Ideal.Value.run m' g')
  obtain ⟨e0, e1, e2, e3⟩ := hargs c
  obtain ⟨h0, h1, h2, h3, hk⟩ := h c
  replace h0 := (h0.trans (Reference15Ideal.Read.val_main_v0_eq _)).trans (ref_grad _)
  replace h1 := (h1.trans (Reference15Ideal.Read.val_main_v24_eq _ _ _ _)).trans (ref_delta _ _ _ _)
  replace h2 := (h2.trans (Reference15Ideal.Read.val_main_v5_eq _ _)).trans (ref_first _ _)
  replace h3 := (h3.trans (Reference15Ideal.Read.val_main_v11_eq _ _)).trans (ref_second _ _)
  rw [e0] at h0
  rw [e0, e1, e2, e3] at h1
  rw [e0, e2] at h2
  rw [e0, e3] at h3
  exact ⟨h0.trans (array4 m c).symm, h1.trans (array5 m c).symm, h2.trans (array6 m c).symm, h3.trans (array7 m c).symm, hk⟩

/-- The reference's frame: its run keeps the arguments, and its signature has no semaphore. -/
theorem reference_frame : @Cert.quiescent_Reference15Ideal Reference15Ideal.Gen.facts := fun m g _ =>
  (θ_run _ _ _).mono (fun r h => ⟨fun c => (h c).2.2.2.2, sem_eq_zero_of_no_sems rfl r.2⟩) (Reference15Ideal.Value.run m g)

end Cert.AdamAdaSmall

end
-- ==== Proof.AdaBwd.lean ====
/- The gradients of the conditioning's weight and bias, and of the context's condition. -/
module

public import proofs.«01_k».proof.Defs
public import proofs.«01_k».proof.Proof.Layout
public import proofs.«01_k».proof.Proof.Products
public import proofs.«01_k».proof.Proof.Gen.Kernel16Ideal.Value
public import proofs.«01_k».proof.Proof.Gen.Kernel16
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read
public import Idealize.ShloMosaic.Adequacy
public import Idealize.ShloMosaic.Init

@[expose] public section

set_option maxRecDepth 16384

noncomputable section

namespace Cert.AdaBwd

open Cert.Kernel16Ideal Cert.Kernel16Ideal.Gen Idealize.ShloMosaic Idealize.ShloMosaic.TcCoe Idealize.ShloMosaic.ValueIdx
open Idealize.SL.Sem

/-! ## The gradients, in coordinates -/

/-- The context's row of a device: the fifth of its eight rows. -/
abbrev ctxRow (j : Fin 8) : Fin 64 := ⟨8 * j.val + 4, by omega⟩

variable (s : (⟨2, ![64, 1024]⟩ : Shape).Idx → EReal) (g : (⟨2, ![64, 6144]⟩ : Shape).Idx → EReal) (gm : (⟨2, ![64, 768]⟩ : Shape).Idx → EReal)
  (z : (⟨2, ![1, 1024]⟩ : Shape).Idx → EReal) (w : (⟨2, ![1024, 6144]⟩ : Shape).Idx → EReal)

/-- The bias's gradient: the rows' gradients, added up. -/
def bias (k : Fin 6144) : EReal := ∑ r : Fin 64, g (ix2 r k)

/-- The gradient of the context's modulation: its rows of all devices, added up. -/
def ctxGrad (k : Fin 6144) : EReal := ∑ j : Fin 8, g (ix2 (ctxRow j) k)

/-- The logistic function. -/
def gate (x : EReal) : EReal := Ideal.div 1 (1 + Ideal.exp (-x))

/-- The derivative of `x` times its logistic. -/
def slope (x : EReal) : EReal := gate x + x * (gate x * (1 - gate x))

/-- The gradient of the context's condition. -/
def condition (d : Fin 1024) : EReal := (∑ k : Fin 6144, ctxGrad g k * w (ix2 d k)) * slope (z (ix2 0 d))

/-- The word of one is one. -/
theorem one : Ideal.ofBits .f32 0x3F800000#32 = 1 := by
  have h : Ideal.ofBits .f32 0x3F800000#32 = ((1 : ℝ) : EReal) := by simp [Ideal.ofBits, Ideal.ieee]; rw [← EReal.coe_mul]; norm_num
  exact h.trans EReal.coe_one

/-! ## The kernel -/

/-- The kernel's mark of a row: whether it is the fifth of its eight. -/
def mark (r : Fin 64) : BitVec 1 :=
  let n : BitVec 32 := Scalar.select (Scalar.cmpi .eq 8#32 0#32) 1#32 8#32
  let q := IntOp.remsi .vector (BitVec.ofNat 32 r.val) n
  IntOp.cmpi .eq (Scalar.select (IntOp.andi (IntOp.xori (IntOp.cmpi .slt q 0#32) (Scalar.cmpi .slt n 0#32)) (IntOp.cmpi .ne q 0#32)) (IntOp.addi q n) q) 4#32

theorem mark_eq : ∀ r : Fin 64, mark r = if r.val % 8 = 4 then 1 else 0 := by decide +kernel

/-- A sum over marked rows is a sum over devices. -/
theorem marked (f : Fin 64 → EReal) : ∑ r : Fin 64, (if r.val % 8 = 4 then f r else 0) = ∑ j : Fin 8, f (ctxRow j) := by
  have e (x : Fin 8 × Fin 8) : (finProdFinEquiv x).val = x.2.val + 8 * x.1.val := rfl
  rw [← (finProdFinEquiv (m := 8) (n := 8)).sum_comp, Fintype.sum_prod_type]
  refine Finset.sum_congr rfl fun j _ => ?_
  rw [Finset.sum_eq_single (4 : Fin 8)]
  · have h4 : (finProdFinEquiv (j, (4 : Fin 8))).val = 4 + 8 * j.val := rfl
    rw [if_pos (by rw [h4]; omega)]
    exact congrArg f (Fin.ext (by rw [h4]; show 4 + 8 * j.val = 8 * j.val + 4; omega))
  · intro p _ hp
    refine if_neg fun h => hp (Fin.ext ?_)
    replace h : (p.val + 8 * j.val) % 8 = 4 := by rw [← e (j, p)]; exact h
    show p.val = 4
    have := p.isLt
    omega
  · exact fun h => absurd (Finset.mem_univ _) h

theorem rowsSum (v : FVec Ideal S64x6144 .f32) (h : Shape.Reduces S64x6144 [0] S6144) (hf : FTy.f32 = FTy.f32 ∨ FTy.f32 = FTy.bf16) (ha : (0x00000000#32 : BitVec 32) = 0x00000000#32) (k : Fin 6144) :
    multiReduction .add [0] S6144 v 0x00000000#32 h hf ha (ix1 k) = ∑ r : Fin 64, v (ix2 r k) :=
  (Ideal.multiReduction_add_single v _ _ _ _ _).trans (Finset.sum_congr rfl fun r _ => congrArg v (funext fun a => Fin.ext (by
    match a with
    | ⟨0, _⟩ => rfl
    | ⟨1, _⟩ => rfl)))

theorem prodLast (a : FVec Ideal S1x6144 .bf16) (b : FVec Ideal S1024x6144 .bf16) (u : Fin 1) (d : Fin 1024) :
    matmul dot_S1x6144_S1024x6144_S1x1024_1_1_0_0_n_n none a b (constant S1x1024 .f32 0x00000000#32) (ix2 u d)
      = ∑ k : Fin 6144, a (ix2 u k) * b (ix2 d k) := by
  simp only [matmul]
  rw [Ideal.matmul_constant_zero_apply, ← Equiv.sum_comp (contrEquiv1 _ 6144 rfl rfl).symm]
  refine Finset.sum_congr rfl fun k _ => ?_
  have hk := contrEquiv1_symm_val dot_S1x6144_S1024x6144_S1x1024_1_1_0_0_n_n 6144 rfl rfl k
  congr 2 <;> refine funext fun a => Fin.ext ?_
  · match a with
    | ⟨0, _⟩ => rfl
    | ⟨1, _⟩ => exact hk
  · match a with
    | ⟨0, _⟩ => rfl
    | ⟨1, _⟩ => exact hk

theorem kernel_bias (v : FVec Ideal S64x6144 .f32) (u : Fin 1) (k : Fin 6144) : k0_pay3 (F := Ideal) v (ix2 u k) = bias v k :=
  (Tile.toRow _ _ u k).trans (rowsSum v _ _ _ k)

theorem kernel_ctx (v : FVec Ideal S64x6144 .f32) (u : Fin 1) (k : Fin 6144) : k0_pay4 (F := Ideal) v (ix2 u k) = ctxGrad v k := by
  unfold k0_pay4
  refine (Tile.toRow _ _ u k).trans ((rowsSum _ _ _ _ k).trans ((Finset.sum_congr rfl fun r _ => ?_).trans (marked fun r => v (ix2 r k))))
  rw [ValueIdx.select_apply, Tile.column (by decide), shapeCast_self]
  have hi : iota .tc S64x1 32 [0] iota_S64x1_d0_w32 = fun i => BitVec.ofNat 32 (i 0).val := funext fun i => iota_single_apply _ _ _ _ _ i
  rw [hi]
  show Scalar.select (mark r) (v (ix2 r k)) (Ideal.ofBits .f32 0x00000000#32) = _
  rw [mark_eq, Ideal.ofBits_zero_f32]
  unfold Scalar.select
  by_cases h : r.val % 8 = 4
  · rw [if_pos h, if_pos h, if_pos rfl]
  · rw [if_neg h, if_neg h, if_neg (by decide)]

theorem kernel_condition (v : FVec Ideal S64x6144 .f32) (b : FVec Ideal S1024x6144 .bf16) (x : FVec Ideal S1x1024 .f32) (d : Fin 1024) :
    k0_pay1 (F := Ideal) (k0_pay4 (F := Ideal) v) b x (ix2 0 d) = condition v x b d := by
  unfold k0_pay1
  refine (ValueIdx.mulf_apply _ _ _).trans (congrArg₂ (· * ·) ?_ ?_)
  · refine (prodLast _ _ 0 d).trans (Finset.sum_congr rfl fun k _ => congrArg (· * b (ix2 d k)) ?_)
    exact kernel_ctx v 0 k
  · show Ideal.div (Ideal.ofBits .f32 0x3F800000#32) (Ideal.ofBits .f32 0x3F800000#32 + Ideal.exp (Ideal.ofBits .f32 0x00000000#32 - x (ix2 0 d)))
        + x (ix2 0 d) * Ideal.div (Ideal.ofBits .f32 0x3F800000#32) (Ideal.ofBits .f32 0x3F800000#32 + Ideal.exp (Ideal.ofBits .f32 0x00000000#32 - x (ix2 0 d)))
          * (Ideal.ofBits .f32 0x3F800000#32 - Ideal.div (Ideal.ofBits .f32 0x3F800000#32) (Ideal.ofBits .f32 0x3F800000#32 + Ideal.exp (Ideal.ofBits .f32 0x00000000#32 - x (ix2 0 d)))) = _
    rw [Ideal.ofBits_zero_f32, one, zero_sub, mul_assoc]
    rfl

/-! ## The reference -/

section
open Reference16Ideal.Read
variable (a : FVec Ideal S64x1024 .f32) (v : FVec Ideal S64x6144 .f32) (e : FVec Ideal S64x768 .f32) (x : FVec Ideal S1x1024 .f32) (b : FVec Ideal S1024x6144 .bf16)

theorem ref_weight (i : Reference16Ideal.S1024x768.Idx) : val_main_v18 (F := Ideal) a e i = Products.gradProduct a e i := by
  rw [val_main_v18_apply, val_main_v17_apply]
  refine Finset.sum_congr rfl fun q _ => (mul_comm _ _).trans (congrArg₂ (· * ·) (congrArg a (eq_ix2 _)) (congrArg e (eq_ix2 _)))

theorem ref_bias (u : Fin 1) (k : Fin 6144) : val_main_v20 (F := Ideal) v (ix2 u k) = bias v k := by
  rw [val_main_v20_apply, val_main_v19_apply, val_main_cst_3_apply, Ideal.ofBits_def, Ideal.ofBits_zero_f32, zero_add]
  exact Finset.sum_congr rfl fun r _ => congrArg v (eq_ix2 _)

theorem ref_ctx (i : Reference16Ideal.S6144.Idx) : val_main_v11 (F := Ideal) v i = ctxGrad v (i 0) := by
  rw [val_main_v11_apply, val_main_cst_1_apply, Ideal.ofBits_def, Ideal.ofBits_zero_f32, zero_add]
  refine Finset.sum_congr rfl fun j _ => ?_
  rw [val_main_v10_apply, val_main_v9_apply, val_main_v8_apply]
  refine congrArg v (funext fun c => Fin.ext ?_)
  have hi : (i 0).val < 6144 := (i 0).isLt
  have hj := j.isLt
  match c with
  | ⟨0, _⟩ =>
    show (((j.val * 6144 + (i 0).val) / 6144 * 8 + (4 + 0)) * 6144 + (j.val * 6144 + (i 0).val) % 6144) / 6144 = 8 * j.val + 4
    omega
  | ⟨1, _⟩ =>
    show (((j.val * 6144 + (i 0).val) / 6144 * 8 + (4 + 0)) * 6144 + (j.val * 6144 + (i 0).val) % 6144) % 6144 = (i 0).val
    omega

theorem ref_slope (i : Reference16Ideal.S1024.Idx) : val_main_v15 (F := Ideal) x i = slope (x (ix2 0 (i 0))) := by
  have hz : val_main_v13 (F := Ideal) x i = x (ix2 0 (i 0)) := by
    rw [val_main_v13_apply]
    refine congrArg x (funext fun c => Fin.ext ?_)
    have hi : (i 0).val < 1024 := (i 0).isLt
    match c with
    | ⟨0, _⟩ => rfl
    | ⟨1, _⟩ => exact Nat.mod_eq_of_lt hi
  have hg : val_main_v14_2 (F := Ideal) x i = gate (x (ix2 0 (i 0))) := by
    rw [val_main_v14_2_apply, val_main_call1_v4_apply, val_main_call1_cst_0_apply, val_main_call1_v3_apply, val_main_call1_v2_apply, val_main_call1_cst_apply,
      val_main_call1_v1_apply, val_main_call1_v0_apply, hz]
    show Ideal.div (Ideal.ofBits .f32 0x3F800000#32) (Ideal.ofBits .f32 0x3F800000#32 + Ideal.exp (-x (ix2 0 (i 0)))) = _
    rw [one]
    rfl
  rw [val_main_v15_apply, val_main_call2_v3_apply, val_main_call2_v4_apply, val_main_call2_v2_apply, val_main_call2_v1_apply, val_main_call2_v0_apply,
    val_main_cst_2_apply, val_main_v14_1_apply, val_main_call1_v7_apply, val_main_call1_v6_apply, val_main_call1_cst_1_apply, hz, hg]
  show Ideal.ofBits .f32 0x3F800000#32 * gate (x (ix2 0 (i 0)))
      + x (ix2 0 (i 0)) * Ideal.ofBits .f32 0x3F800000#32 * (gate (x (ix2 0 (i 0))) * (Ideal.ofBits .f32 0x3F800000#32 - gate (x (ix2 0 (i 0))))) = _
  rw [one, one_mul, mul_one]
  rfl

theorem ref_condition (u : Fin 1) (d : Fin 1024) : val_main_v21 (F := Ideal) v x b (ix2 u d) = condition v x b d := by
  rw [val_main_v21_apply, val_main_v16_apply, val_main_v12_apply, ref_slope]
  refine congrArg (· * slope (x (ix2 0 d))) (Finset.sum_congr rfl fun k _ => congrArg₂ (· * ·) (ref_ctx v _) ?_)
  exact congrArg b (eq_ix2 _)

end

/-! ## The claims -/

/-- The kernel and the reference, from memories that agree on the arguments, end with the same three results. -/
theorem algebraic : @Cert.algebraic_Kernel16Ideal_Reference16Ideal Kernel16Ideal.Gen.facts Reference16Ideal.Gen.facts := by
  intro m g m' g' _ hargs
  refine ⟨_, _, _, Kernel16Ideal.Value.run m g, ?_⟩
  refine (θ_run _ _ _).mono (fun r h c => ?_) (Reference16Ideal.Value.run m' g')
  obtain ⟨e0, e1, e2, e3, e4⟩ := hargs c
  obtain ⟨h0, h1, h2, hk⟩ := h c
  replace h0 := h0.trans (Reference16Ideal.Read.val_main_v18_eq _ _)
  replace h1 := h1.trans (Reference16Ideal.Read.val_main_v20_eq _)
  replace h2 := h2.trans (Reference16Ideal.Read.val_main_v21_eq _ _ _)
  rw [e0, e2] at h0
  rw [e1] at h1
  rw [e1, e3, e4] at h2
  refine ⟨h0.trans (funext fun i => ?_), h1.trans (funext fun i => ?_), h2.trans (funext fun i => ?_), hk⟩
  · exact (ref_weight _ _ i).trans (Products.prodFirst _ _ _ i).symm
  · obtain ⟨u, k, rfl⟩ : ∃ u k, i = ix2 u k := ⟨_, _, eq_ix2 i⟩
    exact (ref_bias _ u k).trans (kernel_bias _ u k).symm
  · obtain ⟨u, d, rfl⟩ : ∃ u d, i = ix2 u d := ⟨_, _, eq_ix2 i⟩
    obtain rfl : u = 0 := Subsingleton.elim _ _
    exact (ref_condition _ _ _ 0 d).trans (kernel_condition _ _ _ d).symm

/-- The reference's frame: its run keeps the arguments, and its signature has no semaphore. -/
theorem reference_frame : @Cert.quiescent_Reference16Ideal Reference16Ideal.Gen.facts := fun m g _ =>
  (θ_run _ _ _).mono (fun r h => ⟨fun c => (h c).2.2.2, sem_eq_zero_of_no_sems rfl r.2⟩) (Reference16Ideal.Value.run m g)

end Cert.AdaBwd

end
-- ==== Proof.AdaFwd.lean ====
/- The conditioning's forward pass: the silu of its rows, and their product with the weight plus the bias. -/
module

public import proofs.«01_k».proof.Defs
public import proofs.«01_k».proof.Proof.AdaBwd
public import proofs.«01_k».proof.Proof.Gen.Kernel17Ideal.Value
public import proofs.«01_k».proof.Proof.Gen.Kernel17
public import proofs.«01_k».proof.Proof.Gen.Kernel17Ideal
public import proofs.«01_k».proof.Proof.Gen.Reference17Ideal
public import proofs.«01_k».proof.Proof.Gen.Reference17Ideal.Run
public import proofs.«01_k».proof.Proof.Gen.Reference17Ideal.Read
public import Idealize.ShloMosaic.Adequacy
public import Idealize.ShloMosaic.Init

@[expose] public section

set_option maxRecDepth 16384

noncomputable section

namespace Cert.AdaFwd

open Cert.Kernel17Ideal Cert.Kernel17Ideal.Gen Idealize.ShloMosaic Idealize.ShloMosaic.TcCoe Idealize.ShloMosaic.ValueIdx
open Idealize.SL.Sem

variable (m : (ℓ : Loc nD τ sig) → Buf (Elt Ideal) ℓ) (c : Dev nD)

abbrev rows : (⟨2, ![8, 1024]⟩ : Shape).Idx → EReal := (m ((c.tc : Thread nD τ).loc main_arg0) : Vec Ideal S8x1024 .f32)
abbrev weight : (⟨2, ![1024, 6144]⟩ : Shape).Idx → EReal := (m ((c.tc : Thread nD τ).loc main_arg1) : Vec Ideal S1024x6144 .bf16)
abbrev shift : (⟨2, ![1, 6144]⟩ : Shape).Idx → EReal := (m ((c.tc : Thread nD τ).loc main_arg2) : Vec Ideal S1x6144 .f32)

/-! ## What is computed -/

/-- A value times its logistic. -/
def silu (x : EReal) : EReal := x * AdaBwd.gate x

def gated (x : (⟨2, ![8, 1024]⟩ : Shape).Idx → EReal) (i : (⟨2, ![8, 1024]⟩ : Shape).Idx) : EReal := silu (x i)

/-- The modulations: the silus times the weight, plus the bias. -/
def modulation (x : (⟨2, ![8, 1024]⟩ : Shape).Idx → EReal) (w : (⟨2, ![1024, 6144]⟩ : Shape).Idx → EReal) (b : (⟨2, ![1, 6144]⟩ : Shape).Idx → EReal)
    (i : (⟨2, ![8, 6144]⟩ : Shape).Idx) : EReal :=
  (∑ d : Fin 1024, silu (x (ix2 (i 0) d)) * w (ix2 d (i 1))) + b (ix2 0 (i 1))

/-! ## The blocks -/

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = 0 := by decide +kernel
theorem index4 : ∀ t : Fin grid0.N, win0_4.index t 0 = 0 ∧ win0_4.index t 1 = t.val := by decide +kernel

/-- Column `q` of a point's block, among all the columns. -/
def col (t : Fin cfg0.N) (q : Fin 1024) : Fin 6144 := ⟨1024 * t.val + q.val, by have : t.val < 6 := lt_of_lt_of_eq t.isLt N_0; omega⟩

theorem block0 (t : Fin cfg0.N) (p : Fin 8) (d : Fin 1024) : (iblk m c 0 t : Vec Ideal S8x1024 .f32) (ix2 p d) = rows m c (ix2 p d) := by
  unfold iblk
  refine (View.read_apply _ _).trans (congrArg (rows m c) (funext fun a => Fin.ext ?_))
  obtain ⟨h0, h1⟩ := index0 t
  match a with
  | ⟨0, _⟩ => show win0_0.index t 0 * 8 + 1 * p.val = p.val; rw [h0]; omega
  | ⟨1, _⟩ => show win0_0.index t 1 * 1024 + 1 * d.val = d.val; rw [h1]; omega

theorem block1 (t : Fin cfg0.N) (d q : Fin 1024) : (iblk m c 1 t : Vec Ideal S1024x1024 .bf16) (ix2 d q) = weight m c (ix2 d (col t q)) := by
  unfold iblk
  refine (View.read_apply _ _).trans (congrArg (weight m c) (funext fun a => Fin.ext ?_))
  obtain ⟨h0, h1⟩ := index1 t
  match a with
  | ⟨0, _⟩ => show win0_1.index t 0 * 1024 + 1 * d.val = d.val; rw [h0]; omega
  | ⟨1, _⟩ => show win0_1.index t 1 * 1024 + 1 * q.val = 1024 * t.val + q.val; rw [h1]; omega

theorem block2 (t : Fin cfg0.N) (q : Fin 1024) : (iblk m c 2 t : Vec Ideal S1x1024 .f32) (ix2 0 q) = shift m c (ix2 0 (col t q)) := by
  unfold iblk
  refine (View.read_apply _ _).trans (congrArg (shift m c) (funext fun a => Fin.ext ?_))
  obtain ⟨h0, h1⟩ := index2 t
  match a with
  | ⟨0, _⟩ => show win0_2.index t 0 * 1 + 1 * 0 = 0; rw [h0]
  | ⟨1, _⟩ => show win0_2.index t 1 * 1024 + 1 * q.val = 1024 * t.val + q.val; rw [h1]; omega

theorem read3 (t : Fin cfg0.N) (G : Buf (Elt Ideal) ((c.tc : Thread nD τ).loc main_v0_0)) (p : Fin 8) (d : Fin 1024) :
    ((cfg0.win 3).blk t).view.read (Elt Ideal) G (ix2 p d) = (G : Vec Ideal S8x1024 .f32) (ix2 p d) := by
  refine (View.read_apply _ _).trans (congrArg (G : S8x1024.Idx → Elt Ideal .f32) (funext fun a => Fin.ext ?_))
  obtain ⟨h0, h1⟩ := index3 t
  match a with
  | ⟨0, _⟩ => show win0_3.index t 0 * 8 + 1 * p.val = p.val; rw [h0]; omega
  | ⟨1, _⟩ => show win0_3.index t 1 * 1024 + 1 * d.val = d.val; rw [h1]; omega

theorem read4 (t : Fin cfg0.N) (G : Buf (Elt Ideal) ((c.tc : Thread nD τ).loc main_v0_1)) (p : Fin 8) (q : Fin 1024) :
    ((cfg0.win 4).blk t).view.read (Elt Ideal) G (ix2 p q) = (G : Vec Ideal S8x6144 .f32) (ix2 p (col t q)) := by
  refine (View.read_apply _ _).trans (congrArg (G : S8x6144.Idx → Elt Ideal .f32) (funext fun a => Fin.ext ?_))
  obtain ⟨h0, h1⟩ := index4 t
  match a with
  | ⟨0, _⟩ => show win0_4.index t 0 * 8 + 1 * p.val = p.val; rw [h0]; omega
  | ⟨1, _⟩ => show win0_4.index t 1 * 1024 + 1 * q.val = 1024 * t.val + q.val; rw [h1]; omega

/-- The last point writes the silus back, all of them. -/
theorem cover3 (i : S8x1024.Idx) : ∃ t : Fin cfg0.N, (cfg0.win 3).flush t = true ∧ i ∈ ((cfg0.win 3).blk t).view.set := by
  have b0 : (i 0 : Nat) < 8 := (i 0).isLt
  have b1 : (i 1 : Nat) < 1024 := (i 1).isLt
  obtain ⟨t, ht⟩ : ∃ t : Fin cfg0.N, t.val = 5 := ⟨⟨5, by have : cfg0.N = 6 := N_0; omega⟩, rfl⟩
  obtain ⟨h0, h1⟩ := index3 t
  refine ⟨t, (flush0_3 t).mpr (by rw [ht]), ?_⟩
  show i ∈ ((View.whole main_v0_0).slice (win0_3.rect t)).set
  rw [View.set_slice_whole, Rect.mem_set_unit]
  intro a
  match a with
  | ⟨0, _⟩ =>
    show win0_3.index t 0 * 8 ≤ (i 0 : Nat) ∧ (i 0 : Nat) < win0_3.index t 0 * 8 + 8
    rw [h0]; omega
  | ⟨1, _⟩ =>
    show win0_3.index t 1 * 1024 ≤ (i 1 : Nat) ∧ (i 1 : Nat) < win0_3.index t 1 * 1024 + 1024
    rw [h1]; omega

/-- The point whose block holds a column. -/
theorem cover4 (i : S8x6144.Idx) : ∃ t : Fin cfg0.N, (cfg0.win 4).flush t = true ∧ i ∈ ((cfg0.win 4).blk t).view.set := by
  have b0 : (i 0 : Nat) < 8 := (i 0).isLt
  have b1 : (i 1 : Nat) < 6144 := (i 1).isLt
  obtain ⟨t, ht⟩ : ∃ t : Fin cfg0.N, t.val = (i 1 : Nat) / 1024 := ⟨⟨(i 1 : Nat) / 1024, by have : cfg0.N = 6 := N_0; omega⟩, rfl⟩
  obtain ⟨h0, h1⟩ := index4 t
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 8 ≤ (i 0 : Nat) ∧ (i 0 : Nat) < win0_4.index t 0 * 8 + 8
    rw [h0]; omega
  | ⟨1, _⟩ =>
    show win0_4.index t 1 * 1024 ≤ (i 1 : Nat) ∧ (i 1 : Nat) < win0_4.index t 1 * 1024 + 1024
    rw [h1, ht]; omega

/-! ## What a point leaves -/

theorem hz : (![0, 0] : Fin 2 → Nat) = fun _ => 0 := funext fun a => by fin_cases a <;> rfl

theorem silu_at (x : FVec Ideal S8x1024 .f32) (i : S8x1024.Idx) : k0_pay1 (F := Ideal) x i = silu (x i) := by
  show x i * Ideal.div (Ideal.ofBits .f32 0x3F800000#32) (Ideal.ofBits .f32 0x3F800000#32 + Ideal.exp (Ideal.ofBits .f32 0x00000000#32 - x i)) = _
  rw [Ideal.ofBits_zero_f32, AdaBwd.one, zero_sub]
  rfl

theorem product (a : FVec Ideal S8x1024 .bf16) (w : FVec Ideal S1024x1024 .bf16) (p : Fin 8) (q : Fin 1024) :
    matmul dot_S8x1024_S1024x1024_S8x1024_1_0_0_1_n_n none a w (constant S8x1024 .f32 0x00000000#32) (ix2 p q)
      = ∑ d : Fin 1024, a (ix2 p d) * w (ix2 d q) := by
  simp only [matmul]
  rw [Ideal.matmul_constant_zero_apply, ← Equiv.sum_comp (contrEquiv1 _ 1024 rfl rfl).symm]
  refine Finset.sum_congr rfl fun d _ => ?_
  have hd := contrEquiv1_symm_val dot_S8x1024_S1024x1024_S8x1024_1_0_0_1_n_n 1024 rfl rfl d
  congr 2 <;> refine funext fun e => Fin.ext ?_
  · match e with
    | ⟨0, _⟩ => rfl
    | ⟨1, _⟩ => exact hd
  · match e with
    | ⟨0, _⟩ => exact hd
    | ⟨1, _⟩ => rfl

theorem modulation_at (t : Fin cfg0.N) (p : Fin 8) (q : Fin 1024) :
    k0_pay2 (F := Ideal) (iblk m c 0 t) (iblk m c 1 t) (iblk m c 2 t) (ix2 p q) = modulation (rows m c) (weight m c) (shift m c) (ix2 p (col t q)) := by
  unfold k0_pay2
  refine (ValueIdx.addf_apply _ _ _).trans (congrArg₂ (· + ·) ((product _ _ p q).trans (Finset.sum_congr rfl fun d _ => ?_)) ?_)
  · refine congrArg₂ (· * ·) ((silu_at _ _).trans (congrArg silu (block0 m c t p d))) (block1 m c t d q)
  · exact (Tile.row (by decide) _ _ p q).trans (block2 m c t q)

theorem array3 : (dats m 0 c).arrAt 3 cfg0.N = (gated (rows m c) : Vec Ideal S8x1024 .f32) := by
  refine (dats m 0 c).arrAt_eq_of_cover 3 _ (fun t _ => ?_) fun i => cover3 i
  rw [Value.flushed3]
  funext y
  obtain ⟨p, d, rfl⟩ : ∃ p d, y = ix2 p d := ⟨_, _, eq_ix2 y⟩
  refine Eq.trans ?_ (read3 c t _ p d).symm
  show out0_3 _ _ _ (ix2 p d) = _
  unfold out0_3
  rw [View.canon_unit_zero hz, View.ld_unit_zero (S := S8x1024) hz]
  exact (silu_at _ _).trans (congrArg silu (block0 m c t p d))

theorem array4 : (dats m 0 c).arrAt 4 cfg0.N = (modulation (rows m c) (weight m c) (shift m c) : Vec Ideal S8x6144 .f32) := by
  refine (dats m 0 c).arrAt_eq_of_cover 4 _ (fun t _ => ?_) fun i => cover4 i
  rw [Value.flushed4]
  funext y
  obtain ⟨p, q, rfl⟩ : ∃ p q, y = ix2 p q := ⟨_, _, eq_ix2 y⟩
  refine Eq.trans ?_ (read4 c t _ p q).symm
  show out0_4 _ _ _ (ix2 p q) = _
  unfold out0_4
  rw [View.canon_unit_zero hz, View.ld_unit_zero (S := S8x1024) hz, View.ld_unit_zero (S := S1024x1024) hz, View.ld_unit_zero (S := S1x1024) hz]
  exact modulation_at m c t p q

/-! ## The reference -/

section
open Reference17Ideal.Read
variable (x : FVec Ideal Reference17Ideal.S8x1024 .f32) (w : FVec Ideal Reference17Ideal.S1024x6144 .bf16) (b : FVec Ideal Reference17Ideal.S1x6144 .f32)

theorem ref_gated : val_main_v0 (F := Ideal) x = (gated x : Vec Ideal Reference17Ideal.S8x1024 .f32) := by
  funext i
  rw [val_main_v0_apply, val_main_call0_v5_apply, val_main_call0_v4_apply, val_main_call0_cst_0_apply, val_main_call0_v3_apply, val_main_call0_v2_apply,
    val_main_call0_cst_apply, val_main_call0_v1_apply, val_main_call0_v0_apply]
  show x i * Ideal.div (Ideal.ofBits .f32 0x3F800000#32) (Ideal.ofBits .f32 0x3F800000#32 + Ideal.exp (-x i)) = _
  rw [AdaBwd.one]
  rfl

theorem ref_modulation : val_main_v4 (F := Ideal) x w b = (modulation x w b : Vec Ideal Reference17Ideal.S8x6144 .f32) := by
  funext i
  rw [val_main_v4_apply, val_main_v2_apply, val_main_v3_apply, ref_gated]
  refine congrArg₂ (· + ·) (Finset.sum_congr rfl fun d _ => congrArg₂ (· * ·) (congrArg (gated x) (eq_ix2 _)) (congrArg w (eq_ix2 _))) (congrArg b (eq_ix2 _))

end

/-! ## The claims -/

/-- The kernel and the reference, from memories that agree on the arguments, end with the same two results. -/
theorem algebraic : @Cert.algebraic_Kernel17Ideal_Reference17Ideal Kernel17Ideal.Gen.facts Reference17Ideal.Gen.facts := by
  intro m g m' g' _ hargs
  refine ⟨fun c => (dats m 0 c).arrAt 3 cfg0.N, fun c => (dats m 0 c).arrAt 4 cfg0.N, Value.run_blocks m g, ?_⟩
  refine (θ_run _ _ _).mono (fun r h c => ?_) (Reference17Ideal.Value.run m' g')
  obtain ⟨e0, e1, e2⟩ := hargs c
  obtain ⟨h0, h1, hk⟩ := h c
  replace h0 := (h0.trans (Reference17Ideal.Read.val_main_v0_eq _)).trans (ref_gated _)
  replace h1 := (h1.trans (Reference17Ideal.Read.val_main_v4_eq _ _ _)).trans (ref_modulation _ _ _)
  rw [e0] at h0
  rw [e0, e1, e2] at h1
  exact ⟨h0.trans (array3 m c).symm, h1.trans (array4 m c).symm, hk⟩

/-- The reference's frame: its run keeps the arguments, and its signature has no semaphore. -/
theorem reference_frame : @Cert.quiescent_Reference17Ideal Reference17Ideal.Gen.facts := fun m g _ =>
  (θ_run _ _ _).mono (fun r h => ⟨fun c => (h c).2.2, sem_eq_zero_of_no_sems rfl r.2⟩) (Reference17Ideal.Value.run m g)

end Cert.AdaFwd

end
-- ==== Proof.BwdCases.lean ====
/- The input projection's backward pass: what the body leaves in each output's block, as the body's expressions of the
   blocks it reads, at the grid's first point (A), at a later tile of a batch (B) and at the first tile of a later batch (C). -/
module

public import proofs.«01_k».proof.Proof.Gen.Kernel12Ideal.Frame
public import Idealize.ShloMosaic.Lib.ValueIdx
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.BwdCases

open Cert.Kernel12Ideal Cert.Kernel12Ideal.Gen Idealize.ShloMosaic Idealize.ShloMosaic.TcCoe Idealize.ShloMosaic.ValueIdx
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The partial loads -/

/-- The shifted lanes of a tile, the lanes that are not shifted, the last row of the block before, the first row of the
    block after and the scale's row of a tile's modulation. -/
def shiftedLanes (x0 : Vec F S1x256x3072 .f32) : Vec F S1x256x2048 .f32 :=
  fun k => x0 (ix3 0 (k 1) ⟨(k 2 : Nat), Nat.lt_trans (show (k 2 : Nat) < 2048 from (k 2).isLt) (by decide)⟩)
def keptLanes (x0 : Vec F S1x256x3072 .f32) : Vec F S1x256x1024 .f32 :=
  fun k => x0 (ix3 0 (k 1) ⟨2048 + (k 2 : Nat), Nat.add_lt_add_left (show (k 2 : Nat) < 1024 from (k 2).isLt) 2048⟩)
def lastRow (x1 : Vec F S1x8x2048 .f32) : Vec F S1x1x2048 .f32 := fun k => x1 (ix3 0 7 (k 2))
def firstRow (x2 : Vec F S1x8x2048 .f32) : Vec F S1x1x2048 .f32 := fun k => x2 (ix3 0 0 (k 2))
def scaleRow (x5 : Vec F S1x1x2x1024 .f32) : Vec F S1x1x1x1024 .f32 := fun k => x5 (ix4 0 0 1 (k 3))

theorem load_shiftedLanes (x0 : Vec F S1x256x3072 .f32) (inb) :
    (View.ld x0 (Rect.unit ![0, 0, 0] ![1, 256, 2048] inb) : Vec F S1x256x2048 .f32) = shiftedLanes x0 :=
  funext fun i => View.ld_unit_apply_of x0 _ _ inb i _ fun a => by
    match a with
    | ⟨0, _⟩ => have h : (i 0 : Nat) < 1 := (i 0).isLt; show 0 = 0 + (i 0 : Nat); omega
    | ⟨1, _⟩ => show (i 1 : Nat) = 0 + (i 1 : Nat); omega
    | ⟨2, _⟩ => show (i 2 : Nat) = 0 + (i 2 : Nat); omega

theorem load_keptLanes (x0 : Vec F S1x256x3072 .f32) (inb) :
    (View.ld x0 (Rect.unit ![0, 0, 2048] ![1, 256, 1024] inb) : Vec F S1x256x1024 .f32) = keptLanes x0 :=
  funext fun i => View.ld_unit_apply_of x0 _ _ inb i _ fun a => by
    match a with
    | ⟨0, _⟩ => have h : (i 0 : Nat) < 1 := (i 0).isLt; show 0 = 0 + (i 0 : Nat); omega
    | ⟨1, _⟩ => show (i 1 : Nat) = 0 + (i 1 : Nat); omega
    | ⟨2, _⟩ => show 2048 + (i 2 : Nat) = 2048 + (i 2 : Nat); omega

theorem load_lastRow (x1 : Vec F S1x8x2048 .f32) (inb) :
    (View.ld x1 (Rect.unit ![0, 7, 0] ![1, 1, 2048] inb) : Vec F S1x1x2048 .f32) = lastRow x1 :=
  funext fun i => View.ld_unit_apply_of x1 _ _ inb i _ fun a => by
    match a with
    | ⟨0, _⟩ => have h : (i 0 : Nat) < 1 := (i 0).isLt; show 0 = 0 + (i 0 : Nat); omega
    | ⟨1, _⟩ => have h : (i 1 : Nat) < 1 := (i 1).isLt; show 7 = 7 + (i 1 : Nat); omega
    | ⟨2, _⟩ => show (i 2 : Nat) = 0 + (i 2 : Nat); omega

theorem load_firstRow (x2 : Vec F S1x8x2048 .f32) (inb) :
    (View.ld x2 (Rect.unit ![0, 0, 0] ![1, 1, 2048] inb) : Vec F S1x1x2048 .f32) = firstRow x2 :=
  funext fun i => View.ld_unit_apply_of x2 _ _ inb i _ fun a => by
    match a with
    | ⟨0, _⟩ => have h : (i 0 : Nat) < 1 := (i 0).isLt; show 0 = 0 + (i 0 : Nat); omega
    | ⟨1, _⟩ => have h : (i 1 : Nat) < 1 := (i 1).isLt; show 0 = 0 + (i 1 : Nat); omega
    | ⟨2, _⟩ => show (i 2 : Nat) = 0 + (i 2 : Nat); omega

theorem load_scaleRow (x5 : Vec F S1x1x2x1024 .f32) (inb) :
    (View.ld x5 (Rect.unit ![0, 0, 1, 0] ![1, 1, 1, 1024] inb) : Vec F S1x1x1x1024 .f32) = scaleRow x5 :=
  funext fun i => View.ld_unit_apply_of x5 _ _ inb i _ fun a => by
    match a with
    | ⟨0, _⟩ => have h : (i 0 : Nat) < 1 := (i 0).isLt; show 0 = 0 + (i 0 : Nat); omega
    | ⟨1, _⟩ => have h : (i 1 : Nat) < 1 := (i 1).isLt; show 0 = 0 + (i 1 : Nat); omega
    | ⟨2, _⟩ => have h : (i 2 : Nat) < 1 := (i 2).isLt; show 1 = 1 + (i 2 : Nat); omega
    | ⟨3, _⟩ => show (i 3 : Nat) = 0 + (i 3 : Nat); omega

/-! ## The body's named values, of the blocks of the eleven inputs -/

/-- The tile's rows. -/
def rows (i : grid0.Coords) (x3 : Vec F S1x256x1024 .f32) (x4 : Vec F S1x256x1024 .f32) : FVec F S256x1024 .f32 := k0_pay3 i x3 x4

/-- The gradient of the projection, of the shifted rows' gradient. -/
def unshifted (i : grid0.Coords) (x0 : Vec F S1x256x3072 .f32) (x1 : Vec F S1x8x2048 .f32) (x2 : Vec F S1x8x2048 .f32) (x8 : Vec F S1x2048 .f32) (x9 : Vec F S1x2048 .f32) : FVec F S256x3072 .bf16 :=
  k0_pay9 x8 x9 (k0_pay4 (shiftedLanes x0)) (k0_pay5 i (lastRow x1)) (k0_pay6 i (firstRow x2)) (iota .tc S256x1 32 [0] iota_S256x1_d0_w32) k0_pay7
    (k0_pay8 (shiftedLanes x0)) (keptLanes x0)

/-- The gradient of the normed and modulated rows. -/
def back (i : grid0.Coords) (x0 : Vec F S1x256x3072 .f32) (x1 : Vec F S1x8x2048 .f32) (x2 : Vec F S1x8x2048 .f32) (x7 : Vec F S1024x3072 .bf16) (x8 : Vec F S1x2048 .f32) (x9 : Vec F S1x2048 .f32) : FVec F S256x1024 .f32 :=
  k0_pay11 x8 x9 (k0_pay4 (shiftedLanes x0)) (k0_pay5 i (lastRow x1)) (k0_pay6 i (firstRow x2)) (iota .tc S256x1 32 [0] iota_S256x1_d0_w32) k0_pay7
    (k0_pay8 (shiftedLanes x0)) (keptLanes x0) x7

def w12 (i : grid0.Coords) (x0 : Vec F S1x256x3072 .f32) (x1 : Vec F S1x8x2048 .f32) (x2 : Vec F S1x8x2048 .f32) (x8 : Vec F S1x2048 .f32) (x9 : Vec F S1x2048 .f32) : FVec F S1x256x3072 .bf16 :=
  k0_pay10 x8 x9 (k0_pay4 (shiftedLanes x0)) (k0_pay5 i (lastRow x1)) (k0_pay6 i (firstRow x2)) (iota .tc S256x1 32 [0] iota_S256x1_d0_w32) k0_pay7
    (k0_pay8 (shiftedLanes x0)) (keptLanes x0)

def w13 (i : grid0.Coords) (x0 : Vec F S1x256x3072 .f32) (x1 : Vec F S1x8x2048 .f32) (x2 : Vec F S1x8x2048 .f32) (x3 : Vec F S1x256x1024 .f32) (x4 : Vec F S1x256x1024 .f32) (x6 : Vec F S1x1024 .f32) (x7 : Vec F S1024x3072 .bf16) (x8 : Vec F S1x2048 .f32) (x9 : Vec F S1x2048 .f32) : FVec F S1x1x2x1024 .f32 :=
  k0_pay20 (rows i x3 x4) (back i x0 x1 x2 x7 x8 x9) x6 (k0_pay13 (rows i x3 x4)) (Scalar.ofBits .f32 0x44800000#32)

def w14 (i : grid0.Coords) (x0 : Vec F S1x256x3072 .f32) (x1 : Vec F S1x8x2048 .f32) (x2 : Vec F S1x8x2048 .f32) (x3 : Vec F S1x256x1024 .f32) (x4 : Vec F S1x256x1024 .f32) (x5 : Vec F S1x1x2x1024 .f32) (x7 : Vec F S1024x3072 .bf16) (x8 : Vec F S1x2048 .f32) (x9 : Vec F S1x2048 .f32) : FVec F S1x1024 .f32 :=
  k0_pay18 (rows i x3 x4) (back i x0 x1 x2 x7 x8 x9) (k0_pay12 (scaleRow x5)) (k0_pay13 (rows i x3 x4)) (Scalar.ofBits .f32 0x44800000#32)

def w11 (i : grid0.Coords) (x0 : Vec F S1x256x3072 .f32) (x1 : Vec F S1x8x2048 .f32) (x2 : Vec F S1x8x2048 .f32) (x3 : Vec F S1x256x1024 .f32) (x4 : Vec F S1x256x1024 .f32) (x5 : Vec F S1x1x2x1024 .f32) (x6 : Vec F S1x1024 .f32) (x7 : Vec F S1024x3072 .bf16) (x8 : Vec F S1x2048 .f32) (x9 : Vec F S1x2048 .f32) (x10 : Vec F S1x256x1024 .f32) : FVec F S1x256x1024 .f32 :=
  k0_pay2 (k0_pay19 (rows i x3 x4) (back i x0 x1 x2 x7 x8 x9) x6 (k0_pay12 (scaleRow x5)) (k0_pay13 (rows i x3 x4)) (Scalar.ofBits .f32 0x44800000#32)) x10

section
variable (c : Dev nD) (i : grid0.Coords) (arg2 : Memref sig .tc .vmem S1x256x3072 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x2x1024 .f32) (harg7 : arg7.IsWhole) (arg8 : Memref sig .tc .vmem S1x1024 .f32) (harg8 : arg8.IsWhole) (arg9 : Memref sig .tc .vmem S1024x3072 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256x3072 .bf16) (harg14 : arg14.IsWhole) (arg15 : Memref sig .tc .vmem S1x1x2x1024 .f32) (harg15 : arg15.IsWhole) (arg16 : Memref sig .tc .vmem S1x1024 .f32) (harg16 : arg16.IsWhole)
  (x0 : Vec F S1x256x3072 .f32) (x1 : Vec F S1x8x2048 .f32) (x2 : Vec F S1x8x2048 .f32) (x3 : Vec F S1x256x1024 .f32) (x4 : Vec F S1x256x1024 .f32) (x5 : Vec F S1x1x2x1024 .f32) (x6 : Vec F S1x1024 .f32) (x7 : Vec F S1024x3072 .bf16) (x8 : Vec F S1x2048 .f32) (x9 : Vec F S1x2048 .f32) (x10 : Vec F S1x256x1024 .f32) (xo14 : Vec F S1x1024 .f32)

theorem out_A_12 (hc0 : cond0_0 i) (hc1 : ¬cond0_1 i) (hc2 : ¬cond0_2 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 = w12 i x0 x1 x2 x8 x9 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_A_13 (hc0 : cond0_0 i) (hc1 : ¬cond0_1 i) (hc2 : ¬cond0_2 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 = w13 i x0 x1 x2 x3 x4 x6 x7 x8 x9 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_A_14 (hc0 : cond0_0 i) (hc1 : ¬cond0_1 i) (hc2 : ¬cond0_2 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 = w14 i x0 x1 x2 x3 x4 x5 x7 x8 x9 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_B_11 (hc0 : ¬cond0_0 i) (hc1 : cond0_1 i) (hc2 : cond0_2 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14 = w11 i x0 x1 x2 x3 x4 x5 x6 x7 x8 x9 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_B_12 (hc0 : ¬cond0_0 i) (hc1 : cond0_1 i) (hc2 : cond0_2 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14 = w12 i x0 x1 x2 x8 x9 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_B_13 (hc0 : ¬cond0_0 i) (hc1 : cond0_1 i) (hc2 : cond0_2 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14 = w13 i x0 x1 x2 x3 x4 x6 x7 x8 x9 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_B_14 (hc0 : ¬cond0_0 i) (hc1 : cond0_1 i) (hc2 : cond0_2 i) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14 = k0_pay1 (w14 i x0 x1 x2 x3 x4 x5 x7 x8 x9) xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_C_12 (hc0 : ¬cond0_0 i) (hc1 : cond0_1 i) (hc2 : ¬cond0_2 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14 = w12 i x0 x1 x2 x8 x9 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_C_13 (hc0 : ¬cond0_0 i) (hc1 : cond0_1 i) (hc2 : ¬cond0_2 i) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14 = w13 i x0 x1 x2 x3 x4 x6 x7 x8 x9 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14)]
  unfold kernelRun0_C
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

theorem out_C_14 (hc0 : ¬cond0_0 i) (hc1 : cond0_1 i) (hc2 : ¬cond0_2 i) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14 = k0_pay1 (w14 i x0 x1 x2 x3 x4 x5 x7 x8 x9) xo14 := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xo14)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, load_shiftedLanes, load_keptLanes, load_lastRow, load_firstRow, load_scaleRow, View.ld_unit_zero (S := S1x256x1024) hz3, View.ld_unit_zero (S := S1x1024) hz2, View.ld_unit_zero (S := S1024x3072) hz2, View.ld_unit_zero (S := S1x2048) hz2]
  rfl

end

/-! ## At a point -/

variable (m : (ℓ : Loc nD τ sig) → Buf (Elt F) ℓ) (c : Dev nD) (t : Fin cfg0.N)

theorem left12_A (h0 : t.val % 36 = 0) (h1 : ¬1 ≤ t.val) (h2 : ¬1 ≤ t.val % 9) : (outsAt0 m c t.val t.isLt).2.1 = w12 (grid0.coords t) (iblk m c 0 t) (X0_1 m c t) (X0_2 m c t) (iblk m c 8 t) (iblk m c 9 t) := by
  have e := congrArg (fun o => o.2.1) (outsAt0_A m c t h0 h1 h2)
  dsimp only at e
  rw [out_A_12] at e
  exact e

theorem left13_A (h0 : t.val % 36 = 0) (h1 : ¬1 ≤ t.val) (h2 : ¬1 ≤ t.val % 9) : (outsAt0 m c t.val t.isLt).2.2.1 = w13 (grid0.coords t) (iblk m c 0 t) (X0_1 m c t) (X0_2 m c t) (iblk m c 3 t) (iblk m c 4 t) (iblk m c 6 t) (iblk m c 7 t) (iblk m c 8 t) (iblk m c 9 t) := by
  have e := congrArg (fun o => o.2.2.1) (outsAt0_A m c t h0 h1 h2)
  dsimp only at e
  rw [out_A_13] at e
  exact e

theorem left14_A (h0 : t.val % 36 = 0) (h1 : ¬1 ≤ t.val) (h2 : ¬1 ≤ t.val % 9) : (outsAt0 m c t.val t.isLt).2.2.2 = w14 (grid0.coords t) (iblk m c 0 t) (X0_1 m c t) (X0_2 m c t) (iblk m c 3 t) (iblk m c 4 t) (iblk m c 5 t) (iblk m c 7 t) (iblk m c 8 t) (iblk m c 9 t) := by
  have e := congrArg (fun o => o.2.2.2) (outsAt0_A m c t h0 h1 h2)
  dsimp only at e
  rw [out_A_14] at e
  exact e

theorem left11_B (h0 : ¬t.val % 36 = 0) (h1 : 1 ≤ t.val) (h2 : 1 ≤ t.val % 9) : (outsAt0 m c t.val t.isLt).1 = w11 (grid0.coords t) (iblk m c 0 t) (X0_1 m c t) (X0_2 m c t) (iblk m c 3 t) (iblk m c 4 t) (iblk m c 5 t) (iblk m c 6 t) (iblk m c 7 t) (iblk m c 8 t) (iblk m c 9 t) (iblk m c 10 t) := by
  have e := congrArg (fun o => o.1) (outsAt0_B m c t h0 h1 h2)
  dsimp only at e
  rw [out_B_11] at e
  exact e

theorem left12_B (h0 : ¬t.val % 36 = 0) (h1 : 1 ≤ t.val) (h2 : 1 ≤ t.val % 9) : (outsAt0 m c t.val t.isLt).2.1 = w12 (grid0.coords t) (iblk m c 0 t) (X0_1 m c t) (X0_2 m c t) (iblk m c 8 t) (iblk m c 9 t) := by
  have e := congrArg (fun o => o.2.1) (outsAt0_B m c t h0 h1 h2)
  dsimp only at e
  rw [out_B_12] at e
  exact e

theorem left13_B (h0 : ¬t.val % 36 = 0) (h1 : 1 ≤ t.val) (h2 : 1 ≤ t.val % 9) : (outsAt0 m c t.val t.isLt).2.2.1 = w13 (grid0.coords t) (iblk m c 0 t) (X0_1 m c t) (X0_2 m c t) (iblk m c 3 t) (iblk m c 4 t) (iblk m c 6 t) (iblk m c 7 t) (iblk m c 8 t) (iblk m c 9 t) := by
  have e := congrArg (fun o => o.2.2.1) (outsAt0_B m c t h0 h1 h2)
  dsimp only at e
  rw [out_B_13] at e
  exact e

theorem left14_B (h0 : ¬t.val % 36 = 0) (h1 : 1 ≤ t.val) (h2 : 1 ≤ t.val % 9) : (outsAt0 m c t.val t.isLt).2.2.2 = k0_pay1 (w14 (grid0.coords t) (iblk m c 0 t) (X0_1 m c t) (X0_2 m c t) (iblk m c 3 t) (iblk m c 4 t) (iblk m c 5 t) (iblk m c 7 t) (iblk m c 8 t) (iblk m c 9 t)) (outsAt0 m c (t.val - 1) (Nat.lt_of_le_of_lt (Nat.sub_le _ _) t.isLt)).2.2.2 := by
  have e := congrArg (fun o => o.2.2.2) (outsAt0_B m c t h0 h1 h2)
  dsimp only at e
  rw [out_B_14] at e
  exact e

theorem left12_C (h0 : ¬t.val % 36 = 0) (h1 : 1 ≤ t.val) (h2 : ¬1 ≤ t.val % 9) : (outsAt0 m c t.val t.isLt).2.1 = w12 (grid0.coords t) (iblk m c 0 t) (X0_1 m c t) (X0_2 m c t) (iblk m c 8 t) (iblk m c 9 t) := by
  have e := congrArg (fun o => o.2.1) (outsAt0_C m c t h0 h1 h2)
  dsimp only at e
  rw [out_C_12] at e
  exact e

theorem left13_C (h0 : ¬t.val % 36 = 0) (h1 : 1 ≤ t.val) (h2 : ¬1 ≤ t.val % 9) : (outsAt0 m c t.val t.isLt).2.2.1 = w13 (grid0.coords t) (iblk m c 0 t) (X0_1 m c t) (X0_2 m c t) (iblk m c 3 t) (iblk m c 4 t) (iblk m c 6 t) (iblk m c 7 t) (iblk m c 8 t) (iblk m c 9 t) := by
  have e := congrArg (fun o => o.2.2.1) (outsAt0_C m c t h0 h1 h2)
  dsimp only at e
  rw [out_C_13] at e
  exact e

theorem left14_C (h0 : ¬t.val % 36 = 0) (h1 : 1 ≤ t.val) (h2 : ¬1 ≤ t.val % 9) : (outsAt0 m c t.val t.isLt).2.2.2 = k0_pay1 (w14 (grid0.coords t) (iblk m c 0 t) (X0_1 m c t) (X0_2 m c t) (iblk m c 3 t) (iblk m c 4 t) (iblk m c 5 t) (iblk m c 7 t) (iblk m c 8 t) (iblk m c 9 t)) (outsAt0 m c (t.val - 1) (Nat.lt_of_le_of_lt (Nat.sub_le _ _) t.isLt)).2.2.2 := by
  have e := congrArg (fun o => o.2.2.2) (outsAt0_C m c t h0 h1 h2)
  dsimp only at e
  rw [out_C_14] at e
  exact e

end Cert.BwdCases

end
-- ==== Proof.BwdTile.lean ====
/- The input projection's backward pass on one tile: each of the body's values, read at coordinates over the extended
   reals, in closed form. -/
module

public import proofs.«01_k».proof.Proof.Layout
public import proofs.«01_k».proof.Proof.BwdCases
public import Idealize.ShloMosaic.Lib.KernelVsHost

@[expose] public section

set_option maxRecDepth 16384

noncomputable section

namespace Cert.Bwd

open Cert.Kernel12Ideal Cert.Kernel12Ideal.Gen Idealize.ShloMosaic Idealize.ShloMosaic.TcCoe Idealize.ShloMosaic.ValueIdx
open Cert.Tile Cert.BwdCases

/-! ## What is computed of a row -/

/-- The token shift's gradient at an entry: its own, its successor's and its predecessor's, weighted. -/
def mixed (mp mn own next prev : EReal) : EReal := own * (Ideal.ofBits .f32 0x3F800000#32 - mp - mn) + mp * next + mn * prev

/-- A row's mean square, with the norm's constant added. -/
def meanSq (x : Fin 1024 → EReal) : EReal := Ideal.div (∑ e, x e * x e) (Ideal.ofBits .f32 0x44800000#32) + Ideal.ofBits .f32 0x358637BD#32

/-- The gradient of the normed row times its gain, of the modulated row's gradient `h`. -/
def scaled (h sc : Fin 1024 → EReal) (d : Fin 1024) : EReal := h d * (Ideal.ofBits .f32 0x3F800000#32 + sc d)

/-- The part of a row's gradient that goes through its mean square. -/
def pull (x h g sc : Fin 1024 → EReal) : EReal :=
  Ideal.div ((∑ e, x e * (scaled h sc e * g e)) * (Ideal.ofBits .f32 0xBF000000#32 * Ideal.div (Ideal.rsqrt (meanSq x)) (meanSq x))) (Ideal.ofBits .f32 0x44800000#32)

/-- A row's gradient. -/
def gradRow (x h g sc : Fin 1024 → EReal) (d : Fin 1024) : EReal :=
  scaled h sc d * g d * Ideal.rsqrt (meanSq x) + x d * pull x h g sc + pull x h g sc * x d

/-- A row's part of the gain's gradient and of its scale's. -/
def gainPart (x h sc : Fin 1024 → EReal) (d : Fin 1024) : EReal := x d * Ideal.rsqrt (meanSq x) * scaled h sc d
def scalePart (x h g : Fin 1024 → EReal) (d : Fin 1024) : EReal := x d * Ideal.rsqrt (meanSq x) * g d * h d

/-! ## Layouts -/

/-- A choice between two arrays, read at an index. -/
theorem choice {s : Shape} {α : Type} (e : BitVec 1) (u v : s.Idx → α) (i : s.Idx) : Scalar.select e u v i = Scalar.select e (u i) (v i) := by
  unfold Scalar.select
  split <;> rfl

theorem rsqrt_at (u : FVec Ideal S256x1 .f32) (j : S256x1.Idx) : rsqrt u j = Ideal.rsqrt (u j) := rfl

/-- A modulation block's row as a row. -/
theorem flat {α : Type} (v : S1x1x1x1024.Idx → α) (h) (d : Fin 1024) : shapeCast S1x1024 v h (ix2 0 d) = v (ix4 0 0 0 d) :=
  shapeCast_apply v h _ _ (by
    rw [Shape.rowMajor_val_four, Shape.rowMajor_val_two]
    rfl)

/-- Two rows as a modulation block. -/
theorem unflat {α : Type} (v : S2x1024.Idx → α) (h) (r : Fin 2) (d : Fin 1024) : shapeCast S1x1x2x1024 v h (ix4 0 0 r d) = v (ix2 r d) :=
  shapeCast_apply v h _ _ (by
    rw [Shape.rowMajor_val_four, Shape.rowMajor_val_two]
    show r.val * 1024 + d.val = ((0 * 1 + 0) * 2 + r.val) * 1024 + d.val
    omega)

/-- A shape cast to the shape it has. -/
theorem same {s : Shape} {α : Type} (v : s.Idx → α) (h) (i : s.Idx) : shapeCast s v h i = v i := shapeCast_apply v h _ _ rfl

/-- One row above the other. -/
theorem above (a b : FVec Ideal S1x1024 .f32) (h) (d : Fin 1024) :
    concatenate S2x1024 0 [⟨S1x1024, a⟩, ⟨S1x1024, b⟩] h (ix2 0 d) = a (ix2 0 d)
      ∧ concatenate S2x1024 0 [⟨S1x1024, a⟩, ⟨S1x1024, b⟩] h (ix2 1 d) = b (ix2 0 d) := by
  refine ⟨?_, ?_⟩
  · exact concatenate_apply_piece 0 _ h (ix2 0 d) 0 (by simp only [List.length]; omega) S1x1024 a rfl rfl 0 rfl (ix2 0 d)
      (fun e he => by
        match e with
        | ⟨0, _⟩ => exact absurd rfl he
        | ⟨1, _⟩ => rfl) rfl
  · exact concatenate_apply_piece 0 _ h (ix2 1 d) 1 (by simp only [List.length]; omega) S1x1024 b rfl rfl 1 rfl (ix2 0 d)
      (fun e he => by
        match e with
        | ⟨0, _⟩ => exact absurd rfl he
        | ⟨1, _⟩ => rfl) rfl

/-- The product of a tile with the weight's rows. -/
theorem prodBack (a : FVec Ideal S256x3072 .bf16) (w : FVec Ideal S1024x3072 .bf16) (p : Fin 256) (d : Fin 1024) :
    matmul dot_S256x3072_S1024x3072_S256x1024_1_1_0_0_n_n none a w (constant S256x1024 .f32 0x00000000#32) (ix2 p d)
      = ∑ q : Fin 3072, a (ix2 p q) * w (ix2 d q) := by
  simp only [matmul]
  rw [Ideal.matmul_constant_zero_apply, ← Equiv.sum_comp (contrEquiv1 _ 3072 rfl rfl).symm]
  refine Finset.sum_congr rfl fun q _ => ?_
  have hk := contrEquiv1_symm_val dot_S256x3072_S1024x3072_S256x1024_1_1_0_0_n_n 3072 rfl rfl q
  congr 2 <;> refine funext fun a => Fin.ext ?_
  · match a with
    | ⟨0, _⟩ => rfl
    | ⟨1, _⟩ => exact hk
  · match a with
    | ⟨0, _⟩ => rfl
    | ⟨1, _⟩ => exact hk

/-! ## The norm's backward pass -/

section
variable (v5 v64 : FVec Ideal S256x1024 .f32) (v65 v67 : FVec Ideal S1x1024 .f32) (p : Fin 256) (d : Fin 1024)

abbrev rowOf (v : FVec Ideal S256x1024 .f32) (p : Fin 256) : Fin 1024 → EReal := fun e => v (ix2 p e)
abbrev lanes (v : FVec Ideal S1x1024 .f32) : Fin 1024 → EReal := fun e => v (ix2 0 e)

theorem meanSq_at : k0_pay14 (F := Ideal) (k0_pay13 v5) (Scalar.ofBits .f32 0x44800000#32) (ix2 p 0) = meanSq (rowOf v5 p) := by
  unfold meanSq
  simp only [k0_pay14, k0_pay13, ValueIdx.mulf_apply, ValueIdx.addf_apply, ValueIdx.divf_apply, broadcast_apply, toColumn, laneSum _ reduces_S256x1024_S256 (.inl rfl) rfl,
    Scalar.ofBits, Ideal.mulf_def, Ideal.addf_def, Ideal.divf_def, Ideal.ofBits_def]

theorem root_at : k0_pay15 (F := Ideal) (k0_pay13 v5) (Scalar.ofBits .f32 0x44800000#32) (ix2 p 0) = Ideal.rsqrt (meanSq (rowOf v5 p)) := by
  unfold k0_pay15
  exact (rsqrt_at _ _).trans (congrArg Ideal.rsqrt (meanSq_at v5 p))

theorem unit_at : k0_pay16 (F := Ideal) v5 (k0_pay13 v5) (Scalar.ofBits .f32 0x44800000#32) (ix2 p d) = v5 (ix2 p d) * Ideal.rsqrt (meanSq (rowOf v5 p)) := by
  unfold k0_pay16
  simp only [ValueIdx.mulf_apply, column (n := 256) (k := 1024) (by decide), root_at, Ideal.mulf_def]

theorem scaled_at : k0_pay17 (F := Ideal) v64 v67 (ix2 p d) = scaled (rowOf v64 p) (lanes v67) d := by
  unfold k0_pay17 scaled
  simp only [ValueIdx.mulf_apply, ValueIdx.addf_apply, broadcast_apply, row (n := 256) (k := 1024) (by decide), Scalar.ofBits, Ideal.mulf_def, Ideal.addf_def, Ideal.ofBits_def]

theorem gain_at : k0_pay18 (F := Ideal) v5 v64 v67 (k0_pay13 v5) (Scalar.ofBits .f32 0x44800000#32) (ix2 0 d)
    = ∑ p : Fin 256, gainPart (rowOf v5 p) (rowOf v64 p) (lanes v67) d := by
  unfold k0_pay18 gainPart
  simp only [toRow, rowSum _ reduces_S256x1024_S1024 (.inl rfl) rfl, ValueIdx.mulf_apply, unit_at, scaled_at, Ideal.mulf_def]

theorem grad_at : k0_pay19 (F := Ideal) v5 v64 v65 v67 (k0_pay13 v5) (Scalar.ofBits .f32 0x44800000#32) (ix2 p d)
    = gradRow (rowOf v5 p) (rowOf v64 p) (lanes v65) (lanes v67) d := by
  unfold k0_pay19 gradRow pull
  simp only [ValueIdx.mulf_apply, ValueIdx.addf_apply, ValueIdx.divf_apply, broadcast_apply, column (n := 256) (k := 1024) (by decide), row (n := 256) (k := 1024) (by decide),
    toColumn, laneSum _ reduces_S256x1024_S256 (.inl rfl) rfl, unitSum _ reduces_S256x1_S256 (.inl rfl) rfl, scaled_at, root_at, meanSq_at]
  simp only [Scalar.ofBits, Ideal.mulf_def, Ideal.addf_def, Ideal.divf_def, Ideal.ofBits_def]

theorem mod_at : k0_pay20 (F := Ideal) v5 v64 v65 (k0_pay13 v5) (Scalar.ofBits .f32 0x44800000#32) (ix4 0 0 0 d) = ∑ p : Fin 256, v64 (ix2 p d)
    ∧ k0_pay20 (F := Ideal) v5 v64 v65 (k0_pay13 v5) (Scalar.ofBits .f32 0x44800000#32) (ix4 0 0 1 d)
      = ∑ p : Fin 256, scalePart (rowOf v5 p) (rowOf v64 p) (lanes v65) d := by
  unfold k0_pay20 scalePart
  simp only [unflat, (above _ _ _ d).1, (above _ _ _ d).2, toRow, rowSum _ reduces_S256x1024_S1024 (.inl rfl) rfl, ValueIdx.mulf_apply, unit_at,
    row (n := 256) (k := 1024) (by decide), Ideal.mulf_def, and_self]

end

/-! ## The token shift's backward pass -/

theorem atFirst : ∀ p : Fin 256, IntOp.cmpi .eq (BitVec.ofNat 32 (0 * 256 + p.val)) 0#32 = if p.val = 0 then 1#1 else 0#1 := by decide +kernel
theorem atLast : ∀ p : Fin 256, IntOp.cmpi .eq (BitVec.ofNat 32 (0 * 256 + p.val)) 255#32 = if p.val = 255 then 1#1 else 0#1 := by decide +kernel

theorem pick (b : Prop) [Decidable b] {α : Type} (u v : α) : Scalar.select (if b then 1#1 else 0#1) u v = if b then u else v := by
  unfold Scalar.select
  split <;> rfl

section
variable (v16 v17 : FVec Ideal S1x2048 .f32) (v18 : FVec Ideal S1x256x2048 .f32) (v23 v27 : FVec Ideal S1x2048 .f32) (v56 : FVec Ideal S1x256x1024 .f32) (p : Fin 256)

/-- The rows rolled down by one and up by one. -/
theorem down_at (q : Fin 2048) (h : p.val ≠ 0) : k0_pay8 (F := Ideal) v18 (ix2 p q) = v18 (ix3 0 ⟨p.val - 1, by omega⟩ q) := by
  unfold k0_pay8 k0_pay4
  refine (dynamicRotate_apply 0 1#32 _ _ (ix2 p q) (ix2 ⟨p.val - 1, by omega⟩ q) fun b => ?_).trans (dropLead _ _ _ _)
  match b with
  | ⟨0, _⟩ => show p.val - 1 = (p.val + 256 - 1 % 256) % 256; omega
  | ⟨1, _⟩ => rfl

theorem up_at (q : Fin 2048) (h : p.val ≠ 255) : dynamicRotate 0 255#32 none (k0_pay4 (F := Ideal) v18) rotates_S256x2048_d0 (ix2 p q) = v18 (ix3 0 ⟨p.val + 1, by omega⟩ q) := by
  unfold k0_pay4
  refine (dynamicRotate_apply 0 255#32 _ _ (ix2 p q) (ix2 ⟨p.val + 1, by omega⟩ q) fun b => ?_).trans (dropLead _ _ _ _)
  match b with
  | ⟨0, _⟩ => show p.val + 1 = (p.val + 256 - 255 % 256) % 256; omega
  | ⟨1, _⟩ => rfl

/-- The rows above and below a row: the halo's at the tile's edge. -/
def prevOf (q : Fin 2048) : EReal := if h : p.val = 0 then v23 (ix2 0 q) else v18 (ix3 0 ⟨p.val - 1, by omega⟩ q)
def nextOf (q : Fin 2048) : EReal := if h : p.val = 255 then v27 (ix2 0 q) else v18 (ix3 0 ⟨p.val + 1, by omega⟩ q)

/-- The gradient of the projection's tile: mixed in its shifted lanes, as it comes in the others. -/
theorem shifted_at (q : Fin 3072) (hq : q.val < 2048) :
    k0_pay9 (F := Ideal) v16 v17 (k0_pay4 v18) v23 v27 (iota .tc S256x1 32 [0] iota_S256x1_d0_w32) k0_pay7 (k0_pay8 v18) v56 (ix2 p q)
      = mixed (v16 (ix2 0 ⟨q.val, hq⟩)) (v17 (ix2 0 ⟨q.val, hq⟩)) (v18 (ix3 0 p ⟨q.val, hq⟩)) (nextOf v18 v27 p ⟨q.val, hq⟩) (prevOf v18 v23 p ⟨q.val, hq⟩) := by
  unfold k0_pay9 mixed
  simp only [ValueIdx.truncf_apply, Ideal.truncf_def]
  refine (concatenate_apply_piece 1 _ _ (ix2 p q) 0 (by simp only [List.length]; omega) S256x2048 _ rfl rfl 0 rfl (ix2 p ⟨q.val, hq⟩)
      (fun e he => by
        match e with
        | ⟨0, _⟩ => rfl
        | ⟨1, _⟩ => exact absurd rfl he) (Nat.zero_add _)).trans ?_
  have e4 : k0_pay4 (F := Ideal) v18 (ix2 p ⟨q.val, hq⟩) = v18 (ix3 0 p ⟨q.val, hq⟩) := by unfold k0_pay4; exact dropLead _ _ _ _
  have e7 : k0_pay7 (ix2 p 0) = if p.val = 0 then 1#1 else 0#1 := atFirst p
  have e8 : cmpi .eq (iota .tc S256x1 32 [0] iota_S256x1_d0_w32) (broadcast S256x1 255#32) (ix2 p 0) = if p.val = 255 then 1#1 else 0#1 := atLast p
  have en : (if p.val = 255 then v27 (ix2 0 ⟨q.val, hq⟩) else dynamicRotate 0 255#32 none (k0_pay4 (F := Ideal) v18) rotates_S256x2048_d0 (ix2 p ⟨q.val, hq⟩)) = nextOf v18 v27 p ⟨q.val, hq⟩ := by
    unfold nextOf
    split
    · rfl
    · next h => exact up_at v18 p _ h
  have ep : (if p.val = 0 then v23 (ix2 0 ⟨q.val, hq⟩) else k0_pay8 (F := Ideal) v18 (ix2 p ⟨q.val, hq⟩)) = prevOf v18 v23 p ⟨q.val, hq⟩ := by
    unfold prevOf
    split
    · rfl
    · next h => exact down_at v18 p _ h
  simp only [ValueIdx.mulf_apply, ValueIdx.addf_apply, ValueIdx.subf_apply, select_apply, broadcast_apply, column (n := 256) (k := 2048) (by decide),
    row (n := 256) (k := 2048) (by decide), same, e4, e7, e8, pick, en, ep, Scalar.ofBits, Ideal.mulf_def, Ideal.addf_def, Ideal.subf_def, Ideal.ofBits_def]

theorem kept_at (q : Fin 3072) (hq : ¬q.val < 2048) :
    k0_pay9 (F := Ideal) v16 v17 (k0_pay4 v18) v23 v27 (iota .tc S256x1 32 [0] iota_S256x1_d0_w32) k0_pay7 (k0_pay8 v18) v56 (ix2 p q)
      = v56 (ix3 0 p ⟨q.val - 2048, by omega⟩) := by
  unfold k0_pay9
  simp only [ValueIdx.truncf_apply, Ideal.truncf_def]
  exact (concatenate_apply_piece 1 _ _ (ix2 p q) 1 (by simp only [List.length]; omega) S256x1024 _ rfl rfl 2048 rfl (ix2 p ⟨q.val - 2048, by omega⟩)
      (fun e he => by
        match e with
        | ⟨0, _⟩ => rfl
        | ⟨1, _⟩ => exact absurd rfl he) (by show 2048 + (q.val - 2048) = q.val; omega)).trans (dropLead _ _ _ _)

end

end Cert.Bwd

end
-- ==== Proof.RefAt.lean ====
/- The reference's layout operations, sums and products, read at coordinates. -/
module

public import proofs.«01_k».proof.Proof.Gen.ReferenceIdeal.Read

@[expose] public section

noncomputable section

namespace Cert.RefAt

open Cert.ReferenceIdeal Cert.ReferenceIdeal.Gen Cert.ReferenceIdeal.Read Idealize.ShloMosaic Idealize.ShloMosaic.ValueIdx

/-- Row `p` of tile `j`, among a batch's 2048 rows. -/
abbrev tok (j : Fin 8) (p : Fin 256) : Fin 2048 := ⟨256 * j.val + p.val, by omega⟩

variable (x0 x1 : FVec Ideal S4x2048x1024 .f32) (x2 : FVec Ideal S4x3x1024 .f32) (x3 x4 : FVec Ideal S1x1024 .f32)
  (x5 : FVec Ideal S1024x4096 .bf16) (x6 : FVec Ideal S4096x1024 .bf16)

theorem at_v4 (d : Fin 1024) : val_main_v4 (F := Ideal) x3 (ix1 d) = x3 (ix2 0 d) :=
  by rw [val_main_v4_apply, show idx_main_v4 (ix1 d) = ix2 0 d from (eq_ix2 _).trans (congrArg (ix2 0) (Fin.ext (Nat.mod_eq_of_lt d.isLt)))]

theorem at_v5 (d : Fin 1024) : val_main_v5 (F := Ideal) x4 (ix1 d) = x4 (ix2 0 d) :=
  by rw [val_main_v5_apply, show idx_main_v5 (ix1 d) = ix2 0 d from (eq_ix2 _).trans (congrArg (ix2 0) (Fin.ext (Nat.mod_eq_of_lt d.isLt)))]

theorem at_v7 (b : Fin 4) (s : Fin 2048) : val_main_v7 (F := Ideal) x0 (ix2 b s) = 0 + ∑ d : Fin 1024, val_main_v6 (F := Ideal) x0 (ix3 b s d) :=
  (val_main_v7_apply x0 (ix2 b s)).trans (congrArg₂ (· + ·) Ideal.ofBits_zero_f32 (Finset.sum_congr rfl fun d _ => by
    rw [show idx_main_v7 (ix2 b s) d = ix3 b s d from eq_ix3 _]))

theorem at_v8 (b : Fin 4) (s : Fin 2048) (a : Fin 1) : val_main_v8 (F := Ideal) x0 (ix3 b s a) = val_main_v7 (F := Ideal) x0 (ix2 b s) :=
  by rw [val_main_v8_apply, show idx_main_v8 (ix3 b s a) = ix2 b s from eq_ix2 _]

theorem at_v17 (b : Fin 4) (s : Fin 2048) (d : Fin 1024) : val_main_v17 (F := Ideal) x0 (ix3 b s d) = val_main_v13 (F := Ideal) x0 (ix3 b s 0) :=
  by rw [val_main_v17_apply, show idx_main_v17 (ix3 b s d) = ix3 b s 0 from eq_ix3 _]

theorem at_v19 (a c : Fin 1) (d : Fin 1024) : val_main_v19 (F := Ideal) x3 (ix3 a c d) = val_main_v4 (F := Ideal) x3 (ix1 d) :=
  by rw [val_main_v19_apply, show idx_main_v19 (ix3 a c d) = ix1 d from eq_ix1 _]

theorem at_v20 (b : Fin 4) (s : Fin 2048) (d : Fin 1024) : val_main_v20 (F := Ideal) x3 (ix3 b s d) = val_main_v19 (F := Ideal) x3 (ix3 0 0 d) :=
  by rw [val_main_v20_apply, show idx_main_v20 (ix3 b s d) = ix3 0 0 d from eq_ix3 _]

theorem at_v22 (b : Fin 4) (a : Fin 1) (d : Fin 1024) : val_main_v22 (F := Ideal) x2 (ix3 b a d) = x2 (ix3 b 0 d) :=
  by rw [val_main_v22_apply, show idx_main_v22 (ix3 b a d) = ix3 b 0 d from (eq_ix3 _).trans (by obtain rfl : a = 0 := Subsingleton.elim _ _; rfl)]

theorem at_v23 (b : Fin 4) (a : Fin 1) (d : Fin 1024) : val_main_v23 (F := Ideal) x2 (ix3 b a d) = x2 (ix3 b 1 d) :=
  by rw [val_main_v23_apply, show idx_main_v23 (ix3 b a d) = ix3 b 1 d from (eq_ix3 _).trans (by obtain rfl : a = 0 := Subsingleton.elim _ _; rfl)]

theorem at_v39 (b : Fin 4) (a : Fin 1) (d : Fin 1024) : val_main_v39 (F := Ideal) x2 (ix3 b a d) = x2 (ix3 b 2 d) :=
  by rw [val_main_v39_apply, show idx_main_v39 (ix3 b a d) = ix3 b 2 d from (eq_ix3 _).trans (by obtain rfl : a = 0 := Subsingleton.elim _ _; rfl)]

theorem at_v26 (b : Fin 4) (s : Fin 2048) (d : Fin 1024) : val_main_v26 (F := Ideal) x2 (ix3 b s d) = val_main_v25 (F := Ideal) x2 (ix3 b 0 d) :=
  by rw [val_main_v26_apply, show idx_main_v26 (ix3 b s d) = ix3 b 0 d from eq_ix3 _]

theorem at_v28 (b : Fin 4) (s : Fin 2048) (d : Fin 1024) : val_main_v28 (F := Ideal) x2 (ix3 b s d) = val_main_v22 (F := Ideal) x2 (ix3 b 0 d) :=
  by rw [val_main_v28_apply, show idx_main_v28 (ix3 b s d) = ix3 b 0 d from eq_ix3 _]

theorem at_v30 (b : Fin 4) (s : Fin 2048) (f : Fin 4096) : val_main_v30 (F := Ideal) x0 x2 x3 x5 (ix3 b s f) = ∑ d : Fin 1024, val_main_v29 (F := Ideal) x0 x2 x3 (ix3 b s d) * val_main_v2 (F := Ideal) x5 (ix2 d f) :=
  (val_main_v30_apply x0 x2 x3 x5 (ix3 b s f)).trans (Finset.sum_congr rfl fun d _ => by
    rw [show lidx_main_v30 (ix3 b s f) d = ix3 b s d from eq_ix3 _, show ridx_main_v30 (ix3 b s f) d = ix2 d f from eq_ix2 _])

theorem at_v40 (b : Fin 4) (s : Fin 2048) (d : Fin 1024) : val_main_v40 (F := Ideal) x0 x2 x3 x5 x6 (ix3 b s d) = ∑ f : Fin 4096, val_main_v36 (F := Ideal) x0 x2 x3 x5 (ix3 b s f) * val_main_v3 (F := Ideal) x6 (ix2 f d) :=
  (val_main_v40_apply x0 x2 x3 x5 x6 (ix3 b s d)).trans (Finset.sum_congr rfl fun f _ => by
    rw [show lidx_main_v40 (ix3 b s d) f = ix3 b s f from eq_ix3 _, show ridx_main_v40 (ix3 b s d) f = ix2 f d from eq_ix2 _])

theorem at_v43 (b : Fin 4) (s : Fin 2048) : val_main_v43 (F := Ideal) x0 x2 x3 x5 x6 (ix2 b s) = 0 + ∑ d : Fin 1024, val_main_v42 (F := Ideal) x0 x2 x3 x5 x6 (ix3 b s d) :=
  (val_main_v43_apply x0 x2 x3 x5 x6 (ix2 b s)).trans (congrArg₂ (· + ·) Ideal.ofBits_zero_f32 (Finset.sum_congr rfl fun d _ => by
    rw [show idx_main_v43 (ix2 b s) d = ix3 b s d from eq_ix3 _]))

theorem at_v44 (b : Fin 4) (s : Fin 2048) (a : Fin 1) : val_main_v44 (F := Ideal) x0 x2 x3 x5 x6 (ix3 b s a) = val_main_v43 (F := Ideal) x0 x2 x3 x5 x6 (ix2 b s) :=
  by rw [val_main_v44_apply, show idx_main_v44 (ix3 b s a) = ix2 b s from eq_ix2 _]

theorem at_v53 (b : Fin 4) (s : Fin 2048) (d : Fin 1024) : val_main_v53 (F := Ideal) x0 x2 x3 x5 x6 (ix3 b s d) = val_main_v49 (F := Ideal) x0 x2 x3 x5 x6 (ix3 b s 0) :=
  by rw [val_main_v53_apply, show idx_main_v53 (ix3 b s d) = ix3 b s 0 from eq_ix3 _]

theorem at_v55 (a c : Fin 1) (d : Fin 1024) : val_main_v55 (F := Ideal) x4 (ix3 a c d) = val_main_v5 (F := Ideal) x4 (ix1 d) :=
  by rw [val_main_v55_apply, show idx_main_v55 (ix3 a c d) = ix1 d from eq_ix1 _]

theorem at_v56 (b : Fin 4) (s : Fin 2048) (d : Fin 1024) : val_main_v56 (F := Ideal) x4 (ix3 b s d) = val_main_v55 (F := Ideal) x4 (ix3 0 0 d) :=
  by rw [val_main_v56_apply, show idx_main_v56 (ix3 b s d) = ix3 0 0 d from eq_ix3 _]

theorem at_v58 (b : Fin 4) (s : Fin 2048) (d : Fin 1024) : val_main_v58 (F := Ideal) x2 (ix3 b s d) = val_main_v39 (F := Ideal) x2 (ix3 b 0 d) :=
  by rw [val_main_v58_apply, show idx_main_v58 (ix3 b s d) = ix3 b 0 d from eq_ix3 _]

theorem at_v65 (b : Fin 4) (s : Fin 2048) : val_main_v65 (F := Ideal) x0 x1 x2 x3 x4 x5 x6 (ix2 b s) = 0 + ∑ d : Fin 1024, val_main_v62 (F := Ideal) x0 x1 x2 x3 x4 x5 x6 (ix3 b s d) :=
  (val_main_v65_apply x0 x1 x2 x3 x4 x5 x6 (ix2 b s)).trans (congrArg₂ (· + ·) Ideal.ofBits_zero_f32 (Finset.sum_congr rfl fun d _ => by
    rw [show idx_main_v65 (ix2 b s) d = ix3 b s d from eq_ix3 _]))

theorem at_v74 (b : Fin 4) (s : Fin 2048) (d : Fin 1024) : val_main_v74 (F := Ideal) (ix3 b s d) = val_main_v73 (F := Ideal) (ix2 b s) :=
  by rw [val_main_v74_apply, show idx_main_v74 (ix3 b s d) = ix2 b s from eq_ix2 _]

theorem at_v76 (b : Fin 4) (s : Fin 2048) (d : Fin 1024) : val_main_v76 (F := Ideal) x2 (ix3 b s d) = val_main_v39 (F := Ideal) x2 (ix3 b 0 d) :=
  by rw [val_main_v76_apply, show idx_main_v76 (ix3 b s d) = ix3 b 0 d from eq_ix3 _]

theorem at_v79 (b : Fin 4) (d : Fin 1024) : val_main_v79 (F := Ideal) x0 x1 x2 x3 x4 x5 x6 (ix2 b d) = 0 + ∑ s : Fin 2048, val_main_v78 (F := Ideal) x0 x1 x2 x3 x4 x5 x6 (ix3 b s d) :=
  (val_main_v79_apply x0 x1 x2 x3 x4 x5 x6 (ix2 b d)).trans (congrArg₂ (· + ·) Ideal.ofBits_zero_f32 (Finset.sum_congr rfl fun s _ => by
    rw [show idx_main_v79 (ix2 b d) s = ix3 b s d from eq_ix3 _]))

theorem at_v80 (b : Fin 4) (a : Fin 1) (d : Fin 1024) : val_main_v80 (F := Ideal) x0 x1 x2 x3 x4 x5 x6 (ix3 b a d) = val_main_v79 (F := Ideal) x0 x1 x2 x3 x4 x5 x6 (ix2 b d) :=
  by rw [val_main_v80_apply, show idx_main_v80 (ix3 b a d) = ix2 b d from (eq_ix2 _).trans (congrArg₂ ix2 (Fin.ext (by have := a.isLt; have := d.isLt; show ((b.val * 1 + a.val) * 1024 + d.val) / 1024 = b.val; omega)) (Fin.ext (by have := a.isLt; have := d.isLt; show ((b.val * 1 + a.val) * 1024 + d.val) % 1024 = d.val; omega)))]

theorem at_v83 (a c : Fin 1) (d : Fin 1024) : val_main_v83 (F := Ideal) x0 x1 x2 x3 x4 x5 x6 (ix3 a c d) = val_main_v82 (F := Ideal) x0 x1 x2 x3 x4 x5 x6 (ix1 d) :=
  by rw [val_main_v83_apply, show idx_main_v83 (ix3 a c d) = ix1 d from (eq_ix1 _).trans (congrArg ix1 (Fin.ext (by have := a.isLt; have := c.isLt; show (a.val * 1 + c.val) * 1024 + d.val = d.val; omega)))]

theorem at_v84 (b : Fin 4) (s : Fin 2048) (d : Fin 1024) : val_main_v84 (F := Ideal) x4 (ix3 b s d) = val_main_v55 (F := Ideal) x4 (ix3 0 0 d) :=
  by rw [val_main_v84_apply, show idx_main_v84 (ix3 b s d) = ix3 0 0 d from eq_ix3 _]

theorem at_v88 (b : Fin 4) (s : Fin 2048) : val_main_v88 (F := Ideal) x0 x1 x2 x3 x4 x5 x6 (ix2 b s) = 0 + ∑ d : Fin 1024, val_main_v87 (F := Ideal) x0 x1 x2 x3 x4 x5 x6 (ix3 b s d) :=
  (val_main_v88_apply x0 x1 x2 x3 x4 x5 x6 (ix2 b s)).trans (congrArg₂ (· + ·) Ideal.ofBits_zero_f32 (Finset.sum_congr rfl fun d _ => by
    rw [show idx_main_v88 (ix2 b s) d = ix3 b s d from eq_ix3 _]))

theorem at_v89 (b : Fin 4) (s : Fin 2048) (a : Fin 1) : val_main_v89 (F := Ideal) x0 x1 x2 x3 x4 x5 x6 (ix3 b s a) = val_main_v88 (F := Ideal) x0 x1 x2 x3 x4 x5 x6 (ix2 b s) :=
  by rw [val_main_v89_apply, show idx_main_v89 (ix3 b s a) = ix2 b s from (eq_ix2 _).trans (congrArg₂ ix2 (Fin.ext (by have := a.isLt; have := s.isLt; show ((b.val * 2048 + s.val) * 1 + a.val) / 2048 = b.val; omega)) (Fin.ext (by have := a.isLt; have := s.isLt; show ((b.val * 2048 + s.val) * 1 + a.val) % 2048 = s.val; omega)))]

theorem at_v90 (b : Fin 4) (s : Fin 2048) (d : Fin 1024) : val_main_v90 (F := Ideal) x0 x2 x3 x5 x6 (ix3 b s d) = val_main_v49 (F := Ideal) x0 x2 x3 x5 x6 (ix3 b s 0) :=
  by rw [val_main_v90_apply, show idx_main_v90 (ix3 b s d) = ix3 b s 0 from eq_ix3 _]

theorem at_v95 (b : Fin 4) (s : Fin 2048) : val_main_v95 (F := Ideal) x0 x1 x2 x3 x4 x5 x6 (ix2 b s) = 0 + ∑ d : Fin 1, val_main_v94 (F := Ideal) x0 x1 x2 x3 x4 x5 x6 (ix3 b s d) :=
  (val_main_v95_apply x0 x1 x2 x3 x4 x5 x6 (ix2 b s)).trans (congrArg₂ (· + ·) Ideal.ofBits_zero_f32 (Finset.sum_congr rfl fun d _ => by
    rw [show idx_main_v95 (ix2 b s) d = ix3 b s d from eq_ix3 _]))

theorem at_v96 (b : Fin 4) (s : Fin 2048) (d : Fin 1024) : val_main_v96 (F := Ideal) x0 x1 x2 x3 x4 x5 x6 (ix3 b s d) = val_main_v95 (F := Ideal) x0 x1 x2 x3 x4 x5 x6 (ix2 b s) :=
  by rw [val_main_v96_apply, show idx_main_v96 (ix3 b s d) = ix2 b s from eq_ix2 _]

theorem at_v101 (b : Fin 4) (s : Fin 2048) (f : Fin 4096) : val_main_v101 (F := Ideal) x0 x1 x2 x3 x4 x5 x6 (ix3 b s f) = ∑ d : Fin 1024, val_main_v100 (F := Ideal) x0 x1 x2 x3 x4 x5 x6 (ix3 b s d) * val_main_v3 (F := Ideal) x6 (ix2 f d) :=
  (val_main_v101_apply x0 x1 x2 x3 x4 x5 x6 (ix3 b s f)).trans (Finset.sum_congr rfl fun d _ => by
    rw [show lidx_main_v101 (ix3 b s f) d = ix3 b s d from eq_ix3 _, show ridx_main_v101 (ix3 b s f) d = ix2 f d from eq_ix2 _])

theorem at_v106 (b : Fin 4) (s : Fin 2048) (d : Fin 1024) : val_main_v106 (F := Ideal) x0 x1 x2 x3 x4 x5 x6 (ix3 b s d) = ∑ f : Fin 4096, val_main_v105 (F := Ideal) x0 x1 x2 x3 x4 x5 x6 (ix3 b s f) * val_main_v2 (F := Ideal) x5 (ix2 d f) :=
  (val_main_v106_apply x0 x1 x2 x3 x4 x5 x6 (ix3 b s d)).trans (Finset.sum_congr rfl fun f _ => by
    rw [show lidx_main_v106 (ix3 b s d) f = ix3 b s f from eq_ix3 _, show ridx_main_v106 (ix3 b s d) f = ix2 d f from eq_ix2 _])

theorem at_v107 (b : Fin 4) (d : Fin 1024) : val_main_v107 (F := Ideal) x0 x1 x2 x3 x4 x5 x6 (ix2 b d) = 0 + ∑ s : Fin 2048, val_main_v106 (F := Ideal) x0 x1 x2 x3 x4 x5 x6 (ix3 b s d) :=
  (val_main_v107_apply x0 x1 x2 x3 x4 x5 x6 (ix2 b d)).trans (congrArg₂ (· + ·) Ideal.ofBits_zero_f32 (Finset.sum_congr rfl fun s _ => by
    rw [show idx_main_v107 (ix2 b d) s = ix3 b s d from eq_ix3 _]))

theorem at_v108 (b : Fin 4) (a : Fin 1) (d : Fin 1024) : val_main_v108 (F := Ideal) x0 x1 x2 x3 x4 x5 x6 (ix3 b a d) = val_main_v107 (F := Ideal) x0 x1 x2 x3 x4 x5 x6 (ix2 b d) :=
  by rw [val_main_v108_apply, show idx_main_v108 (ix3 b a d) = ix2 b d from (eq_ix2 _).trans (congrArg₂ ix2 (Fin.ext (by have := a.isLt; have := d.isLt; show ((b.val * 1 + a.val) * 1024 + d.val) / 1024 = b.val; omega)) (Fin.ext (by have := a.isLt; have := d.isLt; show ((b.val * 1 + a.val) * 1024 + d.val) % 1024 = d.val; omega)))]

theorem at_v110 (b : Fin 4) (d : Fin 1024) : val_main_v110 (F := Ideal) x0 x1 x2 x3 x4 x5 x6 (ix2 b d) = 0 + ∑ s : Fin 2048, val_main_v109 (F := Ideal) x0 x1 x2 x3 x4 x5 x6 (ix3 b s d) :=
  (val_main_v110_apply x0 x1 x2 x3 x4 x5 x6 (ix2 b d)).trans (congrArg₂ (· + ·) Ideal.ofBits_zero_f32 (Finset.sum_congr rfl fun s _ => by
    rw [show idx_main_v110 (ix2 b d) s = ix3 b s d from eq_ix3 _]))

theorem at_v111 (b : Fin 4) (a : Fin 1) (d : Fin 1024) : val_main_v111 (F := Ideal) x0 x1 x2 x3 x4 x5 x6 (ix3 b a d) = val_main_v110 (F := Ideal) x0 x1 x2 x3 x4 x5 x6 (ix2 b d) :=
  by rw [val_main_v111_apply, show idx_main_v111 (ix3 b a d) = ix2 b d from (eq_ix2 _).trans (congrArg₂ ix2 (Fin.ext (by have := a.isLt; have := d.isLt; show ((b.val * 1 + a.val) * 1024 + d.val) / 1024 = b.val; omega)) (Fin.ext (by have := a.isLt; have := d.isLt; show ((b.val * 1 + a.val) * 1024 + d.val) % 1024 = d.val; omega)))]

theorem at_v112 (b : Fin 4) (s : Fin 2048) (d : Fin 1024) : val_main_v112 (F := Ideal) x2 (ix3 b s d) = val_main_v25 (F := Ideal) x2 (ix3 b 0 d) :=
  by rw [val_main_v112_apply, show idx_main_v112 (ix3 b s d) = ix3 b 0 d from eq_ix3 _]

theorem at_v120 (a c : Fin 1) (d : Fin 1024) : val_main_v120 (F := Ideal) x0 x1 x2 x3 x4 x5 x6 (ix3 a c d) = val_main_v119 (F := Ideal) x0 x1 x2 x3 x4 x5 x6 (ix1 d) :=
  by rw [val_main_v120_apply, show idx_main_v120 (ix3 a c d) = ix1 d from (eq_ix1 _).trans (congrArg ix1 (Fin.ext (by have := a.isLt; have := c.isLt; show (a.val * 1 + c.val) * 1024 + d.val = d.val; omega)))]

theorem at_v121 (b : Fin 4) (s : Fin 2048) (d : Fin 1024) : val_main_v121 (F := Ideal) x3 (ix3 b s d) = val_main_v19 (F := Ideal) x3 (ix3 0 0 d) :=
  by rw [val_main_v121_apply, show idx_main_v121 (ix3 b s d) = ix3 0 0 d from eq_ix3 _]

theorem at_v125 (b : Fin 4) (s : Fin 2048) : val_main_v125 (F := Ideal) x0 x1 x2 x3 x4 x5 x6 (ix2 b s) = 0 + ∑ d : Fin 1024, val_main_v124 (F := Ideal) x0 x1 x2 x3 x4 x5 x6 (ix3 b s d) :=
  (val_main_v125_apply x0 x1 x2 x3 x4 x5 x6 (ix2 b s)).trans (congrArg₂ (· + ·) Ideal.ofBits_zero_f32 (Finset.sum_congr rfl fun d _ => by
    rw [show idx_main_v125 (ix2 b s) d = ix3 b s d from eq_ix3 _]))

theorem at_v126 (b : Fin 4) (s : Fin 2048) (a : Fin 1) : val_main_v126 (F := Ideal) x0 x1 x2 x3 x4 x5 x6 (ix3 b s a) = val_main_v125 (F := Ideal) x0 x1 x2 x3 x4 x5 x6 (ix2 b s) :=
  by rw [val_main_v126_apply, show idx_main_v126 (ix3 b s a) = ix2 b s from (eq_ix2 _).trans (congrArg₂ ix2 (Fin.ext (by have := a.isLt; have := s.isLt; show ((b.val * 2048 + s.val) * 1 + a.val) / 2048 = b.val; omega)) (Fin.ext (by have := a.isLt; have := s.isLt; show ((b.val * 2048 + s.val) * 1 + a.val) % 2048 = s.val; omega)))]

theorem at_v127 (b : Fin 4) (s : Fin 2048) (d : Fin 1024) : val_main_v127 (F := Ideal) x0 (ix3 b s d) = val_main_v13 (F := Ideal) x0 (ix3 b s 0) :=
  by rw [val_main_v127_apply, show idx_main_v127 (ix3 b s d) = ix3 b s 0 from eq_ix3 _]

theorem at_v133 (b : Fin 4) (s : Fin 2048) : val_main_v133 (F := Ideal) x0 x1 x2 x3 x4 x5 x6 (ix2 b s) = 0 + ∑ d : Fin 1, val_main_v132 (F := Ideal) x0 x1 x2 x3 x4 x5 x6 (ix3 b s d) :=
  (val_main_v133_apply x0 x1 x2 x3 x4 x5 x6 (ix2 b s)).trans (congrArg₂ (· + ·) Ideal.ofBits_zero_f32 (Finset.sum_congr rfl fun d _ => by
    rw [show idx_main_v133 (ix2 b s) d = ix3 b s d from eq_ix3 _]))

theorem at_v134 (b : Fin 4) (s : Fin 2048) (d : Fin 1024) : val_main_v134 (F := Ideal) x0 x1 x2 x3 x4 x5 x6 (ix3 b s d) = val_main_v133 (F := Ideal) x0 x1 x2 x3 x4 x5 x6 (ix2 b s) :=
  by rw [val_main_v134_apply, show idx_main_v134 (ix3 b s d) = ix2 b s from eq_ix2 _]

theorem at_v139 (b : Fin 4) (j : Fin 8) (p : Fin 256) : val_main_v139 (F := Ideal) x0 x1 x2 x3 x4 x5 x6 (ix3 b j p) = val_main_v67 (F := Ideal) x0 x1 x2 x3 x4 x5 x6 (ix2 b (tok j p)) :=
  by rw [val_main_v139_apply, show idx_main_v139 (ix3 b j p) = ix2 b (tok j p) from (eq_ix2 _).trans (congrArg₂ ix2 (Fin.ext (by have := j.isLt; have := p.isLt; show ((b.val * 8 + j.val) * 256 + p.val) / 2048 = b.val; omega)) (Fin.ext (by have := j.isLt; have := p.isLt; show ((b.val * 8 + j.val) * 256 + p.val) % 2048 = 256 * j.val + p.val; omega)))]

theorem at_v140 (b : Fin 4) (j : Fin 8) : val_main_v140 (F := Ideal) x0 x1 x2 x3 x4 x5 x6 (ix2 b j) = 0 + ∑ p : Fin 256, val_main_v139 (F := Ideal) x0 x1 x2 x3 x4 x5 x6 (ix3 b j p) :=
  (val_main_v140_apply x0 x1 x2 x3 x4 x5 x6 (ix2 b j)).trans (congrArg₂ (· + ·) Ideal.ofBits_zero_f32 (Finset.sum_congr rfl fun p _ => by
    rw [show idx_main_v140 (ix2 b j) p = ix3 b j p from eq_ix3 _]))

theorem at_v143 (b : Fin 4) (j : Fin 8) (a c : Fin 1) : val_main_v143 (F := Ideal) x0 x1 x2 x3 x4 x5 x6 (ix4 b j a c) = val_main_v142 (F := Ideal) x0 x1 x2 x3 x4 x5 x6 (ix2 b j) :=
  by rw [val_main_v143_apply, show idx_main_v143 (ix4 b j a c) = ix2 b j from eq_ix2 _]

theorem at_v144 (b : Fin 4) (j : Fin 8) (a : Fin 8) (l : Fin 128) : val_main_v144 (F := Ideal) x0 x1 x2 x3 x4 x5 x6 (ix4 b j a l) = val_main_v143 (F := Ideal) x0 x1 x2 x3 x4 x5 x6 (ix4 b j 0 0) :=
  by rw [val_main_v144_apply, show idx_main_v144 (ix4 b j a l) = ix4 b j 0 0 from eq_ix4 _]

theorem at_v149 (a : Fin 1) (d : Fin 1024) : val_main_v149 (F := Ideal) x0 x1 x2 x3 x4 x5 x6 (ix2 a d) = val_main_v123 (F := Ideal) x0 x1 x2 x3 x4 x5 x6 (ix1 d) :=
  by rw [val_main_v149_apply, show idx_main_v149 (ix2 a d) = ix1 d from eq_ix1 _]

theorem at_v150 (a : Fin 1) (d : Fin 1024) : val_main_v150 (F := Ideal) x0 x1 x2 x3 x4 x5 x6 (ix2 a d) = val_main_v86 (F := Ideal) x0 x1 x2 x3 x4 x5 x6 (ix1 d) :=
  by rw [val_main_v150_apply, show idx_main_v150 (ix2 a d) = ix1 d from eq_ix1 _]

end Cert.RefAt

end
-- ==== Proof.RefSums.lean ====
/- The reference's sums over batches and tokens, and its three padded rows, read at coordinates. -/
module

public import proofs.«01_k».proof.Proof.RefAt
public import Idealize.ShloMosaic.Lib.KernelVsHost
public import Idealize.ShloMosaic.PureOps.Ideal.Laws

@[expose] public section

noncomputable section

namespace Cert.RefSums

open Cert.ReferenceIdeal Cert.ReferenceIdeal.Gen Idealize.ShloMosaic Idealize.ShloMosaic.ValueIdx Cert.RefAt
open Cert.ReferenceIdeal.Read

/-- A host sum over the first two axes, at a coordinate of the third. -/
theorem outer_sum {n k m : Nat} (x : (⟨3, ![n, k, m]⟩ : Shape).Idx → EReal) (init : EReal)
    (h : (⟨3, ![n, k, m]⟩ : Shape).ReducesTo [0, 1] ⟨1, ![m]⟩) (d : Fin m) :
    Ideal.hostReduceAdd h x init (ix1 d) = init + ∑ b : Fin n, ∑ s : Fin k, x (ix3 b s d) := by
  unfold Ideal.hostReduceAdd
  refine congrArg (init + ·) ?_
  rw [← Fintype.sum_prod_type' (f := fun (b : Fin n) (s : Fin k) => x (ix3 b s d))]
  refine Finset.sum_nbij' (fun i => ((i 0, i 1) : Fin n × Fin k)) (fun p => ix3 p.1 p.2 d) (fun _ _ => Finset.mem_univ _)
    (fun p _ => Finset.mem_filter.mpr ⟨Finset.mem_univ _, ?_⟩) (fun i hi => ?_) (fun p _ => rfl) (fun i hi => ?_)
  · exact (eq_ix1 _).trans (congrArg ix1 rfl)
  all_goals
    have hd : i 2 = d := congrFun (Finset.mem_filter.mp hi).2 0
    have e : i = ix3 (i 0) (i 1) d := (eq_ix3 i).trans (congrArg (ix3 (i 0) (i 1)) hd)
  · exact e.symm
  · exact congrArg x e

/-- The 2048 tokens of a batch, tile by tile. -/
theorem sum_tokens (f : Fin 2048 → EReal) : ∑ s : Fin 2048, f s = ∑ j : Fin 8, ∑ p : Fin 256, f (tok j p) := by
  rw [← Fintype.sum_prod_type' (f := fun (j : Fin 8) (p : Fin 256) => f (tok j p))]
  refine (Fintype.sum_equiv (finProdFinEquiv (m := 8) (n := 256)) _ _ fun q => congrArg f (Fin.ext ?_)).symm
  show 256 * q.1.val + q.2.val = q.2.val + 256 * q.1.val
  omega

variable (x0 x1 : FVec Ideal S4x2048x1024 .f32) (x2 : FVec Ideal S4x3x1024 .f32) (x3 x4 : FVec Ideal S1x1024 .f32)
  (x5 : FVec Ideal S1024x4096 .bf16) (x6 : FVec Ideal S4096x1024 .bf16)

theorem at_v82 (d : Fin 1024) : val_main_v82 (F := Ideal) x0 x1 x2 x3 x4 x5 x6 (ix1 d)
    = ∑ b : Fin 4, ∑ s : Fin 2048, val_main_v81 (F := Ideal) x0 x1 x2 x3 x4 x5 x6 (ix3 b s d) :=
  (outer_sum _ _ reducesTo_S4x2048x1024_S1024_d0_1 d).trans ((congrArg (· + _) Ideal.ofBits_zero_f32).trans (zero_add _))

theorem at_v119 (d : Fin 1024) : val_main_v119 (F := Ideal) x0 x1 x2 x3 x4 x5 x6 (ix1 d)
    = ∑ b : Fin 4, ∑ s : Fin 2048, val_main_v118 (F := Ideal) x0 x1 x2 x3 x4 x5 x6 (ix3 b s d) :=
  (outer_sum _ _ reducesTo_S4x2048x1024_S1024_d0_1 d).trans ((congrArg (· + _) Ideal.ofBits_zero_f32).trans (zero_add _))

theorem at_v86 (d : Fin 1024) : val_main_v86 (F := Ideal) x0 x1 x2 x3 x4 x5 x6 (ix1 d) = val_main_v82 (F := Ideal) x0 x1 x2 x3 x4 x5 x6 (ix1 d) := by
  refine (outer_sum _ _ reducesTo_S1x1x1024_S1024_d0_1 d).trans ((congrArg (· + _) Ideal.ofBits_zero_f32).trans ((zero_add _).trans ?_))
  rw [Fin.sum_univ_one, Fin.sum_univ_one, at_v83]

theorem at_v123 (d : Fin 1024) : val_main_v123 (F := Ideal) x0 x1 x2 x3 x4 x5 x6 (ix1 d) = val_main_v119 (F := Ideal) x0 x1 x2 x3 x4 x5 x6 (ix1 d) := by
  refine (outer_sum _ _ reducesTo_S1x1x1024_S1024_d0_1 d).trans ((congrArg (· + _) Ideal.ofBits_zero_f32).trans ((zero_add _).trans ?_))
  rw [Fin.sum_univ_one, Fin.sum_univ_one, at_v120]

/-- The gradient of the second norm's scale: a sum over every tile of every batch. -/
theorem scale2 (a : Fin 1) (d : Fin 1024) : val_main_v150 (F := Ideal) x0 x1 x2 x3 x4 x5 x6 (ix2 a d)
    = ∑ b : Fin 4, ∑ j : Fin 8, ∑ p : Fin 256, val_main_v81 (F := Ideal) x0 x1 x2 x3 x4 x5 x6 (ix3 b (tok j p) d) := by
  rw [at_v150, at_v86, at_v82]
  exact Finset.sum_congr rfl fun b _ => sum_tokens _

/-- The gradient of the first norm's scale, likewise. -/
theorem scale1 (a : Fin 1) (d : Fin 1024) : val_main_v149 (F := Ideal) x0 x1 x2 x3 x4 x5 x6 (ix2 a d)
    = ∑ b : Fin 4, ∑ j : Fin 8, ∑ p : Fin 256, val_main_v118 (F := Ideal) x0 x1 x2 x3 x4 x5 x6 (ix3 b (tok j p) d) := by
  rw [at_v149, at_v123, at_v119]
  exact Finset.sum_congr rfl fun b _ => sum_tokens _

theorem gate_row (b : Fin 4) (d : Fin 1024) : val_main_v80 (F := Ideal) x0 x1 x2 x3 x4 x5 x6 (ix3 b 0 d)
    = ∑ j : Fin 8, ∑ p : Fin 256, val_main_v78 (F := Ideal) x0 x1 x2 x3 x4 x5 x6 (ix3 b (tok j p) d) := by
  rw [at_v80, at_v79, zero_add, sum_tokens]

theorem shift_row (b : Fin 4) (d : Fin 1024) : val_main_v108 (F := Ideal) x0 x1 x2 x3 x4 x5 x6 (ix3 b 0 d)
    = ∑ j : Fin 8, ∑ p : Fin 256, val_main_v106 (F := Ideal) x0 x1 x2 x3 x4 x5 x6 (ix3 b (tok j p) d) := by
  rw [at_v108, at_v107, zero_add, sum_tokens]

theorem scale_row (b : Fin 4) (d : Fin 1024) : val_main_v111 (F := Ideal) x0 x1 x2 x3 x4 x5 x6 (ix3 b 0 d)
    = ∑ j : Fin 8, ∑ p : Fin 256, val_main_v109 (F := Ideal) x0 x1 x2 x3 x4 x5 x6 (ix3 b (tok j p) d) := by
  rw [at_v111, at_v110, zero_add, sum_tokens]

/-! ## One row among three: a pad of `lo` rows of zero before and `hi` after -/

/-- The padded row, at its own place. -/
theorem pad_row (lo hi : Nat) (x : FVec Ideal S4x1x1024 .f32) (v : FVec Ideal S_ .f32)
    (h : S4x1x1024.Pads (![0, lo, 0] : Fin 3 → Nat) ![0, hi, 0] ![0, 0, 0] S4x3x1024) (hu : 0 < S_.numel) (b : Fin 4) (r : Fin 3)
    (d : Fin 1024) (hr : r.val = lo) : pad S4x3x1024 ![0, lo, 0] ![0, hi, 0] ![0, 0, 0] x v h hu (ix3 b r d) = x (ix3 b 0 d) :=
  pad_apply_of_inside _ _ _ x v h hu (ix3 b r d) (ix3 b 0 d) fun a => by
    match a with
    | ⟨0, _⟩ => show b.val = 0 + b.val * 1; omega
    | ⟨1, _⟩ => show r.val = lo + 0 * 1; omega
    | ⟨2, _⟩ => show d.val = 0 + d.val * 1; omega

/-- At another row, the padding value. -/
theorem pad_off_row (lo hi : Nat) (x : FVec Ideal S4x1x1024 .f32) (v : FVec Ideal S_ .f32)
    (h : S4x1x1024.Pads (![0, lo, 0] : Fin 3 → Nat) ![0, hi, 0] ![0, 0, 0] S4x3x1024) (hu : 0 < S_.numel) (b : Fin 4) (r : Fin 3)
    (d : Fin 1024) (hr : r.val ≠ lo) (hv : v (Shape.Idx.first hu) = (0 : EReal)) :
    pad S4x3x1024 ![0, lo, 0] ![0, hi, 0] ![0, 0, 0] x v h hu (ix3 b r d) = (0 : EReal) :=
  (pad_apply_of_not_inside _ _ _ x v h hu (ix3 b r d) ⟨1, by decide⟩ (by
    show ¬(lo ≤ r.val ∧ (r.val - lo) % 1 = 0 ∧ (r.val - lo) / 1 < 1)
    rw [Nat.div_one]
    omega)).trans hv

theorem mod_row0 (b : Fin 4) (d : Fin 1024) : val_main_v117 (F := Ideal) x0 x1 x2 x3 x4 x5 x6 (ix3 b 0 d)
    = val_main_v108 (F := Ideal) x0 x1 x2 x3 x4 x5 x6 (ix3 b 0 d) := by
  show (pad _ _ _ _ _ _ _ _ _ + pad _ _ _ _ _ _ _ _ _ : EReal) + pad _ _ _ _ _ _ _ _ _ = _
  rw [pad_off_row 2 0 _ _ _ _ b 0 d (by decide) Ideal.ofBits_zero_f32, pad_off_row 1 1 _ _ _ _ b 0 d (by decide) Ideal.ofBits_zero_f32,
    pad_row 0 2 _ _ _ _ b 0 d rfl, zero_add, zero_add]

theorem mod_row1 (b : Fin 4) (d : Fin 1024) : val_main_v117 (F := Ideal) x0 x1 x2 x3 x4 x5 x6 (ix3 b 1 d)
    = val_main_v111 (F := Ideal) x0 x1 x2 x3 x4 x5 x6 (ix3 b 0 d) := by
  show (pad _ _ _ _ _ _ _ _ _ + pad _ _ _ _ _ _ _ _ _ : EReal) + pad _ _ _ _ _ _ _ _ _ = _
  rw [pad_off_row 2 0 _ _ _ _ b 1 d (by decide) Ideal.ofBits_zero_f32, pad_row 1 1 _ _ _ _ b 1 d rfl,
    pad_off_row 0 2 _ _ _ _ b 1 d (by decide) Ideal.ofBits_zero_f32, zero_add, add_zero]

theorem mod_row2 (b : Fin 4) (d : Fin 1024) : val_main_v117 (F := Ideal) x0 x1 x2 x3 x4 x5 x6 (ix3 b 2 d)
    = val_main_v80 (F := Ideal) x0 x1 x2 x3 x4 x5 x6 (ix3 b 0 d) := by
  show (pad _ _ _ _ _ _ _ _ _ + pad _ _ _ _ _ _ _ _ _ : EReal) + pad _ _ _ _ _ _ _ _ _ = _
  rw [pad_row 2 0 _ _ _ _ b 2 d rfl, pad_off_row 1 1 _ _ _ _ b 2 d (by decide) Ideal.ofBits_zero_f32,
    pad_off_row 0 2 _ _ _ _ b 2 d (by decide) Ideal.ofBits_zero_f32, add_zero, add_zero]

end Cert.RefSums
-- ==== Proof.BwdRef.lean ====
/- The reference of the input projection's backward pass, read at coordinates in closed form. -/
module

public import proofs.«01_k».proof.Proof.BwdTile
public import proofs.«01_k».proof.Proof.InProj
public import proofs.«01_k».proof.Proof.RefSums
public import proofs.«01_k».proof.Proof.Gen.Reference12Ideal
public import proofs.«01_k».proof.Proof.Gen.Reference12Ideal.Read

@[expose] public section

set_option maxRecDepth 16384

noncomputable section

namespace Cert.BwdRef

open Cert.Reference12Ideal Cert.Reference12Ideal.Gen Idealize.ShloMosaic Idealize.ShloMosaic.ValueIdx
open Cert.Reference12Ideal.Read
open Cert.Bwd (mixed meanSq scaled pull gradRow gainPart scalePart)
open Cert.InProj (joined tile)

/-! ## What is computed -/

abbrev Wide := (⟨3, ![4, 2304, 3072]⟩ : Shape).Idx → EReal
abbrev Weight := (⟨2, ![1024, 3072]⟩ : Shape).Idx → EReal
abbrev Lanes := (⟨2, ![1, 2048]⟩ : Shape).Idx → EReal
abbrev Gain := (⟨2, ![1, 1024]⟩ : Shape).Idx → EReal
abbrev Ctx := (⟨3, ![4, 256, 1024]⟩ : Shape).Idx → EReal
abbrev Seq := (⟨3, ![4, 2048, 1024]⟩ : Shape).Idx → EReal
abbrev Modt := (⟨4, ![4, 9, 2, 1024]⟩ : Shape).Idx → EReal

/-- The gradient of the row before a row and of the row after it: none across the border of context and tokens. -/
def before (dz : Wide) (b : Fin 4) (n : Fin 2304) (q : Fin 3072) : EReal := if n.val = 0 ∨ n.val = 256 then 0 else dz (ix3 b ⟨n.val - 1, by omega⟩ q)
def after (dz : Wide) (b : Fin 4) (n : Fin 2304) (q : Fin 3072) : EReal :=
  if h : n.val = 255 ∨ n.val = 2303 then 0 else dz (ix3 b ⟨n.val + 1, by omega⟩ q)

/-- The projection's gradient: through the token shift in the first 2048 lanes. -/
def unshift (dz : Wide) (mp mn : Lanes) (b : Fin 4) (n : Fin 2304) (q : Fin 3072) : EReal :=
  if h : q.val < 2048 then mixed (mp (ix2 0 ⟨q.val, h⟩)) (mn (ix2 0 ⟨q.val, h⟩)) (dz (ix3 b n q)) (after dz b n q) (before dz b n q) else dz (ix3 b n q)

/-- The gradient of the modulated rows. -/
def back (dz : Wide) (w : Weight) (mp mn : Lanes) (b : Fin 4) (n : Fin 2304) (e : Fin 1024) : EReal := ∑ q : Fin 3072, unshift dz mp mn b n q * w (ix2 e q)

/-- A token's scale row, and the norm's gain. -/
def scaleOf (s : Modt) (b : Fin 4) (n : Fin 2304) (e : Fin 1024) : EReal := s (ix4 b (tile n) 1 e)
def gainOf (g : Gain) (e : Fin 1024) : EReal := g (ix2 0 e)

/-- Row `k` of tile `j`. -/
def rowIn (j : Fin 9) (k : Fin 256) : Fin 2304 := ⟨256 * j.val + k.val, by omega⟩

def gradX (dz : Wide) (a : Ctx) (x : Seq) (s : Modt) (g : Gain) (w : Weight) (mp mn : Lanes) (r : Seq) (i : (⟨3, ![4, 2048, 1024]⟩ : Shape).Idx) : EReal :=
  gradRow (joined a x (i 0) ⟨256 + (i 1).val, Nat.add_lt_add_left (i 1).isLt 256⟩) (back dz w mp mn (i 0) ⟨256 + (i 1).val, Nat.add_lt_add_left (i 1).isLt 256⟩) (gainOf g)
    (scaleOf s (i 0) ⟨256 + (i 1).val, Nat.add_lt_add_left (i 1).isLt 256⟩) (i 2) + r i

def gradP (dz : Wide) (mp mn : Lanes) (i : (⟨3, ![4, 2304, 3072]⟩ : Shape).Idx) : EReal := unshift dz mp mn (i 0) (i 1) (i 2)

def gradM (dz : Wide) (a : Ctx) (x : Seq) (g : Gain) (w : Weight) (mp mn : Lanes) (i : (⟨4, ![4, 9, 2, 1024]⟩ : Shape).Idx) : EReal :=
  if (i 2).val = 0 then ∑ k : Fin 256, back dz w mp mn (i 0) (rowIn (i 1) k) (i 3)
  else ∑ k : Fin 256, scalePart (joined a x (i 0) (rowIn (i 1) k)) (back dz w mp mn (i 0) (rowIn (i 1) k)) (gainOf g) (i 3)

def gradG (dz : Wide) (a : Ctx) (x : Seq) (s : Modt) (w : Weight) (mp mn : Lanes) (i : (⟨2, ![1, 1024]⟩ : Shape).Idx) : EReal :=
  ∑ b : Fin 4, ∑ n : Fin 2304, gainPart (joined a x b n) (back dz w mp mn b n) (scaleOf s b n) (i 1)

/-! ## Pads -/

section
variable {n k l n' k' l' : ℕ} (lo hi : Fin 3 → ℕ) (x : (⟨3, ![n, k, l]⟩ : Shape).Idx → EReal) (v : S_.Idx → EReal)
  (h : (⟨3, ![n, k, l]⟩ : Shape).Pads lo hi ![0, 0, 0] ⟨3, ![n', k', l']⟩) (hu : 0 < S_.numel) (i : (⟨3, ![n', k', l']⟩ : Shape).Idx)

theorem pad_in (j : (⟨3, ![n, k, l]⟩ : Shape).Idx) (e0 : (i 0).val = lo 0 + (j 0).val) (e1 : (i 1).val = lo 1 + (j 1).val) (e2 : (i 2).val = lo 2 + (j 2).val) :
    pad ⟨3, ![n', k', l']⟩ lo hi ![0, 0, 0] x v h hu i = x j :=
  pad_apply_of_inside lo hi _ x v h hu i j fun a => by
    match a with
    | ⟨0, _⟩ => exact e0.trans (congrArg (lo 0 + ·) (Nat.mul_one _).symm)
    | ⟨1, _⟩ => exact e1.trans (congrArg (lo 1 + ·) (Nat.mul_one _).symm)
    | ⟨2, _⟩ => exact e2.trans (congrArg (lo 2 + ·) (Nat.mul_one _).symm)

theorem pad_rows (hi1 : (i 1).val < lo 1 ∨ lo 1 + k ≤ (i 1).val) (hv : ∀ u, v u = 0) : pad ⟨3, ![n', k', l']⟩ lo hi ![0, 0, 0] x v h hu i = 0 := by
  refine (pad_apply_of_not_inside lo hi _ x v h hu i 1 fun ha => ?_).trans (hv _)
  have h1 : lo 1 ≤ (i 1).val := ha.1
  have h2 : ((i 1).val - lo 1) / 1 < k := ha.2.2
  rw [Nat.div_one] at h2
  omega

theorem pad_lanes (hi2 : (i 2).val < lo 2 ∨ lo 2 + l ≤ (i 2).val) (hv : ∀ u, v u = 0) : pad ⟨3, ![n', k', l']⟩ lo hi ![0, 0, 0] x v h hu i = 0 := by
  refine (pad_apply_of_not_inside lo hi _ x v h hu i 2 fun ha => ?_).trans (hv _)
  have h1 : lo 2 ≤ (i 2).val := ha.1
  have h2 : ((i 2).val - lo 2) / 1 < l := ha.2.2
  rw [Nat.div_one] at h2
  omega

end

/-! ## The token shift -/

variable (dz : FVec Ideal S4x2304x3072 .f32) (a : FVec Ideal S4x256x1024 .f32) (x : FVec Ideal S4x2048x1024 .f32) (s : FVec Ideal S4x9x2x1024 .f32)
  (g : FVec Ideal S1x1024 .f32) (w : FVec Ideal S1024x3072 .bf16) (mp mn : FVec Ideal S1x2048 .f32) (r : FVec Ideal S4x2048x1024 .f32)

theorem zero_bits : (FloatOps.ofBits .f32 0x00000000#32 : Ideal .f32) = (0 : EReal) := Ideal.ofBits_zero_f32

/-- A lane of a row of weights. -/
theorem lane (m : FVec Ideal S1x2048 .f32) (q : Fin 2048) : val_main_v3 (F := Ideal) m (ix1 q) = m (ix2 0 q) ∧ val_main_v4 (F := Ideal) m (ix1 q) = m (ix2 0 q) := by
  constructor
  · rw [val_main_v3_apply]
    exact congrArg m ((eq_ix2 _).trans (congrArg (ix2 0) (Fin.ext (Nat.mod_eq_of_lt q.isLt))))
  · rw [val_main_v4_apply]
    exact congrArg m ((eq_ix2 _).trans (congrArg (ix2 0) (Fin.ext (Nat.mod_eq_of_lt q.isLt))))

section
variable (b : Fin 4) (q : Fin 2048)

/-- The tokens' rows. -/
theorem at_v90 (n : Fin 2048) : val_main_v90 (F := Ideal) dz (ix3 b n q) = dz (ix3 b ⟨256 + n.val, by omega⟩ ⟨q.val, by omega⟩) := by
  rw [val_main_v90_apply, val_main_v86_apply]
  exact congrArg dz (eq_ix3 _)

theorem at_v92 (n : Fin 2048) : val_main_v92 (F := Ideal) dz mn (ix3 b n q) = mn (ix2 0 q) * dz (ix3 b ⟨256 + n.val, by omega⟩ ⟨q.val, by omega⟩) := by
  rw [val_main_v92_apply, at_v90, val_main_v91_apply, val_main_v79_apply, show idx_main_v79 (idx_main_v91 (ix3 b n q)) = ix1 q from eq_ix1 _, (lane mn q).2, Ideal.mulf_def]

theorem at_v94 (n : Fin 2048) : val_main_v94 (F := Ideal) dz mp (ix3 b n q) = mp (ix2 0 q) * dz (ix3 b ⟨256 + n.val, by omega⟩ ⟨q.val, by omega⟩) := by
  rw [val_main_v94_apply, at_v90, val_main_v93_apply, val_main_v75_apply, show idx_main_v75 (idx_main_v93 (ix3 b n q)) = ix1 q from eq_ix1 _, (lane mp q).1, Ideal.mulf_def]

theorem at_v96 (n : Fin 2048) : val_main_v96 (F := Ideal) dz mp mn (ix3 b n q)
    = (Ideal.ofBits .f32 0x3F800000#32 - mp (ix2 0 q) - mn (ix2 0 q)) * dz (ix3 b ⟨256 + n.val, by omega⟩ ⟨q.val, by omega⟩) := by
  rw [val_main_v96_apply, at_v90, val_main_v95_apply, val_main_v72_apply, show idx_main_v72 (idx_main_v95 (ix3 b n q)) = ix1 q from eq_ix1 _, val_main_v71_apply,
    val_main_v70_apply, (lane mp q).1, (lane mn q).2, val_main_v69_apply, val_main_cst_13_apply]
  rfl

theorem at_v99 (n : Fin 2048) : val_main_v99 (F := Ideal) dz mn (ix3 b n q) = mn (ix2 0 q) * before dz b ⟨256 + n.val, by omega⟩ ⟨q.val, by omega⟩ := by
  unfold val_main_v99 before
  by_cases h : n.val = 0
  · rw [if_pos (by right; show 256 + n.val = 256; omega), mul_zero]
    exact pad_rows _ _ _ _ _ _ _ (.inl (by show n.val < 1; omega)) fun _ => zero_bits
  · rw [if_neg (by show ¬(256 + n.val = 0 ∨ 256 + n.val = 256); omega)]
    refine (pad_in _ _ _ _ _ _ _ (ix3 b ⟨n.val - 1, by omega⟩ q) (Nat.zero_add _).symm (by show n.val = 1 + (n.val - 1); omega) (Nat.zero_add _).symm).trans ?_
    rw [val_main_v97_apply, show idx_main_v97 (ix3 b ⟨n.val - 1, _⟩ q) = ix3 b ⟨n.val - 1, by omega⟩ q from eq_ix3 _, at_v92]
    exact congrArg (fun u => mn (ix2 0 q) * dz (ix3 b u _)) (Fin.ext (by show 256 + (n.val - 1) = 256 + n.val - 1; omega))

theorem at_v103 (n : Fin 2048) : val_main_v103 (F := Ideal) dz mp (ix3 b n q) = mp (ix2 0 q) * after dz b ⟨256 + n.val, by omega⟩ ⟨q.val, by omega⟩ := by
  unfold val_main_v103 after
  by_cases h : n.val = 2047
  · rw [dif_pos (by right; show 256 + n.val = 2303; omega), mul_zero]
    exact pad_rows _ _ _ _ _ _ _ (.inr (by show 0 + 2047 ≤ n.val; omega)) fun _ => zero_bits
  · rw [dif_neg (by show ¬(256 + n.val = 255 ∨ 256 + n.val = 2303); omega)]
    refine (pad_in _ _ _ _ _ _ _ (ix3 b ⟨n.val, by omega⟩ q) (Nat.zero_add _).symm (Nat.zero_add _).symm (Nat.zero_add _).symm).trans ?_
    rw [val_main_v102_apply, show idx_main_v102 (ix3 b ⟨n.val, _⟩ q) = ix3 b ⟨1 + n.val, by omega⟩ q from eq_ix3 _, at_v94]
    exact congrArg (fun u => mp (ix2 0 q) * dz (ix3 b u _)) (Fin.ext (by show 256 + (1 + n.val) = 256 + n.val + 1; omega))

theorem mix_at (own next prev p m : EReal) : (Ideal.ofBits .f32 0x3F800000#32 - p - m) * own + m * prev + p * next = mixed p m own next prev := by
  unfold mixed
  rw [mul_comm, add_right_comm]

theorem at_v104 (n : Fin 2048) : val_main_v104 (F := Ideal) dz mp mn (ix3 b n q)
    = unshift dz mp mn b ⟨256 + n.val, by omega⟩ ⟨q.val, by omega⟩ := by
  unfold unshift
  rw [dif_pos q.isLt, val_main_v104_apply, val_main_v100_apply, at_v96, at_v99, at_v103]
  exact mix_at _ _ _ _ _

/-- The context's rows. -/
theorem at_v89 (n : Fin 256) : val_main_v89 (F := Ideal) dz (ix3 b n q) = dz (ix3 b ⟨n.val, by omega⟩ ⟨q.val, by omega⟩) := by
  rw [val_main_v89_apply, val_main_v86_apply]
  exact congrArg dz (eq_ix3 _)

theorem at_v108 (n : Fin 256) : val_main_v108 (F := Ideal) dz mn (ix3 b n q) = mn (ix2 0 q) * dz (ix3 b ⟨n.val, by omega⟩ ⟨q.val, by omega⟩) := by
  rw [val_main_v108_apply, at_v89, val_main_v107_apply, val_main_v56_apply, show idx_main_v56 (idx_main_v107 (ix3 b n q)) = ix1 q from eq_ix1 _, (lane mn q).2, Ideal.mulf_def]

theorem at_v110 (n : Fin 256) : val_main_v110 (F := Ideal) dz mp (ix3 b n q) = mp (ix2 0 q) * dz (ix3 b ⟨n.val, by omega⟩ ⟨q.val, by omega⟩) := by
  rw [val_main_v110_apply, at_v89, val_main_v109_apply, val_main_v52_apply, show idx_main_v52 (idx_main_v109 (ix3 b n q)) = ix1 q from eq_ix1 _, (lane mp q).1, Ideal.mulf_def]

theorem at_v112 (n : Fin 256) : val_main_v112 (F := Ideal) dz mp mn (ix3 b n q)
    = (Ideal.ofBits .f32 0x3F800000#32 - mp (ix2 0 q) - mn (ix2 0 q)) * dz (ix3 b ⟨n.val, by omega⟩ ⟨q.val, by omega⟩) := by
  rw [val_main_v112_apply, at_v89, val_main_v111_apply, val_main_v49_apply, show idx_main_v49 (idx_main_v111 (ix3 b n q)) = ix1 q from eq_ix1 _, val_main_v48_apply,
    val_main_v47_apply, (lane mp q).1, (lane mn q).2, val_main_v46_apply, val_main_cst_9_apply]
  rfl

theorem at_v115 (n : Fin 256) : val_main_v115 (F := Ideal) dz mn (ix3 b n q) = mn (ix2 0 q) * before dz b ⟨n.val, by omega⟩ ⟨q.val, by omega⟩ := by
  unfold val_main_v115 before
  by_cases h : n.val = 0
  · rw [if_pos (.inl h), mul_zero]
    exact pad_rows _ _ _ _ _ _ _ (.inl (by show n.val < 1; omega)) fun _ => zero_bits
  · rw [if_neg (by show ¬(n.val = 0 ∨ n.val = 256); omega)]
    refine (pad_in _ _ _ _ _ _ _ (ix3 b ⟨n.val - 1, by omega⟩ q) (Nat.zero_add _).symm (by show n.val = 1 + (n.val - 1); omega) (Nat.zero_add _).symm).trans ?_
    rw [val_main_v113_apply, show idx_main_v113 (ix3 b ⟨n.val - 1, _⟩ q) = ix3 b ⟨n.val - 1, by omega⟩ q from eq_ix3 _, at_v108]

theorem at_v119 (n : Fin 256) : val_main_v119 (F := Ideal) dz mp (ix3 b n q) = mp (ix2 0 q) * after dz b ⟨n.val, by omega⟩ ⟨q.val, by omega⟩ := by
  unfold val_main_v119 after
  by_cases h : n.val = 255
  · rw [dif_pos (.inl h), mul_zero]
    exact pad_rows _ _ _ _ _ _ _ (.inr (by show 0 + 255 ≤ n.val; omega)) fun _ => zero_bits
  · rw [dif_neg (by show ¬(n.val = 255 ∨ n.val = 2303); omega)]
    refine (pad_in _ _ _ _ _ _ _ (ix3 b ⟨n.val, by omega⟩ q) (Nat.zero_add _).symm (Nat.zero_add _).symm (Nat.zero_add _).symm).trans ?_
    rw [val_main_v118_apply, show idx_main_v118 (ix3 b ⟨n.val, _⟩ q) = ix3 b ⟨1 + n.val, by omega⟩ q from eq_ix3 _, at_v110]
    exact congrArg (fun u => mp (ix2 0 q) * dz (ix3 b u _)) (Fin.ext (Nat.add_comm 1 n.val))

theorem at_v120 (n : Fin 256) : val_main_v120 (F := Ideal) dz mp mn (ix3 b n q) = unshift dz mp mn b ⟨n.val, by omega⟩ ⟨q.val, by omega⟩ := by
  unfold unshift
  rw [dif_pos q.isLt, val_main_v120_apply, val_main_v116_apply, at_v112, at_v115, at_v119]
  exact mix_at _ _ _ _ _

end

/-- The projection's gradient, put together from its three parts. -/
theorem at_v122 (b : Fin 4) (n : Fin 2304) (q : Fin 3072) : val_main_v122 (F := Ideal) dz mp mn (ix3 b n q) = unshift dz mp mn b n q := by
  rw [val_main_v122_apply, val_main_v106_apply]
  show val_main_v88 (F := Ideal) dz (ix3 b n q) + val_main_v105 (F := Ideal) dz mp mn (ix3 b n q) + val_main_v121 (F := Ideal) dz mp mn (ix3 b n q) = _
  unfold val_main_v88 val_main_v105 val_main_v121
  have hn := n.isLt
  by_cases hq : q.val < 2048
  · rw [show pad S4x2304x3072 ![0, 0, 2048] ![0, 0, 0] ![0, 0, 0] (val_main_v87 (F := Ideal) dz) (val_main_cst_14 (F := Ideal)) pads_S4x2304x1024_S4x2304x3072_000_000_204800 h_S_ (ix3 b n q) = (0 : EReal) from
      pad_lanes _ _ _ _ _ _ _ (.inl hq) fun _ => zero_bits, zero_add]
    by_cases h : n.val < 256
    · rw [show pad S4x2304x3072 ![0, 256, 0] ![0, 0, 1024] ![0, 0, 0] (val_main_v104 (F := Ideal) dz mp mn) (val_main_cst_17 (F := Ideal)) pads_S4x2048x2048_S4x2304x3072_000_25600_010240 h_S_ (ix3 b n q) = (0 : EReal) from
        pad_rows _ _ _ _ _ _ _ (.inl h) fun _ => zero_bits, zero_add]
      exact (pad_in _ _ _ _ _ _ _ (ix3 b ⟨n.val, h⟩ ⟨q.val, hq⟩) (Nat.zero_add _).symm (Nat.zero_add _).symm (Nat.zero_add _).symm).trans (at_v120 dz mp mn b _ _)
    · rw [show pad S4x2304x3072 ![0, 0, 0] ![0, 2048, 1024] ![0, 0, 0] (val_main_v120 (F := Ideal) dz mp mn) (val_main_cst_20 (F := Ideal)) pads_S4x256x2048_S4x2304x3072_000_020480_010240 h_S_ (ix3 b n q) = (0 : EReal) from
        pad_rows _ _ _ _ _ _ _ (.inr (by show 0 + 256 ≤ n.val; omega)) fun _ => zero_bits, add_zero]
      refine (pad_in _ _ _ _ _ _ _ (ix3 b ⟨n.val - 256, by omega⟩ ⟨q.val, hq⟩) (Nat.zero_add _).symm (by show n.val = 256 + (n.val - 256); omega) (Nat.zero_add _).symm).trans ?_
      refine (at_v104 dz mp mn b _ _).trans (congrArg (fun u => unshift dz mp mn b u q) (Fin.ext ?_))
      show 256 + (n.val - 256) = n.val
      omega
  · rw [show pad S4x2304x3072 ![0, 256, 0] ![0, 0, 1024] ![0, 0, 0] (val_main_v104 (F := Ideal) dz mp mn) (val_main_cst_17 (F := Ideal)) pads_S4x2048x2048_S4x2304x3072_000_25600_010240 h_S_ (ix3 b n q) = (0 : EReal) from
        pad_lanes _ _ _ _ _ _ _ (.inr (by show 0 + 2048 ≤ q.val; omega)) fun _ => zero_bits,
      show pad S4x2304x3072 ![0, 0, 0] ![0, 2048, 1024] ![0, 0, 0] (val_main_v120 (F := Ideal) dz mp mn) (val_main_cst_20 (F := Ideal)) pads_S4x256x2048_S4x2304x3072_000_020480_010240 h_S_ (ix3 b n q) = (0 : EReal) from
        pad_lanes _ _ _ _ _ _ _ (.inr (by show 0 + 2048 ≤ q.val; omega)) fun _ => zero_bits, add_zero, add_zero]
    unfold unshift
    rw [dif_neg hq]
    refine (pad_in _ _ _ _ _ _ _ (ix3 b n ⟨q.val - 2048, by omega⟩) (Nat.zero_add _).symm (Nat.zero_add _).symm (by show q.val = 2048 + (q.val - 2048); omega)).trans ?_
    rw [val_main_v87_apply]
    exact congrArg dz ((eq_ix3 _).trans (congrArg (ix3 b n) (Fin.ext (by show 2048 + (q.val - 2048) = q.val; omega))))

/-! ## The rows -/

section
variable (b : Fin 4) (n : Fin 2304) (d : Fin 1024)

theorem at_v123 : val_main_v123 (F := Ideal) dz w mp mn (ix3 b n d) = back dz w mp mn b n d := by
  rw [val_main_v123_apply]
  refine Finset.sum_congr rfl fun q _ => ?_
  rw [show lidx_main_v123 (ix3 b n d) q = ix3 b n q from eq_ix3 _, at_v122, val_main_v2_apply, Ideal.extf_def, show ridx_main_v123 (ix3 b n d) q = ix2 d q from eq_ix2 _]

theorem at_v5 : val_main_v5 (F := Ideal) a x (ix3 b n d) = joined a x b n d := Cert.InProj.ref_joined a x b n d

theorem at_v13 : val_main_v13 (F := Ideal) a x (ix3 b n 0) = meanSq (joined a x b n) := by
  unfold meanSq
  rw [val_main_v13_apply, val_main_v12_apply, val_main_cst_3_apply, val_main_v11_apply, val_main_v10_apply, val_main_cst_2_apply, val_main_v9_apply, val_main_v8_apply,
    val_main_cst_1_apply, zero_bits, zero_add]
  simp only [val_main_v7_apply, show ∀ e, idx_main_v8 (idx_main_v9 (ix3 b n 0)) e = ix3 b n e from fun e => eq_ix3 _, at_v5, Ideal.mulf_def]
  rfl

theorem at_v14 : val_main_v14 (F := Ideal) a x (ix3 b n 0) = Ideal.rsqrt (meanSq (joined a x b n)) := by
  rw [val_main_v14_apply, at_v13]
  rfl

theorem at_v17 : val_main_v17 (F := Ideal) a x (ix3 b n 0)
    = Ideal.ofBits .f32 0xBF000000#32 * Ideal.div (Ideal.rsqrt (meanSq (joined a x b n))) (meanSq (joined a x b n)) := by
  rw [val_main_v17_apply, val_main_v16_apply, val_main_cst_4_apply, val_main_v15_apply, at_v14, at_v13]
  rfl

theorem at_v19 : val_main_v19 (F := Ideal) a x (ix3 b n d) = joined a x b n d * Ideal.rsqrt (meanSq (joined a x b n)) := by
  rw [val_main_v19_apply, at_v5, val_main_v18_apply, show idx_main_v18 (ix3 b n d) = ix3 b n 0 from eq_ix3 _, at_v14, Ideal.mulf_def]

theorem at_v20 : val_main_v20 (F := Ideal) g (ix3 0 0 d) = gainOf g d := by
  rw [val_main_v20_apply, val_main_v1_apply]
  exact congrArg g ((eq_ix2 _).trans (congrArg (ix2 0) (Fin.ext (Nat.mod_eq_of_lt d.isLt))))

theorem at_v32 : val_main_v32 (F := Ideal) s (ix3 b n d) = Ideal.ofBits .f32 0x3F800000#32 + scaleOf s b n d := by
  rw [val_main_v32_apply, val_main_v31_apply, val_main_cst_5_apply, val_main_v30_apply, show idx_main_v30 (ix3 b n d) = _ from Cert.InProj.idx_rows b n d, val_main_v29_apply,
    show idx_main_v29 (ix4 b (tile n) _ d) = ix3 b (tile n) d from eq_ix3 _, val_main_v28_apply, show idx_main_v28 (ix3 b (tile n) d) = _ from Cert.InProj.idx_unit b (tile n) d,
    val_main_v27_apply]
  exact congrArg (Ideal.ofBits .f32 0x3F800000#32 + s ·) (eq_ix4 _)

theorem at_v125 : val_main_v125 (F := Ideal) dz s w mp mn (ix3 b n d) = scaled (back dz w mp mn b n) (scaleOf s b n) d := by
  rw [val_main_v125_apply, at_v123, at_v32]
  rfl

theorem at_v124 : val_main_v124 (F := Ideal) dz a x g w mp mn (ix3 b n d) = scalePart (joined a x b n) (back dz w mp mn b n) (gainOf g) d := by
  rw [val_main_v124_apply, at_v123, val_main_v22_apply, at_v19, val_main_v21_apply, show idx_main_v21 (ix3 b n d) = ix3 0 0 d from eq_ix3 _, at_v20]
  rfl

theorem at_v135 : val_main_v135 (F := Ideal) dz a x s w mp mn (ix3 b n d) = gainPart (joined a x b n) (back dz w mp mn b n) (scaleOf s b n) d := by
  rw [val_main_v135_apply, at_v19, at_v125]
  rfl

theorem at_v139 : val_main_v139 (F := Ideal) dz s g w mp mn (ix3 b n d) = scaled (back dz w mp mn b n) (scaleOf s b n) d * gainOf g d := by
  rw [val_main_v139_apply, at_v125, val_main_v138_apply, show idx_main_v138 (ix3 b n d) = ix3 0 0 d from eq_ix3 _, at_v20, Ideal.mulf_def]

theorem at_v142 : val_main_v142 (F := Ideal) dz a x s g w mp mn (ix2 b n)
    = ∑ e, joined a x b n e * (scaled (back dz w mp mn b n) (scaleOf s b n) e * gainOf g e) := by
  rw [val_main_v142_apply, val_main_cst_27_apply, zero_bits, zero_add]
  refine Finset.sum_congr rfl fun e _ => ?_
  rw [show idx_main_v142 (ix2 b n) e = ix3 b n e from eq_ix3 _, val_main_v141_apply, at_v5, at_v139, Ideal.mulf_def]

theorem at_v150 : val_main_v150 (F := Ideal) dz a x s g w mp mn (ix3 b n d) = pull (joined a x b n) (back dz w mp mn b n) (gainOf g) (scaleOf s b n) := by
  have hc : idx_main_v143 (ix3 b n 0) = ix2 b n := by
    have hn := n.isLt
    refine (eq_ix2 _).trans (congrArg₂ ix2 (Fin.ext ?_) (Fin.ext ?_))
    · show ((b.val * 2304 + n.val) * 1 + 0) / 2304 = b.val; omega
    · show ((b.val * 2304 + n.val) * 1 + 0) % 2304 = n.val; omega
  rw [val_main_v150_apply, val_main_v149_apply, val_main_cst_29_apply, zero_bits, zero_add, Fin.sum_univ_one,
    show idx_main_v149 (idx_main_v150 (ix3 b n d)) 0 = ix3 b n 0 from eq_ix3 _, val_main_v148_apply, val_main_v147_apply, val_main_cst_28_apply, val_main_v146_apply,
    val_main_v143_apply, hc, at_v142, at_v17]
  rfl

theorem at_v154 : val_main_v154 (F := Ideal) dz a x s g w mp mn (ix3 b n d) = gradRow (joined a x b n) (back dz w mp mn b n) (gainOf g) (scaleOf s b n) d := by
  rw [val_main_v154_apply, val_main_v153_apply, val_main_v152_apply, val_main_v151_apply, val_main_v145_apply, at_v150, at_v5, at_v139, val_main_v144_apply,
    show idx_main_v144 (ix3 b n d) = ix3 b n 0 from eq_ix3 _, at_v14]
  rfl

end

/-! ## The results -/

theorem ref_x : val_main_v157 (F := Ideal) dz a x s g w mp mn r = (gradX dz a x s g w mp mn r : Vec Ideal S4x2048x1024 .f32) := by
  funext i
  obtain ⟨b, n, d, rfl⟩ : ∃ b n d, i = ix3 b n d := ⟨_, _, _, eq_ix3 i⟩
  rw [val_main_v157_apply, val_main_v156_apply, show idx_main_v156 (ix3 b n d) = ix3 b ⟨256 + n.val, Nat.add_lt_add_left n.isLt 256⟩ d from eq_ix3 _, at_v154]
  rfl

theorem ref_p : val_main_v158 (F := Ideal) dz mp mn = (gradP dz mp mn : Vec Ideal S4x2304x3072 .bf16) := by
  funext i
  obtain ⟨b, n, q, rfl⟩ : ∃ b n q, i = ix3 b n q := ⟨_, _, _, eq_ix3 i⟩
  rw [val_main_v158_apply, at_v122]
  rfl

theorem idx_tiles (b : Fin 4) (j : Fin 9) (k : Fin 256) (d : Fin 1024) : idx_main_v126 (ix4 b j k d) = ix3 b (rowIn j k) d := by
  have hb := b.isLt; have hj := j.isLt; have hk := k.isLt; have hd := d.isLt
  refine funext fun e => Fin.ext ?_
  match e with
  | ⟨0, _⟩ => show (((b.val * 9 + j.val) * 256 + k.val) * 1024 + d.val) / 2359296 = b.val; omega
  | ⟨1, _⟩ => show (((b.val * 9 + j.val) * 256 + k.val) * 1024 + d.val) / 1024 % 2304 = 256 * j.val + k.val; omega
  | ⟨2, _⟩ => show (((b.val * 9 + j.val) * 256 + k.val) * 1024 + d.val) % 1024 = d.val; omega

theorem at_v128 (b : Fin 4) (j : Fin 9) (d : Fin 1024) : val_main_v128 (F := Ideal) dz a x g w mp mn (ix4 b j 0 d)
    = ∑ k : Fin 256, scalePart (joined a x b (rowIn j k)) (back dz w mp mn b (rowIn j k)) (gainOf g) d := by
  rw [val_main_v128_apply, val_main_v127_apply, val_main_cst_21_apply, zero_bits, zero_add]
  refine Finset.sum_congr rfl fun k _ => ?_
  rw [show idx_main_v127 (idx_main_v128 (ix4 b j 0 d)) k = ix4 b j k d from eq_ix4 _, val_main_v126_apply, idx_tiles, at_v124]

theorem at_v132 (b : Fin 4) (j : Fin 9) (d : Fin 1024) : val_main_v132 (F := Ideal) dz w mp mn (ix4 b j 0 d) = ∑ k : Fin 256, back dz w mp mn b (rowIn j k) d := by
  rw [val_main_v132_apply, val_main_v131_apply, val_main_cst_23_apply, zero_bits, zero_add]
  refine Finset.sum_congr rfl fun k _ => ?_
  rw [show idx_main_v131 (idx_main_v132 (ix4 b j 0 d)) k = ix4 b j k d from eq_ix4 _, val_main_v130_apply, show idx_main_v130 (ix4 b j k d) = _ from idx_tiles b j k d, at_v123]

/-- One of the two rows of a modulation tile, the other one zero. -/
theorem pad_upper (u : FVec Ideal S4x9x1x1024 .f32) (v : FVec Ideal S_ .f32) (h) (hu) (hv : ∀ i, v i = (0 : EReal)) (b : Fin 4) (j : Fin 9) (d : Fin 1024) :
    pad S4x9x2x1024 ![0, 0, 0, 0] ![0, 0, 1, 0] ![0, 0, 0, 0] u v h hu (ix4 b j 0 d) = u (ix4 b j 0 d)
      ∧ pad S4x9x2x1024 ![0, 0, 0, 0] ![0, 0, 1, 0] ![0, 0, 0, 0] u v h hu (ix4 b j 1 d) = (0 : EReal) := by
  constructor
  · refine pad_apply_of_inside _ _ _ u v h hu _ (ix4 b j 0 d) fun e => ?_
    match e with
    | ⟨0, _⟩ => show b.val = 0 + b.val * 1; omega
    | ⟨1, _⟩ => show j.val = 0 + j.val * 1; omega
    | ⟨2, _⟩ => rfl
    | ⟨3, _⟩ => show d.val = 0 + d.val * 1; omega
  · refine (pad_apply_of_not_inside _ _ _ u v h hu _ 2 fun e => ?_).trans (hv _)
    exact absurd (show (1 - 0) / 1 < 1 from e.2.2) (by decide)

theorem pad_lower (u : FVec Ideal S4x9x1x1024 .f32) (v : FVec Ideal S_ .f32) (h) (hu) (hv : ∀ i, v i = (0 : EReal)) (b : Fin 4) (j : Fin 9) (d : Fin 1024) :
    pad S4x9x2x1024 ![0, 0, 1, 0] ![0, 0, 0, 0] ![0, 0, 0, 0] u v h hu (ix4 b j 0 d) = (0 : EReal)
      ∧ pad S4x9x2x1024 ![0, 0, 1, 0] ![0, 0, 0, 0] ![0, 0, 0, 0] u v h hu (ix4 b j 1 d) = u (ix4 b j 0 d) := by
  constructor
  · refine (pad_apply_of_not_inside _ _ _ u v h hu _ 2 fun e => ?_).trans (hv _)
    exact absurd (show 1 ≤ 0 from e.1) (by decide)
  · refine pad_apply_of_inside _ _ _ u v h hu _ (ix4 b j 0 d) fun e => ?_
    match e with
    | ⟨0, _⟩ => show b.val = 0 + b.val * 1; omega
    | ⟨1, _⟩ => show j.val = 0 + j.val * 1; omega
    | ⟨2, _⟩ => rfl
    | ⟨3, _⟩ => show d.val = 0 + d.val * 1; omega

theorem ref_m : val_main_v134 (F := Ideal) dz a x g w mp mn = (gradM dz a x g w mp mn : Vec Ideal S4x9x2x1024 .f32) := by
  funext i
  obtain ⟨b, j, e, d, rfl⟩ : ∃ b j e d, i = ix4 b j e d := ⟨_, _, _, _, eq_ix4 i⟩
  rw [val_main_v134_apply]
  unfold val_main_v129 val_main_v133
  match e with
  | ⟨0, _⟩ =>
    refine (congrArg₂ (fun p q : EReal => p + q) (pad_lower _ _ _ _ (fun _ => zero_bits) b j d).1 (pad_upper _ _ _ _ (fun _ => zero_bits) b j d).1).trans ?_
    rw [zero_add, at_v132]
    rfl
  | ⟨1, _⟩ =>
    refine (congrArg₂ (fun p q : EReal => p + q) (pad_lower _ _ _ _ (fun _ => zero_bits) b j d).2 (pad_upper _ _ _ _ (fun _ => zero_bits) b j d).2).trans ?_
    rw [add_zero, at_v128]
    rfl

theorem ref_g : val_main_v159 (F := Ideal) dz a x s w mp mn = (gradG dz a x s w mp mn : Vec Ideal S1x1024 .f32) := by
  funext i
  obtain ⟨e, d, rfl⟩ : ∃ e d, i = ix2 e d := ⟨_, _, eq_ix2 i⟩
  rw [val_main_v159_apply, show idx_main_v159 (ix2 e d) = ix1 d from eq_ix1 _]
  unfold val_main_v140
  refine (RefSums.outer_sum _ _ reducesTo_S1x1x1024_S1024_d0_1 d).trans ((congrArg (· + _) Ideal.ofBits_zero_f32).trans ((zero_add _).trans ?_))
  rw [Fin.sum_univ_one, Fin.sum_univ_one, val_main_v137_apply, show idx_main_v137 (ix3 0 0 d) = ix1 d from (eq_ix1 _).trans (congrArg ix1 (Fin.ext (Nat.zero_add _)))]
  unfold val_main_v136
  refine (RefSums.outer_sum _ _ reducesTo_S4x2304x1024_S1024_d0_1 d).trans ((congrArg (· + _) Ideal.ofBits_zero_f32).trans ((zero_add _).trans ?_))
  exact Finset.sum_congr rfl fun b _ => Finset.sum_congr rfl fun n _ => at_v135 dz a x s w mp mn b n d

end Cert.BwdRef

end
-- ==== Proof.BwdPoint.lean ====
/- The input projection's backward pass at a point of the grid: the blocks it reads and what it leaves in its outputs. -/
module

public import proofs.«01_k».proof.Proof.BwdRef

@[expose] public section

set_option maxRecDepth 16384

noncomputable section

namespace Cert.BwdPoint

open Cert.Kernel12Ideal Cert.Kernel12Ideal.Gen Idealize.ShloMosaic Idealize.ShloMosaic.TcCoe Idealize.ShloMosaic.ValueIdx
open Idealize.SL.Sem
open Cert.Tile Cert.Bwd
open Cert.InProj (joined tile)
open Cert.BwdRef (before after unshift scaleOf gainOf rowIn gradX gradP gradM gradG)

variable (m : (ℓ : Loc nD τ sig) → Buf (Elt Ideal) ℓ) (c : Dev nD)

abbrev upstream : BwdRef.Wide := (m ((c.tc : Thread nD τ).loc main_arg0) : Vec Ideal S4x2304x3072 .f32)
abbrev ctx : BwdRef.Ctx := (m ((c.tc : Thread nD τ).loc main_arg1) : Vec Ideal S4x256x1024 .f32)
abbrev seq : BwdRef.Seq := (m ((c.tc : Thread nD τ).loc main_arg2) : Vec Ideal S4x2048x1024 .f32)
abbrev modt : BwdRef.Modt := (m ((c.tc : Thread nD τ).loc main_arg3) : Vec Ideal S4x9x2x1024 .f32)
abbrev gain : BwdRef.Gain := (m ((c.tc : Thread nD τ).loc main_arg4) : Vec Ideal S1x1024 .f32)
abbrev weight : BwdRef.Weight := (m ((c.tc : Thread nD τ).loc main_arg5) : Vec Ideal S1024x3072 .bf16)
abbrev fromPrev : BwdRef.Lanes := (m ((c.tc : Thread nD τ).loc main_arg6) : Vec Ideal S1x2048 .f32)
abbrev fromNext : BwdRef.Lanes := (m ((c.tc : Thread nD τ).loc main_arg7) : Vec Ideal S1x2048 .f32)
abbrev residual : BwdRef.Seq := (m ((c.tc : Thread nD τ).loc main_arg8) : Vec Ideal S4x2048x1024 .f32)

/-! ## The blocks -/

theorem point_lt (t : Fin cfg0.N) : t.val < 36 := lt_of_lt_of_eq t.isLt N_0

theorem index0 : ∀ t : Fin grid0.N, win0_0.index t 0 = t.val / 9 ∧ win0_0.index t 1 = t.val % 9 ∧ win0_0.index t 2 = 0 := by decide +kernel
theorem index1 : ∀ t : Fin grid0.N, win0_1.index t 0 = t.val / 9 ∧ win0_1.index t 1 = 32 * (t.val % 9) - 1 ∧ win0_1.index t 2 = 0 := by decide +kernel
theorem index2 : ∀ t : Fin grid0.N, win0_2.index t 0 = t.val / 9 ∧ win0_2.index t 1 = min (32 * (t.val % 9 + 1)) 287 ∧ win0_2.index t 2 = 0 := by decide +kernel
theorem index3 : ∀ t : Fin grid0.N, win0_3.index t 0 = t.val / 9 ∧ win0_3.index t 1 = 0 ∧ win0_3.index t 2 = 0 := by decide +kernel
theorem index4 : ∀ t : Fin grid0.N, win0_4.index t 0 = t.val / 9 ∧ win0_4.index t 1 = t.val % 9 - 1 ∧ win0_4.index t 2 = 0 := by decide +kernel
theorem index5 : ∀ t : Fin grid0.N, win0_5.index t 0 = t.val / 9 ∧ win0_5.index t 1 = t.val % 9 ∧ win0_5.index t 2 = 0 ∧ win0_5.index t 3 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = t.val / 9 ∧ win0_10.index t 1 = t.val % 9 - 1 ∧ win0_10.index t 2 = 0 := by decide +kernel

/-- The first tile of a batch is the context's. -/
theorem context : ∀ t : Fin grid0.N, Scalar.cmpi .slt (BitVec.ofNat 32 (grid0.coords t 1).val) 1#32 = if t.val % 9 = 0 then 1 else 0 := by decide +kernel
/-- Whether a tile has a row before it, and one after it, on its side of the border. -/
theorem hasPrev : ∀ t : Fin grid0.N, (Scalar.extui (Scalar.andi (Scalar.cmpi .ne (BitVec.ofNat 32 (grid0.coords t 1).val) 0#32)
    (Scalar.cmpi .ne (BitVec.ofNat 32 (grid0.coords t 1).val) 1#32)) : BitVec 32) = if t.val % 9 ≤ 1 then 0#32 else 1#32 := by decide +kernel
theorem hasNext : ∀ t : Fin grid0.N, (Scalar.extui (Scalar.andi (Scalar.cmpi .ne (BitVec.ofNat 32 (grid0.coords t 1).val) 0#32)
    (Scalar.cmpi .ne (BitVec.ofNat 32 (grid0.coords t 1).val) 8#32)) : BitVec 32) = if t.val % 9 = 0 ∨ t.val % 9 = 8 then 0#32 else 1#32 := by decide +kernel

/-- A point's batch, and the row of a row of its tile. -/
def batch (t : Fin cfg0.N) : Fin 4 := ⟨t.val / 9, by have := point_lt t; omega⟩
def tileOf (t : Fin cfg0.N) : Fin 9 := ⟨t.val % 9, Nat.mod_lt _ (by decide)⟩
abbrev token (t : Fin cfg0.N) (p : Fin 256) : Fin 2304 := rowIn (tileOf t) p

theorem token_val (t : Fin cfg0.N) (p : Fin 256) : (token t p).val = 256 * (t.val % 9) + p.val := rfl

theorem tile_token (t : Fin cfg0.N) (p : Fin 256) : (tile (token t p)).val = t.val % 9 := by
  show (256 * (t.val % 9) + p.val) / 256 = t.val % 9
  omega

theorem block0 (t : Fin cfg0.N) (p : Fin 256) (q : Fin 3072) :
    (iblk m c 0 t : Vec Ideal S1x256x3072 .f32) (ix3 0 p q) = upstream m c (ix3 (batch t) (token t p) q) := by
  unfold iblk
  refine (View.read_apply _ _).trans (congrArg (upstream m c) (funext fun a => Fin.ext ?_))
  obtain ⟨h0, h1, h2⟩ := index0 t
  match a with
  | ⟨0, _⟩ => show win0_0.index t 0 * 1 + 1 * 0 = t.val / 9; rw [h0]; omega
  | ⟨1, _⟩ => show win0_0.index t 1 * 256 + 1 * p.val = 256 * (t.val % 9) + p.val; rw [h1]; omega
  | ⟨2, _⟩ => show win0_0.index t 2 * 3072 + 1 * q.val = q.val; rw [h2]; omega

theorem block1 (t : Fin cfg0.N) (e : Fin 8) (q : Fin 2048) (n : Fin 2304) (hn : n.val = (32 * (t.val % 9) - 1) * 8 + e.val) :
    (X0_1 m c t : Vec Ideal S1x8x2048 .f32) (ix3 0 e q) = upstream m c (ix3 (batch t) n ⟨q.val, by omega⟩) := by
  unfold X0_1 Pipeline.Window.fill
  rw [dif_pos (moved0_1 t _)]
  unfold iblk
  refine (View.read_apply _ _).trans (congrArg (upstream m c) (funext fun a => Fin.ext ?_))
  obtain ⟨h0, h1, h2⟩ := index1 t
  match a with
  | ⟨0, _⟩ => show win0_1.index t 0 * 1 + 1 * 0 = t.val / 9; rw [h0]; omega
  | ⟨1, _⟩ => show win0_1.index t 1 * 8 + 1 * e.val = n.val; rw [h1, hn]; omega
  | ⟨2, _⟩ => show win0_1.index t 2 * 2048 + 1 * q.val = q.val; rw [h2]; omega

theorem block2 (t : Fin cfg0.N) (e : Fin 8) (q : Fin 2048) (n : Fin 2304) (hn : n.val = min (32 * (t.val % 9 + 1)) 287 * 8 + e.val) :
    (X0_2 m c t : Vec Ideal S1x8x2048 .f32) (ix3 0 e q) = upstream m c (ix3 (batch t) n ⟨q.val, by omega⟩) := by
  unfold X0_2 Pipeline.Window.fill
  rw [dif_pos (moved0_2 t _)]
  unfold iblk
  refine (View.read_apply _ _).trans (congrArg (upstream m c) (funext fun a => Fin.ext ?_))
  obtain ⟨h0, h1, h2⟩ := index2 t
  match a with
  | ⟨0, _⟩ => show win0_2.index t 0 * 1 + 1 * 0 = t.val / 9; rw [h0]; omega
  | ⟨1, _⟩ => show win0_2.index t 1 * 8 + 1 * e.val = n.val; rw [h1, hn]; omega
  | ⟨2, _⟩ => show win0_2.index t 2 * 2048 + 1 * q.val = q.val; rw [h2]; omega

theorem block3 (t : Fin cfg0.N) (p : Fin 256) (d : Fin 1024) : (iblk m c 3 t : Vec Ideal S1x256x1024 .f32) (ix3 0 p d) = ctx m c (ix3 (batch t) p d) := by
  unfold iblk
  refine (View.read_apply _ _).trans (congrArg (ctx m c) (funext fun a => Fin.ext ?_))
  obtain ⟨h0, h1, h2⟩ := index3 t
  match a with
  | ⟨0, _⟩ => show win0_3.index t 0 * 1 + 1 * 0 = t.val / 9; rw [h0]; omega
  | ⟨1, _⟩ => show win0_3.index t 1 * 256 + 1 * p.val = p.val; rw [h1]; omega
  | ⟨2, _⟩ => show win0_3.index t 2 * 1024 + 1 * d.val = d.val; rw [h2]; omega

theorem block4 (t : Fin cfg0.N) (p : Fin 256) (d : Fin 1024) (n : Fin 2048) (hn : n.val = 256 * (t.val % 9 - 1) + p.val) :
    (iblk m c 4 t : Vec Ideal S1x256x1024 .f32) (ix3 0 p d) = seq m c (ix3 (batch t) n d) := by
  unfold iblk
  refine (View.read_apply _ _).trans (congrArg (seq m c) (funext fun a => Fin.ext ?_))
  obtain ⟨h0, h1, h2⟩ := index4 t
  match a with
  | ⟨0, _⟩ => show win0_4.index t 0 * 1 + 1 * 0 = t.val / 9; rw [h0]; omega
  | ⟨1, _⟩ => show win0_4.index t 1 * 256 + 1 * p.val = n.val; rw [h1, hn]; omega
  | ⟨2, _⟩ => show win0_4.index t 2 * 1024 + 1 * d.val = d.val; rw [h2]; omega

theorem block5 (t : Fin cfg0.N) (p : Fin 256) (r : Fin 2) (d : Fin 1024) :
    (iblk m c 5 t : Vec Ideal S1x1x2x1024 .f32) (ix4 0 0 r d) = modt m c (ix4 (batch t) (tile (token t p)) r d) := by
  unfold iblk
  refine (View.read_apply _ _).trans (congrArg (modt m c) (funext fun a => Fin.ext ?_))
  obtain ⟨h0, h1, h2, h3⟩ := index5 t
  match a with
  | ⟨0, _⟩ => show win0_5.index t 0 * 1 + 1 * 0 = t.val / 9; rw [h0]; omega
  | ⟨1, _⟩ => show win0_5.index t 1 * 1 + 1 * 0 = (tile (token t p)).val; rw [h1, tile_token]; omega
  | ⟨2, _⟩ => show win0_5.index t 2 * 2 + 1 * r.val = r.val; rw [h2]; omega
  | ⟨3, _⟩ => show win0_5.index t 3 * 1024 + 1 * d.val = d.val; rw [h3]; omega

theorem block6 (t : Fin cfg0.N) (d : Fin 1024) : (iblk m c 6 t : Vec Ideal S1x1024 .f32) (ix2 0 d) = gain m c (ix2 0 d) := by
  unfold iblk
  refine (View.read_apply _ _).trans (congrArg (gain m c) (funext fun a => Fin.ext ?_))
  obtain ⟨h0, h1⟩ := index6 t
  match a with
  | ⟨0, _⟩ => show win0_6.index t 0 * 1 + 1 * 0 = 0; rw [h0]
  | ⟨1, _⟩ => show win0_6.index t 1 * 1024 + 1 * d.val = d.val; rw [h1]; omega

theorem block7 (t : Fin cfg0.N) (d : Fin 1024) (f : Fin 3072) : (iblk m c 7 t : Vec Ideal S1024x3072 .bf16) (ix2 d f) = weight m c (ix2 d f) := by
  unfold iblk
  refine (View.read_apply _ _).trans (congrArg (weight m c) (funext fun a => Fin.ext ?_))
  obtain ⟨h0, h1⟩ := index7 t
  match a with
  | ⟨0, _⟩ => show win0_7.index t 0 * 1024 + 1 * d.val = d.val; rw [h0]; omega
  | ⟨1, _⟩ => show win0_7.index t 1 * 3072 + 1 * f.val = f.val; rw [h1]; omega

theorem block8 (t : Fin cfg0.N) (q : Fin 2048) : (iblk m c 8 t : Vec Ideal S1x2048 .f32) (ix2 0 q) = fromPrev m c (ix2 0 q) := by
  unfold iblk
  refine (View.read_apply _ _).trans (congrArg (fromPrev m c) (funext fun a => Fin.ext ?_))
  obtain ⟨h0, h1⟩ := index8 t
  match a with
  | ⟨0, _⟩ => show win0_8.index t 0 * 1 + 1 * 0 = 0; rw [h0]
  | ⟨1, _⟩ => show win0_8.index t 1 * 2048 + 1 * q.val = q.val; rw [h1]; omega

theorem block9 (t : Fin cfg0.N) (q : Fin 2048) : (iblk m c 9 t : Vec Ideal S1x2048 .f32) (ix2 0 q) = fromNext m c (ix2 0 q) := by
  unfold iblk
  refine (View.read_apply _ _).trans (congrArg (fromNext m c) (funext fun a => Fin.ext ?_))
  obtain ⟨h0, h1⟩ := index9 t
  match a with
  | ⟨0, _⟩ => show win0_9.index t 0 * 1 + 1 * 0 = 0; rw [h0]
  | ⟨1, _⟩ => show win0_9.index t 1 * 2048 + 1 * q.val = q.val; rw [h1]; omega

theorem block10 (t : Fin cfg0.N) (p : Fin 256) (d : Fin 1024) (n : Fin 2048) (hn : n.val = 256 * (t.val % 9 - 1) + p.val) :
    (iblk m c 10 t : Vec Ideal S1x256x1024 .f32) (ix3 0 p d) = residual m c (ix3 (batch t) n d) := by
  unfold iblk
  refine (View.read_apply _ _).trans (congrArg (residual m c) (funext fun a => Fin.ext ?_))
  obtain ⟨h0, h1, h2⟩ := index10 t
  match a with
  | ⟨0, _⟩ => show win0_10.index t 0 * 1 + 1 * 0 = t.val / 9; rw [h0]; omega
  | ⟨1, _⟩ => show win0_10.index t 1 * 256 + 1 * p.val = n.val; rw [h1, hn]; omega
  | ⟨2, _⟩ => show win0_10.index t 2 * 1024 + 1 * d.val = d.val; rw [h2]; omega

/-! ## The rows beside a tile -/

theorem times_zero (v : EReal) : v * (Scalar.sitofp .f32 (0#32 : BitVec 32) : Ideal .f32) = 0 := by
  have h : (Scalar.sitofp .f32 (0#32 : BitVec 32) : Ideal .f32) = (0 : EReal) := by
    rw [Ideal.scalar_sitofp_def]; norm_num
  rw [h, mul_zero]

theorem times_one (v : EReal) : v * (Scalar.sitofp .f32 (1#32 : BitVec 32) : Ideal .f32) = v := by
  have h : (Scalar.sitofp .f32 (1#32 : BitVec 32) : Ideal .f32) = (1 : EReal) := by
    rw [Ideal.scalar_sitofp_def]; norm_num
  rw [h, mul_one]

/-- The eight rows that end before a tile, and the eight that start after it. -/
abbrev rowsBefore (t : Fin cfg0.N) : FVec Ideal S1x8x2048 .f32 := X0_1 m c t
abbrev rowsAfter (t : Fin cfg0.N) : FVec Ideal S1x8x2048 .f32 := X0_2 m c t

theorem above_at (t : Fin cfg0.N) (q : Fin 2048) :
    k0_pay5 (F := Ideal) (grid0.coords t) (BwdCases.lastRow (X0_1 m c t)) (ix2 0 q) = before (upstream m c) (batch t) (token t 0) ⟨q.val, by omega⟩ := by
  have e : k0_pay5 (F := Ideal) (grid0.coords t) (BwdCases.lastRow (X0_1 m c t)) (ix2 0 q)
      = rowsBefore m c t (ix3 0 7 q) * (Scalar.sitofp .f32 (if t.val % 9 ≤ 1 then 0#32 else 1#32 : BitVec 32) : Ideal .f32) := by
    unfold k0_pay5
    simp only [hasPrev t, ValueIdx.mulf_apply, broadcast_apply, dropLead, Ideal.mulf_def]
    rfl
  have hv := token_val t 0
  have h0 : ((0 : Fin 256) : ℕ) = 0 := rfl
  rw [e]
  unfold before
  by_cases h : t.val % 9 ≤ 1
  · rw [if_pos h, if_pos (by omega), times_zero]
  · rw [if_neg h, if_neg (by omega), times_one]
    exact block1 m c t 7 q _ (by show (token t 0).val - 1 = (32 * (t.val % 9) - 1) * 8 + 7; omega)

theorem below_at (t : Fin cfg0.N) (q : Fin 2048) :
    k0_pay6 (F := Ideal) (grid0.coords t) (BwdCases.firstRow (X0_2 m c t)) (ix2 0 q) = after (upstream m c) (batch t) (token t 255) ⟨q.val, by omega⟩ := by
  have e : k0_pay6 (F := Ideal) (grid0.coords t) (BwdCases.firstRow (X0_2 m c t)) (ix2 0 q)
      = rowsAfter m c t (ix3 0 0 q) * (Scalar.sitofp .f32 (if t.val % 9 = 0 ∨ t.val % 9 = 8 then 0#32 else 1#32 : BitVec 32) : Ideal .f32) := by
    unfold k0_pay6
    simp only [hasNext t, ValueIdx.mulf_apply, broadcast_apply, dropLead, Ideal.mulf_def]
    rfl
  have hv := token_val t 255
  have h0 : ((255 : Fin 256) : ℕ) = 255 := rfl
  rw [e]
  unfold after
  by_cases h : t.val % 9 = 0 ∨ t.val % 9 = 8
  · rw [if_pos h, dif_pos (by omega), times_zero]
  · rw [if_neg h, dif_neg (by omega), times_one]
    exact block2 m c t 0 q _ (by show (token t 255).val + 1 = min (32 * (t.val % 9 + 1)) 287 * 8 + 0; omega)

/-! ## The tile's values -/

/-- A tile's rows, its projection's gradient and its modulated rows' gradient, of a point's blocks. -/
abbrev rowsAt (t : Fin cfg0.N) : FVec Ideal S256x1024 .f32 := BwdCases.rows (grid0.coords t) (iblk m c 3 t) (iblk m c 4 t)
abbrev shiftAt (t : Fin cfg0.N) : FVec Ideal S256x3072 .bf16 :=
  BwdCases.unshifted (grid0.coords t) (iblk m c 0 t) (X0_1 m c t) (X0_2 m c t) (iblk m c 8 t) (iblk m c 9 t)
abbrev backAt (t : Fin cfg0.N) : FVec Ideal S256x1024 .f32 :=
  BwdCases.back (grid0.coords t) (iblk m c 0 t) (X0_1 m c t) (X0_2 m c t) (iblk m c 7 t) (iblk m c 8 t) (iblk m c 9 t)

theorem rows_at (t : Fin cfg0.N) (p : Fin 256) : rowOf (rowsAt m c t) p = joined (ctx m c) (seq m c) (batch t) (token t p) := by
  funext d
  have hv := token_val t p
  have e : rowOf (rowsAt m c t) p d = Scalar.select (Scalar.cmpi .slt (BitVec.ofNat 32 (grid0.coords t 1).val) 1#32)
      ((iblk m c 3 t : Vec Ideal S1x256x1024 .f32) (ix3 0 p d)) ((iblk m c 4 t : Vec Ideal S1x256x1024 .f32) (ix3 0 p d)) := by
    show k0_pay3 (F := Ideal) (grid0.coords t) (iblk m c 3 t) (iblk m c 4 t) (ix2 p d) = _
    simp only [k0_pay3, choice, dropLead]
  rw [e, context t]
  unfold joined Scalar.select
  by_cases h : t.val % 9 = 0
  · rw [if_pos h, if_pos rfl, dif_pos (by omega), block3]
    exact congrArg (fun u => ctx m c (ix3 (batch t) u d)) (Fin.ext (by show p.val = (token t p).val; omega))
  · rw [if_neg h, if_neg (by decide), dif_neg (by omega)]
    exact block4 m c t p d _ (by show (token t p).val - 256 = _; omega)

theorem own_at (t : Fin cfg0.N) (p : Fin 256) (q : Fin 2048) :
    BwdCases.shiftedLanes (F := Ideal) (iblk m c 0 t) (ix3 0 p q) = upstream m c (ix3 (batch t) (token t p) ⟨q.val, by omega⟩) := block0 m c t p ⟨q.val, by omega⟩

theorem prev_at (t : Fin cfg0.N) (p : Fin 256) (q : Fin 2048) :
    prevOf (BwdCases.shiftedLanes (F := Ideal) (iblk m c 0 t)) (k0_pay5 (F := Ideal) (grid0.coords t) (BwdCases.lastRow (X0_1 m c t))) p q
      = before (upstream m c) (batch t) (token t p) ⟨q.val, by omega⟩ := by
  have hv := token_val t p
  unfold prevOf
  by_cases h : p.val = 0
  · rw [dif_pos h, above_at]
    exact congrArg (fun u => before (upstream m c) (batch t) (token t u) _) (Fin.ext h.symm)
  · rw [dif_neg h, own_at]
    unfold before
    rw [if_neg (by omega)]
    exact congrArg (fun u => upstream m c (ix3 (batch t) u _)) (Fin.ext (by show 256 * (t.val % 9) + (p.val - 1) = (token t p).val - 1; omega))

theorem next_at (t : Fin cfg0.N) (p : Fin 256) (q : Fin 2048) :
    nextOf (BwdCases.shiftedLanes (F := Ideal) (iblk m c 0 t)) (k0_pay6 (F := Ideal) (grid0.coords t) (BwdCases.firstRow (X0_2 m c t))) p q
      = after (upstream m c) (batch t) (token t p) ⟨q.val, by omega⟩ := by
  have hv := token_val t p
  unfold nextOf
  by_cases h : p.val = 255
  · rw [dif_pos h, below_at]
    exact congrArg (fun u => after (upstream m c) (batch t) (token t u) _) (Fin.ext h.symm)
  · rw [dif_neg h, own_at]
    unfold after
    rw [dif_neg (by omega)]
    exact congrArg (fun u => upstream m c (ix3 (batch t) u _)) (Fin.ext (by show 256 * (t.val % 9) + (p.val + 1) = (token t p).val + 1; omega))

theorem shift_at (t : Fin cfg0.N) (p : Fin 256) (q : Fin 3072) :
    shiftAt m c t (ix2 p q) = unshift (upstream m c) (fromPrev m c) (fromNext m c) (batch t) (token t p) q := by
  unfold unshift
  by_cases hq : q.val < 2048
  · rw [dif_pos hq]
    refine (shifted_at _ _ _ _ _ _ p q hq).trans ?_
    rw [block8, block9, own_at, next_at, prev_at]
  · rw [dif_neg hq]
    refine (kept_at _ _ _ _ _ _ p q hq).trans ((block0 m c t p _).trans ?_)
    exact congrArg (fun u => upstream m c (ix3 (batch t) (token t p) u)) (Fin.ext (by show 2048 + (q.val - 2048) = q.val; omega))

theorem back_at (t : Fin cfg0.N) (p : Fin 256) :
    rowOf (backAt m c t) p = BwdRef.back (upstream m c) (weight m c) (fromPrev m c) (fromNext m c) (batch t) (token t p) := by
  funext e
  refine (prodBack _ _ p e).trans (Finset.sum_congr rfl fun q _ => ?_)
  exact congrArg₂ (· * ·) (shift_at m c t p q) (block7 m c t e q)

theorem gain_row (t : Fin cfg0.N) : lanes (iblk m c 6 t) = gainOf (gain m c) := funext fun e => block6 m c t e

theorem scale_row (t : Fin cfg0.N) (p : Fin 256) : lanes (k0_pay12 (F := Ideal) (BwdCases.scaleRow (iblk m c 5 t))) = scaleOf (modt m c) (batch t) (token t p) :=
  by
  funext e
  refine (flat (BwdCases.scaleRow (iblk m c 5 t)) _ e).trans ?_
  exact block5 m c t p 1 e

/-! ## What a point leaves -/

theorem leaves12 (t : Fin cfg0.N) (p : Fin 256) (q : Fin 3072) :
    BwdCases.w12 (F := Ideal) (grid0.coords t) (iblk m c 0 t) (X0_1 m c t) (X0_2 m c t) (iblk m c 8 t) (iblk m c 9 t) (ix3 0 p q)
      = gradP (upstream m c) (fromPrev m c) (fromNext m c) (ix3 (batch t) (token t p) q) :=
  (addLead _ _ 0 p q).trans (shift_at m c t p q)

theorem leaves13 (t : Fin cfg0.N) (r : Fin 2) (d : Fin 1024) :
    BwdCases.w13 (F := Ideal) (grid0.coords t) (iblk m c 0 t) (X0_1 m c t) (X0_2 m c t) (iblk m c 3 t) (iblk m c 4 t) (iblk m c 6 t) (iblk m c 7 t) (iblk m c 8 t)
        (iblk m c 9 t) (ix4 0 0 r d)
      = gradM (upstream m c) (ctx m c) (seq m c) (gain m c) (weight m c) (fromPrev m c) (fromNext m c) (ix4 (batch t) (tileOf t) r d) := by
  match r with
  | ⟨0, _⟩ =>
    refine (mod_at (rowsAt m c t) (backAt m c t) (iblk m c 6 t) d).1.trans ?_
    unfold gradM
    refine (Finset.sum_congr rfl fun p _ => ?_).trans (if_pos rfl).symm
    exact congrFun (back_at m c t p) d
  | ⟨1, _⟩ =>
    refine (mod_at (rowsAt m c t) (backAt m c t) (iblk m c 6 t) d).2.trans ?_
    unfold gradM
    refine (Finset.sum_congr rfl fun p _ => ?_).trans (if_neg (show ¬(1 : ℕ) = 0 by decide)).symm
    rw [rows_at, back_at, gain_row]

theorem leaves14 (t : Fin cfg0.N) (d : Fin 1024) :
    BwdCases.w14 (F := Ideal) (grid0.coords t) (iblk m c 0 t) (X0_1 m c t) (X0_2 m c t) (iblk m c 3 t) (iblk m c 4 t) (iblk m c 5 t) (iblk m c 7 t) (iblk m c 8 t)
        (iblk m c 9 t) (ix2 0 d)
      = ∑ p : Fin 256, gainPart (joined (ctx m c) (seq m c) (batch t) (token t p))
          (BwdRef.back (upstream m c) (weight m c) (fromPrev m c) (fromNext m c) (batch t) (token t p)) (scaleOf (modt m c) (batch t) (token t p)) d := by
  refine (gain_at (rowsAt m c t) (backAt m c t) (k0_pay12 (BwdCases.scaleRow (iblk m c 5 t))) d).trans (Finset.sum_congr rfl fun p _ => ?_)
  rw [rows_at, back_at, scale_row m c t p]

theorem leaves11 (t : Fin cfg0.N) (h : 1 ≤ t.val % 9) (p : Fin 256) (d : Fin 1024) (n : Fin 2048) (hn : n.val = 256 * (t.val % 9 - 1) + p.val) :
    BwdCases.w11 (F := Ideal) (grid0.coords t) (iblk m c 0 t) (X0_1 m c t) (X0_2 m c t) (iblk m c 3 t) (iblk m c 4 t) (iblk m c 5 t) (iblk m c 6 t) (iblk m c 7 t)
        (iblk m c 8 t) (iblk m c 9 t) (iblk m c 10 t) (ix3 0 p d)
      = gradX (upstream m c) (ctx m c) (seq m c) (modt m c) (gain m c) (weight m c) (fromPrev m c) (fromNext m c) (residual m c) (ix3 (batch t) n d) := by
  have ht : token t p = ⟨256 + n.val, Nat.add_lt_add_left n.isLt 256⟩ := Fin.ext (by
    show 256 * (t.val % 9) + p.val = 256 + n.val
    omega)
  refine (addLead _ _ 0 p d).trans ((ValueIdx.addf_apply _ _ _).trans ?_)
  refine congrArg₂ (fun u v : EReal => u + v) ?_ ((dropLead _ _ p d).trans (block10 m c t p d n hn))
  refine (grad_at (rowsAt m c t) (backAt m c t) (iblk m c 6 t) (k0_pay12 (BwdCases.scaleRow (iblk m c 5 t))) p d).trans ?_
  rw [rows_at, back_at, gain_row, scale_row m c t p, ht]

end Cert.BwdPoint

end
-- ==== Proof.Cases.lean ====
/- What the body leaves in each output's block, in each of its three cases, as the body's expressions of the blocks it
   reads: the first point of the grid (A), a later tile of a batch (B) and the first tile of a later batch (C). -/
module

public import proofs.«01_k».proof.Proof.Gen.KernelIdeal.Frame
public import Idealize.ShloMosaic.Lib.ValueIdx
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.Cases

open Cert.KernelIdeal Cert.KernelIdeal.Gen Idealize.ShloMosaic Idealize.ShloMosaic.TcCoe Idealize.ShloMosaic.ValueIdx
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Row `r` of a batch's modulation. -/
def modRow (r : Fin 3) (x2 : Vec F S1x3x1024 .f32) : Vec F S1x1x1024 .f32 := fun i => x2 (ix3 0 r (i 2))

theorem load_row0 (x2 : Vec F S1x3x1024 .f32) (inb) :
    (View.ld x2 (Rect.unit ![0, 0, 0] ![1, 1, 1024] inb) : Vec F S1x1x1024 .f32) = modRow 0 x2 :=
  funext fun i => View.ld_unit_apply_of x2 _ _ inb i _ fun a => by
    match a with
    | ⟨0, _⟩ => have h : (i 0 : Nat) < 1 := (i 0).isLt; show 0 = 0 + (i 0 : Nat); omega
    | ⟨1, _⟩ => have h : (i 1 : Nat) < 1 := (i 1).isLt; show 0 = 0 + (i 1 : Nat); omega
    | ⟨2, _⟩ => show (i 2 : Nat) = 0 + (i 2 : Nat); omega

theorem load_row1 (x2 : Vec F S1x3x1024 .f32) (inb) :
    (View.ld x2 (Rect.unit ![0, 1, 0] ![1, 1, 1024] inb) : Vec F S1x1x1024 .f32) = modRow 1 x2 :=
  funext fun i => View.ld_unit_apply_of x2 _ _ inb i _ fun a => by
    match a with
    | ⟨0, _⟩ => have h : (i 0 : Nat) < 1 := (i 0).isLt; show 0 = 0 + (i 0 : Nat); omega
    | ⟨1, _⟩ => have h : (i 1 : Nat) < 1 := (i 1).isLt; show 1 = 1 + (i 1 : Nat); omega
    | ⟨2, _⟩ => show (i 2 : Nat) = 0 + (i 2 : Nat); omega

theorem load_row2 (x2 : Vec F S1x3x1024 .f32) (inb) :
    (View.ld x2 (Rect.unit ![0, 2, 0] ![1, 1, 1024] inb) : Vec F S1x1x1024 .f32) = modRow 2 x2 :=
  funext fun i => View.ld_unit_apply_of x2 _ _ inb i _ fun a => by
    match a with
    | ⟨0, _⟩ => have h : (i 0 : Nat) < 1 := (i 0).isLt; show 0 = 0 + (i 0 : Nat); omega
    | ⟨1, _⟩ => have h : (i 1 : Nat) < 1 := (i 1).isLt; show 2 = 2 + (i 1 : Nat); omega
    | ⟨2, _⟩ => show (i 2 : Nat) = 0 + (i 2 : Nat); omega

/-! ## The body's named values, of the blocks of the seven inputs -/

def t1 (x0 : Vec F S1x256x1024 .f32) : FVec F S256x1024 .f32 :=
  k0_pay6 x0

def t7 (x2 : Vec F S1x3x1024 .f32) : FVec F S1x1024 .f32 :=
  k0_pay7 (modRow 2 x2)

def t16 (x0 : Vec F S1x256x1024 .f32) : FVec F S256x1 .f32 :=
  k0_pay9 x0

def t19 (x0 : Vec F S1x256x1024 .f32) : FVec F S256x1 .f32 :=
  k0_pay10 x0

def t21 (x0 : Vec F S1x256x1024 .f32) : FVec F S256x1024 .f32 :=
  k0_pay11 x0

def t23 (x0 : Vec F S1x256x1024 .f32) (x3 : Vec F S1x1024 .f32) : FVec F S256x1024 .f32 :=
  k0_pay12 x0 x3

def t25 (x2 : Vec F S1x3x1024 .f32) : FVec F S1x1024 .f32 :=
  k0_pay13 (modRow 1 x2)

def t30 (x0 : Vec F S1x256x1024 .f32) (x2 : Vec F S1x3x1024 .f32) (x3 : Vec F S1x1024 .f32) : FVec F S256x1024 .bf16 :=
  k0_pay14 x0 (modRow 0 x2) (modRow 1 x2) x3

def t34 (x0 : Vec F S1x256x1024 .f32) (x2 : Vec F S1x3x1024 .f32) (x3 : Vec F S1x1024 .f32) (x5 : Vec F S1024x4096 .bf16) : FVec F S256x4096 .f32 :=
  k0_pay15 x0 (modRow 0 x2) (modRow 1 x2) x3 x5

def t36 (x0 : Vec F S1x256x1024 .f32) (x2 : Vec F S1x3x1024 .f32) (x3 : Vec F S1x1024 .f32) (x5 : Vec F S1024x4096 .bf16) : FVec F S256x4096 .bf16 :=
  k0_pay16 (t34 x0 x2 x3 x5)

def t38 (x0 : Vec F S1x256x1024 .f32) (x2 : Vec F S1x3x1024 .f32) (x3 : Vec F S1x1024 .f32) (x5 : Vec F S1024x4096 .bf16) (x6 : Vec F S4096x1024 .bf16) : FVec F S256x1024 .f32 :=
  k0_pay17 (t34 x0 x2 x3 x5) x6

def t47 (x0 : Vec F S1x256x1024 .f32) (x2 : Vec F S1x3x1024 .f32) (x3 : Vec F S1x1024 .f32) (x5 : Vec F S1024x4096 .bf16) (x6 : Vec F S4096x1024 .bf16) : FVec F S256x1 .f32 :=
  k0_pay19 (t34 x0 x2 x3 x5) x6

def t50 (x0 : Vec F S1x256x1024 .f32) (x2 : Vec F S1x3x1024 .f32) (x3 : Vec F S1x1024 .f32) (x5 : Vec F S1024x4096 .bf16) (x6 : Vec F S4096x1024 .bf16) : FVec F S256x1 .f32 :=
  k0_pay20 (t34 x0 x2 x3 x5) x6

def t52 (x0 : Vec F S1x256x1024 .f32) (x2 : Vec F S1x3x1024 .f32) (x3 : Vec F S1x1024 .f32) (x5 : Vec F S1024x4096 .bf16) (x6 : Vec F S4096x1024 .bf16) : FVec F S256x1024 .f32 :=
  k0_pay21 (t34 x0 x2 x3 x5) x6

def t70 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : F .f32 :=
  k0_pay24 (t1 x0) (t7 x2) (t34 x0 x2 x3 x5) x6 x4 x1

def t72 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S256x1024 .f32 :=
  k0_pay25 (t1 x0) (t7 x2) (t34 x0 x2 x3 x5) x6 x4 x1

def t74 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S256x1024 .f32 :=
  k0_pay26 (t1 x0) (t7 x2) (t34 x0 x2 x3 x5) x6 x4 x1

def t76 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1024 .f32 :=
  k0_pay27 (t1 x0) (t7 x2) (t34 x0 x2 x3 x5) x6 x4 x1

def t77 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1024 .f32 :=
  k0_pay28 (t76 x0 x1 x2 x3 x4 x5 x6)

def t80 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1024 .f32 :=
  k0_pay29 (t52 x0 x2 x3 x5 x6) (t74 x0 x1 x2 x3 x4 x5 x6)

def t98 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S256x1024 .bf16 :=
  k0_pay30 (t38 x0 x2 x3 x5 x6) x4 (t47 x0 x2 x3 x5 x6) (t50 x0 x2 x3 x5 x6) (t74 x0 x1 x2 x3 x4 x5 x6)

def t104 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S256x4096 .bf16 :=
  k0_pay31 (t34 x0 x2 x3 x5) (t38 x0 x2 x3 x5 x6) x4 (t47 x0 x2 x3 x5 x6) (t50 x0 x2 x3 x5 x6) (t74 x0 x1 x2 x3 x4 x5 x6) x6

def t108 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1024 .f32 :=
  k0_pay33 (t34 x0 x2 x3 x5) (t38 x0 x2 x3 x5 x6) x4 (t47 x0 x2 x3 x5 x6) (t50 x0 x2 x3 x5 x6) (t74 x0 x1 x2 x3 x4 x5 x6) x6 x5

def t111 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1024 .f32 :=
  k0_pay34 (t23 x0 x3) (t34 x0 x2 x3 x5) (t38 x0 x2 x3 x5 x6) x4 (t47 x0 x2 x3 x5 x6) (t50 x0 x2 x3 x5 x6) (t74 x0 x1 x2 x3 x4 x5 x6) x6 x5

def t116 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1024 .f32 :=
  k0_pay36 (t21 x0) (t25 x2) (t34 x0 x2 x3 x5) (t38 x0 x2 x3 x5 x6) x4 (t47 x0 x2 x3 x5 x6) (t50 x0 x2 x3 x5 x6) (t74 x0 x1 x2 x3 x4 x5 x6) x6 x5

def t118 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S256x1024 .f32 :=
  k0_pay37 x3 (t25 x2) (t34 x0 x2 x3 x5) (t38 x0 x2 x3 x5 x6) x4 (t47 x0 x2 x3 x5 x6) (t50 x0 x2 x3 x5 x6) (t74 x0 x1 x2 x3 x4 x5 x6) x6 x5

def t121 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S256x1 .f32 :=
  k0_pay38 (t1 x0) x3 (t25 x2) (t34 x0 x2 x3 x5) (t38 x0 x2 x3 x5 x6) x4 (t47 x0 x2 x3 x5 x6) (t50 x0 x2 x3 x5 x6) (t74 x0 x1 x2 x3 x4 x5 x6) x6 x5

/-- What a tile gives for window 7. -/
def w7 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x256x1024 .f32 :=
  k0_pay39 (t1 x0) (t16 x0) (t19 x0) (t72 x0 x1 x2 x3 x4 x5 x6) (t118 x0 x1 x2 x3 x4 x5 x6) (t121 x0 x1 x2 x3 x4 x5 x6)

/-- What a tile gives for window 8. -/
def w8 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1x8x128 .f32 :=
  k0_pay40 (t70 x0 x1 x2 x3 x4 x5 x6)

/-- What a tile gives for window 9. -/
def w9 (x0 : Vec F S1x256x1024 .f32) (x2 : Vec F S1x3x1024 .f32) (x3 : Vec F S1x1024 .f32) : FVec F S1x256x1024 .bf16 :=
  k0_pay41 (t30 x0 x2 x3)

/-- What a tile gives for window 10. -/
def w10 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x256x4096 .bf16 :=
  k0_pay42 (t104 x0 x1 x2 x3 x4 x5 x6)

/-- What a tile gives for window 11. -/
def w11 (x0 : Vec F S1x256x1024 .f32) (x2 : Vec F S1x3x1024 .f32) (x3 : Vec F S1x1024 .f32) (x5 : Vec F S1024x4096 .bf16) : FVec F S1x256x4096 .bf16 :=
  k0_pay43 (t36 x0 x2 x3 x5)

/-- What a tile gives for window 12. -/
def w12 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x256x1024 .bf16 :=
  k0_pay1 (t98 x0 x1 x2 x3 x4 x5 x6)

/-- What a tile gives for window 13. -/
def w13 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x3x1024 .f32 :=
  k0_pay2 (t77 x0 x1 x2 x3 x4 x5 x6) (t108 x0 x1 x2 x3 x4 x5 x6) (t111 x0 x1 x2 x3 x4 x5 x6)

/-- What a tile gives for window 14. -/
def w14 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1024 .f32 :=
  k0_pay36 (t21 x0) (t25 x2) (t34 x0 x2 x3 x5) (t38 x0 x2 x3 x5 x6) x4 (t47 x0 x2 x3 x5 x6) (t50 x0 x2 x3 x5 x6) (t74 x0 x1 x2 x3 x4 x5 x6) x6 x5

/-- What a tile gives for window 15. -/
def w15 (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16) : FVec F S1x1024 .f32 :=
  k0_pay29 (t52 x0 x2 x3 x5 x6) (t74 x0 x1 x2 x3 x4 x5 x6)

/-! ## The cases -/

section

variable (c : Dev nD) (i : grid0.Coords) (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x256x1024 .f32) (harg9 : arg9.IsWhole) (arg10 : Memref sig .tc .vmem S1x1x8x128 .f32) (harg10 : arg10.IsWhole) (arg11 : Memref sig .tc .vmem S1x256x1024 .bf16) (harg11 : arg11.IsWhole) (arg12 : Memref sig .tc .vmem S1x256x4096 .bf16) (harg12 : arg12.IsWhole) (arg13 : Memref sig .tc .vmem S1x256x4096 .bf16) (harg13 : arg13.IsWhole) (arg14 : Memref sig .tc .vmem S1x256x1024 .bf16) (harg14 : arg14.IsWhole) (arg15 : Memref sig .tc .vmem S1x3x1024 .f32) (harg15 : arg15.IsWhole) (arg16 : Memref sig .tc .vmem S1x1024 .f32) (harg16 : arg16.IsWhole) (arg17 : Memref sig .tc .vmem S1x1024 .f32) (harg17 : arg17.IsWhole)
  (x0 : Vec F S1x256x1024 .f32) (x1 : Vec F S1x256x1024 .f32) (x2 : Vec F S1x3x1024 .f32) (x3 : Vec F S1x1024 .f32) (x4 : Vec F S1x1024 .f32) (x5 : Vec F S1024x4096 .bf16) (x6 : Vec F S4096x1024 .bf16)

section

variable (hc0 : cond0_0 i) (hc1 : ¬cond0_1 i) (hc2 : cond0_2 i) (hc3 : ¬cond0_3 i) (hc4 : cond0_4 i) (hc5 : ¬cond0_5 i)

theorem out_A_7 : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w7 x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_8 : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w8 x0 x1 x2 x3 x4 x5 x6 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_9 : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w9 x0 x2 x3 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_10 : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w10 x0 x1 x2 x3 x4 x5 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w11 x0 x2 x3 x5 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w12 x0 x1 x2 x3 x4 x5 x6 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w13 x0 x1 x2 x3 x4 x5 x6 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w14 x0 x1 x2 x3 x4 x5 x6 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_A_15 : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6  = w15 x0 x1 x2 x3 x4 x5 x6 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 )]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

end

section

variable (hc0 : ¬cond0_0 i) (hc1 : cond0_1 i) (hc2 : ¬cond0_2 i) (hc3 : cond0_3 i) (hc4 : ¬cond0_4 i) (hc5 : cond0_5 i)
  (xo13 : Vec F S1x3x1024 .f32) (xo14 : Vec F S1x1024 .f32) (xo15 : Vec F S1x1024 .f32)

theorem out_B_7 : out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = w7 x0 x1 x2 x3 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_8 : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = w8 x0 x1 x2 x3 x4 x5 x6 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_9 : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = w9 x0 x2 x3 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_10 : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = w10 x0 x1 x2 x3 x4 x5 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_11 : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = w11 x0 x2 x3 x5 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_12 : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = w12 x0 x1 x2 x3 x4 x5 x6 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_13 : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = k0_pay3 (t77 x0 x1 x2 x3 x4 x5 x6) (t108 x0 x1 x2 x3 x4 x5 x6) (t111 x0 x1 x2 x3 x4 x5 x6) xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_14 : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = k0_pay4 (t116 x0 x1 x2 x3 x4 x5 x6) xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_B_15 : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15 = k0_pay5 (t80 x0 x1 x2 x3 x4 x5 x6) xo15 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo13 xo14 xo15)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

end

section

variable (hc0 : cond0_0 i) (hc1 : ¬cond0_1 i) (hc2 : ¬cond0_2 i) (hc3 : cond0_3 i) (hc4 : ¬cond0_4 i) (hc5 : cond0_5 i)
  (xo14 : Vec F S1x1024 .f32) (xo15 : Vec F S1x1024 .f32)

theorem out_C_7 : out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = w7 x0 x1 x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_8 : out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = w8 x0 x1 x2 x3 x4 x5 x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz4]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_9 : out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = w9 x0 x2 x3 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_10 : out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = w10 x0 x1 x2 x3 x4 x5 x6 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_11 : out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = w11 x0 x2 x3 x5 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_12 : out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = w12 x0 x1 x2 x3 x4 x5 x6 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_13 : out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = w13 x0 x1 x2 x3 x4 x5 x6 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_14 : out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = k0_pay4 (t116 x0 x1 x2 x3 x4 x5 x6) xo14 := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

theorem out_C_15 : out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15 = k0_pay5 (t80 x0 x1 x2 x3 x4 x5 x6) xo15 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 x0 x1 x2 x3 x4 x5 x6 xo14 xo15)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg15.read_unread, harg16.read_unread, harg17.read_unread, load_row0, load_row1, load_row2, View.ld_unit_zero (S := S1x256x1024) hz3, View.ld_unit_zero (S := S1x3x1024) hz3, View.ld_unit_zero (S := S1x1024) hz2, View.ld_unit_zero (S := S1024x4096) hz2, View.ld_unit_zero (S := S4096x1024) hz2]
  rfl

end

end

end Cert.Cases
-- ==== Proof.Leaves.lean ====
/- What each output's block holds after a point, by the point's case. -/
module

public import proofs.«01_k».proof.Proof.Cases

@[expose] public section

set_option maxHeartbeats 400000

noncomputable section

namespace Cert.Cases

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ) (c : Dev nD) (t : Fin cfg0.N)

theorem left7_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).1 = w7 (iblk m c 0 t) (iblk m c 1 t) (iblk m c 2 t) (iblk m c 3 t) (iblk m c 4 t) (iblk m c 5 t) (iblk m c 6 t) := by
  have e := congrArg (fun o => o.1) (outsAt0_A m c t h0 h1 h2 h3 h4 h5)
  dsimp only at e
  rw [out_A_7] at e
  exact e

theorem left8_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.1 = w8 (iblk m c 0 t) (iblk m c 1 t) (iblk m c 2 t) (iblk m c 3 t) (iblk m c 4 t) (iblk m c 5 t) (iblk m c 6 t) := by
  have e := congrArg (fun o => o.2.1) (outsAt0_A m c t h0 h1 h2 h3 h4 h5)
  dsimp only at e
  rw [out_A_8] at e
  exact e

theorem left9_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.2.1 = w9 (iblk m c 0 t) (iblk m c 2 t) (iblk m c 3 t) := by
  have e := congrArg (fun o => o.2.2.1) (outsAt0_A m c t h0 h1 h2 h3 h4 h5)
  dsimp only at e
  rw [out_A_9] at e
  exact e

theorem left10_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.2.2.1 = w10 (iblk m c 0 t) (iblk m c 1 t) (iblk m c 2 t) (iblk m c 3 t) (iblk m c 4 t) (iblk m c 5 t) (iblk m c 6 t) := by
  have e := congrArg (fun o => o.2.2.2.1) (outsAt0_A m c t h0 h1 h2 h3 h4 h5)
  dsimp only at e
  rw [out_A_10] at e
  exact e

theorem left11_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.2.2.2.1 = w11 (iblk m c 0 t) (iblk m c 2 t) (iblk m c 3 t) (iblk m c 5 t) := by
  have e := congrArg (fun o => o.2.2.2.2.1) (outsAt0_A m c t h0 h1 h2 h3 h4 h5)
  dsimp only at e
  rw [out_A_11] at e
  exact e

theorem left12_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.2.2.2.2.1 = w12 (iblk m c 0 t) (iblk m c 1 t) (iblk m c 2 t) (iblk m c 3 t) (iblk m c 4 t) (iblk m c 5 t) (iblk m c 6 t) := by
  have e := congrArg (fun o => o.2.2.2.2.2.1) (outsAt0_A m c t h0 h1 h2 h3 h4 h5)
  dsimp only at e
  rw [out_A_12] at e
  exact e

theorem left13_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.2.2.2.2.2.1 = w13 (iblk m c 0 t) (iblk m c 1 t) (iblk m c 2 t) (iblk m c 3 t) (iblk m c 4 t) (iblk m c 5 t) (iblk m c 6 t) := by
  have e := congrArg (fun o => o.2.2.2.2.2.2.1) (outsAt0_A m c t h0 h1 h2 h3 h4 h5)
  dsimp only at e
  rw [out_A_13] at e
  exact e

theorem left14_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.2.2.2.2.2.2.1 = w14 (iblk m c 0 t) (iblk m c 1 t) (iblk m c 2 t) (iblk m c 3 t) (iblk m c 4 t) (iblk m c 5 t) (iblk m c 6 t) := by
  have e := congrArg (fun o => o.2.2.2.2.2.2.2.1) (outsAt0_A m c t h0 h1 h2 h3 h4 h5)
  dsimp only at e
  rw [out_A_14] at e
  exact e

theorem left15_A (h0 : t.val % 8 = 0) (h1 : ¬1 ≤ t.val % 8) (h2 : t.val % 32 = 0) (h3 : ¬1 ≤ t.val) (h4 : t.val % 32 = 0) (h5 : ¬1 ≤ t.val) : (outsAt0 m c t.val t.isLt).2.2.2.2.2.2.2.2 = w15 (iblk m c 0 t) (iblk m c 1 t) (iblk m c 2 t) (iblk m c 3 t) (iblk m c 4 t) (iblk m c 5 t) (iblk m c 6 t) := by
  have e := congrArg (fun o => o.2.2.2.2.2.2.2.2) (outsAt0_A m c t h0 h1 h2 h3 h4 h5)
  dsimp only at e
  rw [out_A_15] at e
  exact e

theorem left7_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).1 = w7 (iblk m c 0 t) (iblk m c 1 t) (iblk m c 2 t) (iblk m c 3 t) (iblk m c 4 t) (iblk m c 5 t) (iblk m c 6 t) := by
  have e := congrArg (fun o => o.1) (outsAt0_B m c t h0 h1 h2 h3 h4 h5)
  dsimp only at e
  rw [out_B_7] at e
  exact e

theorem left8_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.1 = w8 (iblk m c 0 t) (iblk m c 1 t) (iblk m c 2 t) (iblk m c 3 t) (iblk m c 4 t) (iblk m c 5 t) (iblk m c 6 t) := by
  have e := congrArg (fun o => o.2.1) (outsAt0_B m c t h0 h1 h2 h3 h4 h5)
  dsimp only at e
  rw [out_B_8] at e
  exact e

theorem left9_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.2.1 = w9 (iblk m c 0 t) (iblk m c 2 t) (iblk m c 3 t) := by
  have e := congrArg (fun o => o.2.2.1) (outsAt0_B m c t h0 h1 h2 h3 h4 h5)
  dsimp only at e
  rw [out_B_9] at e
  exact e

theorem left10_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.2.2.1 = w10 (iblk m c 0 t) (iblk m c 1 t) (iblk m c 2 t) (iblk m c 3 t) (iblk m c 4 t) (iblk m c 5 t) (iblk m c 6 t) := by
  have e := congrArg (fun o => o.2.2.2.1) (outsAt0_B m c t h0 h1 h2 h3 h4 h5)
  dsimp only at e
  rw [out_B_10] at e
  exact e

theorem left11_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.2.2.2.1 = w11 (iblk m c 0 t) (iblk m c 2 t) (iblk m c 3 t) (iblk m c 5 t) := by
  have e := congrArg (fun o => o.2.2.2.2.1) (outsAt0_B m c t h0 h1 h2 h3 h4 h5)
  dsimp only at e
  rw [out_B_11] at e
  exact e

theorem left12_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.2.2.2.2.1 = w12 (iblk m c 0 t) (iblk m c 1 t) (iblk m c 2 t) (iblk m c 3 t) (iblk m c 4 t) (iblk m c 5 t) (iblk m c 6 t) := by
  have e := congrArg (fun o => o.2.2.2.2.2.1) (outsAt0_B m c t h0 h1 h2 h3 h4 h5)
  dsimp only at e
  rw [out_B_12] at e
  exact e

theorem left13_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.2.2.2.2.2.1 = k0_pay3 (t77 (iblk m c 0 t) (iblk m c 1 t) (iblk m c 2 t) (iblk m c 3 t) (iblk m c 4 t) (iblk m c 5 t) (iblk m c 6 t)) (t108 (iblk m c 0 t) (iblk m c 1 t) (iblk m c 2 t) (iblk m c 3 t) (iblk m c 4 t) (iblk m c 5 t) (iblk m c 6 t)) (t111 (iblk m c 0 t) (iblk m c 1 t) (iblk m c 2 t) (iblk m c 3 t) (iblk m c 4 t) (iblk m c 5 t) (iblk m c 6 t)) (outsAt0 m c (t.val - 1) (Nat.lt_of_le_of_lt (Nat.sub_le _ _) t.isLt)).2.2.2.2.2.2.1 := by
  have e := congrArg (fun o => o.2.2.2.2.2.2.1) (outsAt0_B m c t h0 h1 h2 h3 h4 h5)
  dsimp only at e
  rw [out_B_13] at e
  exact e

theorem left14_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.2.2.2.2.2.2.1 = k0_pay4 (t116 (iblk m c 0 t) (iblk m c 1 t) (iblk m c 2 t) (iblk m c 3 t) (iblk m c 4 t) (iblk m c 5 t) (iblk m c 6 t)) (outsAt0 m c (t.val - 1) (Nat.lt_of_le_of_lt (Nat.sub_le _ _) t.isLt)).2.2.2.2.2.2.2.1 := by
  have e := congrArg (fun o => o.2.2.2.2.2.2.2.1) (outsAt0_B m c t h0 h1 h2 h3 h4 h5)
  dsimp only at e
  rw [out_B_14] at e
  exact e

theorem left15_B (h0 : ¬t.val % 8 = 0) (h1 : 1 ≤ t.val % 8) (h2 : ¬t.val % 32 = 0) (h3 : 1 ≤ t.val) (h4 : ¬t.val % 32 = 0) (h5 : 1 ≤ t.val) : (outsAt0 m c t.val t.isLt).2.2.2.2.2.2.2.2 = k0_pay5 (t80 (iblk m c 0 t) (iblk m c 1 t) (iblk m c 2 t) (iblk m c 3 t) (iblk m c 4 t) (iblk m c 5 t) (iblk m c 6 t)) (outsAt0 m c (t.val - 1) (Nat.lt_of_le_of_lt (Nat.sub_le _ _) t.isLt)).2.2.2.2.2.2.2.2 := by
  have e := congrArg (fun o => o.2.2.2.2.2.2.2.2) (outsAt0_B m c t h0 h1 h2 h3 h4 h5)
  dsimp only at e
  rw [out_B_15] at e
  exact e

theorem left7_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).1 = w7 (iblk m c 0 t) (iblk m c 1 t) (iblk m c 2 t) (iblk m c 3 t) (iblk m c 4 t) (iblk m c 5 t) (iblk m c 6 t) := by
  have e := congrArg (fun o => o.1) (outsAt0_C m c t h0 h1 h2 h3 h4 h5)
  dsimp only at e
  rw [out_C_7] at e
  exact e

theorem left8_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.1 = w8 (iblk m c 0 t) (iblk m c 1 t) (iblk m c 2 t) (iblk m c 3 t) (iblk m c 4 t) (iblk m c 5 t) (iblk m c 6 t) := by
  have e := congrArg (fun o => o.2.1) (outsAt0_C m c t h0 h1 h2 h3 h4 h5)
  dsimp only at e
  rw [out_C_8] at e
  exact e

theorem left9_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.2.1 = w9 (iblk m c 0 t) (iblk m c 2 t) (iblk m c 3 t) := by
  have e := congrArg (fun o => o.2.2.1) (outsAt0_C m c t h0 h1 h2 h3 h4 h5)
  dsimp only at e
  rw [out_C_9] at e
  exact e

theorem left10_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.2.2.1 = w10 (iblk m c 0 t) (iblk m c 1 t) (iblk m c 2 t) (iblk m c 3 t) (iblk m c 4 t) (iblk m c 5 t) (iblk m c 6 t) := by
  have e := congrArg (fun o => o.2.2.2.1) (outsAt0_C m c t h0 h1 h2 h3 h4 h5)
  dsimp only at e
  rw [out_C_10] at e
  exact e

theorem left11_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.2.2.2.1 = w11 (iblk m c 0 t) (iblk m c 2 t) (iblk m c 3 t) (iblk m c 5 t) := by
  have e := congrArg (fun o => o.2.2.2.2.1) (outsAt0_C m c t h0 h1 h2 h3 h4 h5)
  dsimp only at e
  rw [out_C_11] at e
  exact e

theorem left12_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.2.2.2.2.1 = w12 (iblk m c 0 t) (iblk m c 1 t) (iblk m c 2 t) (iblk m c 3 t) (iblk m c 4 t) (iblk m c 5 t) (iblk m c 6 t) := by
  have e := congrArg (fun o => o.2.2.2.2.2.1) (outsAt0_C m c t h0 h1 h2 h3 h4 h5)
  dsimp only at e
  rw [out_C_12] at e
  exact e

theorem left13_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.2.2.2.2.2.1 = w13 (iblk m c 0 t) (iblk m c 1 t) (iblk m c 2 t) (iblk m c 3 t) (iblk m c 4 t) (iblk m c 5 t) (iblk m c 6 t) := by
  have e := congrArg (fun o => o.2.2.2.2.2.2.1) (outsAt0_C m c t h0 h1 h2 h3 h4 h5)
  dsimp only at e
  rw [out_C_13] at e
  exact e

theorem left14_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.2.2.2.2.2.2.1 = k0_pay4 (t116 (iblk m c 0 t) (iblk m c 1 t) (iblk m c 2 t) (iblk m c 3 t) (iblk m c 4 t) (iblk m c 5 t) (iblk m c 6 t)) (outsAt0 m c (t.val - 1) (Nat.lt_of_le_of_lt (Nat.sub_le _ _) t.isLt)).2.2.2.2.2.2.2.1 := by
  have e := congrArg (fun o => o.2.2.2.2.2.2.2.1) (outsAt0_C m c t h0 h1 h2 h3 h4 h5)
  dsimp only at e
  rw [out_C_14] at e
  exact e

theorem left15_C (h0 : t.val % 8 = 0) (h1 : ¬1 ≤ t.val % 8) (h2 : ¬t.val % 32 = 0) (h3 : 1 ≤ t.val) (h4 : ¬t.val % 32 = 0) (h5 : 1 ≤ t.val) : (outsAt0 m c t.val t.isLt).2.2.2.2.2.2.2.2 = k0_pay5 (t80 (iblk m c 0 t) (iblk m c 1 t) (iblk m c 2 t) (iblk m c 3 t) (iblk m c 4 t) (iblk m c 5 t) (iblk m c 6 t)) (outsAt0 m c (t.val - 1) (Nat.lt_of_le_of_lt (Nat.sub_le _ _) t.isLt)).2.2.2.2.2.2.2.2 := by
  have e := congrArg (fun o => o.2.2.2.2.2.2.2.2) (outsAt0_C m c t h0 h1 h2 h3 h4 h5)
  dsimp only at e
  rw [out_C_15] at e
  exact e

end Cert.Cases
-- ==== Proof.Stages.lean ====
/- What a grid point computes from its tile is the reference's stage at the tile's rows, stage by stage. -/
module

public import proofs.«01_k».proof.Proof.Layout
public import proofs.«01_k».proof.Proof.RefAt

@[expose] public section

noncomputable section

namespace Cert.Stage

open Cert.KernelIdeal Cert.KernelIdeal.Gen Idealize.ShloMosaic Idealize.ShloMosaic.ValueIdx Cert.Tile Cert.RefAt
open Cert.ReferenceIdeal.Read

/-- A tile's row `p` is the reference's row of tile `j` of batch `b`. -/
abbrev At {n : Nat} (b : Fin 4) (j : Fin 8) (v : (⟨2, ![256, n]⟩ : Shape).Idx → EReal) (V : (⟨3, ![4, 2048, n]⟩ : Shape).Idx → EReal) : Prop :=
  ∀ (p : Fin 256) (d : Fin n), (v (ix2 p d) : EReal) = V (ix3 b (tok j p) d)

/-- The same of a block with its leading unit axis. -/
abbrev Blk {n : Nat} (b : Fin 4) (j : Fin 8) (v : (⟨3, ![1, 256, n]⟩ : Shape).Idx → EReal) (V : (⟨3, ![4, 2048, n]⟩ : Shape).Idx → EReal) : Prop :=
  ∀ (p : Fin 256) (d : Fin n), (v (ix3 0 p d) : EReal) = V (ix3 b (tok j p) d)

/-- A row is batch `b`'s. -/
abbrev RowAt (b : Fin 4) (v : FVec Ideal S1x1024 .f32) (V : FVec Ideal ⟨3, ![4, 1, 1024]⟩ .f32) : Prop :=
  ∀ d : Fin 1024, (v (ix2 0 d) : EReal) = V (ix3 b 0 d)

/-- A loaded row of the modulation is its row `r` at batch `b`. -/
abbrev ModRow (b : Fin 4) (r : Fin 3) (v : FVec Ideal S1x1x1024 .f32) (V : FVec Ideal S4x3x1024 .f32) : Prop :=
  ∀ d : Fin 1024, (v (ix3 0 0 d) : EReal) = V (ix3 b r d)

variable {x0 x1 : FVec Ideal S4x2048x1024 .f32} {x2 : FVec Ideal S4x3x1024 .f32} {x3 x4 : FVec Ideal S1x1024 .f32}
  {x5 : FVec Ideal S1024x4096 .bf16} {x6 : FVec Ideal S4096x1024 .bf16} {b : Fin 4} {j : Fin 8}
  {k0 k1 : FVec Ideal S1x256x1024 .f32} {m0 m1 m2 : FVec Ideal S1x1x1024 .f32}
  {v1 v21 v23 v38 v52 v72 v74 v118 : FVec Ideal S256x1024 .f32} {v7 v25 : FVec Ideal S1x1024 .f32} {v34 : FVec Ideal S256x4096 .f32}
  {v16 v19 v47 v50 v121 : FVec Ideal S256x1 .f32}

/-- A reciprocal root is taken element by element. -/
theorem rsqrt_at {s : Shape} {φ : FTy} (x : FVec Ideal s φ) (i : s.Idx) : rsqrt x i = Ideal.rsqrt (x i) := rfl

/-- Half of twice the error over 1024 is the error times the word `0x3A800000`. -/
theorem scaled (e : EReal) : e * Ideal.ofBits .f32 0x3A800000#32
    = Ideal.div (Ideal.ofBits .f32 0x3F000000#32 * Ideal.ofBits .f32 0x3F800000#32) (Ideal.ofBits .f32 0x44800000#32)
      * (Ideal.ofBits .f32 0x40000000#32 * e) := by
  have h1 : Ideal.ofBits .f32 0x3A800000#32 = ((1 / 1024 : ℝ) : EReal) := by simp [Ideal.ofBits, Ideal.ieee]; rw [← EReal.coe_mul]; norm_num
  have h2 : Ideal.ofBits .f32 0x3F000000#32 = ((1 / 2 : ℝ) : EReal) := by simp [Ideal.ofBits, Ideal.ieee]; rw [← EReal.coe_mul]; norm_num
  have h3 : Ideal.ofBits .f32 0x3F800000#32 = ((1 : ℝ) : EReal) := by simp [Ideal.ofBits, Ideal.ieee]; rw [← EReal.coe_mul]; norm_num
  have h4 : Ideal.ofBits .f32 0x44800000#32 = ((1024 : ℝ) : EReal) := by simp [Ideal.ofBits, Ideal.ieee]; rw [← EReal.coe_mul]; norm_num
  have h5 : Ideal.ofBits .f32 0x40000000#32 = ((2 : ℝ) : EReal) := by simp [Ideal.ofBits, Ideal.ieee]; rw [← EReal.coe_mul]; norm_num
  rw [h1, h2, h3, h4, h5, Ideal.div_coe (by norm_num), ← mul_assoc, ← EReal.coe_mul, ← EReal.coe_mul, ← EReal.coe_mul, mul_comm]
  congr 2
  norm_num

/-- The slope of the rectifier's square, gated by the sign or not. -/
theorem gated (g r : EReal) (c : EReal) : g * (c * max r 0) = Scalar.select (Ideal.cmp .ogt r 0) (g * (c * max r 0)) 0 := by
  unfold Scalar.select Ideal.cmp
  by_cases h : 0 < r
  · simp [h]
  · simp [h, max_eq_right (not_lt.mp h)]

/-- The input tile. -/
theorem at6 (h0 : Blk b j k0 x0) :
    At b j (k0_pay6 (F := Ideal) k0) x0 := by
  intro p d
  simp only [k0_pay6, h0 _ _,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The mean square of a row of the input, with the small constant. -/
theorem at8 (h0 : Blk b j k0 x0) :
    At b j (k0_pay8 (F := Ideal) k0) (val_main_v12 (F := Ideal) x0) := by
  intro p d
  simp only [k0_pay8, at6 h0 _ _, val_main_v12_apply, val_main_v10_apply, at_v8, at_v7, val_main_v6_apply, val_main_v9_apply, val_main_cst_2_apply, val_main_v11_apply, val_main_cst_3_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at9 (h0 : Blk b j k0 x0) :
    At b j (k0_pay9 (F := Ideal) k0) (val_main_v13 (F := Ideal) x0) := by
  intro p d
  simp only [k0_pay9, at8 h0 _ _, val_main_v13_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at10 (h0 : Blk b j k0 x0) :
    At b j (k0_pay10 (F := Ideal) k0) (val_main_v16 (F := Ideal) x0) := by
  intro p d
  simp only [k0_pay10, at8 h0 _ _, at9 h0 _ _, val_main_v16_apply, val_main_v15_apply, val_main_cst_4_apply, val_main_v14_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at11 (h0 : Blk b j k0 x0) :
    At b j (k0_pay11 (F := Ideal) k0) (val_main_v18 (F := Ideal) x0) := by
  intro p d
  simp only [k0_pay11, at6 h0 _ _, at9 h0 _ _, val_main_v18_apply, at_v17,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at12 (h0 : Blk b j k0 x0) :
    At b j (k0_pay12 (F := Ideal) k0 x3) (val_main_v21 (F := Ideal) x0 x3) := by
  intro p d
  simp only [k0_pay12, at11 h0 _ _, val_main_v21_apply, at_v20, at_v19, at_v4,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at13 (hm1 : ModRow b 1 m1 x2) :
    RowAt b (k0_pay13 (F := Ideal) m1) (val_main_v25 (F := Ideal) x2) := by
  intro d
  simp only [k0_pay13, hm1 _, val_main_v25_apply, val_main_v24_apply, val_main_cst_5_apply, at_v23,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at7 (hm2 : ModRow b 2 m2 x2) :
    RowAt b (k0_pay7 (F := Ideal) m2) (val_main_v39 (F := Ideal) x2) := by
  intro d
  simp only [k0_pay7, hm2 _, at_v39,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The modulated normalised row. -/
theorem at14 (h0 : Blk b j k0 x0) (hm0 : ModRow b 0 m0 x2) (hm1 : ModRow b 1 m1 x2) :
    At b j (k0_pay14 (F := Ideal) k0 m0 m1 x3) (val_main_v29 (F := Ideal) x0 x2 x3) := by
  intro p d
  simp only [k0_pay14, at12 h0 _ _, at13 hm1 _, hm0 _, val_main_v29_apply, val_main_v27_apply, at_v26, at_v28, at_v22,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The rectified product with the first weight. -/
theorem at15 (h0 : Blk b j k0 x0) (hm0 : ModRow b 0 m0 x2) (hm1 : ModRow b 1 m1 x2) :
    At b j (k0_pay15 (F := Ideal) k0 m0 m1 x3 x5) (val_main_v32 (F := Ideal) x0 x2 x3 x5) := by
  intro p d
  simp only [k0_pay15, at14 h0 hm0 hm1 _ _, val_main_v32_apply, val_main_v31_apply, at_v30, val_main_v0_apply, val_main_v2_apply, val_main_cst_apply, val_main_call0_v0_apply, val_main_call0_cst_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at16 (h34 : At b j v34 (val_main_v32 (F := Ideal) x0 x2 x3 x5)) :
    At b j (k0_pay16 (F := Ideal) v34) (val_main_v36 (F := Ideal) x0 x2 x3 x5) := by
  intro p d
  simp only [k0_pay16, h34 _ _, val_main_v36_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at17 (h34 : At b j v34 (val_main_v32 (F := Ideal) x0 x2 x3 x5)) :
    At b j (k0_pay17 (F := Ideal) v34 x6) (val_main_v41 (F := Ideal) x0 x2 x3 x5 x6) := by
  intro p d
  simp only [k0_pay17, at16 h34 _ _, val_main_v41_apply, at_v40, val_main_v1_apply, val_main_cst_0_apply, val_main_v3_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at18 (h34 : At b j v34 (val_main_v32 (F := Ideal) x0 x2 x3 x5)) :
    At b j (k0_pay18 (F := Ideal) v34 x6) (val_main_v48 (F := Ideal) x0 x2 x3 x5 x6) := by
  intro p d
  simp only [k0_pay18, at17 h34 _ _, val_main_v48_apply, val_main_v46_apply, at_v44, at_v43, val_main_v42_apply, val_main_v45_apply, val_main_cst_10_apply, val_main_v47_apply, val_main_cst_11_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at19 (h34 : At b j v34 (val_main_v32 (F := Ideal) x0 x2 x3 x5)) :
    At b j (k0_pay19 (F := Ideal) v34 x6) (val_main_v49 (F := Ideal) x0 x2 x3 x5 x6) := by
  intro p d
  simp only [k0_pay19, at18 h34 _ _, val_main_v49_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at20 (h34 : At b j v34 (val_main_v32 (F := Ideal) x0 x2 x3 x5)) :
    At b j (k0_pay20 (F := Ideal) v34 x6) (val_main_v52 (F := Ideal) x0 x2 x3 x5 x6) := by
  intro p d
  simp only [k0_pay20, at18 h34 _ _, at19 h34 _ _, val_main_v52_apply, val_main_v51_apply, val_main_cst_12_apply, val_main_v50_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at21 (h34 : At b j v34 (val_main_v32 (F := Ideal) x0 x2 x3 x5)) :
    At b j (k0_pay21 (F := Ideal) v34 x6) (val_main_v54 (F := Ideal) x0 x2 x3 x5 x6) := by
  intro p d
  simp only [k0_pay21, at17 h34 _ _, at19 h34 _ _, val_main_v54_apply, at_v53,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at22 (h34 : At b j v34 (val_main_v32 (F := Ideal) x0 x2 x3 x5)) :
    At b j (k0_pay22 (F := Ideal) v34 x6 x4) (val_main_v57 (F := Ideal) x0 x2 x3 x4 x5 x6) := by
  intro p d
  simp only [k0_pay22, at21 h34 _ _, val_main_v57_apply, at_v56, at_v55, at_v5,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The error of a row. -/
theorem at23 (e1 : At b j v1 x0) (e7 : RowAt b v7 (val_main_v39 (F := Ideal) x2)) (h34 : At b j v34 (val_main_v32 (F := Ideal) x0 x2 x3 x5)) (hk1 : Blk b j k1 x1) :
    At b j (k0_pay23 (F := Ideal) v1 v7 v34 x6 x4 k1) (val_main_v61 (F := Ideal) x0 x1 x2 x3 x4 x5 x6) := by
  intro p d
  simp only [k0_pay23, e1 _ _, e7 _, at22 h34 _ _, hk1 _ _, val_main_v61_apply, val_main_v60_apply, val_main_v59_apply, at_v58,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The error over the width. -/
theorem at25 (e1 : At b j v1 x0) (e7 : RowAt b v7 (val_main_v39 (F := Ideal) x2)) (h34 : At b j v34 (val_main_v32 (F := Ideal) x0 x2 x3 x5)) (hk1 : Blk b j k1 x1) :
    At b j (k0_pay25 (F := Ideal) v1 v7 v34 x6 x4 k1) (val_main_v75 (F := Ideal) x0 x1 x2 x3 x4 x5 x6) := by
  intro p d
  simp only [k0_pay25, at23 e1 e7 h34 hk1 _ _, val_main_v75_apply, at_v74, val_main_v73_apply, val_main_v71_apply, val_main_v70_apply, val_main_v72_apply, val_main_v64_apply, val_main_v63_apply, val_main_cst_13_apply, val_main_cst_18_apply, val_main_cst_19_apply, val_main_cst_20_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]
  exact scaled _

theorem at26 (e1 : At b j v1 x0) (e7 : RowAt b v7 (val_main_v39 (F := Ideal) x2)) (h34 : At b j v34 (val_main_v32 (F := Ideal) x0 x2 x3 x5)) (hk1 : Blk b j k1 x1) :
    At b j (k0_pay26 (F := Ideal) v1 v7 v34 x6 x4 k1) (val_main_v77 (F := Ideal) x0 x1 x2 x3 x4 x5 x6) := by
  intro p d
  simp only [k0_pay26, at25 e1 e7 h34 hk1 _ _, e7 _, val_main_v77_apply, at_v76,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at27 (e1 : At b j v1 x0) (e7 : RowAt b v7 (val_main_v39 (F := Ideal) x2)) (h34 : At b j v34 (val_main_v32 (F := Ideal) x0 x2 x3 x5)) (hk1 : Blk b j k1 x1) (d : Fin 1024) :
    k0_pay27 (F := Ideal) v1 v7 v34 x6 x4 k1 (ix1 d) = ∑ p : Fin 256, (val_main_v78 (F := Ideal) x0 x1 x2 x3 x4 x5 x6) (ix3 b (tok j p) d) := by
  simp only [k0_pay27, at25 e1 e7 h34 hk1 _ _, at22 h34 _ _, val_main_v78_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at29 (e52 : At b j v52 (val_main_v54 (F := Ideal) x0 x2 x3 x5 x6)) (e74 : At b j v74 (val_main_v77 (F := Ideal) x0 x1 x2 x3 x4 x5 x6)) (d : Fin 1024) :
    k0_pay29 (F := Ideal) v52 v74 (ix2 0 d) = ∑ p : Fin 256, (val_main_v81 (F := Ideal) x0 x1 x2 x3 x4 x5 x6) (ix3 b (tok j p) d) := by
  simp only [k0_pay29, e52 _ _, e74 _ _, val_main_v81_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The gradient at the second product. -/
theorem at30 (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) :
    At b j (k0_pay30 (F := Ideal) v38 x4 v47 v50 v74) (val_main_v100 (F := Ideal) x0 x1 x2 x3 x4 x5 x6) := by
  intro p d
  simp only [k0_pay30, e38 _ _, e47 _ _, e50 _ _, e74 _ _, Fin.sum_univ_one, val_main_v100_apply, val_main_v98_apply, val_main_v91_apply, val_main_v85_apply, at_v84, at_v55, at_v5, at_v90, val_main_v97_apply, at_v96, at_v95, val_main_v94_apply, val_main_v92_apply, at_v89, at_v88, val_main_v87_apply, val_main_v93_apply, val_main_cst_25_apply, val_main_v99_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The gradient at the first product: where the rectifier is shut, so is its slope. -/
theorem at31 (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) :
    At b j (k0_pay31 (F := Ideal) v34 v38 x4 v47 v50 v74 x6) (val_main_v105 (F := Ideal) x0 x1 x2 x3 x4 x5 x6) := by
  intro p d
  simp only [k0_pay31, h34 _ _, at30 e38 e47 e50 e74 _ _, val_main_v105_apply, val_main_v103_apply, at_v101, val_main_v3_apply, val_main_v38_apply, val_main_v37_apply, val_main_cst_8_apply, val_main_v34_apply, val_main_v33_apply, val_main_cst_6_apply, val_main_v104_apply, val_main_cst_28_apply, val_main_v32_apply, val_main_v31_apply, val_main_call0_v0_apply, val_main_call0_cst_apply, at_v30, val_main_v0_apply, val_main_cst_apply, val_main_v2_apply, Ideal.cmpf_def,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]
  exact gated _ _ _

theorem at32 (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) :
    At b j (k0_pay32 (F := Ideal) v34 v38 x4 v47 v50 v74 x6 x5) (val_main_v106 (F := Ideal) x0 x1 x2 x3 x4 x5 x6) := by
  intro p d
  simp only [k0_pay32, at31 h34 e38 e47 e50 e74 _ _, at_v106, val_main_v2_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at33 (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) (d : Fin 1024) :
    k0_pay33 (F := Ideal) v34 v38 x4 v47 v50 v74 x6 x5 (ix2 0 d) = ∑ p : Fin 256, (val_main_v106 (F := Ideal) x0 x1 x2 x3 x4 x5 x6) (ix3 b (tok j p) d) := by
  simp only [k0_pay33, at32 h34 e38 e47 e50 e74 _ _,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at34 (e23 : At b j v23 (val_main_v21 (F := Ideal) x0 x3)) (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) (d : Fin 1024) :
    k0_pay34 (F := Ideal) v23 v34 v38 x4 v47 v50 v74 x6 x5 (ix2 0 d) = ∑ p : Fin 256, (val_main_v109 (F := Ideal) x0 x1 x2 x3 x4 x5 x6) (ix3 b (tok j p) d) := by
  simp only [k0_pay34, at32 h34 e38 e47 e50 e74 _ _, e23 _ _, val_main_v109_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at35 (e25 : RowAt b v25 (val_main_v25 (F := Ideal) x2)) (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) :
    At b j (k0_pay35 (F := Ideal) v25 v34 v38 x4 v47 v50 v74 x6 x5) (val_main_v113 (F := Ideal) x0 x1 x2 x3 x4 x5 x6) := by
  intro p d
  simp only [k0_pay35, at32 h34 e38 e47 e50 e74 _ _, e25 _, val_main_v113_apply, at_v112,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at36 (e21 : At b j v21 (val_main_v18 (F := Ideal) x0)) (e25 : RowAt b v25 (val_main_v25 (F := Ideal) x2)) (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) (d : Fin 1024) :
    k0_pay36 (F := Ideal) v21 v25 v34 v38 x4 v47 v50 v74 x6 x5 (ix2 0 d) = ∑ p : Fin 256, (val_main_v118 (F := Ideal) x0 x1 x2 x3 x4 x5 x6) (ix3 b (tok j p) d) := by
  simp only [k0_pay36, at35 e25 h34 e38 e47 e50 e74 _ _, e21 _ _, val_main_v118_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at37 (e25 : RowAt b v25 (val_main_v25 (F := Ideal) x2)) (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) :
    At b j (k0_pay37 (F := Ideal) x3 v25 v34 v38 x4 v47 v50 v74 x6 x5) (val_main_v122 (F := Ideal) x0 x1 x2 x3 x4 x5 x6) := by
  intro p d
  simp only [k0_pay37, at35 e25 h34 e38 e47 e50 e74 _ _, val_main_v122_apply, at_v121, at_v19, at_v4,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

theorem at38 (e1 : At b j v1 x0) (e25 : RowAt b v25 (val_main_v25 (F := Ideal) x2)) (h34 : At b j v34 (val_main_v32 (F := Ideal) x0 x2 x3 x5)) (e38 : At b j v38 (val_main_v41 (F := Ideal) x0 x2 x3 x5 x6)) (e47 : At b j v47 (val_main_v49 (F := Ideal) x0 x2 x3 x5 x6)) (e50 : At b j v50 (val_main_v52 (F := Ideal) x0 x2 x3 x5 x6)) (e74 : At b j v74 (val_main_v77 (F := Ideal) x0 x1 x2 x3 x4 x5 x6)) :
    At b j (k0_pay38 (F := Ideal) v1 x3 v25 v34 v38 x4 v47 v50 v74 x6 x5) (val_main_v126 (F := Ideal) x0 x1 x2 x3 x4 x5 x6) := by
  intro p d
  simp only [k0_pay38, at37 e25 h34 e38 e47 e50 e74 _ _, e1 _ _, at_v126, at_v125, val_main_v124_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The gradient at the input. -/
theorem at39 (e1 : At b j v1 x0) (e16 : At b j v16 (val_main_v13 (F := Ideal) x0)) (e19 : At b j v19 (val_main_v16 (F := Ideal) x0)) (e72 : At b j v72 (val_main_v75 (F := Ideal) x0 x1 x2 x3 x4 x5 x6)) (e118 : At b j v118 (val_main_v122 (F := Ideal) x0 x1 x2 x3 x4 x5 x6)) (e121 : At b j v121 (val_main_v126 (F := Ideal) x0 x1 x2 x3 x4 x5 x6)) :
    Blk b j (k0_pay39 (F := Ideal) v1 v16 v19 v72 v118 v121) (val_main_v138 (F := Ideal) x0 x1 x2 x3 x4 x5 x6) := by
  intro p d
  simp only [k0_pay39, e1 _ _, e16 _ _, e19 _ _, e72 _ _, e118 _ _, e121 _ _, Fin.sum_univ_one, val_main_v138_apply, val_main_v136_apply, val_main_v129_apply, val_main_v128_apply, at_v127, val_main_v135_apply, at_v134, at_v133, val_main_v132_apply, val_main_v130_apply, val_main_v131_apply, val_main_cst_36_apply, val_main_v137_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]
  simp only [add_assoc]

/-- The loss of a tile. -/
theorem at24 (e1 : At b j v1 x0) (e7 : RowAt b v7 (val_main_v39 (F := Ideal) x2)) (h34 : At b j v34 (val_main_v32 (F := Ideal) x0 x2 x3 x5)) (hk1 : Blk b j k1 x1) :
    k0_pay24 (F := Ideal) v1 v7 v34 x6 x4 k1 = (val_main_v142 (F := Ideal) x0 x1 x2 x3 x4 x5 x6) (ix2 b j) := by
  simp only [k0_pay24, columnSum _ _ reduces_S1x256x1_S1 (.inl rfl) rfl, Ideal.scalar_mulf_def, ValueIdx.divf_apply, at23 e1 e7 h34 hk1 _ _, val_main_v142_apply, val_main_v141_apply, val_main_cst_39_apply, at_v140, at_v139, val_main_v67_apply, val_main_v66_apply, val_main_cst_15_apply, at_v65, val_main_v62_apply,
    ValueIdx.mulf_apply, ValueIdx.addf_apply, ValueIdx.subf_apply, ValueIdx.divf_apply, ValueIdx.maximumf_apply, ValueIdx.truncf_apply, broadcast_apply, rsqrt_at, column (n := 256) (k := 1024) (by decide), row (n := 256) (k := 1024) (by decide), dropLead, addLead, toColumn, toRow, laneSum _ reduces_S256x1024_S256 (.inl rfl) rfl, rowSum _ reduces_S256x1024_S1024 (.inl rfl) rfl, unitSum _ reduces_S256x1_S256 (.inl rfl) rfl, prodUp, prodDown, prodDownT, prodUpT, Scalar.ofBits,
    Ideal.mulf_def, Ideal.addf_def, Ideal.subf_def, Ideal.divf_def, Ideal.hostDivf_def, Ideal.rsqrt_def, Ideal.hostUnary_rsqrt_def, Ideal.maximumf_def, Ideal.truncf_def, Ideal.extf_def, Ideal.ofBits_def, Ideal.ofBits_zero_f32, zero_add, add_zero]

/-- The three modulation rows of a tile, stacked. -/
theorem at2 (a c d : FVec Ideal S1x1024 .f32) (l : Fin 1024) :
    k0_pay2 (F := Ideal) a c d (ix3 0 0 l) = c (ix2 0 l) ∧ k0_pay2 (F := Ideal) a c d (ix3 0 1 l) = d (ix2 0 l)
      ∧ k0_pay2 (F := Ideal) a c d (ix3 0 2 l) = a (ix2 0 l) := by
  have h := stack c d a concatenates_S1x1024_S1x1024_S1x1024_S3x1024_d0 l
  simp only [k0_pay2, addLead]
  exact h

theorem at28 (v : FVec Ideal S1024 .f32) (d : Fin 1024) : k0_pay28 (F := Ideal) v (ix2 0 d) = v (ix1 d) := by
  simp only [k0_pay28, toRow]

theorem at1 (v : FVec Ideal S256x1024 .bf16) (p : Fin 256) (d : Fin 1024) : k0_pay1 (F := Ideal) v (ix3 0 p d) = v (ix2 p d) := by
  simp only [k0_pay1, addLead]

theorem at41 (v : FVec Ideal S256x1024 .bf16) (p : Fin 256) (d : Fin 1024) : k0_pay41 (F := Ideal) v (ix3 0 p d) = v (ix2 p d) := by
  simp only [k0_pay41, addLead]

theorem at42 (v : FVec Ideal S256x4096 .bf16) (p : Fin 256) (d : Fin 4096) : k0_pay42 (F := Ideal) v (ix3 0 p d) = v (ix2 p d) := by
  simp only [k0_pay42, addLead]

theorem at43 (v : FVec Ideal S256x4096 .bf16) (p : Fin 256) (d : Fin 4096) : k0_pay43 (F := Ideal) v (ix3 0 p d) = v (ix2 p d) := by
  simp only [k0_pay43, addLead]

/-- A tile's loss, written over its block of lanes. -/
theorem at40 (v : Ideal .f32) (i : S1x1x8x128.Idx) : k0_pay40 (F := Ideal) v i = v := by
  obtain ⟨k, hk⟩ : ∃ k : S8x128.Idx, (S8x128.rowMajor k).val = (S1x1x8x128.rowMajor i).val :=
    ⟨S8x128.rowMajor.symm ((S1x1x8x128.rowMajor i).cast rfl), by rw [Equiv.apply_symm_apply]; rfl⟩
  unfold k0_pay40
  refine (shapeCast_apply _ shapeCasts_S8x128_S1x1x8x128 i k hk).trans ?_
  show Ideal.ofBits .f32 0x00000000#32 + v = v
  rw [Ideal.ofBits_zero_f32, zero_add]

theorem at3 (a c d : FVec Ideal S1x1024 .f32) (x : FVec Ideal S1x3x1024 .f32) (i : S1x3x1024.Idx) :
    k0_pay3 (F := Ideal) a c d x i = x i + k0_pay2 (F := Ideal) a c d i := by
  simp only [k0_pay3, shapeCast_self]
  rfl

theorem at4 (a x : FVec Ideal S1x1024 .f32) (i : S1x1024.Idx) : k0_pay4 (F := Ideal) a x i = x i + a i := by
  simp only [k0_pay4, shapeCast_self]
  rfl

theorem at5 (a x : FVec Ideal S1x1024 .f32) (i : S1x1024.Idx) : k0_pay5 (F := Ideal) a x i = x i + a i := by
  simp only [k0_pay5, shapeCast_self]
  rfl

end Cert.Stage

end
-- ==== Proof.Tiles.lean ====
/- The blocks of the windows, read at coordinates: point `t` is tile `t % 8` of batch `t / 8`. -/
module

public import proofs.«01_k».proof.Proof.Gen.KernelIdeal.Frame
public import proofs.«01_k».proof.Proof.RefAt
public import Idealize.ShloMosaic.Lib.ValueIdx
public import Idealize.ShloMosaic.Lib.Pipeline.Value

@[expose] public section

noncomputable section

namespace Cert.Tiles

open Cert.KernelIdeal Cert.KernelIdeal.Gen Idealize.ShloMosaic Idealize.ShloMosaic.TcCoe Idealize.ShloMosaic.ValueIdx
open Idealize.SL.Sem
open Cert.RefAt (tok)

variable {F : FTy → Type} [FloatOps F]

theorem point_lt (t : Fin cfg0.N) : t.val < 32 := lt_of_lt_of_eq t.isLt N_0

/-- The batch of a point. -/
abbrev batch (t : Fin cfg0.N) : Fin 4 := ⟨t.val / 8, by have := point_lt t; omega⟩

/-- The tile of a point, among its batch's. -/
abbrev tile (t : Fin cfg0.N) : Fin 8 := ⟨t.val % 8, by omega⟩

theorem index0_0 : ∀ t : Fin grid0.N, win0_0.index t 0 = t.val / 8 := by decide +kernel
theorem index0_1 : ∀ t : Fin grid0.N, win0_0.index t 1 = t.val % 8 := by decide +kernel
theorem index0_2 : ∀ t : Fin grid0.N, win0_0.index t 2 = 0 := by decide +kernel

theorem read0 (t : Fin cfg0.N) {c : Dev nD} (G : Buf (Elt F) ((c.tc : Thread nD τ).loc main_arg0)) (y : S1x256x1024.Idx) :
    ((cfg0.win 0).blk t).view.read (Elt F) G y = (G : Vec F S4x2048x1024 .f32) (ix3 (batch t) (tok (tile t) (y 1)) (y 2)) := by
  rw [View.read_apply]
  refine congrArg (G : S4x2048x1024.Idx → Elt F .f32) (funext fun a => Fin.ext ?_)
  match a with
  | ⟨0, _⟩ => have h : (y 0 : Nat) < 1 := (y 0).isLt; show win0_0.index t 0 * 1 + 1 * (y 0 : Nat) = t.val / 8; rw [index0_0]; omega
  | ⟨1, _⟩ => show win0_0.index t 1 * 256 + 1 * (y 1 : Nat) = 256 * (t.val % 8) + (y 1 : Nat); rw [index0_1]; omega
  | ⟨2, _⟩ => show win0_0.index t 2 * 1024 + 1 * (y 2 : Nat) = (y 2 : Nat); rw [index0_2]; omega

theorem block0 (m : (ℓ : Loc nD τ sig) → Buf (Elt F) ℓ) (c : Dev nD) (t : Fin cfg0.N) (y : S1x256x1024.Idx) :
    (iblk m c 0 t : Vec F S1x256x1024 .f32) y = (m ((c.tc : Thread nD τ).loc main_arg0) : Vec F S4x2048x1024 .f32) (ix3 (batch t) (tok (tile t) (y 1)) (y 2)) := by
  unfold iblk
  exact read0 t (c := c) (m ((c.tc : Thread nD τ).loc main_arg0)) y

theorem index1_0 : ∀ t : Fin grid0.N, win0_1.index t 0 = t.val / 8 := by decide +kernel
theorem index1_1 : ∀ t : Fin grid0.N, win0_1.index t 1 = t.val % 8 := by decide +kernel
theorem index1_2 : ∀ t : Fin grid0.N, win0_1.index t 2 = 0 := by decide +kernel

theorem read1 (t : Fin cfg0.N) {c : Dev nD} (G : Buf (Elt F) ((c.tc : Thread nD τ).loc main_arg1)) (y : S1x256x1024.Idx) :
    ((cfg0.win 1).blk t).view.read (Elt F) G y = (G : Vec F S4x2048x1024 .f32) (ix3 (batch t) (tok (tile t) (y 1)) (y 2)) := by
  rw [View.read_apply]
  refine congrArg (G : S4x2048x1024.Idx → Elt F .f32) (funext fun a => Fin.ext ?_)
  match a with
  | ⟨0, _⟩ => have h : (y 0 : Nat) < 1 := (y 0).isLt; show win0_1.index t 0 * 1 + 1 * (y 0 : Nat) = t.val / 8; rw [index1_0]; omega
  | ⟨1, _⟩ => show win0_1.index t 1 * 256 + 1 * (y 1 : Nat) = 256 * (t.val % 8) + (y 1 : Nat); rw [index1_1]; omega
  | ⟨2, _⟩ => show win0_1.index t 2 * 1024 + 1 * (y 2 : Nat) = (y 2 : Nat); rw [index1_2]; omega

theorem block1 (m : (ℓ : Loc nD τ sig) → Buf (Elt F) ℓ) (c : Dev nD) (t : Fin cfg0.N) (y : S1x256x1024.Idx) :
    (iblk m c 1 t : Vec F S1x256x1024 .f32) y = (m ((c.tc : Thread nD τ).loc main_arg1) : Vec F S4x2048x1024 .f32) (ix3 (batch t) (tok (tile t) (y 1)) (y 2)) := by
  unfold iblk
  exact read1 t (c := c) (m ((c.tc : Thread nD τ).loc main_arg1)) y

theorem index2_0 : ∀ t : Fin grid0.N, win0_2.index t 0 = t.val / 8 := by decide +kernel
theorem index2_1 : ∀ t : Fin grid0.N, win0_2.index t 1 = 0 := by decide +kernel
theorem index2_2 : ∀ t : Fin grid0.N, win0_2.index t 2 = 0 := by decide +kernel

theorem read2 (t : Fin cfg0.N) {c : Dev nD} (G : Buf (Elt F) ((c.tc : Thread nD τ).loc main_arg2)) (y : S1x3x1024.Idx) :
    ((cfg0.win 2).blk t).view.read (Elt F) G y = (G : Vec F S4x3x1024 .f32) (ix3 (batch t) (y 1) (y 2)) := by
  rw [View.read_apply]
  refine congrArg (G : S4x3x1024.Idx → Elt F .f32) (funext fun a => Fin.ext ?_)
  match a with
  | ⟨0, _⟩ => have h : (y 0 : Nat) < 1 := (y 0).isLt; show win0_2.index t 0 * 1 + 1 * (y 0 : Nat) = t.val / 8; rw [index2_0]; omega
  | ⟨1, _⟩ => show win0_2.index t 1 * 3 + 1 * (y 1 : Nat) = (y 1 : Nat); rw [index2_1]; omega
  | ⟨2, _⟩ => show win0_2.index t 2 * 1024 + 1 * (y 2 : Nat) = (y 2 : Nat); rw [index2_2]; omega

theorem block2 (m : (ℓ : Loc nD τ sig) → Buf (Elt F) ℓ) (c : Dev nD) (t : Fin cfg0.N) (y : S1x3x1024.Idx) :
    (iblk m c 2 t : Vec F S1x3x1024 .f32) y = (m ((c.tc : Thread nD τ).loc main_arg2) : Vec F S4x3x1024 .f32) (ix3 (batch t) (y 1) (y 2)) := by
  unfold iblk
  exact read2 t (c := c) (m ((c.tc : Thread nD τ).loc main_arg2)) y

theorem index3_0 : ∀ t : Fin grid0.N, win0_3.index t 0 = 0 := by decide +kernel
theorem index3_1 : ∀ t : Fin grid0.N, win0_3.index t 1 = 0 := by decide +kernel

theorem read3 (t : Fin cfg0.N) {c : Dev nD} (G : Buf (Elt F) ((c.tc : Thread nD τ).loc main_arg3)) (y : S1x1024.Idx) :
    ((cfg0.win 3).blk t).view.read (Elt F) G y = (G : Vec F S1x1024 .f32) (y) := by
  rw [View.read_apply]
  refine congrArg (G : S1x1024.Idx → Elt F .f32) (funext fun a => Fin.ext ?_)
  match a with
  | ⟨0, _⟩ => have h : (y 0 : Nat) < 1 := (y 0).isLt; show win0_3.index t 0 * 1 + 1 * (y 0 : Nat) = (y 0 : Nat); rw [index3_0]; omega
  | ⟨1, _⟩ => show win0_3.index t 1 * 1024 + 1 * (y 1 : Nat) = (y 1 : Nat); rw [index3_1]; omega

theorem block3 (m : (ℓ : Loc nD τ sig) → Buf (Elt F) ℓ) (c : Dev nD) (t : Fin cfg0.N) (y : S1x1024.Idx) :
    (iblk m c 3 t : Vec F S1x1024 .f32) y = (m ((c.tc : Thread nD τ).loc main_arg3) : Vec F S1x1024 .f32) (y) := by
  unfold iblk
  exact read3 t (c := c) (m ((c.tc : Thread nD τ).loc main_arg3)) y

theorem index4_0 : ∀ t : Fin grid0.N, win0_4.index t 0 = 0 := by decide +kernel
theorem index4_1 : ∀ t : Fin grid0.N, win0_4.index t 1 = 0 := by decide +kernel

theorem read4 (t : Fin cfg0.N) {c : Dev nD} (G : Buf (Elt F) ((c.tc : Thread nD τ).loc main_arg4)) (y : S1x1024.Idx) :
    ((cfg0.win 4).blk t).view.read (Elt F) G y = (G : Vec F S1x1024 .f32) (y) := by
  rw [View.read_apply]
  refine congrArg (G : S1x1024.Idx → Elt F .f32) (funext fun a => Fin.ext ?_)
  match a with
  | ⟨0, _⟩ => have h : (y 0 : Nat) < 1 := (y 0).isLt; show win0_4.index t 0 * 1 + 1 * (y 0 : Nat) = (y 0 : Nat); rw [index4_0]; omega
  | ⟨1, _⟩ => show win0_4.index t 1 * 1024 + 1 * (y 1 : Nat) = (y 1 : Nat); rw [index4_1]; omega

theorem block4 (m : (ℓ : Loc nD τ sig) → Buf (Elt F) ℓ) (c : Dev nD) (t : Fin cfg0.N) (y : S1x1024.Idx) :
    (iblk m c 4 t : Vec F S1x1024 .f32) y = (m ((c.tc : Thread nD τ).loc main_arg4) : Vec F S1x1024 .f32) (y) := by
  unfold iblk
  exact read4 t (c := c) (m ((c.tc : Thread nD τ).loc main_arg4)) y

theorem index5_0 : ∀ t : Fin grid0.N, win0_5.index t 0 = 0 := by decide +kernel
theorem index5_1 : ∀ t : Fin grid0.N, win0_5.index t 1 = 0 := by decide +kernel

theorem read5 (t : Fin cfg0.N) {c : Dev nD} (G : Buf (Elt F) ((c.tc : Thread nD τ).loc main_arg5)) (y : S1024x4096.Idx) :
    ((cfg0.win 5).blk t).view.read (Elt F) G y = (G : Vec F S1024x4096 .bf16) (y) := by
  rw [View.read_apply]
  refine congrArg (G : S1024x4096.Idx → Elt F .bf16) (funext fun a => Fin.ext ?_)
  match a with
  | ⟨0, _⟩ => show win0_5.index t 0 * 1024 + 1 * (y 0 : Nat) = (y 0 : Nat); rw [index5_0]; omega
  | ⟨1, _⟩ => show win0_5.index t 1 * 4096 + 1 * (y 1 : Nat) = (y 1 : Nat); rw [index5_1]; omega

theorem block5 (m : (ℓ : Loc nD τ sig) → Buf (Elt F) ℓ) (c : Dev nD) (t : Fin cfg0.N) (y : S1024x4096.Idx) :
    (iblk m c 5 t : Vec F S1024x4096 .bf16) y = (m ((c.tc : Thread nD τ).loc main_arg5) : Vec F S1024x4096 .bf16) (y) := by
  unfold iblk
  exact read5 t (c := c) (m ((c.tc : Thread nD τ).loc main_arg5)) y

theorem index6_0 : ∀ t : Fin grid0.N, win0_6.index t 0 = 0 := by decide +kernel
theorem index6_1 : ∀ t : Fin grid0.N, win0_6.index t 1 = 0 := by decide +kernel

theorem read6 (t : Fin cfg0.N) {c : Dev nD} (G : Buf (Elt F) ((c.tc : Thread nD τ).loc main_arg6)) (y : S4096x1024.Idx) :
    ((cfg0.win 6).blk t).view.read (Elt F) G y = (G : Vec F S4096x1024 .bf16) (y) := by
  rw [View.read_apply]
  refine congrArg (G : S4096x1024.Idx → Elt F .bf16) (funext fun a => Fin.ext ?_)
  match a with
  | ⟨0, _⟩ => show win0_6.index t 0 * 4096 + 1 * (y 0 : Nat) = (y 0 : Nat); rw [index6_0]; omega
  | ⟨1, _⟩ => show win0_6.index t 1 * 1024 + 1 * (y 1 : Nat) = (y 1 : Nat); rw [index6_1]; omega

theorem block6 (m : (ℓ : Loc nD τ sig) → Buf (Elt F) ℓ) (c : Dev nD) (t : Fin cfg0.N) (y : S4096x1024.Idx) :
    (iblk m c 6 t : Vec F S4096x1024 .bf16) y = (m ((c.tc : Thread nD τ).loc main_arg6) : Vec F S4096x1024 .bf16) (y) := by
  unfold iblk
  exact read6 t (c := c) (m ((c.tc : Thread nD τ).loc main_arg6)) y

theorem index7_0 : ∀ t : Fin grid0.N, win0_7.index t 0 = t.val / 8 := by decide +kernel
theorem index7_1 : ∀ t : Fin grid0.N, win0_7.index t 1 = t.val % 8 := by decide +kernel
theorem index7_2 : ∀ t : Fin grid0.N, win0_7.index t 2 = 0 := by decide +kernel

theorem read7 (t : Fin cfg0.N) {c : Dev nD} (G : Buf (Elt F) ((c.tc : Thread nD τ).loc main_v0_0)) (y : S1x256x1024.Idx) :
    ((cfg0.win 7).blk t).view.read (Elt F) G y = (G : Vec F S4x2048x1024 .f32) (ix3 (batch t) (tok (tile t) (y 1)) (y 2)) := by
  rw [View.read_apply]
  refine congrArg (G : S4x2048x1024.Idx → Elt F .f32) (funext fun a => Fin.ext ?_)
  match a with
  | ⟨0, _⟩ => have h : (y 0 : Nat) < 1 := (y 0).isLt; show win0_7.index t 0 * 1 + 1 * (y 0 : Nat) = t.val / 8; rw [index7_0]; omega
  | ⟨1, _⟩ => show win0_7.index t 1 * 256 + 1 * (y 1 : Nat) = 256 * (t.val % 8) + (y 1 : Nat); rw [index7_1]; omega
  | ⟨2, _⟩ => show win0_7.index t 2 * 1024 + 1 * (y 2 : Nat) = (y 2 : Nat); rw [index7_2]; omega

theorem cover7 (i : S4x2048x1024.Idx) : ∃ t : Fin cfg0.N, (cfg0.win 7).flush t = true ∧ i ∈ ((cfg0.win 7).blk t).view.set := by
  have h0 : (i 0 : Nat) < 4 := (i 0).isLt
  have h1 : (i 1 : Nat) < 2048 := (i 1).isLt
  have h2 : (i 2 : Nat) < 1024 := (i 2).isLt
  have hN : cfg0.N = 32 := N_0
  let t : Fin cfg0.N := ⟨8 * (i 0 : Nat) + (i 1 : Nat) / 256, by omega⟩
  have ht : t.val = 8 * (i 0 : Nat) + (i 1 : Nat) / 256 := rfl
  refine ⟨t, flush0_7 _, ?_⟩
  show i ∈ ((View.whole main_v0_0).slice (win0_7.rect t)).set
  rw [View.set_slice_whole, Rect.mem_set_unit]
  intro a
  match a with
  | ⟨0, _⟩ =>
    show win0_7.index t 0 * 1 ≤ (i 0 : Nat) ∧ (i 0 : Nat) < win0_7.index t 0 * 1 + 1
    rw [index7_0]; omega
  | ⟨1, _⟩ =>
    show win0_7.index t 1 * 256 ≤ (i 1 : Nat) ∧ (i 1 : Nat) < win0_7.index t 1 * 256 + 256
    rw [index7_1]; omega
  | ⟨2, _⟩ =>
    show win0_7.index t 2 * 1024 ≤ (i 2 : Nat) ∧ (i 2 : Nat) < win0_7.index t 2 * 1024 + 1024
    rw [index7_2]; omega

theorem index8_0 : ∀ t : Fin grid0.N, win0_8.index t 0 = t.val / 8 := by decide +kernel
theorem index8_1 : ∀ t : Fin grid0.N, win0_8.index t 1 = t.val % 8 := by decide +kernel
theorem index8_2 : ∀ t : Fin grid0.N, win0_8.index t 2 = 0 := by decide +kernel
theorem index8_3 : ∀ t : Fin grid0.N, win0_8.index t 3 = 0 := by decide +kernel

theorem read8 (t : Fin cfg0.N) {c : Dev nD} (G : Buf (Elt F) ((c.tc : Thread nD τ).loc main_v0_1)) (y : S1x1x8x128.Idx) :
    ((cfg0.win 8).blk t).view.read (Elt F) G y = (G : Vec F S4x8x8x128 .f32) (ix4 (batch t) (tile t) (y 2) (y 3)) := by
  rw [View.read_apply]
  refine congrArg (G : S4x8x8x128.Idx → Elt F .f32) (funext fun a => Fin.ext ?_)
  match a with
  | ⟨0, _⟩ => have h : (y 0 : Nat) < 1 := (y 0).isLt; show win0_8.index t 0 * 1 + 1 * (y 0 : Nat) = t.val / 8; rw [index8_0]; omega
  | ⟨1, _⟩ => have h : (y 1 : Nat) < 1 := (y 1).isLt; show win0_8.index t 1 * 1 + 1 * (y 1 : Nat) = t.val % 8; rw [index8_1]; omega
  | ⟨2, _⟩ => show win0_8.index t 2 * 8 + 1 * (y 2 : Nat) = (y 2 : Nat); rw [index8_2]; omega
  | ⟨3, _⟩ => show win0_8.index t 3 * 128 + 1 * (y 3 : Nat) = (y 3 : Nat); rw [index8_3]; omega

theorem cover8 (i : S4x8x8x128.Idx) : ∃ t : Fin cfg0.N, (cfg0.win 8).flush t = true ∧ i ∈ ((cfg0.win 8).blk t).view.set := by
  have h0 : (i 0 : Nat) < 4 := (i 0).isLt
  have h1 : (i 1 : Nat) < 8 := (i 1).isLt
  have h2 : (i 2 : Nat) < 8 := (i 2).isLt
  have h3 : (i 3 : Nat) < 128 := (i 3).isLt
  have hN : cfg0.N = 32 := N_0
  let t : Fin cfg0.N := ⟨8 * (i 0 : Nat) + (i 1 : Nat), by omega⟩
  have ht : t.val = 8 * (i 0 : Nat) + (i 1 : Nat) := rfl
  refine ⟨t, flush0_8 _, ?_⟩
  show i ∈ ((View.whole main_v0_1).slice (win0_8.rect t)).set
  rw [View.set_slice_whole, Rect.mem_set_unit]
  intro a
  match a with
  | ⟨0, _⟩ =>
    show win0_8.index t 0 * 1 ≤ (i 0 : Nat) ∧ (i 0 : Nat) < win0_8.index t 0 * 1 + 1
    rw [index8_0]; omega
  | ⟨1, _⟩ =>
    show win0_8.index t 1 * 1 ≤ (i 1 : Nat) ∧ (i 1 : Nat) < win0_8.index t 1 * 1 + 1
    rw [index8_1]; omega
  | ⟨2, _⟩ =>
    show win0_8.index t 2 * 8 ≤ (i 2 : Nat) ∧ (i 2 : Nat) < win0_8.index t 2 * 8 + 8
    rw [index8_2]; omega
  | ⟨3, _⟩ =>
    show win0_8.index t 3 * 128 ≤ (i 3 : Nat) ∧ (i 3 : Nat) < win0_8.index t 3 * 128 + 128
    rw [index8_3]; omega

theorem index9_0 : ∀ t : Fin grid0.N, win0_9.index t 0 = t.val / 8 := by decide +kernel
theorem index9_1 : ∀ t : Fin grid0.N, win0_9.index t 1 = t.val % 8 := by decide +kernel
theorem index9_2 : ∀ t : Fin grid0.N, win0_9.index t 2 = 0 := by decide +kernel

theorem read9 (t : Fin cfg0.N) {c : Dev nD} (G : Buf (Elt F) ((c.tc : Thread nD τ).loc main_v0_2)) (y : S1x256x1024.Idx) :
    ((cfg0.win 9).blk t).view.read (Elt F) G y = (G : Vec F S4x2048x1024 .bf16) (ix3 (batch t) (tok (tile t) (y 1)) (y 2)) := by
  rw [View.read_apply]
  refine congrArg (G : S4x2048x1024.Idx → Elt F .bf16) (funext fun a => Fin.ext ?_)
  match a with
  | ⟨0, _⟩ => have h : (y 0 : Nat) < 1 := (y 0).isLt; show win0_9.index t 0 * 1 + 1 * (y 0 : Nat) = t.val / 8; rw [index9_0]; omega
  | ⟨1, _⟩ => show win0_9.index t 1 * 256 + 1 * (y 1 : Nat) = 256 * (t.val % 8) + (y 1 : Nat); rw [index9_1]; omega
  | ⟨2, _⟩ => show win0_9.index t 2 * 1024 + 1 * (y 2 : Nat) = (y 2 : Nat); rw [index9_2]; omega

theorem cover9 (i : S4x2048x1024.Idx) : ∃ t : Fin cfg0.N, (cfg0.win 9).flush t = true ∧ i ∈ ((cfg0.win 9).blk t).view.set := by
  have h0 : (i 0 : Nat) < 4 := (i 0).isLt
  have h1 : (i 1 : Nat) < 2048 := (i 1).isLt
  have h2 : (i 2 : Nat) < 1024 := (i 2).isLt
  have hN : cfg0.N = 32 := N_0
  let t : Fin cfg0.N := ⟨8 * (i 0 : Nat) + (i 1 : Nat) / 256, by omega⟩
  have ht : t.val = 8 * (i 0 : Nat) + (i 1 : Nat) / 256 := rfl
  refine ⟨t, flush0_9 _, ?_⟩
  show i ∈ ((View.whole main_v0_2).slice (win0_9.rect t)).set
  rw [View.set_slice_whole, Rect.mem_set_unit]
  intro a
  match a with
  | ⟨0, _⟩ =>
    show win0_9.index t 0 * 1 ≤ (i 0 : Nat) ∧ (i 0 : Nat) < win0_9.index t 0 * 1 + 1
    rw [index9_0]; omega
  | ⟨1, _⟩ =>
    show win0_9.index t 1 * 256 ≤ (i 1 : Nat) ∧ (i 1 : Nat) < win0_9.index t 1 * 256 + 256
    rw [index9_1]; omega
  | ⟨2, _⟩ =>
    show win0_9.index t 2 * 1024 ≤ (i 2 : Nat) ∧ (i 2 : Nat) < win0_9.index t 2 * 1024 + 1024
    rw [index9_2]; omega

theorem index10_0 : ∀ t : Fin grid0.N, win0_10.index t 0 = t.val / 8 := by decide +kernel
theorem index10_1 : ∀ t : Fin grid0.N, win0_10.index t 1 = t.val % 8 := by decide +kernel
theorem index10_2 : ∀ t : Fin grid0.N, win0_10.index t 2 = 0 := by decide +kernel

theorem read10 (t : Fin cfg0.N) {c : Dev nD} (G : Buf (Elt F) ((c.tc : Thread nD τ).loc main_v0_3)) (y : S1x256x4096.Idx) :
    ((cfg0.win 10).blk t).view.read (Elt F) G y = (G : Vec F S4x2048x4096 .bf16) (ix3 (batch t) (tok (tile t) (y 1)) (y 2)) := by
  rw [View.read_apply]
  refine congrArg (G : S4x2048x4096.Idx → Elt F .bf16) (funext fun a => Fin.ext ?_)
  match a with
  | ⟨0, _⟩ => have h : (y 0 : Nat) < 1 := (y 0).isLt; show win0_10.index t 0 * 1 + 1 * (y 0 : Nat) = t.val / 8; rw [index10_0]; omega
  | ⟨1, _⟩ => show win0_10.index t 1 * 256 + 1 * (y 1 : Nat) = 256 * (t.val % 8) + (y 1 : Nat); rw [index10_1]; omega
  | ⟨2, _⟩ => show win0_10.index t 2 * 4096 + 1 * (y 2 : Nat) = (y 2 : Nat); rw [index10_2]; omega

theorem cover10 (i : S4x2048x4096.Idx) : ∃ t : Fin cfg0.N, (cfg0.win 10).flush t = true ∧ i ∈ ((cfg0.win 10).blk t).view.set := by
  have h0 : (i 0 : Nat) < 4 := (i 0).isLt
  have h1 : (i 1 : Nat) < 2048 := (i 1).isLt
  have h2 : (i 2 : Nat) < 4096 := (i 2).isLt
  have hN : cfg0.N = 32 := N_0
  let t : Fin cfg0.N := ⟨8 * (i 0 : Nat) + (i 1 : Nat) / 256, by omega⟩
  have ht : t.val = 8 * (i 0 : Nat) + (i 1 : Nat) / 256 := rfl
  refine ⟨t, flush0_10 _, ?_⟩
  show i ∈ ((View.whole main_v0_3).slice (win0_10.rect t)).set
  rw [View.set_slice_whole, Rect.mem_set_unit]
  intro a
  match a with
  | ⟨0, _⟩ =>
    show win0_10.index t 0 * 1 ≤ (i 0 : Nat) ∧ (i 0 : Nat) < win0_10.index t 0 * 1 + 1
    rw [index10_0]; omega
  | ⟨1, _⟩ =>
    show win0_10.index t 1 * 256 ≤ (i 1 : Nat) ∧ (i 1 : Nat) < win0_10.index t 1 * 256 + 256
    rw [index10_1]; omega
  | ⟨2, _⟩ =>
    show win0_10.index t 2 * 4096 ≤ (i 2 : Nat) ∧ (i 2 : Nat) < win0_10.index t 2 * 4096 + 4096
    rw [index10_2]; omega

theorem index11_0 : ∀ t : Fin grid0.N, win0_11.index t 0 = t.val / 8 := by decide +kernel
theorem index11_1 : ∀ t : Fin grid0.N, win0_11.index t 1 = t.val % 8 := by decide +kernel
theorem index11_2 : ∀ t : Fin grid0.N, win0_11.index t 2 = 0 := by decide +kernel

theorem read11 (t : Fin cfg0.N) {c : Dev nD} (G : Buf (Elt F) ((c.tc : Thread nD τ).loc main_v0_4)) (y : S1x256x4096.Idx) :
    ((cfg0.win 11).blk t).view.read (Elt F) G y = (G : Vec F S4x2048x4096 .bf16) (ix3 (batch t) (tok (tile t) (y 1)) (y 2)) := by
  rw [View.read_apply]
  refine congrArg (G : S4x2048x4096.Idx → Elt F .bf16) (funext fun a => Fin.ext ?_)
  match a with
  | ⟨0, _⟩ => have h : (y 0 : Nat) < 1 := (y 0).isLt; show win0_11.index t 0 * 1 + 1 * (y 0 : Nat) = t.val / 8; rw [index11_0]; omega
  | ⟨1, _⟩ => show win0_11.index t 1 * 256 + 1 * (y 1 : Nat) = 256 * (t.val % 8) + (y 1 : Nat); rw [index11_1]; omega
  | ⟨2, _⟩ => show win0_11.index t 2 * 4096 + 1 * (y 2 : Nat) = (y 2 : Nat); rw [index11_2]; omega

theorem cover11 (i : S4x2048x4096.Idx) : ∃ t : Fin cfg0.N, (cfg0.win 11).flush t = true ∧ i ∈ ((cfg0.win 11).blk t).view.set := by
  have h0 : (i 0 : Nat) < 4 := (i 0).isLt
  have h1 : (i 1 : Nat) < 2048 := (i 1).isLt
  have h2 : (i 2 : Nat) < 4096 := (i 2).isLt
  have hN : cfg0.N = 32 := N_0
  let t : Fin cfg0.N := ⟨8 * (i 0 : Nat) + (i 1 : Nat) / 256, by omega⟩
  have ht : t.val = 8 * (i 0 : Nat) + (i 1 : Nat) / 256 := rfl
  refine ⟨t, flush0_11 _, ?_⟩
  show i ∈ ((View.whole main_v0_4).slice (win0_11.rect t)).set
  rw [View.set_slice_whole, Rect.mem_set_unit]
  intro a
  match a with
  | ⟨0, _⟩ =>
    show win0_11.index t 0 * 1 ≤ (i 0 : Nat) ∧ (i 0 : Nat) < win0_11.index t 0 * 1 + 1
    rw [index11_0]; omega
  | ⟨1, _⟩ =>
    show win0_11.index t 1 * 256 ≤ (i 1 : Nat) ∧ (i 1 : Nat) < win0_11.index t 1 * 256 + 256
    rw [index11_1]; omega
  | ⟨2, _⟩ =>
    show win0_11.index t 2 * 4096 ≤ (i 2 : Nat) ∧ (i 2 : Nat) < win0_11.index t 2 * 4096 + 4096
    rw [index11_2]; omega

theorem index12_0 : ∀ t : Fin grid0.N, win0_12.index t 0 = t.val / 8 := by decide +kernel
theorem index12_1 : ∀ t : Fin grid0.N, win0_12.index t 1 = t.val % 8 := by decide +kernel
theorem index12_2 : ∀ t : Fin grid0.N, win0_12.index t 2 = 0 := by decide +kernel

theorem read12 (t : Fin cfg0.N) {c : Dev nD} (G : Buf (Elt F) ((c.tc : Thread nD τ).loc main_v0_5)) (y : S1x256x1024.Idx) :
    ((cfg0.win 12).blk t).view.read (Elt F) G y = (G : Vec F S4x2048x1024 .bf16) (ix3 (batch t) (tok (tile t) (y 1)) (y 2)) := by
  rw [View.read_apply]
  refine congrArg (G : S4x2048x1024.Idx → Elt F .bf16) (funext fun a => Fin.ext ?_)
  match a with
  | ⟨0, _⟩ => have h : (y 0 : Nat) < 1 := (y 0).isLt; show win0_12.index t 0 * 1 + 1 * (y 0 : Nat) = t.val / 8; rw [index12_0]; omega
  | ⟨1, _⟩ => show win0_12.index t 1 * 256 + 1 * (y 1 : Nat) = 256 * (t.val % 8) + (y 1 : Nat); rw [index12_1]; omega
  | ⟨2, _⟩ => show win0_12.index t 2 * 1024 + 1 * (y 2 : Nat) = (y 2 : Nat); rw [index12_2]; omega

theorem cover12 (i : S4x2048x1024.Idx) : ∃ t : Fin cfg0.N, (cfg0.win 12).flush t = true ∧ i ∈ ((cfg0.win 12).blk t).view.set := by
  have h0 : (i 0 : Nat) < 4 := (i 0).isLt
  have h1 : (i 1 : Nat) < 2048 := (i 1).isLt
  have h2 : (i 2 : Nat) < 1024 := (i 2).isLt
  have hN : cfg0.N = 32 := N_0
  let t : Fin cfg0.N := ⟨8 * (i 0 : Nat) + (i 1 : Nat) / 256, by omega⟩
  have ht : t.val = 8 * (i 0 : Nat) + (i 1 : Nat) / 256 := rfl
  refine ⟨t, flush0_12 _, ?_⟩
  show i ∈ ((View.whole main_v0_5).slice (win0_12.rect t)).set
  rw [View.set_slice_whole, Rect.mem_set_unit]
  intro a
  match a with
  | ⟨0, _⟩ =>
    show win0_12.index t 0 * 1 ≤ (i 0 : Nat) ∧ (i 0 : Nat) < win0_12.index t 0 * 1 + 1
    rw [index12_0]; omega
  | ⟨1, _⟩ =>
    show win0_12.index t 1 * 256 ≤ (i 1 : Nat) ∧ (i 1 : Nat) < win0_12.index t 1 * 256 + 256
    rw [index12_1]; omega
  | ⟨2, _⟩ =>
    show win0_12.index t 2 * 1024 ≤ (i 2 : Nat) ∧ (i 2 : Nat) < win0_12.index t 2 * 1024 + 1024
    rw [index12_2]; omega

theorem index13_0 : ∀ t : Fin grid0.N, win0_13.index t 0 = t.val / 8 := by decide +kernel
theorem index13_1 : ∀ t : Fin grid0.N, win0_13.index t 1 = 0 := by decide +kernel
theorem index13_2 : ∀ t : Fin grid0.N, win0_13.index t 2 = 0 := by decide +kernel

theorem read13 (t : Fin cfg0.N) {c : Dev nD} (G : Buf (Elt F) ((c.tc : Thread nD τ).loc main_v0_6)) (y : S1x3x1024.Idx) :
    ((cfg0.win 13).blk t).view.read (Elt F) G y = (G : Vec F S4x3x1024 .f32) (ix3 (batch t) (y 1) (y 2)) := by
  rw [View.read_apply]
  refine congrArg (G : S4x3x1024.Idx → Elt F .f32) (funext fun a => Fin.ext ?_)
  match a with
  | ⟨0, _⟩ => have h : (y 0 : Nat) < 1 := (y 0).isLt; show win0_13.index t 0 * 1 + 1 * (y 0 : Nat) = t.val / 8; rw [index13_0]; omega
  | ⟨1, _⟩ => show win0_13.index t 1 * 3 + 1 * (y 1 : Nat) = (y 1 : Nat); rw [index13_1]; omega
  | ⟨2, _⟩ => show win0_13.index t 2 * 1024 + 1 * (y 2 : Nat) = (y 2 : Nat); rw [index13_2]; omega

theorem cover13 (i : S4x3x1024.Idx) : ∃ t : Fin cfg0.N, (cfg0.win 13).flush t = true ∧ i ∈ ((cfg0.win 13).blk t).view.set := by
  have h0 : (i 0 : Nat) < 4 := (i 0).isLt
  have h1 : (i 1 : Nat) < 3 := (i 1).isLt
  have h2 : (i 2 : Nat) < 1024 := (i 2).isLt
  have hN : cfg0.N = 32 := N_0
  let t : Fin cfg0.N := ⟨8 * (i 0 : Nat) + 7, by omega⟩
  have ht : t.val = 8 * (i 0 : Nat) + 7 := rfl
  refine ⟨t, (flush0_13 _).mpr (by show (8 * (i 0 : Nat) + 7) % 8 = 7; omega), ?_⟩
  show i ∈ ((View.whole main_v0_6).slice (win0_13.rect t)).set
  rw [View.set_slice_whole, Rect.mem_set_unit]
  intro a
  match a with
  | ⟨0, _⟩ =>
    show win0_13.index t 0 * 1 ≤ (i 0 : Nat) ∧ (i 0 : Nat) < win0_13.index t 0 * 1 + 1
    rw [index13_0]; omega
  | ⟨1, _⟩ =>
    show win0_13.index t 1 * 3 ≤ (i 1 : Nat) ∧ (i 1 : Nat) < win0_13.index t 1 * 3 + 3
    rw [index13_1]; omega
  | ⟨2, _⟩ =>
    show win0_13.index t 2 * 1024 ≤ (i 2 : Nat) ∧ (i 2 : Nat) < win0_13.index t 2 * 1024 + 1024
    rw [index13_2]; omega

theorem index14_0 : ∀ t : Fin grid0.N, win0_14.index t 0 = 0 := by decide +kernel
theorem index14_1 : ∀ t : Fin grid0.N, win0_14.index t 1 = 0 := by decide +kernel

theorem read14 (t : Fin cfg0.N) {c : Dev nD} (G : Buf (Elt F) ((c.tc : Thread nD τ).loc main_v0_7)) (y : S1x1024.Idx) :
    ((cfg0.win 14).blk t).view.read (Elt F) G y = (G : Vec F S1x1024 .f32) (y) := by
  rw [View.read_apply]
  refine congrArg (G : S1x1024.Idx → Elt F .f32) (funext fun a => Fin.ext ?_)
  match a with
  | ⟨0, _⟩ => have h : (y 0 : Nat) < 1 := (y 0).isLt; show win0_14.index t 0 * 1 + 1 * (y 0 : Nat) = (y 0 : Nat); rw [index14_0]; omega
  | ⟨1, _⟩ => show win0_14.index t 1 * 1024 + 1 * (y 1 : Nat) = (y 1 : Nat); rw [index14_1]; omega

theorem cover14 (i : S1x1024.Idx) : ∃ t : Fin cfg0.N, (cfg0.win 14).flush t = true ∧ i ∈ ((cfg0.win 14).blk t).view.set := by
  have h0 : (i 0 : Nat) < 1 := (i 0).isLt
  have h1 : (i 1 : Nat) < 1024 := (i 1).isLt
  have hN : cfg0.N = 32 := N_0
  let t : Fin cfg0.N := ⟨31, by omega⟩
  have ht : t.val = 31 := rfl
  refine ⟨t, (flush0_14 _).mpr (by show 31 % 32 = 31; rfl), ?_⟩
  show i ∈ ((View.whole main_v0_7).slice (win0_14.rect t)).set
  rw [View.set_slice_whole, Rect.mem_set_unit]
  intro a
  match a with
  | ⟨0, _⟩ =>
    show win0_14.index t 0 * 1 ≤ (i 0 : Nat) ∧ (i 0 : Nat) < win0_14.index t 0 * 1 + 1
    rw [index14_0]; omega
  | ⟨1, _⟩ =>
    show win0_14.index t 1 * 1024 ≤ (i 1 : Nat) ∧ (i 1 : Nat) < win0_14.index t 1 * 1024 + 1024
    rw [index14_1]; omega

theorem index15_0 : ∀ t : Fin grid0.N, win0_15.index t 0 = 0 := by decide +kernel
theorem index15_1 : ∀ t : Fin grid0.N, win0_15.index t 1 = 0 := by decide +kernel

theorem read15 (t : Fin cfg0.N) {c : Dev nD} (G : Buf (Elt F) ((c.tc : Thread nD τ).loc main_v0_8)) (y : S1x1024.Idx) :
    ((cfg0.win 15).blk t).view.read (Elt F) G y = (G : Vec F S1x1024 .f32) (y) := by
  rw [View.read_apply]
  refine congrArg (G : S1x1024.Idx → Elt F .f32) (funext fun a => Fin.ext ?_)
  match a with
  | ⟨0, _⟩ => have h : (y 0 : Nat) < 1 := (y 0).isLt; show win0_15.index t 0 * 1 + 1 * (y 0 : Nat) = (y 0 : Nat); rw [index15_0]; omega
  | ⟨1, _⟩ => show win0_15.index t 1 * 1024 + 1 * (y 1 : Nat) = (y 1 : Nat); rw [index15_1]; omega

theorem cover15 (i : S1x1024.Idx) : ∃ t : Fin cfg0.N, (cfg0.win 15).flush t = true ∧ i ∈ ((cfg0.win 15).blk t).view.set := by
  have h0 : (i 0 : Nat) < 1 := (i 0).isLt
  have h1 : (i 1 : Nat) < 1024 := (i 1).isLt
  have hN : cfg0.N = 32 := N_0
  let t : Fin cfg0.N := ⟨31, by omega⟩
  have ht : t.val = 31 := rfl
  refine ⟨t, (flush0_15 _).mpr (by show 31 % 32 = 31; rfl), ?_⟩
  show i ∈ ((View.whole main_v0_8).slice (win0_15.rect t)).set
  rw [View.set_slice_whole, Rect.mem_set_unit]
  intro a
  match a with
  | ⟨0, _⟩ =>
    show win0_15.index t 0 * 1 ≤ (i 0 : Nat) ∧ (i 0 : Nat) < win0_15.index t 0 * 1 + 1
    rw [index15_0]; omega
  | ⟨1, _⟩ =>
    show win0_15.index t 1 * 1024 ≤ (i 1 : Nat) ∧ (i 1 : Nat) < win0_15.index t 1 * 1024 + 1024
    rw [index15_1]; omega

end Cert.Tiles
-- ==== Proof.Grid.lean ====
/- What a point leaves in each output's block is the reference's result there: at once for the outputs whose block is a
   tile, and by induction on the point for the three that add up tile after tile. -/
module

public import proofs.«01_k».proof.Proof.Leaves
public import proofs.«01_k».proof.Proof.Stages
public import proofs.«01_k».proof.Proof.RefSums
public import proofs.«01_k».proof.Proof.Tiles

@[expose] public section

noncomputable section

namespace Cert.Grid

open Cert.KernelIdeal Cert.KernelIdeal.Gen Idealize.ShloMosaic Idealize.ShloMosaic.TcCoe Idealize.ShloMosaic.ValueIdx
open Idealize.SL.Sem
open Cert.RefAt (tok)
open Cert.Stage Cert.Cases Cert.Tiles Cert.RefSums Cert.ReferenceIdeal.Read

/-! ## A tile's values -/

section Tile

variable {X0 X1 : FVec Ideal S4x2048x1024 .f32} {X2 : FVec Ideal S4x3x1024 .f32} {X3 X4 : FVec Ideal S1x1024 .f32}
  {X5 : FVec Ideal S1024x4096 .bf16} {X6 : FVec Ideal S4096x1024 .bf16} {b : Fin 4} {j : Fin 8}
  {k0 k1 : FVec Ideal S1x256x1024 .f32} {k2 : FVec Ideal S1x3x1024 .f32}

/-- The modulation's block is batch `b`'s three rows. -/
abbrev ModBlk (b : Fin 4) (k2 : FVec Ideal S1x3x1024 .f32) (X2 : FVec Ideal S4x3x1024 .f32) : Prop :=
  ∀ (r : Fin 3) (d : Fin 1024), (k2 (ix3 0 r d) : EReal) = X2 (ix3 b r d)

theorem row_of (h2 : ModBlk b k2 X2) (r : Fin 3) : ModRow b r (modRow (F := Ideal) r k2) X2 := fun d => h2 r d

theorem e1 (h0 : Blk b j k0 X0) :
    At b j (t1 (F := Ideal) k0) X0 :=
  at6 h0

theorem e7 (h2 : ModBlk b k2 X2) :
    RowAt b (t7 (F := Ideal) k2) (val_main_v39 (F := Ideal) X2) :=
  at7 (row_of h2 2)

theorem e25 (h2 : ModBlk b k2 X2) :
    RowAt b (t25 (F := Ideal) k2) (val_main_v25 (F := Ideal) X2) :=
  at13 (row_of h2 1)

theorem e34 (h0 : Blk b j k0 X0) (h2 : ModBlk b k2 X2) :
    At b j (t34 (F := Ideal) k0 k2 X3 X5) (val_main_v32 (F := Ideal) X0 X2 X3 X5) :=
  at15 h0 (row_of h2 0) (row_of h2 1)

theorem e38 (h0 : Blk b j k0 X0) (h2 : ModBlk b k2 X2) :
    At b j (t38 (F := Ideal) k0 k2 X3 X5 X6) (val_main_v41 (F := Ideal) X0 X2 X3 X5 X6) :=
  at17 (e34 h0 h2)

theorem e47 (h0 : Blk b j k0 X0) (h2 : ModBlk b k2 X2) :
    At b j (t47 (F := Ideal) k0 k2 X3 X5 X6) (val_main_v49 (F := Ideal) X0 X2 X3 X5 X6) :=
  at19 (e34 h0 h2)

theorem e50 (h0 : Blk b j k0 X0) (h2 : ModBlk b k2 X2) :
    At b j (t50 (F := Ideal) k0 k2 X3 X5 X6) (val_main_v52 (F := Ideal) X0 X2 X3 X5 X6) :=
  at20 (e34 h0 h2)

theorem e52 (h0 : Blk b j k0 X0) (h2 : ModBlk b k2 X2) :
    At b j (t52 (F := Ideal) k0 k2 X3 X5 X6) (val_main_v54 (F := Ideal) X0 X2 X3 X5 X6) :=
  at21 (e34 h0 h2)

theorem e72 (h0 : Blk b j k0 X0) (h1 : Blk b j k1 X1) (h2 : ModBlk b k2 X2) :
    At b j (t72 (F := Ideal) k0 k1 k2 X3 X4 X5 X6) (val_main_v75 (F := Ideal) X0 X1 X2 X3 X4 X5 X6) :=
  at25 (e1 h0) (e7 h2) (e34 h0 h2) h1

theorem e74 (h0 : Blk b j k0 X0) (h1 : Blk b j k1 X1) (h2 : ModBlk b k2 X2) :
    At b j (t74 (F := Ideal) k0 k1 k2 X3 X4 X5 X6) (val_main_v77 (F := Ideal) X0 X1 X2 X3 X4 X5 X6) :=
  at26 (e1 h0) (e7 h2) (e34 h0 h2) h1

theorem e118 (h0 : Blk b j k0 X0) (h1 : Blk b j k1 X1) (h2 : ModBlk b k2 X2) :
    At b j (t118 (F := Ideal) k0 k1 k2 X3 X4 X5 X6) (val_main_v122 (F := Ideal) X0 X1 X2 X3 X4 X5 X6) :=
  at37 (e25 h2) (e34 h0 h2) (e38 h0 h2) (e47 h0 h2) (e50 h0 h2) (e74 h0 h1 h2)

theorem e121 (h0 : Blk b j k0 X0) (h1 : Blk b j k1 X1) (h2 : ModBlk b k2 X2) :
    At b j (t121 (F := Ideal) k0 k1 k2 X3 X4 X5 X6) (val_main_v126 (F := Ideal) X0 X1 X2 X3 X4 X5 X6) :=
  at38 (e1 h0) (e25 h2) (e34 h0 h2) (e38 h0 h2) (e47 h0 h2) (e50 h0 h2) (e74 h0 h1 h2)

theorem tile7 (h0 : Blk b j k0 X0) (h1 : Blk b j k1 X1) (h2 : ModBlk b k2 X2) :
    Blk b j (w7 (F := Ideal) k0 k1 k2 X3 X4 X5 X6) (val_main_v138 (F := Ideal) X0 X1 X2 X3 X4 X5 X6) :=
  at39 (e1 h0) (at9 h0) (at10 h0) (e72 h0 h1 h2) (e118 h0 h1 h2) (e121 h0 h1 h2)

theorem tile8 (h0 : Blk b j k0 X0) (h1 : Blk b j k1 X1) (h2 : ModBlk b k2 X2) (a : Fin 8) (l : Fin 128) :
    w8 (F := Ideal) k0 k1 k2 X3 X4 X5 X6 (ix4 0 0 a l) = val_main_v144 (F := Ideal) X0 X1 X2 X3 X4 X5 X6 (ix4 b j a l) :=
  by
  rw [RefAt.at_v144, RefAt.at_v143]
  exact (at40 _ _).trans (at24 (e1 h0) (e7 h2) (e34 h0 h2) h1)

theorem tile9 (h0 : Blk b j k0 X0) (h2 : ModBlk b k2 X2) :
    Blk b j (w9 (F := Ideal) k0 k2 X3) (val_main_v145 (F := Ideal) X0 X2 X3) :=
  fun p d => (at41 _ p d).trans (at14 h0 (row_of h2 0) (row_of h2 1) p d)

theorem tile10 (h0 : Blk b j k0 X0) (h1 : Blk b j k1 X1) (h2 : ModBlk b k2 X2) :
    Blk b j (w10 (F := Ideal) k0 k1 k2 X3 X4 X5 X6) (val_main_v146 (F := Ideal) X0 X1 X2 X3 X4 X5 X6) :=
  fun p d => (at42 _ p d).trans (at31 (e34 h0 h2) (e38 h0 h2) (e47 h0 h2) (e50 h0 h2) (e74 h0 h1 h2) p d)

theorem tile11 (h0 : Blk b j k0 X0) (h2 : ModBlk b k2 X2) :
    Blk b j (w11 (F := Ideal) k0 k2 X3 X5) (val_main_v147 (F := Ideal) X0 X2 X3 X5) :=
  fun p d => (at43 _ p d).trans (at16 (e34 h0 h2) p d)

theorem tile12 (h0 : Blk b j k0 X0) (h1 : Blk b j k1 X1) (h2 : ModBlk b k2 X2) :
    Blk b j (w12 (F := Ideal) k0 k1 k2 X3 X4 X5 X6) (val_main_v148 (F := Ideal) X0 X1 X2 X3 X4 X5 X6) :=
  fun p d => (at1 _ p d).trans (at30 (e38 h0 h2) (e47 h0 h2) (e50 h0 h2) (e74 h0 h1 h2) p d)

theorem row108 (h0 : Blk b j k0 X0) (h1 : Blk b j k1 X1) (h2 : ModBlk b k2 X2) (d : Fin 1024) :
    t108 (F := Ideal) k0 k1 k2 X3 X4 X5 X6 (ix2 0 d) = ∑ p : Fin 256, val_main_v106 (F := Ideal) X0 X1 X2 X3 X4 X5 X6 (ix3 b (tok j p) d) :=
  at33 (e34 h0 h2) (e38 h0 h2) (e47 h0 h2) (e50 h0 h2) (e74 h0 h1 h2) d

theorem row111 (h0 : Blk b j k0 X0) (h1 : Blk b j k1 X1) (h2 : ModBlk b k2 X2) (d : Fin 1024) :
    t111 (F := Ideal) k0 k1 k2 X3 X4 X5 X6 (ix2 0 d) = ∑ p : Fin 256, val_main_v109 (F := Ideal) X0 X1 X2 X3 X4 X5 X6 (ix3 b (tok j p) d) :=
  at34 (at12 h0) (e34 h0 h2) (e38 h0 h2) (e47 h0 h2) (e50 h0 h2) (e74 h0 h1 h2) d

theorem row77 (h0 : Blk b j k0 X0) (h1 : Blk b j k1 X1) (h2 : ModBlk b k2 X2) (d : Fin 1024) :
    t77 (F := Ideal) k0 k1 k2 X3 X4 X5 X6 (ix2 0 d) = ∑ p : Fin 256, val_main_v78 (F := Ideal) X0 X1 X2 X3 X4 X5 X6 (ix3 b (tok j p) d) :=
  (at28 _ d).trans (at27 (e1 h0) (e7 h2) (e34 h0 h2) h1 d)

theorem tile14 (h0 : Blk b j k0 X0) (h1 : Blk b j k1 X1) (h2 : ModBlk b k2 X2) (d : Fin 1024) :
    w14 (F := Ideal) k0 k1 k2 X3 X4 X5 X6 (ix2 0 d) = ∑ p : Fin 256, val_main_v118 (F := Ideal) X0 X1 X2 X3 X4 X5 X6 (ix3 b (tok j p) d) :=
  at36 (at11 h0) (e25 h2) (e34 h0 h2) (e38 h0 h2) (e47 h0 h2) (e50 h0 h2) (e74 h0 h1 h2) d

theorem tile15 (h0 : Blk b j k0 X0) (h1 : Blk b j k1 X1) (h2 : ModBlk b k2 X2) (d : Fin 1024) :
    w15 (F := Ideal) k0 k1 k2 X3 X4 X5 X6 (ix2 0 d) = ∑ p : Fin 256, val_main_v81 (F := Ideal) X0 X1 X2 X3 X4 X5 X6 (ix3 b (tok j p) d) :=
  at29 (e52 h0 h2) (e74 h0 h1 h2) d

/-- The three rows of a batch's modulation whose gradient is summed, at tile `j`: the reference's summands. -/
def modPart (X0 X1 : FVec Ideal S4x2048x1024 .f32) (X2 : FVec Ideal S4x3x1024 .f32) (X3 X4 : FVec Ideal S1x1024 .f32)
    (X5 : FVec Ideal S1024x4096 .bf16) (X6 : FVec Ideal S4096x1024 .bf16) (b : Fin 4) (r : Fin 3) (d : Fin 1024) (j : Fin 8) : EReal :=
  match r with
  | ⟨0, _⟩ => ∑ p : Fin 256, val_main_v106 (F := Ideal) X0 X1 X2 X3 X4 X5 X6 (ix3 b (tok j p) d)
  | ⟨1, _⟩ => ∑ p : Fin 256, val_main_v109 (F := Ideal) X0 X1 X2 X3 X4 X5 X6 (ix3 b (tok j p) d)
  | ⟨2, _⟩ => ∑ p : Fin 256, val_main_v78 (F := Ideal) X0 X1 X2 X3 X4 X5 X6 (ix3 b (tok j p) d)

theorem tile13 (h0 : Blk b j k0 X0) (h1 : Blk b j k1 X1) (h2 : ModBlk b k2 X2) (r : Fin 3) (d : Fin 1024) :
    w13 (F := Ideal) k0 k1 k2 X3 X4 X5 X6 (ix3 0 r d) = modPart X0 X1 X2 X3 X4 X5 X6 b r d j :=
  by
  match r with
  | ⟨0, _⟩ => exact (at2 _ _ _ d).1.trans (row108 h0 h1 h2 d)
  | ⟨1, _⟩ => exact (at2 _ _ _ d).2.1.trans (row111 h0 h1 h2 d)
  | ⟨2, _⟩ => exact (at2 _ _ _ d).2.2.trans (row77 h0 h1 h2 d)

theorem mod_sum (r : Fin 3) (d : Fin 1024) :
    val_main_v117 (F := Ideal) X0 X1 X2 X3 X4 X5 X6 (ix3 b r d) = ∑ j : Fin 8, modPart X0 X1 X2 X3 X4 X5 X6 b r d j :=
  by
  match r with
  | ⟨0, _⟩ => exact (mod_row0 X0 X1 X2 X3 X4 X5 X6 b d).trans (shift_row X0 X1 X2 X3 X4 X5 X6 b d)
  | ⟨1, _⟩ => exact (mod_row1 X0 X1 X2 X3 X4 X5 X6 b d).trans (scale_row X0 X1 X2 X3 X4 X5 X6 b d)
  | ⟨2, _⟩ => exact (mod_row2 X0 X1 X2 X3 X4 X5 X6 b d).trans (gate_row X0 X1 X2 X3 X4 X5 X6 b d)

end Tile

/-! ## The points -/

section Points

variable (m : (ℓ : Loc nD τ sig) → Buf (Elt Ideal) ℓ) (c : Dev nD)

abbrev A0 : FVec Ideal S4x2048x1024 .f32 := m ((c.tc : Thread nD τ).loc main_arg0)
abbrev A1 : FVec Ideal S4x2048x1024 .f32 := m ((c.tc : Thread nD τ).loc main_arg1)
abbrev A2 : FVec Ideal S4x3x1024 .f32 := m ((c.tc : Thread nD τ).loc main_arg2)
abbrev A3 : FVec Ideal S1x1024 .f32 := m ((c.tc : Thread nD τ).loc main_arg3)
abbrev A4 : FVec Ideal S1x1024 .f32 := m ((c.tc : Thread nD τ).loc main_arg4)
abbrev A5 : FVec Ideal S1024x4096 .bf16 := m ((c.tc : Thread nD τ).loc main_arg5)
abbrev A6 : FVec Ideal S4096x1024 .bf16 := m ((c.tc : Thread nD τ).loc main_arg6)

abbrev B0 (t : Fin cfg0.N) : FVec Ideal S1x256x1024 .f32 := iblk m c 0 t
abbrev B1 (t : Fin cfg0.N) : FVec Ideal S1x256x1024 .f32 := iblk m c 1 t
abbrev B2 (t : Fin cfg0.N) : FVec Ideal S1x3x1024 .f32 := iblk m c 2 t

theorem b0 (t : Fin cfg0.N) : Blk (batch t) (tile t) (B0 m c t) (A0 m c) := fun p d => block0 m c t (ix3 0 p d)
theorem b1 (t : Fin cfg0.N) : Blk (batch t) (tile t) (B1 m c t) (A1 m c) := fun p d => block1 m c t (ix3 0 p d)
theorem b2 (t : Fin cfg0.N) : ModBlk (batch t) (B2 m c t) (A2 m c) := fun r d => block2 m c t (ix3 0 r d)
theorem b3 (t : Fin cfg0.N) : (iblk m c 3 t : FVec Ideal S1x1024 .f32) = A3 m c := funext fun y => block3 m c t y
theorem b4 (t : Fin cfg0.N) : (iblk m c 4 t : FVec Ideal S1x1024 .f32) = A4 m c := funext fun y => block4 m c t y
theorem b5 (t : Fin cfg0.N) : (iblk m c 5 t : FVec Ideal S1024x4096 .bf16) = A5 m c := funext fun y => block5 m c t y
theorem b6 (t : Fin cfg0.N) : (iblk m c 6 t : FVec Ideal S4096x1024 .bf16) = A6 m c := funext fun y => block6 m c t y

theorem left7 (t : Fin cfg0.N) : (outsAt0 m c t.val t.isLt).1 = w7 (F := Ideal) (B0 m c t) (B1 m c t) (B2 m c t) (A3 m c) (A4 m c) (A5 m c) (A6 m c) := by
  by_cases h8 : t.val % 8 = 0
  · by_cases h32 : t.val % 32 = 0
    · have hz : t.val = 0 := by have := point_lt t; omega
      rw [left7_A m c t h8 (by omega) h32 (by omega) h32 (by omega), b3, b4, b5, b6]
    · rw [left7_C m c t h8 (by omega) h32 (by omega) h32 (by omega), b3, b4, b5, b6]
  · rw [left7_B m c t h8 (by omega) (by omega) (by omega) (by omega) (by omega), b3, b4, b5, b6]

theorem left8 (t : Fin cfg0.N) : (outsAt0 m c t.val t.isLt).2.1 = w8 (F := Ideal) (B0 m c t) (B1 m c t) (B2 m c t) (A3 m c) (A4 m c) (A5 m c) (A6 m c) := by
  by_cases h8 : t.val % 8 = 0
  · by_cases h32 : t.val % 32 = 0
    · have hz : t.val = 0 := by have := point_lt t; omega
      rw [left8_A m c t h8 (by omega) h32 (by omega) h32 (by omega), b3, b4, b5, b6]
    · rw [left8_C m c t h8 (by omega) h32 (by omega) h32 (by omega), b3, b4, b5, b6]
  · rw [left8_B m c t h8 (by omega) (by omega) (by omega) (by omega) (by omega), b3, b4, b5, b6]

theorem left9 (t : Fin cfg0.N) : (outsAt0 m c t.val t.isLt).2.2.1 = w9 (F := Ideal) (B0 m c t) (B2 m c t) (A3 m c) := by
  by_cases h8 : t.val % 8 = 0
  · by_cases h32 : t.val % 32 = 0
    · have hz : t.val = 0 := by have := point_lt t; omega
      rw [left9_A m c t h8 (by omega) h32 (by omega) h32 (by omega), b3]
    · rw [left9_C m c t h8 (by omega) h32 (by omega) h32 (by omega), b3]
  · rw [left9_B m c t h8 (by omega) (by omega) (by omega) (by omega) (by omega), b3]

theorem left10 (t : Fin cfg0.N) : (outsAt0 m c t.val t.isLt).2.2.2.1 = w10 (F := Ideal) (B0 m c t) (B1 m c t) (B2 m c t) (A3 m c) (A4 m c) (A5 m c) (A6 m c) := by
  by_cases h8 : t.val % 8 = 0
  · by_cases h32 : t.val % 32 = 0
    · have hz : t.val = 0 := by have := point_lt t; omega
      rw [left10_A m c t h8 (by omega) h32 (by omega) h32 (by omega), b3, b4, b5, b6]
    · rw [left10_C m c t h8 (by omega) h32 (by omega) h32 (by omega), b3, b4, b5, b6]
  · rw [left10_B m c t h8 (by omega) (by omega) (by omega) (by omega) (by omega), b3, b4, b5, b6]

theorem left11 (t : Fin cfg0.N) : (outsAt0 m c t.val t.isLt).2.2.2.2.1 = w11 (F := Ideal) (B0 m c t) (B2 m c t) (A3 m c) (A5 m c) := by
  by_cases h8 : t.val % 8 = 0
  · by_cases h32 : t.val % 32 = 0
    · have hz : t.val = 0 := by have := point_lt t; omega
      rw [left11_A m c t h8 (by omega) h32 (by omega) h32 (by omega), b3, b5]
    · rw [left11_C m c t h8 (by omega) h32 (by omega) h32 (by omega), b3, b5]
  · rw [left11_B m c t h8 (by omega) (by omega) (by omega) (by omega) (by omega), b3, b5]

theorem left12 (t : Fin cfg0.N) : (outsAt0 m c t.val t.isLt).2.2.2.2.2.1 = w12 (F := Ideal) (B0 m c t) (B1 m c t) (B2 m c t) (A3 m c) (A4 m c) (A5 m c) (A6 m c) := by
  by_cases h8 : t.val % 8 = 0
  · by_cases h32 : t.val % 32 = 0
    · have hz : t.val = 0 := by have := point_lt t; omega
      rw [left12_A m c t h8 (by omega) h32 (by omega) h32 (by omega), b3, b4, b5, b6]
    · rw [left12_C m c t h8 (by omega) h32 (by omega) h32 (by omega), b3, b4, b5, b6]
  · rw [left12_B m c t h8 (by omega) (by omega) (by omega) (by omega) (by omega), b3, b4, b5, b6]

/-- Output 13 holds, after point `n`, the sum over its batch's tiles up to its own. -/
theorem acc13 : ∀ (n : ℕ) (h : n < cfg0.N) (r : Fin 3) (d : Fin 1024), (outsAt0 m c n h).2.2.2.2.2.2.1 (ix3 0 r d)
    = ∑ k ∈ Finset.univ.filter (fun k : Fin 8 => k.val ≤ n % 8), modPart (A0 m c) (A1 m c) (A2 m c) (A3 m c) (A4 m c) (A5 m c) (A6 m c) (batch ⟨n, h⟩) r d k := by
  intro n
  induction n with
  | zero =>
    intro h r d
    let t : Fin cfg0.N := ⟨0, h⟩
    refine (congrFun (left13_A m c t rfl (by show ¬1 ≤ 0 % 8; decide) rfl (by show ¬1 ≤ 0; decide) rfl (by show ¬1 ≤ 0; decide)) _).trans ?_
    rw [b3, b4, b5, b6, show Finset.univ.filter (fun k : Fin 8 => k.val ≤ 0 % 8) = {0} from by decide, Finset.sum_singleton]
    exact tile13 (b0 m c t) (b1 m c t) (b2 m c t) r d
  | succ n ih =>
    intro h r d
    let t : Fin cfg0.N := ⟨n + 1, h⟩
    have hN : n + 1 < 32 := point_lt t
    by_cases h8 : (n + 1) % 8 = 0
    · refine (congrFun (left13_C m c t h8 (by show ¬1 ≤ (n + 1) % 8; omega) (by show ¬(n + 1) % 32 = 0; omega) (by show 1 ≤ n + 1; omega) (by show ¬(n + 1) % 32 = 0; omega) (by show 1 ≤ n + 1; omega)) _).trans ?_
      rw [b3, b4, b5, b6, h8, show Finset.univ.filter (fun k : Fin 8 => k.val ≤ 0) = {0} from by decide, Finset.sum_singleton]
      refine (tile13 (b0 m c t) (b1 m c t) (b2 m c t) r d).trans ?_
      exact congrArg _ (Fin.ext h8)
    · refine (congrFun (left13_B m c t h8 (by show 1 ≤ (n + 1) % 8; omega) (by show ¬(n + 1) % 32 = 0; omega) (by show 1 ≤ n + 1; omega) (by show ¬(n + 1) % 32 = 0; omega) (by show 1 ≤ n + 1; omega)) _).trans ((at3 _ _ _ _ _).trans ?_)
      rw [b3, b4, b5, b6]
      have hs : Finset.univ.filter (fun k : Fin 8 => k.val ≤ (n + 1) % 8) = insert (tile t) (Finset.univ.filter fun k : Fin 8 => k.val ≤ n % 8) := by
        ext k
        simp only [Finset.mem_filter, Finset.mem_univ, true_and, Finset.mem_insert, Fin.ext_iff]
        show k.val ≤ (n + 1) % 8 ↔ k.val = (n + 1) % 8 ∨ k.val ≤ n % 8
        omega
      rw [hs, Finset.sum_insert (by simp only [Finset.mem_filter, Finset.mem_univ, true_and]; show ¬(n + 1) % 8 ≤ n % 8; omega), add_comm]
      refine congrArg₂ (· + ·) (tile13 (b0 m c t) (b1 m c t) (b2 m c t) r d) ?_
      refine (ih (Nat.lt_of_succ_lt h) r d).trans (Finset.sum_congr rfl fun k _ => ?_)
      rw [show batch ⟨n, Nat.lt_of_succ_lt h⟩ = batch t from Fin.ext (by show n / 8 = (n + 1) / 8; omega)]

/-- A point's share of the sum output 14 adds up. -/
def part14 (d : Fin 1024) (k : Fin 32) : EReal :=
  ∑ p : Fin 256, val_main_v118 (F := Ideal) (A0 m c) (A1 m c) (A2 m c) (A3 m c) (A4 m c) (A5 m c) (A6 m c) (ix3 (⟨k.val / 8, by omega⟩ : Fin 4) (tok ⟨k.val % 8, by omega⟩ p) d)

/-- Output 14 holds, after point `n`, the sum over the points up to it. -/
theorem acc14 : ∀ (n : ℕ) (h : n < cfg0.N) (d : Fin 1024), (outsAt0 m c n h).2.2.2.2.2.2.2.1 (ix2 0 d)
    = ∑ k ∈ Finset.univ.filter (fun k : Fin 32 => k.val ≤ n), part14 m c d k := by
  intro n
  induction n with
  | zero =>
    intro h d
    let t : Fin cfg0.N := ⟨0, h⟩
    refine (congrFun (left14_A m c t rfl (by show ¬1 ≤ 0 % 8; decide) rfl (by show ¬1 ≤ 0; decide) rfl (by show ¬1 ≤ 0; decide)) _).trans ?_
    rw [b3, b4, b5, b6, show Finset.univ.filter (fun k : Fin 32 => k.val ≤ 0) = {0} from by decide, Finset.sum_singleton]
    exact tile14 (b0 m c t) (b1 m c t) (b2 m c t) d
  | succ n ih =>
    intro h d
    let t : Fin cfg0.N := ⟨n + 1, h⟩
    have hN : n + 1 < 32 := point_lt t
    have hs : Finset.univ.filter (fun k : Fin 32 => k.val ≤ n + 1) = insert (⟨n + 1, hN⟩ : Fin 32) (Finset.univ.filter fun k : Fin 32 => k.val ≤ n) := by
      ext k
      simp only [Finset.mem_filter, Finset.mem_univ, true_and, Finset.mem_insert, Fin.ext_iff]
      omega
    rw [hs,
      Finset.sum_insert (by simp only [Finset.mem_filter, Finset.mem_univ, true_and]; omega), add_comm (part14 m c d _)]
    by_cases h8 : (n + 1) % 8 = 0
    · refine (congrFun (left14_C m c t h8 (by show ¬1 ≤ (n + 1) % 8; omega) (by show ¬(n + 1) % 32 = 0; omega) (by show 1 ≤ n + 1; omega) (by show ¬(n + 1) % 32 = 0; omega) (by show 1 ≤ n + 1; omega)) _).trans ((at4 _ _ _).trans ?_)
      rw [b3, b4, b5, b6]
      exact congrArg₂ (· + ·) (ih (Nat.lt_of_succ_lt h) d) (tile14 (b0 m c t) (b1 m c t) (b2 m c t) d)
    · refine (congrFun (left14_B m c t h8 (by show 1 ≤ (n + 1) % 8; omega) (by show ¬(n + 1) % 32 = 0; omega) (by show 1 ≤ n + 1; omega) (by show ¬(n + 1) % 32 = 0; omega) (by show 1 ≤ n + 1; omega)) _).trans ((at4 _ _ _).trans ?_)
      rw [b3, b4, b5, b6]
      exact congrArg₂ (· + ·) (ih (Nat.lt_of_succ_lt h) d) (tile14 (b0 m c t) (b1 m c t) (b2 m c t) d)

/-- A point's share of the sum output 15 adds up. -/
def part15 (d : Fin 1024) (k : Fin 32) : EReal :=
  ∑ p : Fin 256, val_main_v81 (F := Ideal) (A0 m c) (A1 m c) (A2 m c) (A3 m c) (A4 m c) (A5 m c) (A6 m c) (ix3 (⟨k.val / 8, by omega⟩ : Fin 4) (tok ⟨k.val % 8, by omega⟩ p) d)

/-- Output 15 holds, after point `n`, the sum over the points up to it. -/
theorem acc15 : ∀ (n : ℕ) (h : n < cfg0.N) (d : Fin 1024), (outsAt0 m c n h).2.2.2.2.2.2.2.2 (ix2 0 d)
    = ∑ k ∈ Finset.univ.filter (fun k : Fin 32 => k.val ≤ n), part15 m c d k := by
  intro n
  induction n with
  | zero =>
    intro h d
    let t : Fin cfg0.N := ⟨0, h⟩
    refine (congrFun (left15_A m c t rfl (by show ¬1 ≤ 0 % 8; decide) rfl (by show ¬1 ≤ 0; decide) rfl (by show ¬1 ≤ 0; decide)) _).trans ?_
    rw [b3, b4, b5, b6, show Finset.univ.filter (fun k : Fin 32 => k.val ≤ 0) = {0} from by decide, Finset.sum_singleton]
    exact tile15 (b0 m c t) (b1 m c t) (b2 m c t) d
  | succ n ih =>
    intro h d
    let t : Fin cfg0.N := ⟨n + 1, h⟩
    have hN : n + 1 < 32 := point_lt t
    have hs : Finset.univ.filter (fun k : Fin 32 => k.val ≤ n + 1) = insert (⟨n + 1, hN⟩ : Fin 32) (Finset.univ.filter fun k : Fin 32 => k.val ≤ n) := by
      ext k
      simp only [Finset.mem_filter, Finset.mem_univ, true_and, Finset.mem_insert, Fin.ext_iff]
      omega
    rw [hs,
      Finset.sum_insert (by simp only [Finset.mem_filter, Finset.mem_univ, true_and]; omega), add_comm (part15 m c d _)]
    by_cases h8 : (n + 1) % 8 = 0
    · refine (congrFun (left15_C m c t h8 (by show ¬1 ≤ (n + 1) % 8; omega) (by show ¬(n + 1) % 32 = 0; omega) (by show 1 ≤ n + 1; omega) (by show ¬(n + 1) % 32 = 0; omega) (by show 1 ≤ n + 1; omega)) _).trans ((at5 _ _ _).trans ?_)
      rw [b3, b4, b5, b6]
      exact congrArg₂ (· + ·) (ih (Nat.lt_of_succ_lt h) d) (tile15 (b0 m c t) (b1 m c t) (b2 m c t) d)
    · refine (congrFun (left15_B m c t h8 (by show 1 ≤ (n + 1) % 8; omega) (by show ¬(n + 1) % 32 = 0; omega) (by show 1 ≤ n + 1; omega) (by show ¬(n + 1) % 32 = 0; omega) (by show 1 ≤ n + 1; omega)) _).trans ((at5 _ _ _).trans ?_)
      rw [b3, b4, b5, b6]
      exact congrArg₂ (· + ·) (ih (Nat.lt_of_succ_lt h) d) (tile15 (b0 m c t) (b1 m c t) (b2 m c t) d)

end Points

end Cert.Grid
-- ==== Proof.Arrays.lean ====
/- The arrays after the kernel's run are the reference's results: what each write-back writes is its block of the
   result, and the blocks cover the array. -/
module

public import proofs.«01_k».proof.Proof.Grid
public import proofs.«01_k».proof.Proof.Gen.KernelIdeal.Frame
public import Idealize.ShloMosaic.Lib.Pipeline.Value

@[expose] public section

noncomputable section

namespace Cert.Arrays

open Cert.KernelIdeal Cert.KernelIdeal.Gen Idealize.ShloMosaic Idealize.ShloMosaic.TcCoe Idealize.ShloMosaic.ValueIdx
open Idealize.SL.Sem
open Cert.RefAt (tok)
open Cert.Stage Cert.Cases Cert.Tiles Cert.RefSums Cert.Grid Cert.ReferenceIdeal.Read

variable (m : (ℓ : Loc nD τ sig) → Buf (Elt Ideal) ℓ) (c : Dev nD)

/-- Every index of a block of one batch's tile is `ix3 0 p d`. -/
theorem idx_one3 {n k : ℕ} (y : (⟨3, ![1, n, k]⟩ : Shape).Idx) : y = ix3 0 (y 1) (y 2) :=
  (eq_ix3 y).trans (congrArg (fun a : Fin 1 => ix3 a (y 1) (y 2)) (Subsingleton.elim (α := Fin 1) (y 0) 0))

theorem idx_one2 {k : ℕ} (y : (⟨2, ![1, k]⟩ : Shape).Idx) : y = ix2 0 (y 1) :=
  (eq_ix2 y).trans (congrArg (fun a : Fin 1 => ix2 a (y 1)) (Subsingleton.elim (α := Fin 1) (y 0) 0))

theorem idx_one4 {n k : ℕ} (y : (⟨4, ![1, 1, n, k]⟩ : Shape).Idx) : y = ix4 0 0 (y 2) (y 3) :=
  (eq_ix4 y).trans (congrArg₂ (fun (a b : Fin 1) => ix4 a b (y 2) (y 3)) (Subsingleton.elim (α := Fin 1) (y 0) 0)
    (Subsingleton.elim (α := Fin 1) (y 1) 0))

/-- A sum over the points is a sum over batches and tiles. -/
theorem sum_points (f : Fin 32 → EReal) :
    ∑ k : Fin 32, f k = ∑ b : Fin 4, ∑ j : Fin 8, f ⟨8 * b.val + j.val, by omega⟩ := by
  rw [← Fintype.sum_prod_type']
  refine (Fintype.sum_equiv (finProdFinEquiv (m := 4) (n := 8)) _ f fun p => ?_).symm
  refine congrArg f (Fin.ext ?_)
  show 8 * p.1.val + p.2.val = p.2.val + 8 * p.1.val
  omega

/-- What a point writes back of window 7 is what its body leaves there, cut to the block. -/
theorem flushed7 (t : Fin cfg0.N) :
    (dats m 0 c).flushed 7 t = (cfg0.win 7).cut (grid0.coords t) (outsAt0 m c t.val t.isLt).1 := by
  show (cfg0.win 7).cut (grid0.coords t) ((dats m 0 c).after 7 t) = _
  rw [after0_7]

/-- What a point writes back of window 8 is what its body leaves there, cut to the block. -/
theorem flushed8 (t : Fin cfg0.N) :
    (dats m 0 c).flushed 8 t = (cfg0.win 8).cut (grid0.coords t) (outsAt0 m c t.val t.isLt).2.1 := by
  show (cfg0.win 8).cut (grid0.coords t) ((dats m 0 c).after 8 t) = _
  rw [after0_8]

/-- What a point writes back of window 9 is what its body leaves there, cut to the block. -/
theorem flushed9 (t : Fin cfg0.N) :
    (dats m 0 c).flushed 9 t = (cfg0.win 9).cut (grid0.coords t) (outsAt0 m c t.val t.isLt).2.2.1 := by
  show (cfg0.win 9).cut (grid0.coords t) ((dats m 0 c).after 9 t) = _
  rw [after0_9]

/-- What a point writes back of window 10 is what its body leaves there, cut to the block. -/
theorem flushed10 (t : Fin cfg0.N) :
    (dats m 0 c).flushed 10 t = (cfg0.win 10).cut (grid0.coords t) (outsAt0 m c t.val t.isLt).2.2.2.1 := by
  show (cfg0.win 10).cut (grid0.coords t) ((dats m 0 c).after 10 t) = _
  rw [after0_10]

/-- What a point writes back of window 11 is what its body leaves there, cut to the block. -/
theorem flushed11 (t : Fin cfg0.N) :
    (dats m 0 c).flushed 11 t = (cfg0.win 11).cut (grid0.coords t) (outsAt0 m c t.val t.isLt).2.2.2.2.1 := by
  show (cfg0.win 11).cut (grid0.coords t) ((dats m 0 c).after 11 t) = _
  rw [after0_11]

/-- What a point writes back of window 12 is what its body leaves there, cut to the block. -/
theorem flushed12 (t : Fin cfg0.N) :
    (dats m 0 c).flushed 12 t = (cfg0.win 12).cut (grid0.coords t) (outsAt0 m c t.val t.isLt).2.2.2.2.2.1 := by
  show (cfg0.win 12).cut (grid0.coords t) ((dats m 0 c).after 12 t) = _
  rw [after0_12]

/-- What a point writes back of window 13 is what its body leaves there, cut to the block. -/
theorem flushed13 (t : Fin cfg0.N) :
    (dats m 0 c).flushed 13 t = (cfg0.win 13).cut (grid0.coords t) (outsAt0 m c t.val t.isLt).2.2.2.2.2.2.1 := by
  show (cfg0.win 13).cut (grid0.coords t) ((dats m 0 c).after 13 t) = _
  rw [after0_13]

/-- What a point writes back of window 14 is what its body leaves there, cut to the block. -/
theorem flushed14 (t : Fin cfg0.N) :
    (dats m 0 c).flushed 14 t = (cfg0.win 14).cut (grid0.coords t) (outsAt0 m c t.val t.isLt).2.2.2.2.2.2.2.1 := by
  show (cfg0.win 14).cut (grid0.coords t) ((dats m 0 c).after 14 t) = _
  rw [after0_14]

/-- What a point writes back of window 15 is what its body leaves there, cut to the block. -/
theorem flushed15 (t : Fin cfg0.N) :
    (dats m 0 c).flushed 15 t = (cfg0.win 15).cut (grid0.coords t) (outsAt0 m c t.val t.isLt).2.2.2.2.2.2.2.2 := by
  show (cfg0.win 15).cut (grid0.coords t) ((dats m 0 c).after 15 t) = _
  rw [after0_15]

theorem array7 : (dats m 0 c).arrAt 7 cfg0.N = val_main_v138 (F := Ideal) (A0 m c) (A1 m c) (A2 m c) (A3 m c) (A4 m c) (A5 m c) (A6 m c) := by
  refine (dats m 0 c).arrAt_eq_of_cover 7 _ (fun t hf => ?_) fun i => cover7 i
  rw [flushed7]
  funext y
  refine Eq.trans ?_ (read7 t (c := c) (val_main_v138 (F := Ideal) (A0 m c) (A1 m c) (A2 m c) (A3 m c) (A4 m c) (A5 m c) (A6 m c)) y).symm
  refine (congrFun (left7 m c t) y).trans ?_
  rw [idx_one3 y]
  exact tile7 (b0 m c t) (b1 m c t) (b2 m c t) (y 1) (y 2)

theorem array8 : (dats m 0 c).arrAt 8 cfg0.N = val_main_v144 (F := Ideal) (A0 m c) (A1 m c) (A2 m c) (A3 m c) (A4 m c) (A5 m c) (A6 m c) := by
  refine (dats m 0 c).arrAt_eq_of_cover 8 _ (fun t hf => ?_) fun i => cover8 i
  rw [flushed8]
  funext y
  refine Eq.trans ?_ (read8 t (c := c) (val_main_v144 (F := Ideal) (A0 m c) (A1 m c) (A2 m c) (A3 m c) (A4 m c) (A5 m c) (A6 m c)) y).symm
  refine (congrFun (left8 m c t) y).trans ?_
  rw [idx_one4 y]
  exact tile8 (b0 m c t) (b1 m c t) (b2 m c t) (y 2) (y 3)

theorem array9 : (dats m 0 c).arrAt 9 cfg0.N = val_main_v145 (F := Ideal) (A0 m c) (A2 m c) (A3 m c) := by
  refine (dats m 0 c).arrAt_eq_of_cover 9 _ (fun t hf => ?_) fun i => cover9 i
  rw [flushed9]
  funext y
  refine Eq.trans ?_ (read9 t (c := c) (val_main_v145 (F := Ideal) (A0 m c) (A2 m c) (A3 m c)) y).symm
  refine (congrFun (left9 m c t) y).trans ?_
  rw [idx_one3 y]
  exact tile9 (b0 m c t) (b2 m c t) (y 1) (y 2)

theorem array10 : (dats m 0 c).arrAt 10 cfg0.N = val_main_v146 (F := Ideal) (A0 m c) (A1 m c) (A2 m c) (A3 m c) (A4 m c) (A5 m c) (A6 m c) := by
  refine (dats m 0 c).arrAt_eq_of_cover 10 _ (fun t hf => ?_) fun i => cover10 i
  rw [flushed10]
  funext y
  refine Eq.trans ?_ (read10 t (c := c) (val_main_v146 (F := Ideal) (A0 m c) (A1 m c) (A2 m c) (A3 m c) (A4 m c) (A5 m c) (A6 m c)) y).symm
  refine (congrFun (left10 m c t) y).trans ?_
  rw [idx_one3 y]
  exact tile10 (b0 m c t) (b1 m c t) (b2 m c t) (y 1) (y 2)

theorem array11 : (dats m 0 c).arrAt 11 cfg0.N = val_main_v147 (F := Ideal) (A0 m c) (A2 m c) (A3 m c) (A5 m c) := by
  refine (dats m 0 c).arrAt_eq_of_cover 11 _ (fun t hf => ?_) fun i => cover11 i
  rw [flushed11]
  funext y
  refine Eq.trans ?_ (read11 t (c := c) (val_main_v147 (F := Ideal) (A0 m c) (A2 m c) (A3 m c) (A5 m c)) y).symm
  refine (congrFun (left11 m c t) y).trans ?_
  rw [idx_one3 y]
  exact tile11 (b0 m c t) (b2 m c t) (y 1) (y 2)

theorem array12 : (dats m 0 c).arrAt 12 cfg0.N = val_main_v148 (F := Ideal) (A0 m c) (A1 m c) (A2 m c) (A3 m c) (A4 m c) (A5 m c) (A6 m c) := by
  refine (dats m 0 c).arrAt_eq_of_cover 12 _ (fun t hf => ?_) fun i => cover12 i
  rw [flushed12]
  funext y
  refine Eq.trans ?_ (read12 t (c := c) (val_main_v148 (F := Ideal) (A0 m c) (A1 m c) (A2 m c) (A3 m c) (A4 m c) (A5 m c) (A6 m c)) y).symm
  refine (congrFun (left12 m c t) y).trans ?_
  rw [idx_one3 y]
  exact tile12 (b0 m c t) (b1 m c t) (b2 m c t) (y 1) (y 2)

theorem array13 : (dats m 0 c).arrAt 13 cfg0.N = val_main_v117 (F := Ideal) (A0 m c) (A1 m c) (A2 m c) (A3 m c) (A4 m c) (A5 m c) (A6 m c) := by
  refine (dats m 0 c).arrAt_eq_of_cover 13 _ (fun t hf => ?_) fun i => cover13 i
  rw [flushed13]
  funext y
  refine Eq.trans ?_ (read13 t (c := c) (val_main_v117 (F := Ideal) (A0 m c) (A1 m c) (A2 m c) (A3 m c) (A4 m c) (A5 m c) (A6 m c)) y).symm
  have h7 : t.val % 8 = 7 := (flush0_13 t).mp hf
  show (outsAt0 m c t.val t.isLt).2.2.2.2.2.2.1 y = _
  rw [idx_one3 y]
  refine (acc13 m c t.val t.isLt (y 1) (y 2)).trans ?_
  rw [Finset.filter_true_of_mem fun (k : Fin 8) _ => by omega]
  exact (mod_sum (y 1) (y 2)).symm

theorem array14 : (dats m 0 c).arrAt 14 cfg0.N = val_main_v149 (F := Ideal) (A0 m c) (A1 m c) (A2 m c) (A3 m c) (A4 m c) (A5 m c) (A6 m c) := by
  refine (dats m 0 c).arrAt_eq_of_cover 14 _ (fun t hf => ?_) fun i => cover14 i
  rw [flushed14]
  funext y
  refine Eq.trans ?_ (read14 t (c := c) (val_main_v149 (F := Ideal) (A0 m c) (A1 m c) (A2 m c) (A3 m c) (A4 m c) (A5 m c) (A6 m c)) y).symm
  have h31 : t.val % 32 = 31 := (flush0_14 t).mp hf
  have ht := point_lt t
  show (outsAt0 m c t.val t.isLt).2.2.2.2.2.2.2.1 y = _
  rw [idx_one2 y]
  refine (acc14 m c t.val t.isLt (y 1)).trans ?_
  rw [Finset.filter_true_of_mem fun (k : Fin 32) _ => by omega, sum_points]
  refine Eq.trans ?_ (scale1 (A0 m c) (A1 m c) (A2 m c) (A3 m c) (A4 m c) (A5 m c) (A6 m c) 0 (y 1)).symm
  refine Finset.sum_congr rfl fun b _ => Finset.sum_congr rfl fun j _ => ?_
  unfold part14
  refine Finset.sum_congr rfl fun p _ => congrArg (val_main_v118 (F := Ideal) (A0 m c) (A1 m c) (A2 m c) (A3 m c) (A4 m c) (A5 m c) (A6 m c)) ?_
  refine congrArg₂ (fun (b' : Fin 4) (j' : Fin 8) => ix3 b' (tok j' p) (y 1)) (Fin.ext ?_) (Fin.ext ?_)
  · show (8 * b.val + j.val) / 8 = b.val
    omega
  · show (8 * b.val + j.val) % 8 = j.val
    omega

theorem array15 : (dats m 0 c).arrAt 15 cfg0.N = val_main_v150 (F := Ideal) (A0 m c) (A1 m c) (A2 m c) (A3 m c) (A4 m c) (A5 m c) (A6 m c) := by
  refine (dats m 0 c).arrAt_eq_of_cover 15 _ (fun t hf => ?_) fun i => cover15 i
  rw [flushed15]
  funext y
  refine Eq.trans ?_ (read15 t (c := c) (val_main_v150 (F := Ideal) (A0 m c) (A1 m c) (A2 m c) (A3 m c) (A4 m c) (A5 m c) (A6 m c)) y).symm
  have h31 : t.val % 32 = 31 := (flush0_15 t).mp hf
  have ht := point_lt t
  show (outsAt0 m c t.val t.isLt).2.2.2.2.2.2.2.2 y = _
  rw [idx_one2 y]
  refine (acc15 m c t.val t.isLt (y 1)).trans ?_
  rw [Finset.filter_true_of_mem fun (k : Fin 32) _ => by omega, sum_points]
  refine Eq.trans ?_ (scale2 (A0 m c) (A1 m c) (A2 m c) (A3 m c) (A4 m c) (A5 m c) (A6 m c) 0 (y 1)).symm
  refine Finset.sum_congr rfl fun b _ => Finset.sum_congr rfl fun j _ => ?_
  unfold part15
  refine Finset.sum_congr rfl fun p _ => congrArg (val_main_v81 (F := Ideal) (A0 m c) (A1 m c) (A2 m c) (A3 m c) (A4 m c) (A5 m c) (A6 m c)) ?_
  refine congrArg₂ (fun (b' : Fin 4) (j' : Fin 8) => ix3 b' (tok j' p) (y 1)) (Fin.ext ?_) (Fin.ext ?_)
  · show (8 * b.val + j.val) / 8 = b.val
    omega
  · show (8 * b.val + j.val) % 8 = j.val
    omega

end Cert.Arrays

end
-- ==== Proof.InProjBwd.lean ====
/- The input projection's backward pass: the arrays after the kernel's run are the reference's four results. -/
module

public import proofs.«01_k».proof.Defs
public import proofs.«01_k».proof.Proof.BwdPoint
public import proofs.«01_k».proof.Proof.Arrays
public import proofs.«01_k».proof.Proof.Gen.Kernel12Ideal.Value
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init

@[expose] public section

set_option maxRecDepth 16384

noncomputable section

namespace Cert.InProjBwd

open Cert.Kernel12Ideal Cert.Kernel12Ideal.Gen Idealize.ShloMosaic Idealize.ShloMosaic.TcCoe Idealize.ShloMosaic.ValueIdx
open Idealize.SL.Sem
open Cert.Tile Cert.Bwd Cert.BwdPoint
open Cert.Arrays (idx_one2 idx_one3 idx_one4)
open Cert.InProj (joined tile)
open Cert.BwdRef (scaleOf rowIn gradX gradP gradM gradG)

variable (m : (ℓ : Loc nD τ sig) → Buf (Elt Ideal) ℓ) (c : Dev nD)

/-! ## The written blocks -/

theorem index11 : ∀ t : Fin grid0.N, win0_11.index t 0 = t.val / 9 ∧ win0_11.index t 1 = t.val % 9 - 1 ∧ win0_11.index t 2 = 0 := by decide +kernel
theorem index12 : ∀ t : Fin grid0.N, win0_12.index t 0 = t.val / 9 ∧ win0_12.index t 1 = t.val % 9 ∧ win0_12.index t 2 = 0 := by decide +kernel
theorem index13 : ∀ t : Fin grid0.N, win0_13.index t 0 = t.val / 9 ∧ win0_13.index t 1 = t.val % 9 ∧ win0_13.index t 2 = 0 ∧ win0_13.index t 3 = 0 := by decide +kernel
theorem index14 : ∀ t : Fin grid0.N, win0_14.index t 0 = 0 ∧ win0_14.index t 1 = 0 := by decide +kernel
/-- The rows' gradient is written back at a sequence's tiles alone. -/
theorem flush11 : ∀ t : Fin grid0.N, win0_11.flush t = true ↔ 1 ≤ t.val % 9 := by decide +kernel

theorem read11 (t : Fin cfg0.N) (G : Buf (Elt Ideal) ((c.tc : Thread nD τ).loc main_v0_0)) (p : Fin 256) (d : Fin 1024) (n : Fin 2048)
    (hn : n.val = 256 * (t.val % 9 - 1) + p.val) :
    ((cfg0.win 11).blk t).view.read (Elt Ideal) G (ix3 0 p d) = (G : Vec Ideal S4x2048x1024 .f32) (ix3 (batch t) n d) := by
  refine (View.read_apply _ _).trans (congrArg (G : S4x2048x1024.Idx → Elt Ideal .f32) (funext fun a => Fin.ext ?_))
  obtain ⟨h0, h1, h2⟩ := index11 t
  match a with
  | ⟨0, _⟩ => show win0_11.index t 0 * 1 + 1 * 0 = t.val / 9; rw [h0]; omega
  | ⟨1, _⟩ => show win0_11.index t 1 * 256 + 1 * p.val = n.val; rw [h1, hn]; omega
  | ⟨2, _⟩ => show win0_11.index t 2 * 1024 + 1 * d.val = d.val; rw [h2]; omega

theorem read12 (t : Fin cfg0.N) (G : Buf (Elt Ideal) ((c.tc : Thread nD τ).loc main_v0_1)) (p : Fin 256) (f : Fin 3072) :
    ((cfg0.win 12).blk t).view.read (Elt Ideal) G (ix3 0 p f) = (G : Vec Ideal S4x2304x3072 .bf16) (ix3 (batch t) (token t p) f) := by
  refine (View.read_apply _ _).trans (congrArg (G : S4x2304x3072.Idx → Elt Ideal .bf16) (funext fun a => Fin.ext ?_))
  obtain ⟨h0, h1, h2⟩ := index12 t
  match a with
  | ⟨0, _⟩ => show win0_12.index t 0 * 1 + 1 * 0 = t.val / 9; rw [h0]; omega
  | ⟨1, _⟩ => show win0_12.index t 1 * 256 + 1 * p.val = 256 * (t.val % 9) + p.val; rw [h1]; omega
  | ⟨2, _⟩ => show win0_12.index t 2 * 3072 + 1 * f.val = f.val; rw [h2]; omega

theorem read13 (t : Fin cfg0.N) (G : Buf (Elt Ideal) ((c.tc : Thread nD τ).loc main_v0_2)) (r : Fin 2) (d : Fin 1024) :
    ((cfg0.win 13).blk t).view.read (Elt Ideal) G (ix4 0 0 r d) = (G : Vec Ideal S4x9x2x1024 .f32) (ix4 (batch t) (tileOf t) r d) := by
  refine (View.read_apply _ _).trans (congrArg (G : S4x9x2x1024.Idx → Elt Ideal .f32) (funext fun a => Fin.ext ?_))
  obtain ⟨h0, h1, h2, h3⟩ := index13 t
  match a with
  | ⟨0, _⟩ => show win0_13.index t 0 * 1 + 1 * 0 = t.val / 9; rw [h0]; omega
  | ⟨1, _⟩ => show win0_13.index t 1 * 1 + 1 * 0 = t.val % 9; rw [h1]; omega
  | ⟨2, _⟩ => show win0_13.index t 2 * 2 + 1 * r.val = r.val; rw [h2]; omega
  | ⟨3, _⟩ => show win0_13.index t 3 * 1024 + 1 * d.val = d.val; rw [h3]; omega

theorem read14 (t : Fin cfg0.N) (G : Buf (Elt Ideal) ((c.tc : Thread nD τ).loc main_v0_3)) (d : Fin 1024) :
    ((cfg0.win 14).blk t).view.read (Elt Ideal) G (ix2 0 d) = (G : Vec Ideal S1x1024 .f32) (ix2 0 d) := by
  refine (View.read_apply _ _).trans (congrArg (G : S1x1024.Idx → Elt Ideal .f32) (funext fun a => Fin.ext ?_))
  obtain ⟨h0, h1⟩ := index14 t
  match a with
  | ⟨0, _⟩ => show win0_14.index t 0 * 1 + 1 * 0 = 0; rw [h0]
  | ⟨1, _⟩ => show win0_14.index t 1 * 1024 + 1 * d.val = d.val; rw [h1]; omega

/-- The point of a batch's tile. -/
def holder (b : Fin 4) (j : Fin 9) : Fin cfg0.N := ⟨9 * b.val + j.val, by have : cfg0.N = 36 := N_0; omega⟩

theorem cover11 (i : S4x2048x1024.Idx) : ∃ t : Fin cfg0.N, (cfg0.win 11).flush t = true ∧ i ∈ ((cfg0.win 11).blk t).view.set := by
  have b0 : (i 0 : Nat) < 4 := (i 0).isLt
  have b1 : (i 1 : Nat) < 2048 := (i 1).isLt
  have b2 : (i 2 : Nat) < 1024 := (i 2).isLt
  obtain ⟨t, ht⟩ : ∃ t : Fin cfg0.N, t.val = 9 * (i 0 : Nat) + ((i 1 : Nat) / 256 + 1) := ⟨holder (i 0) ⟨(i 1 : Nat) / 256 + 1, by omega⟩, rfl⟩
  refine ⟨t, (flush11 t).mpr (by omega), ?_⟩
  obtain ⟨h0, h1, h2⟩ := index11 t
  show i ∈ ((View.whole main_v0_0).slice (win0_11.rect t)).set
  rw [View.set_slice_whole, Rect.mem_set_unit]
  intro a
  match a with
  | ⟨0, _⟩ =>
    show win0_11.index t 0 * 1 ≤ (i 0 : Nat) ∧ (i 0 : Nat) < win0_11.index t 0 * 1 + 1
    rw [h0, ht]; omega
  | ⟨1, _⟩ =>
    show win0_11.index t 1 * 256 ≤ (i 1 : Nat) ∧ (i 1 : Nat) < win0_11.index t 1 * 256 + 256
    rw [h1, ht]; omega
  | ⟨2, _⟩ =>
    show win0_11.index t 2 * 1024 ≤ (i 2 : Nat) ∧ (i 2 : Nat) < win0_11.index t 2 * 1024 + 1024
    rw [h2]; omega

theorem cover12 (i : S4x2304x3072.Idx) : ∃ t : Fin cfg0.N, (cfg0.win 12).flush t = true ∧ i ∈ ((cfg0.win 12).blk t).view.set := by
  have b0 : (i 0 : Nat) < 4 := (i 0).isLt
  have b1 : (i 1 : Nat) < 2304 := (i 1).isLt
  have b2 : (i 2 : Nat) < 3072 := (i 2).isLt
  obtain ⟨t, ht⟩ : ∃ t : Fin cfg0.N, t.val = 9 * (i 0 : Nat) + (i 1 : Nat) / 256 := ⟨holder (i 0) ⟨(i 1 : Nat) / 256, by omega⟩, rfl⟩
  refine ⟨t, flush0_12 t, ?_⟩
  obtain ⟨h0, h1, h2⟩ := index12 t
  show i ∈ ((View.whole main_v0_1).slice (win0_12.rect t)).set
  rw [View.set_slice_whole, Rect.mem_set_unit]
  intro a
  match a with
  | ⟨0, _⟩ =>
    show win0_12.index t 0 * 1 ≤ (i 0 : Nat) ∧ (i 0 : Nat) < win0_12.index t 0 * 1 + 1
    rw [h0, ht]; omega
  | ⟨1, _⟩ =>
    show win0_12.index t 1 * 256 ≤ (i 1 : Nat) ∧ (i 1 : Nat) < win0_12.index t 1 * 256 + 256
    rw [h1, ht]; omega
  | ⟨2, _⟩ =>
    show win0_12.index t 2 * 3072 ≤ (i 2 : Nat) ∧ (i 2 : Nat) < win0_12.index t 2 * 3072 + 3072
    rw [h2]; omega

theorem cover13 (i : S4x9x2x1024.Idx) : ∃ t : Fin cfg0.N, (cfg0.win 13).flush t = true ∧ i ∈ ((cfg0.win 13).blk t).view.set := by
  have b0 : (i 0 : Nat) < 4 := (i 0).isLt
  have b1 : (i 1 : Nat) < 9 := (i 1).isLt
  have b2 : (i 2 : Nat) < 2 := (i 2).isLt
  have b3 : (i 3 : Nat) < 1024 := (i 3).isLt
  obtain ⟨t, ht⟩ : ∃ t : Fin cfg0.N, t.val = 9 * (i 0 : Nat) + (i 1 : Nat) := ⟨holder (i 0) (i 1), rfl⟩
  refine ⟨t, flush0_13 t, ?_⟩
  obtain ⟨h0, h1, h2, h3⟩ := index13 t
  show i ∈ ((View.whole main_v0_2).slice (win0_13.rect t)).set
  rw [View.set_slice_whole, Rect.mem_set_unit]
  intro a
  match a with
  | ⟨0, _⟩ =>
    show win0_13.index t 0 * 1 ≤ (i 0 : Nat) ∧ (i 0 : Nat) < win0_13.index t 0 * 1 + 1
    rw [h0, ht]; omega
  | ⟨1, _⟩ =>
    show win0_13.index t 1 * 1 ≤ (i 1 : Nat) ∧ (i 1 : Nat) < win0_13.index t 1 * 1 + 1
    rw [h1, ht]; omega
  | ⟨2, _⟩ =>
    show win0_13.index t 2 * 2 ≤ (i 2 : Nat) ∧ (i 2 : Nat) < win0_13.index t 2 * 2 + 2
    rw [h2]; omega
  | ⟨3, _⟩ =>
    show win0_13.index t 3 * 1024 ≤ (i 3 : Nat) ∧ (i 3 : Nat) < win0_13.index t 3 * 1024 + 1024
    rw [h3]; omega

theorem cover14 (i : S1x1024.Idx) : ∃ t : Fin cfg0.N, (cfg0.win 14).flush t = true ∧ i ∈ ((cfg0.win 14).blk t).view.set := by
  have b0 : (i 0 : Nat) < 1 := (i 0).isLt
  have b1 : (i 1 : Nat) < 1024 := (i 1).isLt
  obtain ⟨t, ht⟩ : ∃ t : Fin cfg0.N, t.val = 35 := ⟨holder 3 8, rfl⟩
  refine ⟨t, (flush0_14 t).mpr (by omega), ?_⟩
  obtain ⟨h0, h1⟩ := index14 t
  show i ∈ ((View.whole main_v0_3).slice (win0_14.rect t)).set
  rw [View.set_slice_whole, Rect.mem_set_unit]
  intro a
  match a with
  | ⟨0, _⟩ =>
    show win0_14.index t 0 * 1 ≤ (i 0 : Nat) ∧ (i 0 : Nat) < win0_14.index t 0 * 1 + 1
    rw [h0]; omega
  | ⟨1, _⟩ =>
    show win0_14.index t 1 * 1024 ≤ (i 1 : Nat) ∧ (i 1 : Nat) < win0_14.index t 1 * 1024 + 1024
    rw [h1]; omega

/-! ## The sum over the points -/

/-- A point's share of the gain's gradient. -/
def share (d : Fin 1024) (k : Fin 36) : EReal :=
  ∑ p : Fin 256, gainPart (joined (ctx m c) (seq m c) (⟨k.val / 9, by omega⟩ : Fin 4) (rowIn ⟨k.val % 9, Nat.mod_lt _ (by decide)⟩ p))
    (BwdRef.back (upstream m c) (weight m c) (fromPrev m c) (fromNext m c) (⟨k.val / 9, by omega⟩ : Fin 4) (rowIn ⟨k.val % 9, Nat.mod_lt _ (by decide)⟩ p))
    (scaleOf (modt m c) (⟨k.val / 9, by omega⟩ : Fin 4) (rowIn ⟨k.val % 9, Nat.mod_lt _ (by decide)⟩ p)) d

theorem plus_at (v w : FVec Ideal S1x1024 .f32) (d : Fin 1024) : (k0_pay1 v w : FVec Ideal S1x1024 .f32) (ix2 0 d) = w (ix2 0 d) + v (ix2 0 d) := by
  unfold k0_pay1
  rw [ValueIdx.addf_apply, same]

/-- The gain's gradient holds, after point `n`, the sum of the shares up to it. -/
theorem acc : ∀ (n : ℕ) (h : n < cfg0.N) (d : Fin 1024), (outsAt0 m c n h).2.2.2 (ix2 0 d)
    = ∑ k ∈ Finset.univ.filter (fun k : Fin 36 => k.val ≤ n), share m c d k := by
  intro n
  induction n with
  | zero =>
    intro h d
    let t : Fin cfg0.N := ⟨0, h⟩
    refine (congrFun (BwdCases.left14_A m c t rfl (by show ¬1 ≤ 0; decide) (by show ¬1 ≤ 0 % 9; decide)) _).trans ?_
    rw [show Finset.univ.filter (fun k : Fin 36 => k.val ≤ 0) = {0} from by decide, Finset.sum_singleton]
    exact leaves14 m c t d
  | succ n ih =>
    intro h d
    let t : Fin cfg0.N := ⟨n + 1, h⟩
    have hN : n + 1 < 36 := point_lt t
    have hs : Finset.univ.filter (fun k : Fin 36 => k.val ≤ n + 1) = insert (⟨n + 1, hN⟩ : Fin 36) (Finset.univ.filter fun k : Fin 36 => k.val ≤ n) := by
      ext k
      simp only [Finset.mem_filter, Finset.mem_univ, true_and, Finset.mem_insert, Fin.ext_iff]
      omega
    rw [hs, Finset.sum_insert (by simp only [Finset.mem_filter, Finset.mem_univ, true_and]; omega), add_comm (share m c d _)]
    by_cases h9 : 1 ≤ (n + 1) % 9
    · refine (congrFun (BwdCases.left14_B m c t (by show ¬(n + 1) % 36 = 0; omega) (by show 1 ≤ n + 1; omega) h9) _).trans ((plus_at _ _ d).trans ?_)
      exact congrArg₂ (· + ·) (ih (Nat.lt_of_succ_lt h) d) (leaves14 m c t d)
    · refine (congrFun (BwdCases.left14_C m c t (by show ¬(n + 1) % 36 = 0; omega) (by show 1 ≤ n + 1; omega) h9) _).trans ((plus_at _ _ d).trans ?_)
      exact congrArg₂ (· + ·) (ih (Nat.lt_of_succ_lt h) d) (leaves14 m c t d)

theorem sum_tiles (f : Fin 36 → EReal) : ∑ k : Fin 36, f k = ∑ b : Fin 4, ∑ j : Fin 9, f ⟨9 * b.val + j.val, by omega⟩ := by
  rw [← Fintype.sum_prod_type']
  refine (Fintype.sum_equiv (finProdFinEquiv (m := 4) (n := 9)) _ f fun p => ?_).symm
  refine congrArg f (Fin.ext ?_)
  show 9 * p.1.val + p.2.val = p.2.val + 9 * p.1.val
  omega

theorem sum_rows (f : Fin 2304 → EReal) : ∑ n : Fin 2304, f n = ∑ j : Fin 9, ∑ p : Fin 256, f (rowIn j p) := by
  rw [← Fintype.sum_prod_type']
  refine (Fintype.sum_equiv (finProdFinEquiv (m := 9) (n := 256)) _ f fun p => ?_).symm
  refine congrArg f (Fin.ext ?_)
  show 256 * p.1.val + p.2.val = p.2.val + 256 * p.1.val
  omega

/-! ## The arrays -/

theorem block_p (t : Fin cfg0.N) : (outsAt0 m c t.val t.isLt).2.1
    = BwdCases.w12 (F := Ideal) (grid0.coords t) (iblk m c 0 t) (X0_1 m c t) (X0_2 m c t) (iblk m c 8 t) (iblk m c 9 t) := by
  have ht := point_lt t
  by_cases h0 : t.val % 36 = 0
  · exact BwdCases.left12_A m c t h0 (by omega) (by omega)
  · by_cases h9 : 1 ≤ t.val % 9
    · exact BwdCases.left12_B m c t h0 (by omega) h9
    · exact BwdCases.left12_C m c t h0 (by omega) h9

theorem block_m (t : Fin cfg0.N) : (outsAt0 m c t.val t.isLt).2.2.1
    = BwdCases.w13 (F := Ideal) (grid0.coords t) (iblk m c 0 t) (X0_1 m c t) (X0_2 m c t) (iblk m c 3 t) (iblk m c 4 t) (iblk m c 6 t) (iblk m c 7 t) (iblk m c 8 t)
        (iblk m c 9 t) := by
  have ht := point_lt t
  by_cases h0 : t.val % 36 = 0
  · exact BwdCases.left13_A m c t h0 (by omega) (by omega)
  · by_cases h9 : 1 ≤ t.val % 9
    · exact BwdCases.left13_B m c t h0 (by omega) h9
    · exact BwdCases.left13_C m c t h0 (by omega) h9

theorem array11 : (dats m 0 c).arrAt 11 cfg0.N
    = (gradX (upstream m c) (ctx m c) (seq m c) (modt m c) (gain m c) (weight m c) (fromPrev m c) (fromNext m c) (residual m c) : Vec Ideal S4x2048x1024 .f32) := by
  refine (dats m 0 c).arrAt_eq_of_cover 11 _ (fun t hf => ?_) fun i => cover11 i
  rw [Value.flushed11]
  funext y
  have ht := point_lt t
  have h9 : 1 ≤ t.val % 9 := (flush11 t).mp hf
  obtain ⟨p, d, rfl⟩ : ∃ p d, y = ix3 0 p d := ⟨_, _, idx_one3 y⟩
  have hp := p.isLt
  obtain ⟨n, hn⟩ : ∃ n : Fin 2048, n.val = 256 * (t.val % 9 - 1) + p.val := ⟨⟨256 * (t.val % 9 - 1) + p.val, by omega⟩, rfl⟩
  refine Eq.trans ?_ (read11 c t _ p d n hn).symm
  exact (congrFun (BwdCases.left11_B m c t (by omega) (by omega) h9) _).trans (leaves11 m c t h9 p d n hn)

theorem array12 : (dats m 0 c).arrAt 12 cfg0.N = (gradP (upstream m c) (fromPrev m c) (fromNext m c) : Vec Ideal S4x2304x3072 .bf16) := by
  refine (dats m 0 c).arrAt_eq_of_cover 12 _ (fun t _ => ?_) fun i => cover12 i
  rw [Value.flushed12]
  funext y
  obtain ⟨p, q, rfl⟩ : ∃ p q, y = ix3 0 p q := ⟨_, _, idx_one3 y⟩
  refine Eq.trans ?_ (read12 c t _ p q).symm
  exact (congrFun (block_p m c t) _).trans (leaves12 m c t p q)

theorem array13 : (dats m 0 c).arrAt 13 cfg0.N
    = (gradM (upstream m c) (ctx m c) (seq m c) (gain m c) (weight m c) (fromPrev m c) (fromNext m c) : Vec Ideal S4x9x2x1024 .f32) := by
  refine (dats m 0 c).arrAt_eq_of_cover 13 _ (fun t _ => ?_) fun i => cover13 i
  rw [Value.flushed13]
  funext y
  obtain ⟨r, d, rfl⟩ : ∃ r d, y = ix4 0 0 r d := ⟨_, _, idx_one4 y⟩
  refine Eq.trans ?_ (read13 c t _ r d).symm
  exact (congrFun (block_m m c t) _).trans (leaves13 m c t r d)

theorem array14 : (dats m 0 c).arrAt 14 cfg0.N
    = (gradG (upstream m c) (ctx m c) (seq m c) (modt m c) (weight m c) (fromPrev m c) (fromNext m c) : Vec Ideal S1x1024 .f32) := by
  refine (dats m 0 c).arrAt_eq_of_cover 14 _ (fun t hf => ?_) fun i => cover14 i
  rw [Value.flushed14]
  funext y
  have ht := point_lt t
  have h35 : t.val % 36 = 35 := (flush0_14 t).mp hf
  obtain ⟨d, rfl⟩ : ∃ d, y = ix2 0 d := ⟨_, idx_one2 y⟩
  refine Eq.trans ?_ (read14 c t _ d).symm
  refine (acc m c t.val t.isLt d).trans ?_
  rw [Finset.filter_true_of_mem fun (k : Fin 36) _ => by omega, sum_tiles]
  unfold gradG
  refine Finset.sum_congr rfl fun b _ => Eq.trans ?_ (sum_rows _).symm
  refine Finset.sum_congr rfl fun j _ => ?_
  have e0 : (⟨(9 * b.val + j.val) / 9, by omega⟩ : Fin 4) = b := Fin.ext (by show (9 * b.val + j.val) / 9 = b.val; omega)
  have e1 : (⟨(9 * b.val + j.val) % 9, Nat.mod_lt _ (by decide)⟩ : Fin 9) = j := Fin.ext (by show (9 * b.val + j.val) % 9 = j.val; omega)
  unfold share
  dsimp only
  rw [e0, e1]

/-! ## The claims -/

/-- The reference's run, its four results read as the composed terms of the arguments. -/
theorem reference_run (m : (ℓ : Loc Cert.Reference12Ideal.nD Cert.Reference12Ideal.τ Cert.Reference12Ideal.sig) → Buf (Elt Ideal) ℓ)
    (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ fun r =>
      ∀ c : Dev Cert.Reference12Ideal.nD,
        let loc := (c.tc : Thread Cert.Reference12Ideal.nD Cert.Reference12Ideal.τ).loc
        r.2.mem (loc Cert.Reference12Ideal.main_v157) = gradX (m (loc Cert.Reference12Ideal.main_arg0)) (m (loc Cert.Reference12Ideal.main_arg1)) (m (loc Cert.Reference12Ideal.main_arg2)) (m (loc Cert.Reference12Ideal.main_arg3)) (m (loc Cert.Reference12Ideal.main_arg4)) (m (loc Cert.Reference12Ideal.main_arg5)) (m (loc Cert.Reference12Ideal.main_arg6)) (m (loc Cert.Reference12Ideal.main_arg7)) (m (loc Cert.Reference12Ideal.main_arg8))
        ∧ r.2.mem (loc Cert.Reference12Ideal.main_v158) = gradP (m (loc Cert.Reference12Ideal.main_arg0)) (m (loc Cert.Reference12Ideal.main_arg6)) (m (loc Cert.Reference12Ideal.main_arg7))
        ∧ r.2.mem (loc Cert.Reference12Ideal.main_v134) = gradM (m (loc Cert.Reference12Ideal.main_arg0)) (m (loc Cert.Reference12Ideal.main_arg1)) (m (loc Cert.Reference12Ideal.main_arg2)) (m (loc Cert.Reference12Ideal.main_arg4)) (m (loc Cert.Reference12Ideal.main_arg5)) (m (loc Cert.Reference12Ideal.main_arg6)) (m (loc Cert.Reference12Ideal.main_arg7))
        ∧ r.2.mem (loc Cert.Reference12Ideal.main_v159) = gradG (m (loc Cert.Reference12Ideal.main_arg0)) (m (loc Cert.Reference12Ideal.main_arg1)) (m (loc Cert.Reference12Ideal.main_arg2)) (m (loc Cert.Reference12Ideal.main_arg3)) (m (loc Cert.Reference12Ideal.main_arg5)) (m (loc Cert.Reference12Ideal.main_arg6)) (m (loc Cert.Reference12Ideal.main_arg7))
        ∧ r.2.mem (loc Cert.Reference12Ideal.main_arg0) = m (loc Cert.Reference12Ideal.main_arg0)
        ∧ r.2.mem (loc Cert.Reference12Ideal.main_arg1) = m (loc Cert.Reference12Ideal.main_arg1)
        ∧ r.2.mem (loc Cert.Reference12Ideal.main_arg2) = m (loc Cert.Reference12Ideal.main_arg2)
        ∧ r.2.mem (loc Cert.Reference12Ideal.main_arg3) = m (loc Cert.Reference12Ideal.main_arg3)
        ∧ r.2.mem (loc Cert.Reference12Ideal.main_arg4) = m (loc Cert.Reference12Ideal.main_arg4)
        ∧ r.2.mem (loc Cert.Reference12Ideal.main_arg5) = m (loc Cert.Reference12Ideal.main_arg5)
        ∧ r.2.mem (loc Cert.Reference12Ideal.main_arg6) = m (loc Cert.Reference12Ideal.main_arg6)
        ∧ r.2.mem (loc Cert.Reference12Ideal.main_arg7) = m (loc Cert.Reference12Ideal.main_arg7)
        ∧ r.2.mem (loc Cert.Reference12Ideal.main_arg8) = m (loc Cert.Reference12Ideal.main_arg8) := by
  refine (θ_run _ _ _).mono (fun r h c => ?_) (Cert.Reference12Ideal.Value.run m g)
  obtain ⟨h0, h1, h2, h3, hk⟩ := h c
  exact ⟨(h0.trans (Cert.Reference12Ideal.Read.val_main_v157_eq (StableHlo.launchContents m c))).trans (BwdRef.ref_x _ _ _ _ _ _ _ _ _),
    (h1.trans (Cert.Reference12Ideal.Read.val_main_v158_eq (StableHlo.launchContents m c))).trans (BwdRef.ref_p _ _ _),
    (h2.trans (Cert.Reference12Ideal.Read.val_main_v134_eq (StableHlo.launchContents m c))).trans (BwdRef.ref_m _ _ _ _ _ _ _),
    (h3.trans (Cert.Reference12Ideal.Read.val_main_v159_eq (StableHlo.launchContents m c))).trans (BwdRef.ref_g _ _ _ _ _ _ _), hk⟩

/-- The kernel and the reference, from memories that agree on the arguments, end with the same four results. -/
theorem algebraic : @Cert.algebraic_Kernel12Ideal_Reference12Ideal Kernel12Ideal.Gen.facts Reference12Ideal.Gen.facts := by
  intro m g m' g' _ hargs
  refine ⟨fun c => (dats m 0 c).arrAt 11 cfg0.N, fun c => (dats m 0 c).arrAt 12 cfg0.N, fun c => (dats m 0 c).arrAt 13 cfg0.N,
    fun c => (dats m 0 c).arrAt 14 cfg0.N, Value.run_blocks m g, ?_⟩
  refine (θ_run _ _ _).mono (fun r h c => ?_) (reference_run m' g')
  obtain ⟨e0, e1, e2, e3, e4, e5, e6, e7, e8⟩ := hargs c
  obtain ⟨h0, h1, h2, h3, hk⟩ := h c
  rw [e0, e1, e2, e3, e4, e5, e6, e7, e8] at h0
  rw [e0, e6, e7] at h1
  rw [e0, e1, e2, e4, e5, e6, e7] at h2
  rw [e0, e1, e2, e3, e5, e6, e7] at h3
  exact ⟨h0.trans (array11 m c).symm, h1.trans (array12 m c).symm, h2.trans (array13 m c).symm, h3.trans (array14 m c).symm, hk⟩

theorem reference_frame : @Cert.quiescent_Reference12Ideal Reference12Ideal.Gen.facts := fun m g _ =>
  (θ_run _ _ _).mono (fun r h => ⟨fun c => (h c).2.2.2.2, sem_eq_zero_of_no_sems rfl r.2⟩) (Reference12Ideal.Value.run m g)

end Cert.InProjBwd

end
-- ==== Proof.TotalRef.lean ====
/- The reference's loss is the sum of its 32 tiles' halves: half of a sum is the sum of the halves. -/
module

public import proofs.«01_k».proof.Proof.RefSums

@[expose] public section

noncomputable section

namespace Cert.TotalRef

open Cert.ReferenceIdeal Cert.ReferenceIdeal.Gen Idealize.ShloMosaic Idealize.ShloMosaic.ValueIdx Cert.RefAt
open Cert.ReferenceIdeal.Read

/-- The word `0x3F000000` is one half. -/
theorem half_eq : Ideal.ofBits .f32 0x3F000000#32 = ((1 / 2 : ℝ) : EReal) := by
  simp [Ideal.ofBits, Ideal.ieee]; rw [← EReal.coe_mul]; norm_num

/-- Half of a sum is the sum of the halves, whatever the summands. -/
theorem half_sum {ι : Type} [Fintype ι] (f : ι → EReal) :
    Ideal.ofBits .f32 0x3F000000#32 * ∑ k, f k = ∑ k, Ideal.ofBits .f32 0x3F000000#32 * f k := by
  classical
  rw [half_eq]
  have h (s : Finset ι) : ((1 / 2 : ℝ) : EReal) * ∑ k ∈ s, f k = ∑ k ∈ s, ((1 / 2 : ℝ) : EReal) * f k := by
    induction s using Finset.induction_on with
    | empty => simp
    | insert a s ha ih =>
      rw [Finset.sum_insert ha, Finset.sum_insert ha, ← ih]
      exact EReal.left_distrib_of_nonneg_of_ne_top (by exact_mod_cast (by norm_num : (0 : ℝ) ≤ 1 / 2)) (EReal.coe_ne_top _) _ _
  exact h Finset.univ

variable (x0 x1 : FVec Ideal S4x2048x1024 .f32) (x2 : FVec Ideal S4x3x1024 .f32) (x3 x4 : FVec Ideal S1x1024 .f32)
  (x5 : FVec Ideal S1024x4096 .bf16) (x6 : FVec Ideal S4096x1024 .bf16)

/-- A tile's loss is the sum of its tokens' halves. -/
theorem tile_loss (b : Fin 4) (j : Fin 8) : val_main_v144 (F := Ideal) x0 x1 x2 x3 x4 x5 x6 (ix4 b j 0 0)
    = ∑ p : Fin 256, Ideal.ofBits .f32 0x3F000000#32 * val_main_v67 (F := Ideal) x0 x1 x2 x3 x4 x5 x6 (ix2 b (tok j p)) := by
  rw [at_v144, at_v143, val_main_v142_apply, val_main_v141_apply, at_v140, zero_add, Ideal.mulf_def]
  refine (half_sum _).trans (Finset.sum_congr rfl fun p _ => ?_)
  rw [at_v139]

/-- The loss is the sum of the tiles' losses. -/
theorem total_eq (i : S_.Idx) : val_main_v69 (F := Ideal) x0 x1 x2 x3 x4 x5 x6 i
    = ∑ b : Fin 4, ∑ j : Fin 8, val_main_v144 (F := Ideal) x0 x1 x2 x3 x4 x5 x6 (ix4 b j 0 0) := by
  rw [val_main_v69_apply, val_main_v68_apply, Ideal.mulf_def, show (val_main_cst_16 (F := Ideal)) (Shape.Idx.first h_S_) = (0 : EReal) from Ideal.ofBits_zero_f32,
    zero_add, sum_idx2]
  refine (half_sum _).trans (Finset.sum_congr rfl fun b _ => ?_)
  refine (half_sum _).trans ?_
  refine (RefSums.sum_tokens _).trans (Finset.sum_congr rfl fun j _ => ?_)
  exact (tile_loss x0 x1 x2 x3 x4 x5 x6 b j).symm

end Cert.TotalRef

end
-- ==== Proof.Total.lean ====
/- The lines after the kernel's region add up the tiles' losses: the run with its nine arrays and their total. -/
module

public import proofs.«01_k».proof.Proof.Arrays
public import proofs.«01_k».proof.Proof.TotalRef

@[expose] public section

noncomputable section

namespace Cert.Total

open Cert.KernelIdeal Cert.KernelIdeal.Gen Idealize.ShloMosaic Idealize.ShloMosaic.TcCoe Idealize.ShloMosaic.ValueIdx
open Idealize.SL.Sem
open Cert.ReferenceIdeal.Read

variable (m : (ℓ : Loc nD τ sig) → Buf (Elt Ideal) ℓ) (ρ : Dev nD → PrngReg) (c : Dev nD)

/-- The tiles' losses added up: the first lane of each tile's block, as a table of batches by tiles, summed. -/
def total (x : FVec Ideal S4x8x8x128 .f32) : FVec Ideal S_ .f32 :=
  Host.reduceAdd (shapeCast S4x8 (extractStridedSlice S4x8x1x1 ![0, 0, 0, 0] x slices_S4x8x8x128_S4x8x1x1_0_0_0_0) shapeCasts_S4x8x1x1_S4x8)
    (constant S_ .f32 0x00000000#32) reducesTo_S4x8_S_d0_1 h_S_

/-- Every element of the total is the sum of the first lanes. -/
theorem total_apply (x : FVec Ideal S4x8x8x128 .f32) (i : S_.Idx) :
    total x i = ∑ b : Fin 4, ∑ j : Fin 8, x (ix4 b j 0 0) := by
  unfold total
  simp only [Host.reduceAdd, Ideal.hostReduceAdd_def]
  refine (Ideal.hostReduceAdd_total reducesTo_S4x8_S_d0_1 (fun b => b.elim0) _ _ i).trans ?_
  rw [show (constant (F := Ideal) S_ .f32 0x00000000#32) (Shape.Idx.first h_S_) = (0 : EReal) from Ideal.ofBits_zero_f32, zero_add, sum_idx2]
  refine Finset.sum_congr rfl fun b _ => Finset.sum_congr rfl fun j _ => ?_
  refine (shapeCast_apply _ shapeCasts_S4x8x1x1_S4x8 (ix2 b j) (ix4 b j 0 0) ?_).trans ?_
  · rw [Shape.rowMajor_val_four, Shape.rowMajor_val_two]
    show ((b.val * 8 + j.val) * 1 + 0) * 1 + 0 = b.val * 8 + j.val
    omega
  · refine extractStridedSlice_apply _ _ _ _ _ fun a => ?_
    match a with
    | ⟨0, _⟩ => exact (Nat.zero_add _).symm
    | ⟨1, _⟩ => exact (Nat.zero_add _).symm
    | ⟨2, _⟩ => rfl
    | ⟨3, _⟩ => rfl

/-- What the lines after the region leave in the last result. -/
theorem after_total : Pipeline.afterTail₀ cfgs (dats m) 0 (V0 m) [hostOps1] c main_v3 = total ((dats m 0 c).arrAt 8 cfg0.N) := by
  unfold Pipeline.afterTail₀
  show StableHlo.after hostOps1 _ (Proc.devRef .tc main_v3) = _
  unfold hostOps1
  after_region_results
  exact congrArg total (Pipeline.withArrays_arr cfg0.spec launch0.win.arr_inj c (V0 m c) (fun w => (dats m 0 c).arrAt w cfg0.N) 8)

/-- The total of the tiles' losses is the reference's loss. -/
theorem total_loss : total ((dats m 0 c).arrAt 8 cfg0.N)
    = val_main_v69 (F := Ideal) (Grid.A0 m c) (Grid.A1 m c) (Grid.A2 m c) (Grid.A3 m c) (Grid.A4 m c) (Grid.A5 m c) (Grid.A6 m c) := by
  funext i
  rw [Arrays.array8, total_apply]
  exact (TotalRef.total_eq (Grid.A0 m c) (Grid.A1 m c) (Grid.A2 m c) (Grid.A3 m c) (Grid.A4 m c) (Grid.A5 m c) (Grid.A6 m c) i).symm

/-- The kernel's run: its nine arrays, their losses' total, and the arguments as launched. -/
theorem run : θ_run (defs (F := Ideal)) (onTc (τ := τ) (main (F := Ideal))) ⟨m, fun _ => 0, ρ⟩ fun r => ∀ c : Dev nD,
      r.2.mem ((c.tc : Thread nD τ).loc main_v0_0) = (dats m 0 c).arrAt 7 cfg0.N
      ∧ r.2.mem ((c.tc : Thread nD τ).loc main_v0_1) = (dats m 0 c).arrAt 8 cfg0.N
      ∧ r.2.mem ((c.tc : Thread nD τ).loc main_v0_2) = (dats m 0 c).arrAt 9 cfg0.N
      ∧ r.2.mem ((c.tc : Thread nD τ).loc main_v0_3) = (dats m 0 c).arrAt 10 cfg0.N
      ∧ r.2.mem ((c.tc : Thread nD τ).loc main_v0_4) = (dats m 0 c).arrAt 11 cfg0.N
      ∧ r.2.mem ((c.tc : Thread nD τ).loc main_v0_5) = (dats m 0 c).arrAt 12 cfg0.N
      ∧ r.2.mem ((c.tc : Thread nD τ).loc main_v0_6) = (dats m 0 c).arrAt 13 cfg0.N
      ∧ r.2.mem ((c.tc : Thread nD τ).loc main_v0_7) = (dats m 0 c).arrAt 14 cfg0.N
      ∧ r.2.mem ((c.tc : Thread nD τ).loc main_v0_8) = (dats m 0 c).arrAt 15 cfg0.N
      ∧ r.2.mem ((c.tc : Thread nD τ).loc main_v3) = total ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (θ_run_and (unchanged m ρ) (run_main m ρ))
  have hr := (h.2 c).1
  exact ⟨hr 7, hr 8, hr 9, hr 10, hr 11, hr 12, hr 13, hr 14, hr 15, ((h.2 c).2 main_v3 (by decide)).trans (after_total m c), h.1 c⟩

end Cert.Total

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Gen.Kernel6
public import proofs.«01_k».proof.Proof.Gen.Kernel6.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.GradW1
public import proofs.«01_k».proof.Proof.GradW2
public import proofs.«01_k».proof.Proof.GradWIn
public import proofs.«01_k».proof.Proof.GradWOut
public import proofs.«01_k».proof.Proof.InProj
public import proofs.«01_k».proof.Proof.AdamWIn
public import proofs.«01_k».proof.Proof.AdamWOut
public import proofs.«01_k».proof.Proof.AdamW1
public import proofs.«01_k».proof.Proof.AdamW2
public import proofs.«01_k».proof.Proof.AdamAda
public import proofs.«01_k».proof.Proof.AdamSharded
public import proofs.«01_k».proof.Proof.AdamReplicated
public import proofs.«01_k».proof.Proof.AdamAdaSmall
public import proofs.«01_k».proof.Proof.AdaBwd
public import proofs.«01_k».proof.Proof.AdaFwd
public import proofs.«01_k».proof.Proof.InProjBwd
public import proofs.«01_k».proof.Proof.Total
public import Idealize.ShloMosaic.Adequacy
public import Idealize.ShloMosaic.Init

@[expose] public section

noncomputable section

namespace Cert.Proof

open Idealize.ShloMosaic Idealize.SL.Sem

/-- The reference's run, its ten results read as the composed terms of the arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      ∀ c : Dev Cert.ReferenceIdeal.nD,
        r.2.mem ((c.tc : Thread Cert.ReferenceIdeal.nD Cert.ReferenceIdeal.τ).loc Cert.ReferenceIdeal.main_v138) = Cert.ReferenceIdeal.Read.val_main_v138 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v144) = Cert.ReferenceIdeal.Read.val_main_v144 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v145) = Cert.ReferenceIdeal.Read.val_main_v145 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v146) = Cert.ReferenceIdeal.Read.val_main_v146 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v147) = Cert.ReferenceIdeal.Read.val_main_v147 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_v148) = Cert.ReferenceIdeal.Read.val_main_v148 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v117) = Cert.ReferenceIdeal.Read.val_main_v117 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v149) = Cert.ReferenceIdeal.Read.val_main_v149 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v150) = Cert.ReferenceIdeal.Read.val_main_v150 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v69) = Cert.ReferenceIdeal.Read.val_main_v69 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) := by
  refine (θ_run _ _ _).mono (fun r h c => ?_) (Cert.ReferenceIdeal.Value.run m g)
  obtain ⟨h0, h1, h2, h3, h4, h5, h6, h7, h8, h9, hk⟩ := h c
  exact ⟨h0.trans (Cert.ReferenceIdeal.Read.val_main_v138_eq (StableHlo.launchContents m c)),
    h1.trans (Cert.ReferenceIdeal.Read.val_main_v144_eq (StableHlo.launchContents m c)),
    h2.trans (Cert.ReferenceIdeal.Read.val_main_v145_eq (StableHlo.launchContents m c)),
    h3.trans (Cert.ReferenceIdeal.Read.val_main_v146_eq (StableHlo.launchContents m c)),
    h4.trans (Cert.ReferenceIdeal.Read.val_main_v147_eq (StableHlo.launchContents m c)),
    h5.trans (Cert.ReferenceIdeal.Read.val_main_v148_eq (StableHlo.launchContents m c)),
    h6.trans (Cert.ReferenceIdeal.Read.val_main_v117_eq (StableHlo.launchContents m c)),
    h7.trans (Cert.ReferenceIdeal.Read.val_main_v149_eq (StableHlo.launchContents m c)),
    h8.trans (Cert.ReferenceIdeal.Read.val_main_v150_eq (StableHlo.launchContents m c)),
    h9.trans (Cert.ReferenceIdeal.Read.val_main_v69_eq (StableHlo.launchContents m c)), hk⟩

/-- The kernel and the reference, from memories that agree on the arguments, end with the same ten results. -/
theorem algebraic : @Cert.algebraic_KernelIdeal_ReferenceIdeal Cert.KernelIdeal.Gen.facts Cert.ReferenceIdeal.Gen.facts := by
  intro m g m' g' _ hargs
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => Cert.Total.total ((Cert.KernelIdeal.Gen.dats m 0 c).arrAt 8 Cert.KernelIdeal.cfg0.N),
    Cert.Total.run m g, ?_⟩
  refine (θ_run _ _ _).mono (fun r h c => ?_) (reference_run m' g')
  obtain ⟨e0, e1, e2, e3, e4, e5, e6⟩ := hargs c
  obtain ⟨h0, h1, h2, h3, h4, h5, h6, h7, h8, h9, hk⟩ := h c
  rw [e0, e1, e2, e3, e4, e5, e6] at h0
  rw [e0, e1, e2, e3, e4, e5, e6] at h1
  rw [e0, e2, e3] at h2
  rw [e0, e1, e2, e3, e4, e5, e6] at h3
  rw [e0, e2, e3, e5] at h4
  rw [e0, e1, e2, e3, e4, e5, e6] at h5
  rw [e0, e1, e2, e3, e4, e5, e6] at h6
  rw [e0, e1, e2, e3, e4, e5, e6] at h7
  rw [e0, e1, e2, e3, e4, e5, e6] at h8
  rw [e0, e1, e2, e3, e4, e5, e6] at h9
  exact ⟨h0.trans (Cert.Arrays.array7 m c).symm,
    h1.trans (Cert.Arrays.array8 m c).symm,
    h2.trans (Cert.Arrays.array9 m c).symm,
    h3.trans (Cert.Arrays.array10 m c).symm,
    h4.trans (Cert.Arrays.array11 m c).symm,
    h5.trans (Cert.Arrays.array12 m c).symm,
    h6.trans (Cert.Arrays.array13 m c).symm,
    h7.trans (Cert.Arrays.array14 m c).symm,
    h8.trans (Cert.Arrays.array15 m c).symm,
    h9.trans (Cert.Total.total_loss m c).symm, hk⟩

/-- The reference's frame: its run keeps the arguments, and its signature has no semaphore. -/
theorem reference_frame : @Cert.quiescent_ReferenceIdeal Cert.ReferenceIdeal.Gen.facts := fun m g _ =>
  (θ_run _ _ _).mono (fun r h => ⟨fun c => (h c).2.2.2.2.2.2.2.2.2.2, sem_eq_zero_of_no_sems rfl r.2⟩)
    (Cert.ReferenceIdeal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, Cert.GradW1.reference_frame,
  fun m ρ _ => Cert.Kernel3.Gen.frame m ρ, fun m ρ _ => Cert.Kernel3Ideal.Gen.frame m ρ, Cert.GradW2.reference_frame,
  fun m ρ _ => Cert.Kernel4.Gen.frame m ρ, fun m ρ _ => Cert.Kernel4Ideal.Gen.frame m ρ, Cert.GradWIn.reference_frame,
  fun m ρ _ => Cert.Kernel5.Gen.frame m ρ, fun m ρ _ => Cert.Kernel5Ideal.Gen.frame m ρ, Cert.GradWOut.reference_frame,
  fun m ρ _ => Cert.Kernel6.Gen.frame m ρ, fun m ρ _ => Cert.Kernel6Ideal.Gen.frame m ρ, Cert.InProj.reference_frame,
  fun m ρ _ => Cert.Kernel7.Gen.frame m ρ, fun m ρ _ => Cert.Kernel7Ideal.Gen.frame m ρ, Cert.AdamWIn.reference_frame,
  fun m ρ _ => Cert.Kernel8.Gen.frame m ρ, fun m ρ _ => Cert.Kernel8Ideal.Gen.frame m ρ, Cert.AdamWOut.reference_frame,
  fun m ρ _ => Cert.Kernel9.Gen.frame m ρ, fun m ρ _ => Cert.Kernel9Ideal.Gen.frame m ρ, Cert.AdamW1.reference_frame,
  fun m ρ _ => Cert.Kernel10.Gen.frame m ρ, fun m ρ _ => Cert.Kernel10Ideal.Gen.frame m ρ, Cert.AdamW2.reference_frame,
  fun m ρ _ => Cert.Kernel11.Gen.frame m ρ, fun m ρ _ => Cert.Kernel11Ideal.Gen.frame m ρ, Cert.AdamAda.reference_frame,
  fun m ρ _ => Cert.Kernel12.Gen.frame m ρ, fun m ρ _ => Cert.Kernel12Ideal.Gen.frame m ρ, Cert.InProjBwd.reference_frame,
  fun m ρ _ => Cert.Kernel13.Gen.frame m ρ, fun m ρ _ => Cert.Kernel13Ideal.Gen.frame m ρ, Cert.AdamSharded.reference_frame,
  fun m ρ _ => Cert.Kernel14.Gen.frame m ρ, fun m ρ _ => Cert.Kernel14Ideal.Gen.frame m ρ, Cert.AdamReplicated.reference_frame,
  fun m ρ _ => Cert.Kernel15.Gen.frame m ρ, fun m ρ _ => Cert.Kernel15Ideal.Gen.frame m ρ, Cert.AdamAdaSmall.reference_frame,
  fun m ρ _ => Cert.Kernel16.Gen.frame m ρ, fun m ρ _ => Cert.Kernel16Ideal.Gen.frame m ρ, Cert.AdaBwd.reference_frame,
  fun m ρ _ => Cert.Kernel17.Gen.frame m ρ, fun m ρ _ => Cert.Kernel17Ideal.Gen.frame m ρ, Cert.AdaFwd.reference_frame,
  trivial, algebraic, trivial, Cert.GradW1.algebraic, trivial, Cert.GradW2.algebraic, trivial, Cert.GradWIn.algebraic, trivial, Cert.GradWOut.algebraic, trivial, Cert.InProj.algebraic, trivial, Cert.AdamWIn.algebraic, trivial, Cert.AdamWOut.algebraic, trivial, Cert.AdamW1.algebraic, trivial, Cert.AdamW2.algebraic, trivial, Cert.AdamAda.algebraic, trivial, Cert.InProjBwd.algebraic, trivial, Cert.AdamSharded.algebraic, trivial, Cert.AdamReplicated.algebraic, trivial, Cert.AdamAdaSmall.algebraic, trivial, Cert.AdaBwd.algebraic, trivial, Cert.AdaFwd.algebraic⟩

end Cert.Proof

end
